-- ==== Defs.lean ====
def Pre_Kernel [hPre_dest_in_range : Cert.Pre_dest_in_range.Facts] (m : (ℓ : Loc Cert.Kernel.nD Cert.Kernel.τ Cert.Kernel.sig) → Buf (Elt Bits) ℓ) : Prop :=
  ∀ c : Dev Cert.Kernel.nD,
    (Cert.Pre_dest_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_range : Cert.Pre_dest_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_dest_in_range : Cert.Pre_dest_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_range : Cert.Pre_dest_in_range.Facts] (m : (ℓ : Loc Cert.Reference.nD Cert.Reference.τ Cert.Reference.sig) → Buf (Elt Bits) ℓ) : Prop :=
  ∀ c : Dev Cert.Reference.nD,
    (Cert.Pre_dest_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reduce (m : (ℓ : Loc Cert.Reduce.nD Cert.Reduce.τ Cert.Reduce.sig) → Buf (Elt Bits) ℓ) : Prop :=
  True

def Pre_ReduceIdeal (m : (ℓ : Loc Cert.ReduceIdeal.nD Cert.ReduceIdeal.τ Cert.ReduceIdeal.sig) → Buf (Elt Ideal) ℓ) : Prop :=
  True

def Pre_ReduceRef (m : (ℓ : Loc Cert.ReduceRef.nD Cert.ReduceRef.τ Cert.ReduceRef.sig) → Buf (Elt Bits) ℓ) : Prop :=
  True

def Pre_ReduceRefIdeal (m : (ℓ : Loc Cert.ReduceRefIdeal.nD Cert.ReduceRefIdeal.τ Cert.ReduceRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRef [hPre_experts_in_range : Cert.Pre_experts_in_range.Facts] (m : (ℓ : Loc Cert.ExpertsRef.nD Cert.ExpertsRef.τ Cert.ExpertsRef.sig) → Buf (Elt Bits) ℓ) : Prop :=
  ∀ c : Dev Cert.ExpertsRef.nD,
    (Cert.Pre_experts_in_range.fn (F := Bits) (m ((c.tc : Thread Cert.ExpertsRef.nD Cert.ExpertsRef.τ).loc Cert.ExpertsRef.main_arg0)) (m ((c.tc : Thread Cert.ExpertsRef.nD Cert.ExpertsRef.τ).loc Cert.ExpertsRef.main_arg1)) (m ((c.tc : Thread Cert.ExpertsRef.nD Cert.ExpertsRef.τ).loc Cert.ExpertsRef.main_arg2)) (m ((c.tc : Thread Cert.ExpertsRef.nD Cert.ExpertsRef.τ).loc Cert.ExpertsRef.main_arg3)) (m ((c.tc : Thread Cert.ExpertsRef.nD Cert.ExpertsRef.τ).loc Cert.ExpertsRef.main_arg4)) (m ((c.tc : Thread Cert.ExpertsRef.nD Cert.ExpertsRef.τ).loc Cert.ExpertsRef.main_arg5)) (m ((c.tc : Thread Cert.ExpertsRef.nD Cert.ExpertsRef.τ).loc Cert.ExpertsRef.main_arg6))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRef (m : (ℓ : Loc Cert.PrepRef.nD Cert.PrepRef.τ Cert.PrepRef.sig) → Buf (Elt Bits) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] [hPre_dest_in_range : Cert.Pre_dest_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_range : Cert.Pre_dest_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_dest_in_range : Cert.Pre_dest_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_range : Cert.Pre_dest_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reduce [hReduce : Cert.Reduce.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0)
      ∧ r.2.mem ((c.tc : Thread Cert.Reduce.nD Cert.Reduce.τ).loc Cert.Reduce.main_arg1) = m ((c.tc : Thread Cert.Reduce.nD Cert.Reduce.τ).loc Cert.Reduce.main_arg1)
      ∧ r.2.mem ((c.tc : Thread Cert.Reduce.nD Cert.Reduce.τ).loc Cert.Reduce.main_arg2) = m ((c.tc : Thread Cert.Reduce.nD Cert.Reduce.τ).loc Cert.Reduce.main_arg2)
      ∧ r.2.mem ((c.tc : Thread Cert.Reduce.nD Cert.Reduce.τ).loc Cert.Reduce.main_arg3) = m ((c.tc : Thread Cert.Reduce.nD Cert.Reduce.τ).loc Cert.Reduce.main_arg3)
      ∧ r.2.mem ((c.tc : Thread Cert.Reduce.nD Cert.Reduce.τ).loc Cert.Reduce.main_arg4) = m ((c.tc : Thread Cert.Reduce.nD Cert.Reduce.τ).loc Cert.Reduce.main_arg4)
      ∧ r.2.mem ((c.tc : Thread Cert.Reduce.nD Cert.Reduce.τ).loc Cert.Reduce.main_arg5) = m ((c.tc : Thread Cert.Reduce.nD Cert.Reduce.τ).loc Cert.Reduce.main_arg5)
      ∧ r.2.mem ((c.tc : Thread Cert.Reduce.nD Cert.Reduce.τ).loc Cert.Reduce.main_arg6) = m ((c.tc : Thread Cert.Reduce.nD Cert.Reduce.τ).loc Cert.Reduce.main_arg6)
      ∧ r.2.mem ((c.tc : Thread Cert.Reduce.nD Cert.Reduce.τ).loc Cert.Reduce.main_arg7) = m ((c.tc : Thread Cert.Reduce.nD Cert.Reduce.τ).loc Cert.Reduce.main_arg7)
      ∧ r.2.mem ((c.tc : Thread Cert.Reduce.nD Cert.Reduce.τ).loc Cert.Reduce.main_arg8) = m ((c.tc : Thread Cert.Reduce.nD Cert.Reduce.τ).loc Cert.Reduce.main_arg8))
      ∧ r.2.sem = fun _ => 0)

def quiescent_ReduceIdeal [hReduceIdeal : Cert.ReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
      ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
      ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
      ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4)
      ∧ r.2.mem ((c.tc : Thread Cert.ReduceIdeal.nD Cert.ReduceIdeal.τ).loc Cert.ReduceIdeal.main_arg5) = m ((c.tc : Thread Cert.ReduceIdeal.nD Cert.ReduceIdeal.τ).loc Cert.ReduceIdeal.main_arg5)
      ∧ r.2.mem ((c.tc : Thread Cert.ReduceIdeal.nD Cert.ReduceIdeal.τ).loc Cert.ReduceIdeal.main_arg6) = m ((c.tc : Thread Cert.ReduceIdeal.nD Cert.ReduceIdeal.τ).loc Cert.ReduceIdeal.main_arg6)
      ∧ r.2.mem ((c.tc : Thread Cert.ReduceIdeal.nD Cert.ReduceIdeal.τ).loc Cert.ReduceIdeal.main_arg7) = m ((c.tc : Thread Cert.ReduceIdeal.nD Cert.ReduceIdeal.τ).loc Cert.ReduceIdeal.main_arg7)
      ∧ r.2.mem ((c.tc : Thread Cert.ReduceIdeal.nD Cert.ReduceIdeal.τ).loc Cert.ReduceIdeal.main_arg8) = m ((c.tc : Thread Cert.ReduceIdeal.nD Cert.ReduceIdeal.τ).loc Cert.ReduceIdeal.main_arg8))
      ∧ r.2.sem = fun _ => 0)

def quiescent_ReduceRef [hReduceRef : Cert.ReduceRef.Facts] : Prop :=
  ∀ (m : (ℓ : Loc Cert.ReduceRef.nD Cert.ReduceRef.τ Cert.ReduceRef.sig) → Buf (Elt Bits) ℓ) (g : Dev Cert.ReduceRef.nD → PrngReg), Pre_ReduceRef m →
    θ_run (Cert.ReduceRef.defs (F := Bits)) (onTc (τ := Cert.ReduceRef.τ) (Cert.ReduceRef.main (F := Bits))) ⟨m, fun _ => 0, g⟩ (fun r => (∀ c : Dev Cert.ReduceRef.nD,
      r.2.mem ((c.tc : Thread Cert.ReduceRef.nD Cert.ReduceRef.τ).loc Cert.ReduceRef.main_arg0) = m ((c.tc : Thread Cert.ReduceRef.nD Cert.ReduceRef.τ).loc Cert.ReduceRef.main_arg0)
      ∧ r.2.mem ((c.tc : Thread Cert.ReduceRef.nD Cert.ReduceRef.τ).loc Cert.ReduceRef.main_arg1) = m ((c.tc : Thread Cert.ReduceRef.nD Cert.ReduceRef.τ).loc Cert.ReduceRef.main_arg1)
      ∧ r.2.mem ((c.tc : Thread Cert.ReduceRef.nD Cert.ReduceRef.τ).loc Cert.ReduceRef.main_arg2) = m ((c.tc : Thread Cert.ReduceRef.nD Cert.ReduceRef.τ).loc Cert.ReduceRef.main_arg2)
      ∧ r.2.mem ((c.tc : Thread Cert.ReduceRef.nD Cert.ReduceRef.τ).loc Cert.ReduceRef.main_arg3) = m ((c.tc : Thread Cert.ReduceRef.nD Cert.ReduceRef.τ).loc Cert.ReduceRef.main_arg3)
      ∧ r.2.mem ((c.tc : Thread Cert.ReduceRef.nD Cert.ReduceRef.τ).loc Cert.ReduceRef.main_arg4) = m ((c.tc : Thread Cert.ReduceRef.nD Cert.ReduceRef.τ).loc Cert.ReduceRef.main_arg4)
      ∧ r.2.mem ((c.tc : Thread Cert.ReduceRef.nD Cert.ReduceRef.τ).loc Cert.ReduceRef.main_arg5) = m ((c.tc : Thread Cert.ReduceRef.nD Cert.ReduceRef.τ).loc Cert.ReduceRef.main_arg5)
      ∧ r.2.mem ((c.tc : Thread Cert.ReduceRef.nD Cert.ReduceRef.τ).loc Cert.ReduceRef.main_arg6) = m ((c.tc : Thread Cert.ReduceRef.nD Cert.ReduceRef.τ).loc Cert.ReduceRef.main_arg6)
      ∧ r.2.mem ((c.tc : Thread Cert.ReduceRef.nD Cert.ReduceRef.τ).loc Cert.ReduceRef.main_arg7) = m ((c.tc : Thread Cert.ReduceRef.nD Cert.ReduceRef.τ).loc Cert.ReduceRef.main_arg7)
      ∧ r.2.mem ((c.tc : Thread Cert.ReduceRef.nD Cert.ReduceRef.τ).loc Cert.ReduceRef.main_arg8) = m ((c.tc : Thread Cert.ReduceRef.nD Cert.ReduceRef.τ).loc Cert.ReduceRef.main_arg8))
      ∧ r.2.sem = fun _ => 0)

def quiescent_ReduceRefIdeal [hReduceRefIdeal : Cert.ReduceRefIdeal.Facts] : Prop :=
  ∀ (m : (ℓ : Loc Cert.ReduceRefIdeal.nD Cert.ReduceRefIdeal.τ Cert.ReduceRefIdeal.sig) → Buf (Elt Ideal) ℓ) (g : Dev Cert.ReduceRefIdeal.nD → PrngReg), Pre_ReduceRefIdeal m →
    θ_run (Cert.ReduceRefIdeal.defs (F := Ideal)) (onTc (τ := Cert.ReduceRefIdeal.τ) (Cert.ReduceRefIdeal.main (F := Ideal))) ⟨m, fun _ => 0, g⟩ (fun r => (∀ c : Dev Cert.ReduceRefIdeal.nD,
      r.2.mem ((c.tc : Thread Cert.ReduceRefIdeal.nD Cert.ReduceRefIdeal.τ).loc Cert.ReduceRefIdeal.main_arg0) = m ((c.tc : Thread Cert.ReduceRefIdeal.nD Cert.ReduceRefIdeal.τ).loc Cert.ReduceRefIdeal.main_arg0)
      ∧ r.2.mem ((c.tc : Thread Cert.ReduceRefIdeal.nD Cert.ReduceRefIdeal.τ).loc Cert.ReduceRefIdeal.main_arg1) = m ((c.tc : Thread Cert.ReduceRefIdeal.nD Cert.ReduceRefIdeal.τ).loc Cert.ReduceRefIdeal.main_arg1)
      ∧ r.2.mem ((c.tc : Thread Cert.ReduceRefIdeal.nD Cert.ReduceRefIdeal.τ).loc Cert.ReduceRefIdeal.main_arg2) = m ((c.tc : Thread Cert.ReduceRefIdeal.nD Cert.ReduceRefIdeal.τ).loc Cert.ReduceRefIdeal.main_arg2)
      ∧ r.2.mem ((c.tc : Thread Cert.ReduceRefIdeal.nD Cert.ReduceRefIdeal.τ).loc Cert.ReduceRefIdeal.main_arg3) = m ((c.tc : Thread Cert.ReduceRefIdeal.nD Cert.ReduceRefIdeal.τ).loc Cert.ReduceRefIdeal.main_arg3)
      ∧ r.2.mem ((c.tc : Thread Cert.ReduceRefIdeal.nD Cert.ReduceRefIdeal.τ).loc Cert.ReduceRefIdeal.main_arg4) = m ((c.tc : Thread Cert.ReduceRefIdeal.nD Cert.ReduceRefIdeal.τ).loc Cert.ReduceRefIdeal.main_arg4)
      ∧ r.2.mem ((c.tc : Thread Cert.ReduceRefIdeal.nD Cert.ReduceRefIdeal.τ).loc Cert.ReduceRefIdeal.main_arg5) = m ((c.tc : Thread Cert.ReduceRefIdeal.nD Cert.ReduceRefIdeal.τ).loc Cert.ReduceRefIdeal.main_arg5)
      ∧ r.2.mem ((c.tc : Thread Cert.ReduceRefIdeal.nD Cert.ReduceRefIdeal.τ).loc Cert.ReduceRefIdeal.main_arg6) = m ((c.tc : Thread Cert.ReduceRefIdeal.nD Cert.ReduceRefIdeal.τ).loc Cert.ReduceRefIdeal.main_arg6)
      ∧ r.2.mem ((c.tc : Thread Cert.ReduceRefIdeal.nD Cert.ReduceRefIdeal.τ).loc Cert.ReduceRefIdeal.main_arg7) = m ((c.tc : Thread Cert.ReduceRefIdeal.nD Cert.ReduceRefIdeal.τ).loc Cert.ReduceRefIdeal.main_arg7)
      ∧ r.2.mem ((c.tc : Thread Cert.ReduceRefIdeal.nD Cert.ReduceRefIdeal.τ).loc Cert.ReduceRefIdeal.main_arg8) = m ((c.tc : Thread Cert.ReduceRefIdeal.nD Cert.ReduceRefIdeal.τ).loc Cert.ReduceRefIdeal.main_arg8))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRef [hExpertsRef : Cert.ExpertsRef.Facts] [hPre_experts_in_range : Cert.Pre_experts_in_range.Facts] : Prop :=
  ∀ (m : (ℓ : Loc Cert.ExpertsRef.nD Cert.ExpertsRef.τ Cert.ExpertsRef.sig) → Buf (Elt Bits) ℓ) (g : Dev Cert.ExpertsRef.nD → PrngReg), Pre_ExpertsRef m →
    θ_run (Cert.ExpertsRef.defs (F := Bits)) (onTc (τ := Cert.ExpertsRef.τ) (Cert.ExpertsRef.main (F := Bits))) ⟨m, fun _ => 0, g⟩ (fun r => (∀ c : Dev Cert.ExpertsRef.nD,
      r.2.mem ((c.tc : Thread Cert.ExpertsRef.nD Cert.ExpertsRef.τ).loc Cert.ExpertsRef.main_arg0) = m ((c.tc : Thread Cert.ExpertsRef.nD Cert.ExpertsRef.τ).loc Cert.ExpertsRef.main_arg0)
      ∧ r.2.mem ((c.tc : Thread Cert.ExpertsRef.nD Cert.ExpertsRef.τ).loc Cert.ExpertsRef.main_arg1) = m ((c.tc : Thread Cert.ExpertsRef.nD Cert.ExpertsRef.τ).loc Cert.ExpertsRef.main_arg1)
      ∧ r.2.mem ((c.tc : Thread Cert.ExpertsRef.nD Cert.ExpertsRef.τ).loc Cert.ExpertsRef.main_arg2) = m ((c.tc : Thread Cert.ExpertsRef.nD Cert.ExpertsRef.τ).loc Cert.ExpertsRef.main_arg2)
      ∧ r.2.mem ((c.tc : Thread Cert.ExpertsRef.nD Cert.ExpertsRef.τ).loc Cert.ExpertsRef.main_arg3) = m ((c.tc : Thread Cert.ExpertsRef.nD Cert.ExpertsRef.τ).loc Cert.ExpertsRef.main_arg3)
      ∧ r.2.mem ((c.tc : Thread Cert.ExpertsRef.nD Cert.ExpertsRef.τ).loc Cert.ExpertsRef.main_arg4) = m ((c.tc : Thread Cert.ExpertsRef.nD Cert.ExpertsRef.τ).loc Cert.ExpertsRef.main_arg4)
      ∧ r.2.mem ((c.tc : Thread Cert.ExpertsRef.nD Cert.ExpertsRef.τ).loc Cert.ExpertsRef.main_arg5) = m ((c.tc : Thread Cert.ExpertsRef.nD Cert.ExpertsRef.τ).loc Cert.ExpertsRef.main_arg5)
      ∧ r.2.mem ((c.tc : Thread Cert.ExpertsRef.nD Cert.ExpertsRef.τ).loc Cert.ExpertsRef.main_arg6) = m ((c.tc : Thread Cert.ExpertsRef.nD Cert.ExpertsRef.τ).loc Cert.ExpertsRef.main_arg6))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ r.2.sem = fun _ => 0)

def quiescent_PrepRef [hPrepRef : Cert.PrepRef.Facts] : Prop :=
  ∀ (m : (ℓ : Loc Cert.PrepRef.nD Cert.PrepRef.τ Cert.PrepRef.sig) → Buf (Elt Bits) ℓ) (g : Dev Cert.PrepRef.nD → PrngReg), Pre_PrepRef m →
    θ_run (Cert.PrepRef.defs (F := Bits)) (onTc (τ := Cert.PrepRef.τ) (Cert.PrepRef.main (F := Bits))) ⟨m, fun _ => 0, g⟩ (fun r => (∀ c : Dev Cert.PrepRef.nD,
      r.2.mem ((c.tc : Thread Cert.PrepRef.nD Cert.PrepRef.τ).loc Cert.PrepRef.main_arg0) = m ((c.tc : Thread Cert.PrepRef.nD Cert.PrepRef.τ).loc Cert.PrepRef.main_arg0)
      ∧ r.2.mem ((c.tc : Thread Cert.PrepRef.nD Cert.PrepRef.τ).loc Cert.PrepRef.main_arg1) = m ((c.tc : Thread Cert.PrepRef.nD Cert.PrepRef.τ).loc Cert.PrepRef.main_arg1)
      ∧ r.2.mem ((c.tc : Thread Cert.PrepRef.nD Cert.PrepRef.τ).loc Cert.PrepRef.main_arg2) = m ((c.tc : Thread Cert.PrepRef.nD Cert.PrepRef.τ).loc Cert.PrepRef.main_arg2)
      ∧ r.2.mem ((c.tc : Thread Cert.PrepRef.nD Cert.PrepRef.τ).loc Cert.PrepRef.main_arg3) = m ((c.tc : Thread Cert.PrepRef.nD Cert.PrepRef.τ).loc Cert.PrepRef.main_arg3)
      ∧ r.2.mem ((c.tc : Thread Cert.PrepRef.nD Cert.PrepRef.τ).loc Cert.PrepRef.main_arg4) = m ((c.tc : Thread Cert.PrepRef.nD Cert.PrepRef.τ).loc Cert.PrepRef.main_arg4)
      ∧ r.2.mem ((c.tc : Thread Cert.PrepRef.nD Cert.PrepRef.τ).loc Cert.PrepRef.main_arg5) = m ((c.tc : Thread Cert.PrepRef.nD Cert.PrepRef.τ).loc Cert.PrepRef.main_arg5)
      ∧ r.2.mem ((c.tc : Thread Cert.PrepRef.nD Cert.PrepRef.τ).loc Cert.PrepRef.main_arg6) = m ((c.tc : Thread Cert.PrepRef.nD Cert.PrepRef.τ).loc Cert.PrepRef.main_arg6)
      ∧ r.2.mem ((c.tc : Thread Cert.PrepRef.nD Cert.PrepRef.τ).loc Cert.PrepRef.main_arg7) = m ((c.tc : Thread Cert.PrepRef.nD Cert.PrepRef.τ).loc Cert.PrepRef.main_arg7)
      ∧ r.2.mem ((c.tc : Thread Cert.PrepRef.nD Cert.PrepRef.τ).loc Cert.PrepRef.main_arg8) = m ((c.tc : Thread Cert.PrepRef.nD Cert.PrepRef.τ).loc Cert.PrepRef.main_arg8)
      ∧ r.2.mem ((c.tc : Thread Cert.PrepRef.nD Cert.PrepRef.τ).loc Cert.PrepRef.main_arg9) = m ((c.tc : Thread Cert.PrepRef.nD Cert.PrepRef.τ).loc Cert.PrepRef.main_arg9)
      ∧ r.2.mem ((c.tc : Thread Cert.PrepRef.nD Cert.PrepRef.τ).loc Cert.PrepRef.main_arg10) = m ((c.tc : Thread Cert.PrepRef.nD Cert.PrepRef.τ).loc Cert.PrepRef.main_arg10)
      ∧ r.2.mem ((c.tc : Thread Cert.PrepRef.nD Cert.PrepRef.τ).loc Cert.PrepRef.main_arg11) = m ((c.tc : Thread Cert.PrepRef.nD Cert.PrepRef.τ).loc Cert.PrepRef.main_arg11)
      ∧ r.2.mem ((c.tc : Thread Cert.PrepRef.nD Cert.PrepRef.τ).loc Cert.PrepRef.main_arg12) = m ((c.tc : Thread Cert.PrepRef.nD Cert.PrepRef.τ).loc Cert.PrepRef.main_arg12)
      ∧ r.2.mem ((c.tc : Thread Cert.PrepRef.nD Cert.PrepRef.τ).loc Cert.PrepRef.main_arg13) = m ((c.tc : Thread Cert.PrepRef.nD Cert.PrepRef.τ).loc Cert.PrepRef.main_arg13))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_range : Cert.Pre_dest_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_range : Cert.Pre_dest_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Reduce_ReduceIdeal : Prop :=
  True

def algebraic_ReduceIdeal_ReduceRefIdeal [hReduceIdeal : Cert.ReduceIdeal.Facts] [hReduceRefIdeal : Cert.ReduceRefIdeal.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.ReduceRefIdeal.nD Cert.ReduceRefIdeal.τ Cert.ReduceRefIdeal.sig) → Buf (Elt Ideal) ℓ) (g' : Dev Cert.ReduceRefIdeal.nD → PrngReg), Pre_ReduceIdeal m →
    (∀ c : Dev Cert.ReduceIdeal.nD,
      m' ((c.tc : Thread Cert.ReduceRefIdeal.nD Cert.ReduceRefIdeal.τ).loc Cert.ReduceRefIdeal.main_arg0) = m ((c.tc : Thread Cert.ReduceIdeal.nD Cert.ReduceIdeal.τ).loc Cert.ReduceIdeal.main_arg0)
      ∧ m' ((c.tc : Thread Cert.ReduceRefIdeal.nD Cert.ReduceRefIdeal.τ).loc Cert.ReduceRefIdeal.main_arg1) = m ((c.tc : Thread Cert.ReduceIdeal.nD Cert.ReduceIdeal.τ).loc Cert.ReduceIdeal.main_arg1)
      ∧ m' ((c.tc : Thread Cert.ReduceRefIdeal.nD Cert.ReduceRefIdeal.τ).loc Cert.ReduceRefIdeal.main_arg2) = m ((c.tc : Thread Cert.ReduceIdeal.nD Cert.ReduceIdeal.τ).loc Cert.ReduceIdeal.main_arg2)
      ∧ m' ((c.tc : Thread Cert.ReduceRefIdeal.nD Cert.ReduceRefIdeal.τ).loc Cert.ReduceRefIdeal.main_arg3) = m ((c.tc : Thread Cert.ReduceIdeal.nD Cert.ReduceIdeal.τ).loc Cert.ReduceIdeal.main_arg3)
      ∧ m' ((c.tc : Thread Cert.ReduceRefIdeal.nD Cert.ReduceRefIdeal.τ).loc Cert.ReduceRefIdeal.main_arg4) = m ((c.tc : Thread Cert.ReduceIdeal.nD Cert.ReduceIdeal.τ).loc Cert.ReduceIdeal.main_arg4)
      ∧ m' ((c.tc : Thread Cert.ReduceRefIdeal.nD Cert.ReduceRefIdeal.τ).loc Cert.ReduceRefIdeal.main_arg5) = m ((c.tc : Thread Cert.ReduceIdeal.nD Cert.ReduceIdeal.τ).loc Cert.ReduceIdeal.main_arg5)
      ∧ m' ((c.tc : Thread Cert.ReduceRefIdeal.nD Cert.ReduceRefIdeal.τ).loc Cert.ReduceRefIdeal.main_arg6) = m ((c.tc : Thread Cert.ReduceIdeal.nD Cert.ReduceIdeal.τ).loc Cert.ReduceIdeal.main_arg6)
      ∧ m' ((c.tc : Thread Cert.ReduceRefIdeal.nD Cert.ReduceRefIdeal.τ).loc Cert.ReduceRefIdeal.main_arg7) = m ((c.tc : Thread Cert.ReduceIdeal.nD Cert.ReduceIdeal.τ).loc Cert.ReduceIdeal.main_arg7)
      ∧ m' ((c.tc : Thread Cert.ReduceRefIdeal.nD Cert.ReduceRefIdeal.τ).loc Cert.ReduceRefIdeal.main_arg8) = m ((c.tc : Thread Cert.ReduceIdeal.nD Cert.ReduceIdeal.τ).loc Cert.ReduceIdeal.main_arg8)) →
    ∃ (v0 : (c : Dev Cert.ReduceIdeal.nD) → Buf (Elt Ideal) ((c.tc : Thread Cert.ReduceIdeal.nD Cert.ReduceIdeal.τ).loc Cert.ReduceIdeal.main_v5)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v5) = v0 c
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
          ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
          ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
          ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
          ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4)
          ∧ r.2.mem ((c.tc : Thread Cert.ReduceIdeal.nD Cert.ReduceIdeal.τ).loc Cert.ReduceIdeal.main_arg5) = m ((c.tc : Thread Cert.ReduceIdeal.nD Cert.ReduceIdeal.τ).loc Cert.ReduceIdeal.main_arg5)
          ∧ r.2.mem ((c.tc : Thread Cert.ReduceIdeal.nD Cert.ReduceIdeal.τ).loc Cert.ReduceIdeal.main_arg6) = m ((c.tc : Thread Cert.ReduceIdeal.nD Cert.ReduceIdeal.τ).loc Cert.ReduceIdeal.main_arg6)
          ∧ r.2.mem ((c.tc : Thread Cert.ReduceIdeal.nD Cert.ReduceIdeal.τ).loc Cert.ReduceIdeal.main_arg7) = m ((c.tc : Thread Cert.ReduceIdeal.nD Cert.ReduceIdeal.τ).loc Cert.ReduceIdeal.main_arg7)
          ∧ r.2.mem ((c.tc : Thread Cert.ReduceIdeal.nD Cert.ReduceIdeal.τ).loc Cert.ReduceIdeal.main_arg8) = m ((c.tc : Thread Cert.ReduceIdeal.nD Cert.ReduceIdeal.τ).loc Cert.ReduceIdeal.main_arg8))
      ∧ θ_run (Cert.ReduceRefIdeal.defs (F := Ideal)) (onTc (τ := Cert.ReduceRefIdeal.τ) (Cert.ReduceRefIdeal.main (F := Ideal))) ⟨m', fun _ => 0, g'⟩ (fun r => ∀ c : Dev Cert.ReduceRefIdeal.nD,
          r.2.mem ((c.tc : Thread Cert.ReduceRefIdeal.nD Cert.ReduceRefIdeal.τ).loc Cert.ReduceRefIdeal.main_v34) = v0 c
          ∧ r.2.mem ((c.tc : Thread Cert.ReduceRefIdeal.nD Cert.ReduceRefIdeal.τ).loc Cert.ReduceRefIdeal.main_arg0) = m' ((c.tc : Thread Cert.ReduceRefIdeal.nD Cert.ReduceRefIdeal.τ).loc Cert.ReduceRefIdeal.main_arg0)
          ∧ r.2.mem ((c.tc : Thread Cert.ReduceRefIdeal.nD Cert.ReduceRefIdeal.τ).loc Cert.ReduceRefIdeal.main_arg1) = m' ((c.tc : Thread Cert.ReduceRefIdeal.nD Cert.ReduceRefIdeal.τ).loc Cert.ReduceRefIdeal.main_arg1)
          ∧ r.2.mem ((c.tc : Thread Cert.ReduceRefIdeal.nD Cert.ReduceRefIdeal.τ).loc Cert.ReduceRefIdeal.main_arg2) = m' ((c.tc : Thread Cert.ReduceRefIdeal.nD Cert.ReduceRefIdeal.τ).loc Cert.ReduceRefIdeal.main_arg2)
          ∧ r.2.mem ((c.tc : Thread Cert.ReduceRefIdeal.nD Cert.ReduceRefIdeal.τ).loc Cert.ReduceRefIdeal.main_arg3) = m' ((c.tc : Thread Cert.ReduceRefIdeal.nD Cert.ReduceRefIdeal.τ).loc Cert.ReduceRefIdeal.main_arg3)
          ∧ r.2.mem ((c.tc : Thread Cert.ReduceRefIdeal.nD Cert.ReduceRefIdeal.τ).loc Cert.ReduceRefIdeal.main_arg4) = m' ((c.tc : Thread Cert.ReduceRefIdeal.nD Cert.ReduceRefIdeal.τ).loc Cert.ReduceRefIdeal.main_arg4)
          ∧ r.2.mem ((c.tc : Thread Cert.ReduceRefIdeal.nD Cert.ReduceRefIdeal.τ).loc Cert.ReduceRefIdeal.main_arg5) = m' ((c.tc : Thread Cert.ReduceRefIdeal.nD Cert.ReduceRefIdeal.τ).loc Cert.ReduceRefIdeal.main_arg5)
          ∧ r.2.mem ((c.tc : Thread Cert.ReduceRefIdeal.nD Cert.ReduceRefIdeal.τ).loc Cert.ReduceRefIdeal.main_arg6) = m' ((c.tc : Thread Cert.ReduceRefIdeal.nD Cert.ReduceRefIdeal.τ).loc Cert.ReduceRefIdeal.main_arg6)
          ∧ r.2.mem ((c.tc : Thread Cert.ReduceRefIdeal.nD Cert.ReduceRefIdeal.τ).loc Cert.ReduceRefIdeal.main_arg7) = m' ((c.tc : Thread Cert.ReduceRefIdeal.nD Cert.ReduceRefIdeal.τ).loc Cert.ReduceRefIdeal.main_arg7)
          ∧ r.2.mem ((c.tc : Thread Cert.ReduceRefIdeal.nD Cert.ReduceRefIdeal.τ).loc Cert.ReduceRefIdeal.main_arg8) = m' ((c.tc : Thread Cert.ReduceRefIdeal.nD Cert.ReduceRefIdeal.τ).loc Cert.ReduceRefIdeal.main_arg8))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0_0)) (v1 : (c : Dev Cert.ExpertsIdeal.nD) → Buf (Elt Ideal) ((c.tc : Thread Cert.ExpertsIdeal.nD Cert.ExpertsIdeal.τ).loc Cert.ExpertsIdeal.main_v0_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0_0) = v0 c
          ∧ r.2.mem ((c.tc : Thread Cert.ExpertsIdeal.nD Cert.ExpertsIdeal.τ).loc Cert.ExpertsIdeal.main_v0_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v81) = v0 c
          ∧ r.2.mem ((c.tc : Thread Cert.ExpertsRefIdeal.nD Cert.ExpertsRefIdeal.τ).loc Cert.ExpertsRefIdeal.main_v84) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)) →
    ∃ (v0 : (c : Dev Cert.PrepIdeal.nD) → Buf (Elt Ideal) ((c.tc : Thread Cert.PrepIdeal.nD Cert.PrepIdeal.τ).loc Cert.PrepIdeal.main_v24_0)) (v1 : (c : Dev Cert.PrepIdeal.nD) → Buf (Elt Ideal) ((c.tc : Thread Cert.PrepIdeal.nD Cert.PrepIdeal.τ).loc Cert.PrepIdeal.main_v24_1)) (v2 : (c : Dev Cert.PrepIdeal.nD) → Buf (Elt Ideal) ((c.tc : Thread Cert.PrepIdeal.nD Cert.PrepIdeal.τ).loc Cert.PrepIdeal.main_v24_2)) (v3 : (c : Dev Cert.PrepIdeal.nD) → Buf (Elt Ideal) ((c.tc : Thread Cert.PrepIdeal.nD Cert.PrepIdeal.τ).loc Cert.PrepIdeal.main_v24_3)) (v4 : (c : Dev Cert.PrepIdeal.nD) → Buf (Elt Ideal) ((c.tc : Thread Cert.PrepIdeal.nD Cert.PrepIdeal.τ).loc Cert.PrepIdeal.main_v24_4)) (v5 : (c : Dev Cert.PrepIdeal.nD) → Buf (Elt Ideal) ((c.tc : Thread Cert.PrepIdeal.nD Cert.PrepIdeal.τ).loc Cert.PrepIdeal.main_v24_5)) (v6 : (c : Dev Cert.PrepIdeal.nD) → Buf (Elt Ideal) ((c.tc : Thread Cert.PrepIdeal.nD Cert.PrepIdeal.τ).loc Cert.PrepIdeal.main_v24_6)) (v7 : (c : Dev Cert.PrepIdeal.nD) → Buf (Elt Ideal) ((c.tc : Thread Cert.PrepIdeal.nD Cert.PrepIdeal.τ).loc Cert.PrepIdeal.main_v24_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v24_0) = v0 c
          ∧ r.2.mem ((c.tc : Thread Cert.PrepIdeal.nD Cert.PrepIdeal.τ).loc Cert.PrepIdeal.main_v24_1) = v1 c
          ∧ r.2.mem ((c.tc : Thread Cert.PrepIdeal.nD Cert.PrepIdeal.τ).loc Cert.PrepIdeal.main_v24_2) = v2 c
          ∧ r.2.mem ((c.tc : Thread Cert.PrepIdeal.nD Cert.PrepIdeal.τ).loc Cert.PrepIdeal.main_v24_3) = v3 c
          ∧ r.2.mem ((c.tc : Thread Cert.PrepIdeal.nD Cert.PrepIdeal.τ).loc Cert.PrepIdeal.main_v24_4) = v4 c
          ∧ r.2.mem ((c.tc : Thread Cert.PrepIdeal.nD Cert.PrepIdeal.τ).loc Cert.PrepIdeal.main_v24_5) = v5 c
          ∧ r.2.mem ((c.tc : Thread Cert.PrepIdeal.nD Cert.PrepIdeal.τ).loc Cert.PrepIdeal.main_v24_6) = v6 c
          ∧ r.2.mem ((c.tc : Thread Cert.PrepIdeal.nD Cert.PrepIdeal.τ).loc Cert.PrepIdeal.main_v24_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v118) = v0 c
          ∧ r.2.mem ((c.tc : Thread Cert.PrepRefIdeal.nD Cert.PrepRefIdeal.τ).loc Cert.PrepRefIdeal.main_v119) = v1 c
          ∧ r.2.mem ((c.tc : Thread Cert.PrepRefIdeal.nD Cert.PrepRefIdeal.τ).loc Cert.PrepRefIdeal.main_v122) = v2 c
          ∧ r.2.mem ((c.tc : Thread Cert.PrepRefIdeal.nD Cert.PrepRefIdeal.τ).loc Cert.PrepRefIdeal.main_v123) = v3 c
          ∧ r.2.mem ((c.tc : Thread Cert.PrepRefIdeal.nD Cert.PrepRefIdeal.τ).loc Cert.PrepRefIdeal.main_v124) = v4 c
          ∧ r.2.mem ((c.tc : Thread Cert.PrepRefIdeal.nD Cert.PrepRefIdeal.τ).loc Cert.PrepRefIdeal.main_v125) = v5 c
          ∧ r.2.mem ((c.tc : Thread Cert.PrepRefIdeal.nD Cert.PrepRefIdeal.τ).loc Cert.PrepRefIdeal.main_v128) = v6 c
          ∧ r.2.mem ((c.tc : Thread Cert.PrepRefIdeal.nD Cert.PrepRefIdeal.τ).loc Cert.PrepRefIdeal.main_v129) = v7 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13))

def Claim : Prop :=
  ∃ (hKernel : Cert.Kernel.Facts) (hKernelIdeal : Cert.KernelIdeal.Facts) (hReferenceIdeal : Cert.ReferenceIdeal.Facts) (hReference : Cert.Reference.Facts) (hReduce : Cert.Reduce.Facts) (hReduceIdeal : Cert.ReduceIdeal.Facts) (hReduceRef : Cert.ReduceRef.Facts) (hReduceRefIdeal : Cert.ReduceRefIdeal.Facts) (hExperts : Cert.Experts.Facts) (hExpertsIdeal : Cert.ExpertsIdeal.Facts) (hExpertsRef : Cert.ExpertsRef.Facts) (hExpertsRefIdeal : Cert.ExpertsRefIdeal.Facts) (hPrep : Cert.Prep.Facts) (hPrepIdeal : Cert.PrepIdeal.Facts) (hPrepRef : Cert.PrepRef.Facts) (hPrepRefIdeal : Cert.PrepRefIdeal.Facts) (hPre_dest_in_range : Cert.Pre_dest_in_range.Facts) (hPre_experts_in_range : Cert.Pre_experts_in_range.Facts),
    quiescent_Kernel (hKernel := hKernel) (hPre_dest_in_range := hPre_dest_in_range)
    ∧ quiescent_KernelIdeal (hKernelIdeal := hKernelIdeal) (hPre_dest_in_range := hPre_dest_in_range)
    ∧ quiescent_ReferenceIdeal (hReferenceIdeal := hReferenceIdeal) (hPre_dest_in_range := hPre_dest_in_range)
    ∧ quiescent_Reference (hReference := hReference) (hPre_dest_in_range := hPre_dest_in_range)
    ∧ quiescent_Reduce (hReduce := hReduce)
    ∧ quiescent_ReduceIdeal (hReduceIdeal := hReduceIdeal)
    ∧ quiescent_ReduceRef (hReduceRef := hReduceRef)
    ∧ quiescent_ReduceRefIdeal (hReduceRefIdeal := hReduceRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRef (hExpertsRef := hExpertsRef) (hPre_experts_in_range := hPre_experts_in_range)
    ∧ quiescent_ExpertsRefIdeal (hExpertsRefIdeal := hExpertsRefIdeal) (hPre_experts_in_range := hPre_experts_in_range)
    ∧ quiescent_Prep (hPrep := hPrep)
    ∧ quiescent_PrepIdeal (hPrepIdeal := hPrepIdeal)
    ∧ quiescent_PrepRef (hPrepRef := hPrepRef)
    ∧ quiescent_PrepRefIdeal (hPrepRefIdeal := hPrepRefIdeal)
    ∧ preserves_Kernel_KernelIdeal
    ∧ algebraic_KernelIdeal_ReferenceIdeal (hKernelIdeal := hKernelIdeal) (hReferenceIdeal := hReferenceIdeal) (hPre_dest_in_range := hPre_dest_in_range)
    ∧ bitexact_Kernel_Reference (hKernel := hKernel) (hReference := hReference) (hPre_dest_in_range := hPre_dest_in_range)
    ∧ preserves_Reduce_ReduceIdeal
    ∧ algebraic_ReduceIdeal_ReduceRefIdeal (hReduceIdeal := hReduceIdeal) (hReduceRefIdeal := hReduceRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Prep_PrepIdeal
    ∧ algebraic_PrepIdeal_PrepRefIdeal (hPrepIdeal := hPrepIdeal) (hPrepRefIdeal := hPrepRefIdeal)
-- ==== Pre_dest_in_range.lean ====
abbrev S81920x256 : Shape := ⟨2, ![81920, 256]⟩
abbrev S4x16384 : Shape := ⟨2, ![4, 16384]⟩
abbrev S_ : Shape := ⟨0, ![]⟩

class Facts : Prop where
  bcast_S_S4x16384 : S_.BroadcastsInDim S4x16384 (![] : Fin 0 → Fin S4x16384.rank)

variable [Facts]

def fn {F : FTy → Type} [FloatOps F] (main_arg0 : IVec S81920x256 32) (main_arg1 : IVec S4x16384 32) : IVec S4x16384 1 :=
  let main_c : IVec S_ 32 := constantI S_ 32 0#32
  let main_v0 : IVec S4x16384 32 := broadcastInDim S4x16384 ![] bcast_S_S4x16384 main_c
  let main_v1 : IVec S4x16384 1 := cmpi .sge main_arg1 main_v0
  let main_c_0 : IVec S_ 32 := constantI S_ 32 81920#32
  let main_v2 : IVec S4x16384 32 := broadcastInDim S4x16384 ![] bcast_S_S4x16384 main_c_0
  let main_v3 : IVec S4x16384 1 := cmpi .slt main_arg1 main_v2
  let main_v4 : IVec S4x16384 1 := andi main_v1 main_v3
  main_v4
-- ==== Pre_experts_in_range.lean ====
abbrev S8x256 : Shape := ⟨2, ![8, 256]⟩
abbrev S81920x256 : Shape := ⟨2, ![81920, 256]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S1x160 : Shape := ⟨2, ![1, 160]⟩
abbrev S160 : Shape := ⟨1, ![160]⟩
abbrev S_ : Shape := ⟨0, ![]⟩
abbrev S1x1 : Shape := ⟨2, ![1, 1]⟩

class Facts : Prop where
  slices_S8x256_S1x160_0_0 : S8x256.Slices ![0, 0] S1x160
  shapeCasts_S1x160_S160 : S1x160.ShapeCasts S160
  bcast_S_S160 : S_.BroadcastsInDim S160 (![] : Fin 0 → Fin S160.rank)
  slices_S8x256_S1x1_1_0 : S8x256.Slices ![1, 0] S1x1
  shapeCasts_S1x1_S_ : S1x1.ShapeCasts S_

variable [Facts]

def fn {F : FTy → Type} [FloatOps F] (main_arg0 : IVec S8x256 32) (main_arg1 : IVec S81920x256 32) (main_arg2 : IVec S81920x256 32) (main_arg3 : FVec F S32x1024x2048 .bf16) (main_arg4 : FVec F S32x1x2048 .f32) (main_arg5 : FVec F S32x1024x1024 .bf16) (main_arg6 : FVec F S32x1x1024 .f32) : IVec S160 1 :=
  let main_v0 : IVec S1x160 32 := (extractStridedSlice S1x160 ![0, 0] · slices_S8x256_S1x160_0_0) main_arg0
  let main_v1 : IVec S160 32 := shapeCast S160 main_v0 shapeCasts_S1x160_S160
  let main_c : IVec S_ 32 := constantI S_ 32 0#32
  let main_v2 : IVec S160 32 := broadcastInDim S160 ![] bcast_S_S160 main_c
  let main_v3 : IVec S160 1 := cmpi .sge main_v1 main_v2
  let main_c_0 : IVec S_ 32 := constantI S_ 32 32#32
  let main_v4 : IVec S160 32 := broadcastInDim S160 ![] bcast_S_S160 main_c_0
  let main_v5 : IVec S160 1 := cmpi .slt main_v1 main_v4
  let main_v6 : IVec S160 1 := andi main_v3 main_v5
  let main_v7 : IVec S1x1 32 := (extractStridedSlice S1x1 ![1, 0] · slices_S8x256_S1x1_1_0) main_arg0
  let main_v8 : IVec S_ 32 := shapeCast S_ main_v7 shapeCasts_S1x1_S_
  let main_c_1 : IVec S_ 32 := constantI S_ 32 1#32
  let main_v9 : IVec S_ 1 := cmpi .sge main_v8 main_c_1
  let main_v10 : IVec S160 1 := broadcastInDim S160 ![] bcast_S_S160 main_v9
  let main_v11 : IVec S160 1 := andi main_v6 main_v10
  main_v11
-- ==== Kernel.lean ====
abbrev S81920x256 : Shape := ⟨2, ![81920, 256]⟩
abbrev S4x16384 : Shape := ⟨2, ![4, 16384]⟩
abbrev S1x65536 : Shape := ⟨2, ![1, 65536]⟩
abbrev S65536x256 : Shape := ⟨2, ![65536, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S81920x128 : Shape := ⟨2, ![81920, 128]⟩

abbrev nBuf : Table → Nat
  | .hbm => 4
  | .local .scVector .vmem => 2
  | _ => 0

abbrev bufTy : (tb : Table) → Fin (nBuf tb) → BufTy
  | .hbm, ⟨0, _⟩ => ⟨S81920x256, .i32⟩
  | .hbm, ⟨1, _⟩ => ⟨S4x16384, .i32⟩
  | .hbm, ⟨2, _⟩ => ⟨S1x65536, .i32⟩
  | .hbm, ⟨3, _⟩ => ⟨S65536x256, .i32⟩
  | .local .scVector .vmem, ⟨0, _⟩ => ⟨S2x1x128, .i32⟩
  | .local .scVector .vmem, ⟨1, _⟩ => ⟨S2x128x256, .i32⟩
  | _, _ => ⟨S81920x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k0_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k0_off5 (i : grid0.Coords) (arg10_r0 : BitVec 32) : Fin 2 → Nat :=
  let c0_i32_105_r0 : BitVec 32 := 0#32
  let c128_i32_102_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_102_r0 v76_r0
  ![0, v145_r0.toNat]
def k0_off6 (arg6_r0 : BitVec 32) : Fin 1 → Nat :=
  let c2_i32_101_r0 : BitVec 32 := 2#32
  let v144_r0 : BitVec 32 := Scalar.remui arg6_r0 c2_i32_101_r0
  ![v144_r0.toNat]
def k0_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k0_off8 (i : grid0.Coords) (arg10_r0 : BitVec 32) : Fin 2 → Nat :=
  let c0_i32_105_r0 : BitVec 32 := 0#32
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_101_r0 v66_r0
  ![0, v144_r0.toNat]
def k0_off9 (arg7_r0 : BitVec 32) : Fin 1 → Nat :=
  let c2_i32_102_r0 : BitVec 32 := 2#32
  let v145_r0 : BitVec 32 := Scalar.remui arg7_r0 c2_i32_102_r0
  ![v145_r0.toNat]
def k0_off10 (arg8_r0 : BitVec 32) : Fin 3 → Nat :=
  let c2_i32_82_r0 : BitVec 32 := 2#32
  let v109_r0 : BitVec 32 := Scalar.remui arg8_r0 c2_i32_82_r0
  let c0_i32_101_r1 : BitVec 32 := 0#32
  let c0_i32_102_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_81_r0 : BitVec 32 := 2#32
  let v108_r0 : BitVec 32 := Scalar.remui arg7_r0 c2_i32_81_r0
  let c0_i32_105_r1 : BitVec 32 := 0#32
  let c0_i32_106_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k0_off13 (i : grid0.Coords) (arg10_r0 : BitVec 32) : Fin 2 → Nat :=
  let c128_i32_102_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_102_r0 v66_r0
  let c0_i32_105_r0 : BitVec 32 := 0#32
  ![v145_r0.toNat, 0]
def k0_off14 (arg8_r0 : BitVec 32) : Fin 1 → Nat :=
  let c2_i32_101_r0 : BitVec 32 := 2#32
  let v144_r0 : BitVec 32 := Scalar.remui arg8_r0 c2_i32_101_r0
  ![v144_r0.toNat]
def k0_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k0_off16 (i : grid0.Coords) (arg10_r0 : BitVec 32) : Fin 2 → Nat :=
  let c128_i32_102_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_102_r0 v71_r0
  let c0_i32_105_r0 : BitVec 32 := 0#32
  ![v145_r0.toNat, 0]
def k0_off17 (arg9_r0 : BitVec 32) : Fin 1 → Nat :=
  let c2_i32_101_r0 : BitVec 32 := 2#32
  let v144_r0 : BitVec 32 := Scalar.remui arg9_r0 c2_i32_101_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S65536x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S65536x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S65536x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S65536x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k0_off19 (i : grid0.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k0_chk5 (i : grid0.Coords) (v33_4_r0 : BitVec 32) : Prop :=
  (∀ a, (k0_off19 i v33_4_r0) a + S128x256.size a ≤ S65536x256.size a)
theorem k0_off19_inb : ∀ (i : grid0.Coords) (v33_4_r0 : BitVec 32) (k0_hw5 : k0_chk5 i v33_4_r0), ∀ a, (k0_off19 i v33_4_r0) a + S128x256.size a ≤ S65536x256.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S81920x256 : Shape := ⟨2, ![81920, 256]⟩
abbrev S4x16384 : Shape := ⟨2, ![4, 16384]⟩
abbrev S65536 : Shape := ⟨1, ![65536]⟩
abbrev S_ : Shape := ⟨0, ![]⟩
abbrev S65536x1 : Shape := ⟨2, ![65536, 1]⟩
abbrev S65536x256 : Shape := ⟨2, ![65536, 256]⟩

abbrev nBuf : Space → Nat
  | .hbm => 12
  | .vmem => 0
  | .smem => 0
  | _ => 0

abbrev bufTy : (tb : Table) → Fin (tcTables nBuf tb) → BufTy
  | .hbm, ⟨0, _⟩ => ⟨S81920x256, .i32⟩
  | .hbm, ⟨1, _⟩ => ⟨S4x16384, .i32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x256, .i32⟩
  | _, _ => ⟨S81920x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Reduce.lean ====
abbrev S65536x256 : Shape := ⟨2, ![65536, 256]⟩
abbrev S16384x1024 : Shape := ⟨2, ![16384, 1024]⟩
abbrev S4x16384 : Shape := ⟨2, ![4, 16384]⟩
abbrev S1x1024 : Shape := ⟨2, ![1, 1024]⟩
abbrev S4x16384x256 : Shape := ⟨3, ![4, 16384, 256]⟩
abbrev S32768x1024 : Shape := ⟨2, ![32768, 1024]⟩
abbrev S4x1024x256 : Shape := ⟨3, ![4, 1024, 256]⟩
abbrev S1024x1024 : Shape := ⟨2, ![1024, 1024]⟩
abbrev S4x1024 : Shape := ⟨2, ![4, 1024]⟩
abbrev S128x1024 : Shape := ⟨2, ![128, 1024]⟩
abbrev S1024x128 : Shape := ⟨2, ![1024, 128]⟩
abbrev S1x1024x256 : Shape := ⟨3, ![1, 1024, 256]⟩
abbrev S1024x256 : Shape := ⟨2, ![1024, 256]⟩
abbrev S1024x512 : Shape := ⟨2, ![1024, 512]⟩
abbrev S1024x1 : Shape := ⟨2, ![1024, 1]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S65536x256, .i32⟩
  | .hbm, ⟨1, _⟩ => ⟨S65536x256, .i32⟩
  | .hbm, ⟨2, _⟩ => ⟨S16384x1024, .f32⟩
  | .hbm, ⟨3, _⟩ => ⟨S4x16384, .f32⟩
  | .hbm, ⟨4, _⟩ => ⟨S65536x256, .i32⟩
  | .hbm, ⟨5, _⟩ => ⟨S65536x256, .i32⟩
  | .hbm, ⟨6, _⟩ => ⟨S16384x1024, .f32⟩
  | .hbm, ⟨7, _⟩ => ⟨S4x16384, .f32⟩
  | .hbm, ⟨8, _⟩ => ⟨S1x1024, .f32⟩
  | .hbm, ⟨9, _⟩ => ⟨S4x16384x256, .i32⟩
  | .hbm, ⟨10, _⟩ => ⟨S4x16384x256, .i32⟩
  | .hbm, ⟨11, _⟩ => ⟨S32768x1024, .f32⟩
  | .hbm, ⟨12, _⟩ => ⟨S4x16384x256, .i32⟩
  | .hbm, ⟨13, _⟩ => ⟨S4x16384x256, .i32⟩
  | .hbm, ⟨14, _⟩ => ⟨S32768x1024, .f32⟩
  | .local _ .vmem, ⟨0, _⟩ => ⟨S4x1024x256, .i32⟩
  | .local _ .vmem, ⟨1, _⟩ => ⟨S4x1024x256, .i32⟩
  | .local _ .vmem, ⟨2, _⟩ => ⟨S4x1024x256, .i32⟩
  | .local _ .vmem, ⟨3, _⟩ => ⟨S4x1024x256, .i32⟩
  | .local _ .vmem, ⟨4, _⟩ => ⟨S1024x1024, .f32⟩
  | .local _ .vmem, ⟨5, _⟩ => ⟨S1024x1024, .f32⟩
  | .local _ .vmem, ⟨6, _⟩ => ⟨S4x1024, .f32⟩
  | .local _ .vmem, ⟨7, _⟩ => ⟨S4x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S4x1024x256, .i32⟩
  | .local _ .vmem, ⟨12, _⟩ => ⟨S4x1024x256, .i32⟩
  | .local _ .vmem, ⟨13, _⟩ => ⟨S4x1024x256, .i32⟩
  | .local _ .vmem, ⟨14, _⟩ => ⟨S4x1024x256, .i32⟩
  | .local _ .vmem, ⟨15, _⟩ => ⟨S1024x1024, .f32⟩
  | .local _ .vmem, ⟨16, _⟩ => ⟨S1024x1024, .f32⟩
  | .local _ .vmem, ⟨17, _⟩ => ⟨S4x1024, .f32⟩
  | .local _ .vmem, ⟨18, _⟩ => ⟨S4x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S65536x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S4x1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage1_0 : Fin 2 → Memref sig .tc .vmem S4x1024x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1024x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReduceRef.lean ====
abbrev S65536x256 : Shape := ⟨2, ![65536, 256]⟩
abbrev S16384x1024 : Shape := ⟨2, ![16384, 1024]⟩
abbrev S4x16384 : Shape := ⟨2, ![4, 16384]⟩
abbrev S1x1024 : Shape := ⟨2, ![1, 1024]⟩
abbrev S65536x512 : Shape := ⟨2, ![65536, 512]⟩
abbrev S_ : Shape := ⟨0, ![]⟩
abbrev S65536x1024 : Shape := ⟨2, ![65536, 1024]⟩
abbrev S4x16384x1024 : Shape := ⟨3, ![4, 16384, 1024]⟩
abbrev S32768x1024 : Shape := ⟨2, ![32768, 1024]⟩
abbrev S32768 : Shape := ⟨1, ![32768]⟩
abbrev S32768x1 : Shape := ⟨2, ![32768, 1]⟩

abbrev nBuf : Space → Nat
  | .hbm => 51
  | .vmem => 0
  | .smem => 0
  | _ => 0

abbrev bufTy : (tb : Table) → Fin (tcTables nBuf tb) → BufTy
  | .hbm, ⟨0, _⟩ => ⟨S65536x256, .i32⟩
  | .hbm, ⟨1, _⟩ => ⟨S65536x256, .i32⟩
  | .hbm, ⟨2, _⟩ => ⟨S16384x1024, .f32⟩
  | .hbm, ⟨3, _⟩ => ⟨S4x16384, .f32⟩
  | .hbm, ⟨4, _⟩ => ⟨S65536x256, .i32⟩
  | .hbm, ⟨5, _⟩ => ⟨S65536x256, .i32⟩
  | .hbm, ⟨6, _⟩ => ⟨S16384x1024, .f32⟩
  | .hbm, ⟨7, _⟩ => ⟨S4x16384, .f32⟩
  | .hbm, ⟨8, _⟩ => ⟨S1x1024, .f32⟩
  | .hbm, ⟨9, _⟩ => ⟨S65536x512, .i32⟩
  | .hbm, ⟨10, _⟩ => ⟨S_, .i32⟩
  | .hbm, ⟨11, _⟩ => ⟨S65536x512, .i32⟩
  | .hbm, ⟨12, _⟩ => ⟨S65536x512, .i32⟩
  | .hbm, ⟨13, _⟩ => ⟨S65536x512, .f32⟩
  | .hbm, ⟨14, _⟩ => ⟨S_, .i32⟩
  | .hbm, ⟨15, _⟩ => ⟨S65536x512, .i32⟩
  | .hbm, ⟨16, _⟩ => ⟨S65536x512, .i32⟩
  | .hbm, ⟨17, _⟩ => ⟨S65536x512, .f32⟩
  | .hbm, ⟨18, _⟩ => ⟨S65536x1024, .f32⟩
  | .hbm, ⟨19, _⟩ => ⟨S4x16384x1024, .f32⟩
  | .hbm, ⟨20, _⟩ => ⟨S16384x1024, .f32⟩
  | .hbm, ⟨21, _⟩ => ⟨S16384x1024, .f32⟩
  | .hbm, ⟨22, _⟩ => ⟨S65536x512, .i32⟩
  | .hbm, ⟨23, _⟩ => ⟨S_, .i32⟩
  | .hbm, ⟨24, _⟩ => ⟨S65536x512, .i32⟩
  | .hbm, ⟨25, _⟩ => ⟨S65536x512, .i32⟩
  | .hbm, ⟨26, _⟩ => ⟨S65536x512, .f32⟩
  | .hbm, ⟨27, _⟩ => ⟨S_, .i32⟩
  | .hbm, ⟨28, _⟩ => ⟨S65536x512, .i32⟩
  | .hbm, ⟨29, _⟩ => ⟨S65536x512, .i32⟩
  | .hbm, ⟨30, _⟩ => ⟨S65536x512, .f32⟩
  | .hbm, ⟨31, _⟩ => ⟨S65536x1024, .f32⟩
  | .hbm, ⟨32, _⟩ => ⟨S4x16384x1024, .f32⟩
  | .hbm, ⟨33, _⟩ => ⟨S16384x1024, .f32⟩
  | .hbm, ⟨34, _⟩ => ⟨S16384x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | _, _ => ⟨S65536x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Experts.lean ====
abbrev S8x256 : Shape := ⟨2, ![8, 256]⟩
abbrev S81920x256 : Shape := ⟨2, ![81920, 256]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S81920x512 : Shape := ⟨2, ![81920, 512]⟩
abbrev S512x256 : Shape := ⟨2, ![512, 256]⟩
abbrev S1x1 : Shape := ⟨2, ![1, 1]⟩
abbrev S1x1x2048 : Shape := ⟨3, ![1, 1, 2048]⟩
abbrev S1x1x1024 : Shape := ⟨3, ![1, 1, 1024]⟩
abbrev S512x512 : Shape := ⟨2, ![512, 512]⟩
abbrev S2x1024x2048 : Shape := ⟨3, ![2, 1024, 2048]⟩
abbrev S2x1024x1024 : Shape := ⟨3, ![2, 1024, 1024]⟩
abbrev S2x2 : Shape := ⟨2, ![2, 2]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S81920x256, .i32⟩
  | .hbm, ⟨1, _⟩ => ⟨S81920x256, .i32⟩
  | .hbm, ⟨2, _⟩ => ⟨S32x1024x2048, .bf16⟩
  | .hbm, ⟨3, _⟩ => ⟨S32x1x2048, .f32⟩
  | .hbm, ⟨4, _⟩ => ⟨S32x1024x1024, .bf16⟩
  | .hbm, ⟨5, _⟩ => ⟨S32x1x1024, .f32⟩
  | .hbm, ⟨6, _⟩ => ⟨S81920x512, .bf16⟩
  | .hbm, ⟨7, _⟩ => ⟨S81920x512, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1x2048, .f32⟩
  | .local _ .vmem, ⟨5, _⟩ => ⟨S1x1x2048, .f32⟩
  | .local _ .vmem, ⟨6, _⟩ => ⟨S1x1x1024, .f32⟩
  | .local _ .vmem, ⟨7, _⟩ => ⟨S1x1x1024, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S2x1024x2048, .bf16⟩
  | .local _ .vmem, ⟨13, _⟩ => ⟨S2x1024x1024, .bf16⟩
  | .local _ .smem, ⟨0, _⟩ => ⟨S8x256, .i32⟩
  | .local _ .smem, ⟨1, _⟩ => ⟨S1, .i32⟩
  | _, _ => ⟨S81920x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch3 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c0_0 : Index := 0#32
  let c159_i32 : BitVec 32 := 159#32
  let c0_i32 : BitVec 32 := 0#32
  let arg0 : BitVec 32 := BitVec.ofNat 32 (i 0).val
  let v1 : BitVec 32 := Scalar.maxsi c0_i32 arg0
  let v2 : BitVec 32 := Scalar.minsi c159_i32 v1
  let v3 : Index := Scalar.indexCast v2
  ![0, v3.toNat]
def k0_off3 (arg14 : BitVec 32) : Fin 2 → Nat :=
  let c0_5 : Index := 0#32
  let c159_i32_4 : BitVec 32 := 159#32
  let c0_i32_3 : BitVec 32 := 0#32
  let v14 : BitVec 32 := Scalar.maxsi c0_i32_3 arg14
  let v15 : BitVec 32 := Scalar.minsi c159_i32_4 v14
  let v16 : Index := Scalar.indexCast v15
  ![0, v16.toNat]

def k0_chk1 (arg14 : BitVec 32) : Prop :=
  (∀ a, (k0_off3 arg14) a + S1x1.size a ≤ S8x256.size a)
theorem k0_off3_inb : ∀ (arg14 : BitVec 32) (k0_hw1 : k0_chk1 arg14), ∀ a, (k0_off3 arg14) a + S1x1.size a ≤ S8x256.size a := fun arg14 k0_hw1 => k0_hw1

def k0_cond2 (i : grid0.Coords) : BitVec 1 :=
  let arg0 : BitVec 32 := BitVec.ofNat 32 (i 0).val
  let c0_i32_3 : BitVec 32 := 0#32
  let v13 : BitVec 1 := Scalar.cmpi .eq arg0 c0_i32_3
  let v14 : BitVec 32 := Scalar.extui v13
  let c0_i32_4 : BitVec 32 := 0#32
  let v15 : BitVec 1 := Scalar.cmpi .ne v14 c0_i32_4
  v15

def k0_off4 (v4 : BitVec 32) : Fin 3 → Nat :=
  let c0_i32_47 : BitVec 32 := 0#32
  let c0_i32_48 : BitVec 32 := 0#32
  ![v4.toNat, 0, 0]
def k0_cond1 (i : grid0.Coords) (v0 : BitVec 32) : BitVec 1 :=
  let arg0 : BitVec 32 := BitVec.ofNat 32 (i 0).val
  let v7 : BitVec 1 := Scalar.cmpi .slt arg0 v0
  let v8 : BitVec 32 := Scalar.extui v7
  let c0_i32_1 : BitVec 32 := 0#32
  let v9 : BitVec 1 := Scalar.cmpi .ne v8 c0_i32_1
  v9

def k0_off5 (v4 : BitVec 32) : Fin 3 → Nat :=
  let c0_i32_54 : BitVec 32 := 0#32
  let c0_i32_55 : BitVec 32 := 0#32
  ![v4.toNat, 0, 0]

def k0_chk2 (i : grid0.Coords) (v0 : BitVec 32) (v4 : BitVec 32) : Prop :=
  (∀ (k0_h1 : k0_cond1 i v0 = 1#1), ∀ (k0_h2 : k0_cond2 i = 1#1), ∀ a, (k0_off4 v4) a + S1x1024x2048.size a ≤ S32x1024x2048.size a) ∧
  (∀ (k0_h1 : k0_cond1 i v0 = 1#1), ∀ (k0_h2 : k0_cond2 i = 1#1), ∀ (hinb : ∀ a, (k0_off4 v4) a + S1x1024x2048.size a ≤ S32x1024x2048.size a), (Rect.unit (s := S32x1024x2048) (k0_off4 v4) S1x1024x2048.size hinb).WholeWords (EltTy.packing .bf16)) ∧
  (∀ (k0_h1 : k0_cond1 i v0 = 1#1), ∀ (k0_h2 : k0_cond2 i = 1#1), ∀ a, (k0_off5 v4) a + S1x1024x1024.size a ≤ S32x1024x1024.size a) ∧
  (∀ (k0_h1 : k0_cond1 i v0 = 1#1), ∀ (k0_h2 : k0_cond2 i = 1#1), ∀ (hinb : ∀ a, (k0_off5 v4) a + S1x1024x1024.size a ≤ S32x1024x1024.size a), (Rect.unit (s := S32x1024x1024) (k0_off5 v4) S1x1024x1024.size hinb).WholeWords (EltTy.packing .bf16))
theorem k0_off4_inb : ∀ (i : grid0.Coords) (v0 : BitVec 32) (v4 : BitVec 32) (k0_hw2 : k0_chk2 i v0 v4), ∀ (k0_h1 : k0_cond1 i v0 = 1#1), ∀ (k0_h2 : k0_cond2 i = 1#1), ∀ a, (k0_off4 v4) a + S1x1024x2048.size a ≤ S32x1024x2048.size a := fun i v0 v4 k0_hw2 k0_h1 k0_h2 => k0_hw2.1 k0_h1 k0_h2
theorem k0_off4_wordsbf16 : ∀ (i : grid0.Coords) (v0 : BitVec 32) (v4 : BitVec 32) (k0_hw2 : k0_chk2 i v0 v4), ∀ (k0_h1 : k0_cond1 i v0 = 1#1), ∀ (k0_h2 : k0_cond2 i = 1#1), (Rect.unit (s := S32x1024x2048) (k0_off4 v4) S1x1024x2048.size (k0_off4_inb i v0 v4 k0_hw2 k0_h1 k0_h2)).WholeWords (EltTy.packing .bf16) := fun i v0 v4 k0_hw2 k0_h1 k0_h2 => k0_hw2.2.1 k0_h1 k0_h2 (k0_off4_inb i v0 v4 k0_hw2 k0_h1 k0_h2)
theorem k0_off5_inb : ∀ (i : grid0.Coords) (v0 : BitVec 32) (v4 : BitVec 32) (k0_hw2 : k0_chk2 i v0 v4), ∀ (k0_h1 : k0_cond1 i v0 = 1#1), ∀ (k0_h2 : k0_cond2 i = 1#1), ∀ a, (k0_off5 v4) a + S1x1024x1024.size a ≤ S32x1024x1024.size a := fun i v0 v4 k0_hw2 k0_h1 k0_h2 => k0_hw2.2.2.1 k0_h1 k0_h2
theorem k0_off5_wordsbf16 : ∀ (i : grid0.Coords) (v0 : BitVec 32) (v4 : BitVec 32) (k0_hw2 : k0_chk2 i v0 v4), ∀ (k0_h1 : k0_cond1 i v0 = 1#1), ∀ (k0_h2 : k0_cond2 i = 1#1), (Rect.unit (s := S32x1024x1024) (k0_off5 v4) S1x1024x1024.size (k0_off5_inb i v0 v4 k0_hw2 k0_h1 k0_h2)).WholeWords (EltTy.packing .bf16) := fun i v0 v4 k0_hw2 k0_h1 k0_h2 => k0_hw2.2.2.2 k0_h1 k0_h2 (k0_off5_inb i v0 v4 k0_hw2 k0_h1 k0_h2)

def k0_off6 (i : grid0.Coords) : Fin 2 → Nat :=
  let c0_9 : Index := 0#32
  let c159_i32_8 : BitVec 32 := 159#32
  let c0_i32_7 : BitVec 32 := 0#32
  let arg0 : BitVec 32 := BitVec.ofNat 32 (i 0).val
  let c1_i32_6 : BitVec 32 := 1#32
  let v17 : BitVec 32 := Scalar.subi arg0 c1_i32_6
  let v18 : BitVec 32 := Scalar.maxsi c0_i32_7 v17
  let v19 : BitVec 32 := Scalar.minsi c159_i32_8 v18
  let v20 : Index := Scalar.indexCast v19
  ![0, v20.toNat]
def k0_off7 (v6 : BitVec 32) : Fin 2 → Nat :=
  let c0_56 : Index := 0#32
  let c159_i32_55 : BitVec 32 := 159#32
  let c0_i32_54 : BitVec 32 := 0#32
  let v111 : BitVec 32 := Scalar.maxsi c0_i32_54 v6
  let v112 : BitVec 32 := Scalar.minsi c159_i32_55 v111
  let v113 : Index := Scalar.indexCast v112
  ![0, v113.toNat]
def k0_cond3 (i : grid0.Coords) (v4 : BitVec 32) (v21 : BitVec 32) : BitVec 1 :=
  let arg0 : BitVec 32 := BitVec.ofNat 32 (i 0).val
  let c0_i32_5 : BitVec 32 := 0#32
  let v16 : BitVec 1 := Scalar.cmpi .eq arg0 c0_i32_5
  let v22 : BitVec 1 := Scalar.cmpi .ne v21 v4
  let v23 : BitVec 1 := Scalar.ori v16 v22
  let v24 : BitVec 32 := Scalar.extui v23
  let c0_i32_10 : BitVec 32 := 0#32
  let v25 : BitVec 1 := Scalar.cmpi .ne v24 c0_i32_10
  v25

def k0_cond4 (v0 : BitVec 32) (v6 : BitVec 32) : BitVec 1 :=
  let v96 : BitVec 1 := Scalar.cmpi .slt v6 v0
  let v97 : BitVec 32 := Scalar.extui v96
  let c0_i32_43 : BitVec 32 := 0#32
  let v98 : BitVec 1 := Scalar.cmpi .ne v97 c0_i32_43
  v98

def k0_off8 (v93 : BitVec 32) : Fin 2 → Nat :=
  let c0_i32_58 : BitVec 32 := 0#32
  let c1_i32_57 : BitVec 32 := 1#32
  let c1_i32_41 : BitVec 32 := 1#32
  let v94 : BitVec 32 := Scalar.subi c1_i32_41 v93
  let v115 : BitVec 32 := Scalar.subi c1_i32_57 v94
  ![0, v115.toNat]

def k0_off9 (v93 : BitVec 32) : Fin 3 → Nat :=
  let c1_i32_57 : BitVec 32 := 1#32
  let c1_i32_41 : BitVec 32 := 1#32
  let v94 : BitVec 32 := Scalar.subi c1_i32_41 v93
  let v115 : BitVec 32 := Scalar.subi c1_i32_57 v94
  let c0_i32_59 : BitVec 32 := 0#32
  let c0_i32_60 : BitVec 32 := 0#32
  ![v115.toNat, 0, 0]
def k0_off10 (v114 : BitVec 32) : Fin 3 → Nat :=
  let c0_i32_61 : BitVec 32 := 0#32
  let c0_i32_62 : BitVec 32 := 0#32
  ![v114.toNat, 0, 0]

def k0_off11 (v93 : BitVec 32) : Fin 2 → Nat :=
  let c1_i32_63 : BitVec 32 := 1#32
  let c1_i32_57 : BitVec 32 := 1#32
  let c1_i32_41 : BitVec 32 := 1#32
  let v94 : BitVec 32 := Scalar.subi c1_i32_41 v93
  let v115 : BitVec 32 := Scalar.subi c1_i32_57 v94
  ![1, v115.toNat]
def k0_off12 (v93 : BitVec 32) : Fin 3 → Nat :=
  let c1_i32_57 : BitVec 32 := 1#32
  let c1_i32_41 : BitVec 32 := 1#32
  let v94 : BitVec 32 := Scalar.subi c1_i32_41 v93
  let v115 : BitVec 32 := Scalar.subi c1_i32_57 v94
  let c0_i32_64 : BitVec 32 := 0#32
  let c0_i32_65 : BitVec 32 := 0#32
  ![v115.toNat, 0, 0]
def k0_off13 (v114 : BitVec 32) : Fin 3 → Nat :=
  let c0_i32_66 : BitVec 32 := 0#32
  let c0_i32_67 : BitVec 32 := 0#32
  ![v114.toNat, 0, 0]

def k0_chk5 (i : grid0.Coords) (v0 : BitVec 32) (v4 : BitVec 32) (v6 : BitVec 32) (v21 : BitVec 32) (v114 : BitVec 32) : Prop :=
  (∀ (k0_h1 : k0_cond1 i v0 = 1#1), ∀ (k0_h3 : k0_cond3 i v4 v21 = 1#1), ∀ (k0_h4 : k0_cond4 v0 v6 = 1#1), ∀ a, (k0_off10 v114) a + S1x1024x2048.size a ≤ S32x1024x2048.size a) ∧
  (∀ (k0_h1 : k0_cond1 i v0 = 1#1), ∀ (k0_h3 : k0_cond3 i v4 v21 = 1#1), ∀ (k0_h4 : k0_cond4 v0 v6 = 1#1), ∀ (hinb : ∀ a, (k0_off10 v114) a + S1x1024x2048.size a ≤ S32x1024x2048.size a), (Rect.unit (s := S32x1024x2048) (k0_off10 v114) S1x1024x2048.size hinb).WholeWords (EltTy.packing .bf16)) ∧
  (∀ (k0_h1 : k0_cond1 i v0 = 1#1), ∀ (k0_h3 : k0_cond3 i v4 v21 = 1#1), ∀ (k0_h4 : k0_cond4 v0 v6 = 1#1), ∀ a, (k0_off13 v114) a + S1x1024x1024.size a ≤ S32x1024x1024.size a) ∧
  (∀ (k0_h1 : k0_cond1 i v0 = 1#1), ∀ (k0_h3 : k0_cond3 i v4 v21 = 1#1), ∀ (k0_h4 : k0_cond4 v0 v6 = 1#1), ∀ (hinb : ∀ a, (k0_off13 v114) a + S1x1024x1024.size a ≤ S32x1024x1024.size a), (Rect.unit (s := S32x1024x1024) (k0_off13 v114) S1x1024x1024.size hinb).WholeWords (EltTy.packing .bf16))
theorem k0_off10_inb : ∀ (i : grid0.Coords) (v0 : BitVec 32) (v4 : BitVec 32) (v6 : BitVec 32) (v21 : BitVec 32) (v114 : BitVec 32) (k0_hw5 : k0_chk5 i v0 v4 v6 v21 v114), ∀ (k0_h1 : k0_cond1 i v0 = 1#1), ∀ (k0_h3 : k0_cond3 i v4 v21 = 1#1), ∀ (k0_h4 : k0_cond4 v0 v6 = 1#1), ∀ a, (k0_off10 v114) a + S1x1024x2048.size a ≤ S32x1024x2048.size a := fun i v0 v4 v6 v21 v114 k0_hw5 k0_h1 k0_h3 k0_h4 => k0_hw5.1 k0_h1 k0_h3 k0_h4
theorem k0_off10_wordsbf16 : ∀ (i : grid0.Coords) (v0 : BitVec 32) (v4 : BitVec 32) (v6 : BitVec 32) (v21 : BitVec 32) (v114 : BitVec 32) (k0_hw5 : k0_chk5 i v0 v4 v6 v21 v114), ∀ (k0_h1 : k0_cond1 i v0 = 1#1), ∀ (k0_h3 : k0_cond3 i v4 v21 = 1#1), ∀ (k0_h4 : k0_cond4 v0 v6 = 1#1), (Rect.unit (s := S32x1024x2048) (k0_off10 v114) S1x1024x2048.size (k0_off10_inb i v0 v4 v6 v21 v114 k0_hw5 k0_h1 k0_h3 k0_h4)).WholeWords (EltTy.packing .bf16) := fun i v0 v4 v6 v21 v114 k0_hw5 k0_h1 k0_h3 k0_h4 => k0_hw5.2.1 k0_h1 k0_h3 k0_h4 (k0_off10_inb i v0 v4 v6 v21 v114 k0_hw5 k0_h1 k0_h3 k0_h4)
theorem k0_off13_inb : ∀ (i : grid0.Coords) (v0 : BitVec 32) (v4 : BitVec 32) (v6 : BitVec 32) (v21 : BitVec 32) (v114 : BitVec 32) (k0_hw5 : k0_chk5 i v0 v4 v6 v21 v114), ∀ (k0_h1 : k0_cond1 i v0 = 1#1), ∀ (k0_h3 : k0_cond3 i v4 v21 = 1#1), ∀ (k0_h4 : k0_cond4 v0 v6 = 1#1), ∀ a, (k0_off13 v114) a + S1x1024x1024.size a ≤ S32x1024x1024.size a := fun i v0 v4 v6 v21 v114 k0_hw5 k0_h1 k0_h3 k0_h4 => k0_hw5.2.2.1 k0_h1 k0_h3 k0_h4
theorem k0_off13_wordsbf16 : ∀ (i : grid0.Coords) (v0 : BitVec 32) (v4 : BitVec 32) (v6 : BitVec 32) (v21 : BitVec 32) (v114 : BitVec 32) (k0_hw5 : k0_chk5 i v0 v4 v6 v21 v114), ∀ (k0_h1 : k0_cond1 i v0 = 1#1), ∀ (k0_h3 : k0_cond3 i v4 v21 = 1#1), ∀ (k0_h4 : k0_cond4 v0 v6 = 1#1), (Rect.unit (s := S32x1024x1024) (k0_off13 v114) S1x1024x1024.size (k0_off13_inb i v0 v4 v6 v21 v114 k0_hw5 k0_h1 k0_h3 k0_h4)).WholeWords (EltTy.packing .bf16) := fun i v0 v4 v6 v21 v114 k0_hw5 k0_h1 k0_h3 k0_h4 => k0_hw5.2.2.2 k0_h1 k0_h3 k0_h4 (k0_off13_inb i v0 v4 v6 v21 v114 k0_hw5 k0_h1 k0_h3 k0_h4)

def k0_off14 (v93 : BitVec 32) : Fin 2 → Nat :=
  let c0_i32_44 : BitVec 32 := 0#32
  let c1_i32_41 : BitVec 32 := 1#32
  let v94 : BitVec 32 := Scalar.subi c1_i32_41 v93
  ![0, v94.toNat]
def k0_off15 (v93 : BitVec 32) : Fin 3 → Nat :=
  let c1_i32_41 : BitVec 32 := 1#32
  let v94 : BitVec 32 := Scalar.subi c1_i32_41 v93
  let c0_i32_45 : BitVec 32 := 0#32
  let c0_i32_46 : BitVec 32 := 0#32
  ![v94.toNat, 0, 0]
def k0_off16 (v4 : BitVec 32) : Fin 3 → Nat :=
  let c0_i32_47 : BitVec 32 := 0#32
  let c0_i32_48 : BitVec 32 := 0#32
  ![v4.toNat, 0, 0]
def k0_off17 (v93 : BitVec 32) : Fin 2 → Nat :=
  let c1_i32_49 : BitVec 32 := 1#32
  let c1_i32_41 : BitVec 32 := 1#32
  let v94 : BitVec 32 := Scalar.subi c1_i32_41 v93
  ![1, v94.toNat]
def k0_off18 (v93 : BitVec 32) : Fin 3 → Nat :=
  let c1_i32_41 : BitVec 32 := 1#32
  let v94 : BitVec 32 := Scalar.subi c1_i32_41 v93
  let c0_i32_50 : BitVec 32 := 0#32
  let c0_i32_51 : BitVec 32 := 0#32
  ![v94.toNat, 0, 0]
def k0_off19 (v4 : BitVec 32) : Fin 3 → Nat :=
  let c0_i32_52 : BitVec 32 := 0#32
  let c0_i32_53 : BitVec 32 := 0#32
  ![v4.toNat, 0, 0]

def k0_chk3 (i : grid0.Coords) (v0 : BitVec 32) (v4 : BitVec 32) (v6 : BitVec 32) (v21 : BitVec 32) : Prop :=
  (∀ (k0_h1 : k0_cond1 i v0 = 1#1), ∀ (k0_h3 : k0_cond3 i v4 v21 = 1#1), ∀ (k0_h4 : k0_cond4 v0 v6 = 1#1), ∀ a, (k0_off7 v6) a + S1x1.size a ≤ S8x256.size a) ∧
  (∀ (k0_h1 : k0_cond1 i v0 = 1#1), ∀ (k0_h3 : k0_cond3 i v4 v21 = 1#1), ∀ a, (k0_off16 v4) a + S1x1024x2048.size a ≤ S32x1024x2048.size a) ∧
  (∀ (k0_h1 : k0_cond1 i v0 = 1#1), ∀ (k0_h3 : k0_cond3 i v4 v21 = 1#1), ∀ (hinb : ∀ a, (k0_off16 v4) a + S1x1024x2048.size a ≤ S32x1024x2048.size a), (Rect.unit (s := S32x1024x2048) (k0_off16 v4) S1x1024x2048.size hinb).WholeWords (EltTy.packing .bf16)) ∧
  (∀ (k0_h1 : k0_cond1 i v0 = 1#1), ∀ (k0_h3 : k0_cond3 i v4 v21 = 1#1), ∀ a, (k0_off19 v4) a + S1x1024x1024.size a ≤ S32x1024x1024.size a) ∧
  (∀ (k0_h1 : k0_cond1 i v0 = 1#1), ∀ (k0_h3 : k0_cond3 i v4 v21 = 1#1), ∀ (hinb : ∀ a, (k0_off19 v4) a + S1x1024x1024.size a ≤ S32x1024x1024.size a), (Rect.unit (s := S32x1024x1024) (k0_off19 v4) S1x1024x1024.size hinb).WholeWords (EltTy.packing .bf16))
theorem k0_off7_inb : ∀ (i : grid0.Coords) (v0 : BitVec 32) (v4 : BitVec 32) (v6 : BitVec 32) (v21 : BitVec 32) (k0_hw3 : k0_chk3 i v0 v4 v6 v21), ∀ (k0_h1 : k0_cond1 i v0 = 1#1), ∀ (k0_h3 : k0_cond3 i v4 v21 = 1#1), ∀ (k0_h4 : k0_cond4 v0 v6 = 1#1), ∀ a, (k0_off7 v6) a + S1x1.size a ≤ S8x256.size a := fun i v0 v4 v6 v21 k0_hw3 k0_h1 k0_h3 k0_h4 => k0_hw3.1 k0_h1 k0_h3 k0_h4
theorem k0_off16_inb : ∀ (i : grid0.Coords) (v0 : BitVec 32) (v4 : BitVec 32) (v6 : BitVec 32) (v21 : BitVec 32) (k0_hw3 : k0_chk3 i v0 v4 v6 v21), ∀ (k0_h1 : k0_cond1 i v0 = 1#1), ∀ (k0_h3 : k0_cond3 i v4 v21 = 1#1), ∀ a, (k0_off16 v4) a + S1x1024x2048.size a ≤ S32x1024x2048.size a := fun i v0 v4 v6 v21 k0_hw3 k0_h1 k0_h3 => k0_hw3.2.1 k0_h1 k0_h3
theorem k0_off16_wordsbf16 : ∀ (i : grid0.Coords) (v0 : BitVec 32) (v4 : BitVec 32) (v6 : BitVec 32) (v21 : BitVec 32) (k0_hw3 : k0_chk3 i v0 v4 v6 v21), ∀ (k0_h1 : k0_cond1 i v0 = 1#1), ∀ (k0_h3 : k0_cond3 i v4 v21 = 1#1), (Rect.unit (s := S32x1024x2048) (k0_off16 v4) S1x1024x2048.size (k0_off16_inb i v0 v4 v6 v21 k0_hw3 k0_h1 k0_h3)).WholeWords (EltTy.packing .bf16) := fun i v0 v4 v6 v21 k0_hw3 k0_h1 k0_h3 => k0_hw3.2.2.1 k0_h1 k0_h3 (k0_off16_inb i v0 v4 v6 v21 k0_hw3 k0_h1 k0_h3)
theorem k0_off19_inb : ∀ (i : grid0.Coords) (v0 : BitVec 32) (v4 : BitVec 32) (v6 : BitVec 32) (v21 : BitVec 32) (k0_hw3 : k0_chk3 i v0 v4 v6 v21), ∀ (k0_h1 : k0_cond1 i v0 = 1#1), ∀ (k0_h3 : k0_cond3 i v4 v21 = 1#1), ∀ a, (k0_off19 v4) a + S1x1024x1024.size a ≤ S32x1024x1024.size a := fun i v0 v4 v6 v21 k0_hw3 k0_h1 k0_h3 => k0_hw3.2.2.2.1 k0_h1 k0_h3
theorem k0_off19_wordsbf16 : ∀ (i : grid0.Coords) (v0 : BitVec 32) (v4 : BitVec 32) (v6 : BitVec 32) (v21 : BitVec 32) (k0_hw3 : k0_chk3 i v0 v4 v6 v21), ∀ (k0_h1 : k0_cond1 i v0 = 1#1), ∀ (k0_h3 : k0_cond3 i v4 v21 = 1#1), (Rect.unit (s := S32x1024x1024) (k0_off19 v4) S1x1024x1024.size (k0_off19_inb i v0 v4 v6 v21 k0_hw3 k0_h1 k0_h3)).WholeWords (EltTy.packing .bf16) := fun i v0 v4 v6 v21 k0_hw3 k0_h1 k0_h3 => k0_hw3.2.2.2.2 k0_h1 k0_h3 (k0_off19_inb i v0 v4 v6 v21 k0_hw3 k0_h1 k0_h3)

def k0_chk4 (i : grid0.Coords) (v0 : BitVec 32) (v4 : BitVec 32) (v6 : BitVec 32) (v21 : BitVec 32) (v93 : BitVec 32) : Prop :=
  (∀ (k0_h1 : k0_cond1 i v0 = 1#1), ∀ (k0_h3 : k0_cond3 i v4 v21 = 1#1), ∀ (k0_h4 : k0_cond4 v0 v6 = 1#1), ∀ a, (k0_off8 v93) a + S1x1.size a ≤ S2x2.size a) ∧
  (∀ (k0_h1 : k0_cond1 i v0 = 1#1), ∀ (k0_h3 : k0_cond3 i v4 v21 = 1#1), ∀ (k0_h4 : k0_cond4 v0 v6 = 1#1), ∀ a, (k0_off9 v93) a + S1x1024x2048.size a ≤ S2x1024x2048.size a) ∧
  (∀ (k0_h1 : k0_cond1 i v0 = 1#1), ∀ (k0_h3 : k0_cond3 i v4 v21 = 1#1), ∀ (k0_h4 : k0_cond4 v0 v6 = 1#1), ∀ (hinb : ∀ a, (k0_off9 v93) a + S1x1024x2048.size a ≤ S2x1024x2048.size a), (Rect.unit (s := S2x1024x2048) (k0_off9 v93) S1x1024x2048.size hinb).WholeWords (EltTy.packing .bf16)) ∧
  (∀ (k0_h1 : k0_cond1 i v0 = 1#1), ∀ (k0_h3 : k0_cond3 i v4 v21 = 1#1), ∀ (k0_h4 : k0_cond4 v0 v6 = 1#1), ∀ a, (k0_off11 v93) a + S1x1.size a ≤ S2x2.size a) ∧
  (∀ (k0_h1 : k0_cond1 i v0 = 1#1), ∀ (k0_h3 : k0_cond3 i v4 v21 = 1#1), ∀ (k0_h4 : k0_cond4 v0 v6 = 1#1), ∀ a, (k0_off12 v93) a + S1x1024x1024.size a ≤ S2x1024x1024.size a) ∧
  (∀ (k0_h1 : k0_cond1 i v0 = 1#1), ∀ (k0_h3 : k0_cond3 i v4 v21 = 1#1), ∀ (k0_h4 : k0_cond4 v0 v6 = 1#1), ∀ (hinb : ∀ a, (k0_off12 v93) a + S1x1024x1024.size a ≤ S2x1024x1024.size a), (Rect.unit (s := S2x1024x1024) (k0_off12 v93) S1x1024x1024.size hinb).WholeWords (EltTy.packing .bf16)) ∧
  (∀ (k0_h1 : k0_cond1 i v0 = 1#1), ∀ (k0_h3 : k0_cond3 i v4 v21 = 1#1), ∀ a, (k0_off14 v93) a + S1x1.size a ≤ S2x2.size a) ∧
  (∀ (k0_h1 : k0_cond1 i v0 = 1#1), ∀ (k0_h3 : k0_cond3 i v4 v21 = 1#1), ∀ a, (k0_off15 v93) a + S1x1024x2048.size a ≤ S2x1024x2048.size a) ∧
  (∀ (k0_h1 : k0_cond1 i v0 = 1#1), ∀ (k0_h3 : k0_cond3 i v4 v21 = 1#1), ∀ (hinb : ∀ a, (k0_off15 v93) a + S1x1024x2048.size a ≤ S2x1024x2048.size a), (Rect.unit (s := S2x1024x2048) (k0_off15 v93) S1x1024x2048.size hinb).WholeWords (EltTy.packing .bf16)) ∧
  (∀ (k0_h1 : k0_cond1 i v0 = 1#1), ∀ (k0_h3 : k0_cond3 i v4 v21 = 1#1), ∀ a, (k0_off17 v93) a + S1x1.size a ≤ S2x2.size a) ∧
  (∀ (k0_h1 : k0_cond1 i v0 = 1#1), ∀ (k0_h3 : k0_cond3 i v4 v21 = 1#1), ∀ a, (k0_off18 v93) a + S1x1024x1024.size a ≤ S2x1024x1024.size a) ∧
  (∀ (k0_h1 : k0_cond1 i v0 = 1#1), ∀ (k0_h3 : k0_cond3 i v4 v21 = 1#1), ∀ (hinb : ∀ a, (k0_off18 v93) a + S1x1024x1024.size a ≤ S2x1024x1024.size a), (Rect.unit (s := S2x1024x1024) (k0_off18 v93) S1x1024x1024.size hinb).WholeWords (EltTy.packing .bf16))
theorem k0_off8_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ (k0_h4 : k0_cond4 v0 v6 = 1#1), ∀ a, (k0_off8 v93) a + S1x1.size a ≤ S2x2.size a := fun i v0 v4 v6 v21 v93 k0_hw4 k0_h1 k0_h3 k0_h4 => k0_hw4.1 k0_h1 k0_h3 k0_h4
theorem k0_off9_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ (k0_h4 : k0_cond4 v0 v6 = 1#1), ∀ a, (k0_off9 v93) a + S1x1024x2048.size a ≤ S2x1024x2048.size a := fun i v0 v4 v6 v21 v93 k0_hw4 k0_h1 k0_h3 k0_h4 => k0_hw4.2.1 k0_h1 k0_h3 k0_h4
theorem k0_off9_wordsbf16 : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ (k0_h4 : k0_cond4 v0 v6 = 1#1), (Rect.unit (s := S2x1024x2048) (k0_off9 v93) S1x1024x2048.size (k0_off9_inb i v0 v4 v6 v21 v93 k0_hw4 k0_h1 k0_h3 k0_h4)).WholeWords (EltTy.packing .bf16) := fun i v0 v4 v6 v21 v93 k0_hw4 k0_h1 k0_h3 k0_h4 => k0_hw4.2.2.1 k0_h1 k0_h3 k0_h4 (k0_off9_inb i v0 v4 v6 v21 v93 k0_hw4 k0_h1 k0_h3 k0_h4)
theorem k0_off11_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ (k0_h4 : k0_cond4 v0 v6 = 1#1), ∀ a, (k0_off11 v93) a + S1x1.size a ≤ S2x2.size a := fun i v0 v4 v6 v21 v93 k0_hw4 k0_h1 k0_h3 k0_h4 => k0_hw4.2.2.2.1 k0_h1 k0_h3 k0_h4
theorem k0_off12_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ (k0_h4 : k0_cond4 v0 v6 = 1#1), ∀ a, (k0_off12 v93) a + S1x1024x1024.size a ≤ S2x1024x1024.size a := fun i v0 v4 v6 v21 v93 k0_hw4 k0_h1 k0_h3 k0_h4 => k0_hw4.2.2.2.2.1 k0_h1 k0_h3 k0_h4
theorem k0_off12_wordsbf16 : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ (k0_h4 : k0_cond4 v0 v6 = 1#1), (Rect.unit (s := S2x1024x1024) (k0_off12 v93) S1x1024x1024.size (k0_off12_inb i v0 v4 v6 v21 v93 k0_hw4 k0_h1 k0_h3 k0_h4)).WholeWords (EltTy.packing .bf16) := fun i v0 v4 v6 v21 v93 k0_hw4 k0_h1 k0_h3 k0_h4 => k0_hw4.2.2.2.2.2.1 k0_h1 k0_h3 k0_h4 (k0_off12_inb i v0 v4 v6 v21 v93 k0_hw4 k0_h1 k0_h3 k0_h4)
theorem k0_off14_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ a, (k0_off14 v93) a + S1x1.size a ≤ S2x2.size a := fun i v0 v4 v6 v21 v93 k0_hw4 k0_h1 k0_h3 => k0_hw4.2.2.2.2.2.2.1 k0_h1 k0_h3
theorem k0_off15_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ a, (k0_off15 v93) a + S1x1024x2048.size a ≤ S2x1024x2048.size a := fun i v0 v4 v6 v21 v93 k0_hw4 k0_h1 k0_h3 => k0_hw4.2.2.2.2.2.2.2.1 k0_h1 k0_h3
theorem k0_off15_wordsbf16 : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), (Rect.unit (s := S2x1024x2048) (k0_off15 v93) S1x1024x2048.size (k0_off15_inb i v0 v4 v6 v21 v93 k0_hw4 k0_h1 k0_h3)).WholeWords (EltTy.packing .bf16) := fun i v0 v4 v6 v21 v93 k0_hw4 k0_h1 k0_h3 => k0_hw4.2.2.2.2.2.2.2.2.1 k0_h1 k0_h3 (k0_off15_inb i v0 v4 v6 v21 v93 k0_hw4 k0_h1 k0_h3)
theorem k0_off17_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ a, (k0_off17 v93) a + S1x1.size a ≤ S2x2.size a := fun i v0 v4 v6 v21 v93 k0_hw4 k0_h1 k0_h3 => k0_hw4.2.2.2.2.2.2.2.2.2.1 k0_h1 k0_h3
theorem k0_off18_inb : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), ∀ a, (k0_off18 v93) a + S1x1024x1024.size a ≤ S2x1024x1024.size a := fun i v0 v4 v6 v21 v93 k0_hw4 k0_h1 k0_h3 => k0_hw4.2.2.2.2.2.2.2.2.2.2.1 k0_h1 k0_h3
theorem k0_off18_wordsbf16 : ∀ (i : grid0.Coords) (v0 : BitVec 32) (v4 : BitVec 32) (v6 : BitVec 32) (v21 : BitVec 32) (v93 : BitVec 32) (k0_hw4 : k0_chk4 i v0 v4 v6 v21 v93), ∀ (k0_h1 : k0_cond1 i v0 = 1#1), ∀ (k0_h3 : k0_cond3 i v4 v21 = 1#1), (Rect.unit (s := S2x1024x1024) (k0_off18 v93) S1x1024x1024.size (k0_off18_inb i v0 v4 v6 v21 v93 k0_hw4 k0_h1 k0_h3)).WholeWords (EltTy.packing .bf16) := fun i v0 v4 v6 v21 v93 k0_hw4 k0_h1 k0_h3 => k0_hw4.2.2.2.2.2.2.2.2.2.2.2 k0_h1 k0_h3 (k0_off18_inb i v0 v4 v6 v21 v93 k0_hw4 k0_h1 k0_h3)

def k0_off20 (i : grid0.Coords) : Fin 2 → Nat :=
  let c2 : Index := 2#32
  let arg0 : BitVec 32 := BitVec.ofNat 32 (i 0).val
  let v38 : Index := Scalar.indexCast arg0
  ![2, v38.toNat]
def k0_off21 (v26 : BitVec 32) : Fin 3 → Nat :=
  let v45 : Index := Scalar.indexCast v26
  let c0_16 : Index := 0#32
  let c0_17 : Index := 0#32
  ![v45.toNat, 0, 0]

def k0_off22 (v26 : BitVec 32) : Fin 3 → Nat :=
  let v75 : Index := Scalar.indexCast v26
  let c0_30 : Index := 0#32
  let c0_31 : Index := 0#32
  ![v75.toNat, 0, 0]

def k0_chk6 (i : grid0.Coords) (v0 : BitVec 32) (v26 : BitVec 32) : Prop :=
  (∀ (k0_h1 : k0_cond1 i v0 = 1#1), ∀ a, (k0_off21 v26) a + S1x1024x2048.size a ≤ S2x1024x2048.size a) ∧
  (∀ (k0_h1 : k0_cond1 i v0 = 1#1), ∀ a, (k0_off22 v26) a + S1x1024x1024.size a ≤ S2x1024x1024.size a)
theorem k0_off21_inb : ∀ (i : grid0.Coords) (v0 : BitVec 32) (v26 : BitVec 32) (k0_hw6 : k0_chk6 i v0 v26), ∀ (k0_h1 : k0_cond1 i v0 = 1#1), ∀ a, (k0_off21 v26) a + S1x1024x2048.size a ≤ S2x1024x2048.size a := fun i v0 v26 k0_hw6 k0_h1 => k0_hw6.1 k0_h1
theorem k0_off22_inb : ∀ (i : grid0.Coords) (v0 : BitVec 32) (v26 : BitVec 32) (k0_hw6 : k0_chk6 i v0 v26), ∀ (k0_h1 : k0_cond1 i v0 = 1#1), ∀ a, (k0_off22 v26) a + S1x1024x1024.size a ≤ S2x1024x1024.size a := fun i v0 v26 k0_hw6 k0_h1 => k0_hw6.2 k0_h1

def k0_cond5 (i : grid0.Coords) (v0 : BitVec 32) : BitVec 1 :=
  let arg0 : BitVec 32 := BitVec.ofNat 32 (i 0).val
  let v10 : BitVec 1 := Scalar.cmpi .sge arg0 v0
  let v11 : BitVec 32 := Scalar.extui v10
  let c0_i32_2 : BitVec 32 := 0#32
  let v12 : BitVec 1 := Scalar.cmpi .ne v11 c0_i32_2
  v12

def cc0_transform_0 (inb_S8x256_S1x1_1_0 : ∀ a, (![1, 0] : Fin 2 → Nat) a + S1x1.size a ≤ S8x256.size a) (numel1_S1x1 : S1x1.numel = 1) (pf : pre0.Contents (Elt F)) (i : grid0.Coords) : Fin 2 → Nat :=
  let arg0 : BitVec 32 := BitVec.ofNat 32 (i 0).val
  let c1 : Index := 1#32
  let c0 : Index := 0#32
  let v0 : BitVec 32 := pf.at 0 (Rect.unit (s := S8x256) ![1, 0] S1x1.size inb_S8x256_S1x1_1_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S8x256_S1x1_1_0 : ∀ a, (![1, 0] : Fin 2 → Nat) a + S1x1.size a ≤ S8x256.size a) (numel1_S1x1 : S1x1.numel = 1) (pf : pre0.Contents (Elt F)) (i : grid0.Coords) : Fin 2 → Nat :=
  let arg0 : BitVec 32 := BitVec.ofNat 32 (i 0).val
  let c1 : Index := 1#32
  let c0 : Index := 0#32
  let v0 : BitVec 32 := pf.at 0 (Rect.unit (s := S8x256) ![1, 0] S1x1.size inb_S8x256_S1x1_1_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_3 (k0_off1_inb : ∀ i : grid0.Coords, ∀ a, (k0_off1 i) a + S1x1.size a ≤ S8x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S8x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1x1.size a ≤ S8x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S8x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRef.lean ====
abbrev S8x256 : Shape := ⟨2, ![8, 256]⟩
abbrev S81920x256 : Shape := ⟨2, ![81920, 256]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S1x160 : Shape := ⟨2, ![1, 160]⟩
abbrev S160 : Shape := ⟨1, ![160]⟩
abbrev S81920x512 : Shape := ⟨2, ![81920, 512]⟩
abbrev S_ : Shape := ⟨0, ![]⟩
abbrev S81920x1024 : Shape := ⟨2, ![81920, 1024]⟩
abbrev S160x512x1024 : Shape := ⟨3, ![160, 512, 1024]⟩
abbrev S160x1x1 : Shape := ⟨3, ![160, 1, 1]⟩
abbrev S160x1 : Shape := ⟨2, ![160, 1]⟩
abbrev S160x1024x2048 : Shape := ⟨3, ![160, 1024, 2048]⟩
abbrev S160x1024x1024 : Shape := ⟨3, ![160, 1024, 1024]⟩
abbrev S160x512x2048 : Shape := ⟨3, ![160, 512, 2048]⟩
abbrev S160x1x2048 : Shape := ⟨3, ![160, 1, 2048]⟩
abbrev S160x1x1024 : Shape := ⟨3, ![160, 1, 1024]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S8x256, .i32⟩
  | .hbm, ⟨1, _⟩ => ⟨S81920x256, .i32⟩
  | .hbm, ⟨2, _⟩ => ⟨S81920x256, .i32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S1x160, .i32⟩
  | .hbm, ⟨8, _⟩ => ⟨S160, .i32⟩
  | .hbm, ⟨9, _⟩ => ⟨S1x160, .i32⟩
  | .hbm, ⟨10, _⟩ => ⟨S160, .i32⟩
  | .hbm, ⟨11, _⟩ => ⟨S81920x512, .i32⟩
  | .hbm, ⟨12, _⟩ => ⟨S_, .i32⟩
  | .hbm, ⟨13, _⟩ => ⟨S81920x512, .i32⟩
  | .hbm, ⟨14, _⟩ => ⟨S81920x512, .i32⟩
  | .hbm, ⟨15, _⟩ => ⟨S81920x512, .f32⟩
  | .hbm, ⟨16, _⟩ => ⟨S_, .i32⟩
  | .hbm, ⟨17, _⟩ => ⟨S81920x512, .i32⟩
  | .hbm, ⟨18, _⟩ => ⟨S81920x512, .i32⟩
  | .hbm, ⟨19, _⟩ => ⟨S81920x512, .f32⟩
  | .hbm, ⟨20, _⟩ => ⟨S81920x1024, .f32⟩
  | .hbm, ⟨21, _⟩ => ⟨S160x512x1024, .f32⟩
  | .hbm, ⟨22, _⟩ => ⟨S160x512x1024, .i32⟩
  | .hbm, ⟨23, _⟩ => ⟨S160x1x1, .i32⟩
  | .hbm, ⟨24, _⟩ => ⟨S160x512x1024, .i32⟩
  | .hbm, ⟨25, _⟩ => ⟨S160x512x1024, .i1⟩
  | .hbm, ⟨26, _⟩ => ⟨S_, .f32⟩
  | .hbm, ⟨27, _⟩ => ⟨S_, .f32⟩
  | .hbm, ⟨28, _⟩ => ⟨S160x512x1024, .f32⟩
  | .hbm, ⟨29, _⟩ => ⟨S160x512x1024, .f32⟩
  | .hbm, ⟨30, _⟩ => ⟨S_, .i32⟩
  | .hbm, ⟨31, _⟩ => ⟨S160, .i32⟩
  | .hbm, ⟨32, _⟩ => ⟨S160, .i1⟩
  | .hbm, ⟨33, _⟩ => ⟨S_, .i32⟩
  | .hbm, ⟨34, _⟩ => ⟨S160, .i32⟩
  | .hbm, ⟨35, _⟩ => ⟨S160, .i32⟩
  | .hbm, ⟨36, _⟩ => ⟨S160, .i32⟩
  | .hbm, ⟨37, _⟩ => ⟨S160x1, .i32⟩
  | .hbm, ⟨38, _⟩ => ⟨S160x1024x2048, .bf16⟩
  | .hbm, ⟨39, _⟩ => ⟨S160x1024x2048, .f32⟩
  | .hbm, ⟨40, _⟩ => ⟨S_, .i32⟩
  | .hbm, ⟨41, _⟩ => ⟨S160, .i32⟩
  | .hbm, ⟨42, _⟩ => ⟨S160, .i1⟩
  | .hbm, ⟨43, _⟩ => ⟨S_, .i32⟩
  | .hbm, ⟨44, _⟩ => ⟨S160, .i32⟩
  | .hbm, ⟨45, _⟩ => ⟨S160, .i32⟩
  | .hbm, ⟨46, _⟩ => ⟨S160, .i32⟩
  | .hbm, ⟨47, _⟩ => ⟨S160x1, .i32⟩
  | .hbm, ⟨48, _⟩ => ⟨S160x1024x1024, .bf16⟩
  | .hbm, ⟨49, _⟩ => ⟨S160x1024x1024, .f32⟩
  | .hbm, ⟨50, _⟩ => ⟨S160x512x2048, .f32⟩
  | .hbm, ⟨51, _⟩ => ⟨S_, .i32⟩
  | .hbm, ⟨52, _⟩ => ⟨S160, .i32⟩
  | .hbm, ⟨53, _⟩ => ⟨S160, .i1⟩
  | .hbm, ⟨54, _⟩ => ⟨S_, .i32⟩
  | .hbm, ⟨55, _⟩ => ⟨S160, .i32⟩
  | .hbm, ⟨56, _⟩ => ⟨S160, .i32⟩
  | .hbm, ⟨57, _⟩ => ⟨S160, .i32⟩
  | .hbm, ⟨58, _⟩ => ⟨S160x1, .i32⟩
  | .hbm, ⟨59, _⟩ => ⟨S160x1x2048, .f32⟩
  | .hbm, ⟨60, _⟩ => ⟨S160x512x2048, .f32⟩
  | .hbm, ⟨61, _⟩ => ⟨S160x512x2048, .f32⟩
  | .hbm, ⟨62, _⟩ => ⟨S160x512x1024, .f32⟩
  | .hbm, ⟨63, _⟩ => ⟨S_, .f32⟩
  | .hbm, ⟨64, _⟩ => ⟨S160x512x1024, .f32⟩
  | .hbm, ⟨65, _⟩ => ⟨S160x512x1024, .f32⟩
  | .hbm, ⟨66, _⟩ => ⟨S160x512x1024, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S160x512x1024, .f32⟩
  | .hbm, ⟨71, _⟩ => ⟨S160x512x1024, .f32⟩
  | .hbm, ⟨72, _⟩ => ⟨S_, .f32⟩
  | .hbm, ⟨73, _⟩ => ⟨S160x512x1024, .f32⟩
  | .hbm, ⟨74, _⟩ => ⟨S160x512x1024, .f32⟩
  | .hbm, ⟨75, _⟩ => ⟨S_, .f32⟩
  | .hbm, ⟨76, _⟩ => ⟨S160x512x1024, .f32⟩
  | .hbm, ⟨77, _⟩ => ⟨S160x512x1024, .f32⟩
  | .hbm, ⟨78, _⟩ => ⟨S_, .f32⟩
  | .hbm, ⟨79, _⟩ => ⟨S160x512x1024, .f32⟩
  | .hbm, ⟨80, _⟩ => ⟨S160x512x1024, .f32⟩
  | .hbm, ⟨81, _⟩ => ⟨S160x512x1024, .f32⟩
  | .hbm, ⟨82, _⟩ => ⟨S160x512x1024, .f32⟩
  | .hbm, ⟨83, _⟩ => ⟨S_, .f32⟩
  | .hbm, ⟨84, _⟩ => ⟨S160x512x1024, .f32⟩
  | .hbm, ⟨85, _⟩ => ⟨S160x512x1024, .f32⟩
  | .hbm, ⟨86, _⟩ => ⟨S_, .f32⟩
  | .hbm, ⟨87, _⟩ => ⟨S160x512x1024, .f32⟩
  | .hbm, ⟨88, _⟩ => ⟨S160x512x1024, .f32⟩
  | .hbm, ⟨89, _⟩ => ⟨S160x512x1024, .f32⟩
  | .hbm, ⟨90, _⟩ => ⟨S160x512x1024, .f32⟩
  | .hbm, ⟨91, _⟩ => ⟨S160x512x1024, .f32⟩
  | .hbm, ⟨92, _⟩ => ⟨S_, .i32⟩
  | .hbm, ⟨93, _⟩ => ⟨S160, .i32⟩
  | .hbm, ⟨94, _⟩ => ⟨S160, .i1⟩
  | .hbm, ⟨95, _⟩ => ⟨S_, .i32⟩
  | .hbm, ⟨96, _⟩ => ⟨S160, .i32⟩
  | .hbm, ⟨97, _⟩ => ⟨S160, .i32⟩
  | .hbm, ⟨98, _⟩ => ⟨S160, .i32⟩
  | .hbm, ⟨99, _⟩ => ⟨S160x1, .i32⟩
  | .hbm, ⟨100, _⟩ => ⟨S160x1x1024, .f32⟩
  | .hbm, ⟨101, _⟩ => ⟨S160x512x1024, .f32⟩
  | .hbm, ⟨102, _⟩ => ⟨S160x512x1024, .f32⟩
  | .hbm, ⟨103, _⟩ => ⟨S160x512x1024, .i32⟩
  | .hbm, ⟨104, _⟩ => ⟨S1x1, .i32⟩
  | .hbm, ⟨105, _⟩ => ⟨S_, .i32⟩
  | .hbm, ⟨106, _⟩ => ⟨S160x512x1024, .i32⟩
  | .hbm, ⟨107, _⟩ => ⟨S160x512x1024, .i1⟩
  | .hbm, ⟨108, _⟩ => ⟨S_, .f32⟩
  | .hbm, ⟨109, _⟩ => ⟨S_, .f32⟩
  | .hbm, ⟨110, _⟩ => ⟨S160x512x1024, .f32⟩
  | .hbm, ⟨111, _⟩ => ⟨S160x512x1024, .f32⟩
  | .hbm, ⟨112, _⟩ => ⟨S81920x1024, .f32⟩
  | .hbm, ⟨113, _⟩ => ⟨S81920x1024, .bf16⟩
  | .hbm, ⟨114, _⟩ => ⟨S81920x256, .bf16⟩
  | .hbm, ⟨115, _⟩ => ⟨S81920x256, .bf16⟩
  | .hbm, ⟨116, _⟩ => ⟨S81920x512, .bf16⟩
  | .hbm, ⟨117, _⟩ => ⟨S81920x256, .bf16⟩
  | .hbm, ⟨118, _⟩ => ⟨S81920x256, .bf16⟩
  | .hbm, ⟨119, _⟩ => ⟨S81920x512, .bf16⟩
  | _, _ => ⟨S8x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_call2_v0 : Ref sig .tc := ⟨.hbm, 109, rfl⟩
abbrev main_call2_v1 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Prep.lean ====
abbrev S4x8192x1024 : Shape := ⟨3, ![4, 8192, 1024]⟩
abbrev S1024 : Shape := ⟨1, ![1024]⟩
abbrev S1024x3328 : Shape := ⟨2, ![1024, 3328]⟩
abbrev S3x512 : Shape := ⟨2, ![3, 512]⟩
abbrev S512 : Shape := ⟨1, ![512]⟩
abbrev S1792 : Shape := ⟨1, ![1792]⟩
abbrev S64x512 : Shape := ⟨2, ![64, 512]⟩
abbrev S128x512 : Shape := ⟨2, ![128, 512]⟩
abbrev S8x64 : Shape := ⟨2, ![8, 64]⟩
abbrev S512x512 : Shape := ⟨2, ![512, 512]⟩
abbrev S_ : Shape := ⟨0, ![]⟩
abbrev S1024x512 : Shape := ⟨2, ![1024, 512]⟩
abbrev S32768x1024 : Shape := ⟨2, ![32768, 1024]⟩
abbrev S1x1024 : Shape := ⟨2, ![1, 1024]⟩
abbrev S1x512 : Shape := ⟨2, ![1, 512]⟩
abbrev S1x1792 : Shape := ⟨2, ![1, 1792]⟩
abbrev S32768x512 : Shape := ⟨2, ![32768, 512]⟩
abbrev S8x1024 : Shape := ⟨2, ![8, 1024]⟩
abbrev S512x1024 : Shape := ⟨2, ![512, 1024]⟩
abbrev S520x3328 : Shape := ⟨2, ![520, 3328]⟩
abbrev S520x512 : Shape := ⟨2, ![520, 512]⟩
abbrev S520x1024 : Shape := ⟨2, ![520, 1024]⟩
abbrev S520 : Shape := ⟨1, ![520]⟩
abbrev S520x1 : Shape := ⟨2, ![520, 1]⟩
abbrev S512x1792 : Shape := ⟨2, ![512, 1792]⟩
abbrev S512x128 : Shape := ⟨2, ![512, 128]⟩

abbrev nBuf : Space → Nat
  | .hbm => 83
  | .vmem => 38
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3328, .f32⟩
  | .hbm, ⟨3, _⟩ => ⟨S3x512, .f32⟩
  | .hbm, ⟨4, _⟩ => ⟨S512, .f32⟩
  | .hbm, ⟨5, _⟩ => ⟨S1792, .f32⟩
  | .hbm, ⟨6, _⟩ => ⟨S512, .f32⟩
  | .hbm, ⟨7, _⟩ => ⟨S64x512, .f32⟩
  | .hbm, ⟨8, _⟩ => ⟨S512, .f32⟩
  | .hbm, ⟨9, _⟩ => ⟨S64x512, .f32⟩
  | .hbm, ⟨10, _⟩ => ⟨S128x512, .f32⟩
  | .hbm, ⟨11, _⟩ => ⟨S512, .f32⟩
  | .hbm, ⟨12, _⟩ => ⟨S512, .f32⟩
  | .hbm, ⟨13, _⟩ => ⟨S8x64, .f32⟩
  | .hbm, ⟨14, _⟩ => ⟨S512x512, .i32⟩
  | .hbm, ⟨15, _⟩ => ⟨S_, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S512x512, .i32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i1⟩
  | .hbm, ⟨28, _⟩ => ⟨S512x512, .i1⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S512x512, .i32⟩
  | .hbm, ⟨34, _⟩ => ⟨S_, .i32⟩
  | .hbm, ⟨35, _⟩ => ⟨S_, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i1⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i1⟩
  | .hbm, ⟨47, _⟩ => ⟨S512x512, .i1⟩
  | .hbm, ⟨48, _⟩ => ⟨S_, .i32⟩
  | .hbm, ⟨49, _⟩ => ⟨S512x512, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S512x512, .bf16⟩
  | .hbm, ⟨54, _⟩ => ⟨S1024x512, .bf16⟩
  | .hbm, ⟨55, _⟩ => ⟨S_, .f32⟩
  | .hbm, ⟨56, _⟩ => ⟨S64x512, .f32⟩
  | .hbm, ⟨57, _⟩ => ⟨S128x512, .f32⟩
  | .hbm, ⟨58, _⟩ => ⟨S128x512, .bf16⟩
  | .hbm, ⟨59, _⟩ => ⟨S_, .f32⟩
  | .hbm, ⟨60, _⟩ => ⟨S64x512, .f32⟩
  | .hbm, ⟨61, _⟩ => ⟨S128x512, .f32⟩
  | .hbm, ⟨62, _⟩ => ⟨S128x512, .bf16⟩
  | .hbm, ⟨63, _⟩ => ⟨S32768x1024, .f32⟩
  | .hbm, ⟨64, _⟩ => ⟨S1x1024, .f32⟩
  | .hbm, ⟨65, _⟩ => ⟨S1024x3328, .bf16⟩
  | .hbm, ⟨66, _⟩ => ⟨S1x512, .f32⟩
  | .hbm, ⟨67, _⟩ => ⟨S1x1792, .f32⟩
  | .hbm, ⟨68, _⟩ => ⟨S1x512, .f32⟩
  | .hbm, ⟨69, _⟩ => ⟨S1x512, .f32⟩
  | .hbm, ⟨70, _⟩ => ⟨S128x512, .bf16⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S32768x512, .bf16⟩
  | .hbm, ⟨75, _⟩ => ⟨S32768x512, .f32⟩
  | .hbm, ⟨76, _⟩ => ⟨S32768x512, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x512, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3328, .bf16⟩
  | .local _ .vmem, ⟨6, _⟩ => ⟨S3x512, .f32⟩
  | .local _ .vmem, ⟨7, _⟩ => ⟨S1x512, .f32⟩
  | .local _ .vmem, ⟨8, _⟩ => ⟨S1x1792, .f32⟩
  | .local _ .vmem, ⟨9, _⟩ => ⟨S1x512, .f32⟩
  | .local _ .vmem, ⟨10, _⟩ => ⟨S128x512, .bf16⟩
  | .local _ .vmem, ⟨11, _⟩ => ⟨S1x512, .f32⟩
  | .local _ .vmem, ⟨12, _⟩ => ⟨S128x512, .bf16⟩
  | .local _ .vmem, ⟨13, _⟩ => ⟨S128x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1024x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S520x3328, .f32⟩
  | .local _ .vmem, ⟨37, _⟩ => ⟨S520x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst_1 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24_0 : Ref sig .tc := ⟨.hbm, 74, rfl⟩
abbrev main_v24_1 : Ref sig .tc := ⟨.hbm, 75, rfl⟩
abbrev main_v24_2 : Ref sig .tc := ⟨.hbm, 76, rfl⟩
abbrev main_v24_3 : Ref sig .tc := ⟨.hbm, 77, rfl⟩
abbrev main_v24_4 : Ref sig .tc := ⟨.hbm, 78, rfl⟩
abbrev main_v24_5 : Ref sig .tc := ⟨.hbm, 79, rfl⟩
abbrev main_v24_6 : Ref sig .tc := ⟨.hbm, 80, rfl⟩
abbrev main_v24_7 : Ref sig .tc := ⟨.hbm, 81, rfl⟩
abbrev main_v24_8 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== PrepRef.lean ====
abbrev S4x8192x1024 : Shape := ⟨3, ![4, 8192, 1024]⟩
abbrev S1024 : Shape := ⟨1, ![1024]⟩
abbrev S1024x3328 : Shape := ⟨2, ![1024, 3328]⟩
abbrev S3x512 : Shape := ⟨2, ![3, 512]⟩
abbrev S512 : Shape := ⟨1, ![512]⟩
abbrev S1792 : Shape := ⟨1, ![1792]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3328 : Shape := ⟨3, ![4, 8192, 3328]⟩
abbrev S4x8192x1536 : Shape := ⟨3, ![4, 8192, 1536]⟩
abbrev S4x8192x512 : Shape := ⟨3, ![4, 8192, 512]⟩
abbrev S4x8194x512 : Shape := ⟨3, ![4, 8194, 512]⟩
abbrev S1x512 : Shape := ⟨2, ![1, 512]⟩
abbrev S1x1x512 : Shape := ⟨3, ![1, 1, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S4x8192x1792 : Shape := ⟨3, ![4, 8192, 1792]⟩
abbrev S4x8193x1792 : Shape := ⟨3, ![4, 8193, 1792]⟩
abbrev S1x1x1792 : Shape := ⟨3, ![1, 1, 1792]⟩
abbrev S4x8192x64 : Shape := ⟨3, ![4, 8192, 64]⟩
abbrev S4x8192x128 : Shape := ⟨3, ![4, 8192, 128]⟩
abbrev S32768x512 : Shape := ⟨2, ![32768, 512]⟩

abbrev nBuf : Space → Nat
  | .hbm => 176
  | .vmem => 0
  | .smem => 0
  | _ => 0

abbrev hbmTy0_0 (i : Nat) : BufTy := match i % 128 with
  | 0 => ⟨S4x8192x1024, .f32⟩
  | 1 => ⟨S1024, .f32⟩
  | 2 => ⟨S1024x3328, .f32⟩
  | 3 => ⟨S3x512, .f32⟩
  | 4 => ⟨S512, .f32⟩
  | 5 => ⟨S1792, .f32⟩
  | 6 => ⟨S512, .f32⟩
  | 7 => ⟨S64x512, .f32⟩
  | 8 => ⟨S512, .f32⟩
  | 9 => ⟨S64x512, .f32⟩
  | 10 => ⟨S128x512, .f32⟩
  | 11 => ⟨S512, .f32⟩
  | 12 => ⟨S512, .f32⟩
  | 13 => ⟨S8x64, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S4x8192x3328, .f32⟩
  | 31 => ⟨S4x8192x1536, .f32⟩
  | 32 => ⟨S4x8192x512, .f32⟩
  | 33 => ⟨S4x8192x512, .f32⟩
  | 34 => ⟨S4x8192x512, .f32⟩
  | 35 => ⟨S4x8192x512, .f32⟩
  | 36 => ⟨S_, .i32⟩
  | 37 => ⟨S_, .f32⟩
  | 38 => ⟨S4x8194x512, .f32⟩
  | 39 => ⟨S1x512, .f32⟩
  | 40 => ⟨S512, .f32⟩
  | 41 => ⟨S4x8192x512, .f32⟩
  | 42 => ⟨S1x1x512, .f32⟩
  | 43 => ⟨S4x8192x512, .f32⟩
  | 44 => ⟨S4x8192x512, .f32⟩
  | 45 => ⟨S1x512, .f32⟩
  | 46 => ⟨S512, .f32⟩
  | 47 => ⟨S4x8192x512, .f32⟩
  | 48 => ⟨S1x1x512, .f32⟩
  | 49 => ⟨S4x8192x512, .f32⟩
  | 50 => ⟨S4x8192x512, .f32⟩
  | 51 => ⟨S4x8192x512, .f32⟩
  | 52 => ⟨S1x512, .f32⟩
  | 53 => ⟨S512, .f32⟩
  | 54 => ⟨S4x8192x512, .f32⟩
  | 55 => ⟨S1x1x512, .f32⟩
  | 56 => ⟨S4x8192x512, .f32⟩
  | 57 => ⟨S4x8192x512, .f32⟩
  | 58 => ⟨S4x8192x512, .f32⟩
  | 59 => ⟨S4x8192x512, .f32⟩
  | 60 => ⟨S4x8192x8x64, .f32⟩
  | 61 => ⟨S4x8192x8x64, .f32⟩
  | 62 => ⟨S_, .f32⟩
  | 63 => ⟨S4x8192x8, .f32⟩
  | 64 => ⟨S4x8192x8x1, .f32⟩
  | 65 => ⟨S_, .f32⟩
  | 66 => ⟨S4x8192x8x1, .f32⟩
  | 67 => ⟨S4x8192x8x1, .f32⟩
  | 68 => ⟨S_, .f32⟩
  | 69 => ⟨S4x8192x8x1, .f32⟩
  | 70 => ⟨S4x8192x8x1, .f32⟩
  | 71 => ⟨S4x8192x8x1, .f32⟩
  | 72 => ⟨S4x8192x8x64, .f32⟩
  | 73 => ⟨S4x8192x8x64, .f32⟩
  | 74 => ⟨S4x8192x512, .f32⟩
  | 75 => ⟨S1x1x512, .f32⟩
  | 76 => ⟨S4x8192x512, .f32⟩
  | 77 => ⟨S4x8192x512, .f32⟩
  | 78 => ⟨S4x8192x1792, .f32⟩
  | 79 => ⟨S_, .i32⟩
  | 80 => ⟨S_, .f32⟩
  | 81 => ⟨S4x8193x1792, .f32⟩
  | 82 => ⟨S4x8192x1792, .f32⟩
  | 83 => ⟨S4x8192x1792, .f32⟩
  | 84 => ⟨S1x1x1792, .f32⟩
  | 85 => ⟨S4x8192x1792, .f32⟩
  | 86 => ⟨S4x8192x1792, .f32⟩
  | 87 => ⟨S4x8192x1792, .f32⟩
  | 88 => ⟨S4x8192x512, .f32⟩
  | 89 => ⟨S4x8192x512, .f32⟩
  | 90 => ⟨S4x8192x512, .f32⟩
  | 91 => ⟨S4x8192x64, .f32⟩
  | 92 => ⟨S4x8192x64, .f32⟩
  | 93 => ⟨S4x8192x128, .f32⟩
  | 94 => ⟨S4x8192x64, .f32⟩
  | 95 => ⟨S4x8192x512, .f32⟩
  | 96 => ⟨S1x1x512, .f32⟩
  | 97 => ⟨S4x8192x512, .f32⟩
  | 98 => ⟨S4x8192x512, .f32⟩
  | 99 => ⟨S4x8192x512, .f32⟩
  | 100 => ⟨S_, .f32⟩
  | 101 => ⟨S4x8192x512, .f32⟩
  | 102 => ⟨S4x8192x512, .f32⟩
  | 103 => ⟨S4x8192x512, .f32⟩
  | 104 => ⟨S4x8192x512, .f32⟩
  | 105 => ⟨S4x8192x512, .i1⟩
  | 106 => ⟨S4x8192x512, .f32⟩
  | 107 => ⟨S4x8192x512, .f32⟩
  | 108 => ⟨S4x8192x512, .f32⟩
  | 109 => ⟨S4x8192x512, .f32⟩
  | 110 => ⟨S4x8192x512, .f32⟩
  | 111 => ⟨S4x8192x512, .f32⟩
  | 112 => ⟨S4x8192x512, .f32⟩
  | 113 => ⟨S4x8192x512, .f32⟩
  | 114 => ⟨S4x8192x512, .f32⟩
  | 115 => ⟨S_, .f32⟩
  | 116 => ⟨S4x8192x512, .f32⟩
  | 117 => ⟨S4x8192x512, .f32⟩
  | 118 => ⟨S4x8192x512, .f32⟩
  | 119 => ⟨S1x1x512, .f32⟩
  | 120 => ⟨S4x8192x512, .f32⟩
  | 121 => ⟨S4x8192x512, .f32⟩
  | 122 => ⟨S4x8192x512, .f32⟩
  | 123 => ⟨S4x8192x512, .f32⟩
  | 124 => ⟨S_, .f32⟩
  | 125 => ⟨S4x8192x512, .f32⟩
  | 126 => ⟨S4x8192x512, .f32⟩
  | 127 => ⟨S_, .f32⟩
  | _ => ⟨S4x8192x1024, .f32⟩

abbrev hbmTy0_1 (i : Nat) : BufTy := match i % 128 with
  | 0 => ⟨S4x8192x512, .f32⟩
  | 1 => ⟨S4x8192x512, .f32⟩
  | 2 => ⟨S4x8192x128, .f32⟩
  | 3 => ⟨S4x8192x128, .f32⟩
  | 4 => ⟨S_, .f32⟩
  | 5 => ⟨S4x8192x128, .f32⟩
  | 6 => ⟨S4x8192x128, .f32⟩
  | 7 => ⟨S_, .f32⟩
  | 8 => ⟨S4x8192x128, .f32⟩
  | 9 => ⟨S4x8192x128, .f32⟩
  | 10 => ⟨S4x8192x512, .f32⟩
  | 11 => ⟨S1x1x512, .f32⟩
  | 12 => ⟨S4x8192x512, .f32⟩
  | 13 => ⟨S4x8192x512, .f32⟩
  | 14 => ⟨S4x8192x8x64, .f32⟩
  | 15 => ⟨S4x8192x8x64, .f32⟩
  | 16 => ⟨S_, .f32⟩
  | 17 => ⟨S4x8192x8, .f32⟩
  | 18 => ⟨S4x8192x8x1, .f32⟩
  | 19 => ⟨S4x8192x8x1, .f32⟩
  | 20 => ⟨S_, .f32⟩
  | 21 => ⟨S4x8192x8x1, .f32⟩
  | 22 => ⟨S4x8192x8x1, .f32⟩
  | 23 => ⟨S4x8192x8x64, .f32⟩
  | 24 => ⟨S4x8192x8x64, .f32⟩
  | 25 => ⟨S_, .f32⟩
  | 26 => ⟨S4x8192x512, .f32⟩
  | 27 => ⟨S4x8192x512, .f32⟩
  | 28 => ⟨S1x1x512, .f32⟩
  | 29 => ⟨S4x8192x512, .f32⟩
  | 30 => ⟨S4x8192x512, .f32⟩
  | 31 => ⟨S_, .f32⟩
  | 32 => ⟨S4x8192x512, .f32⟩
  | 33 => ⟨S4x8192x512, .f32⟩
  | 34 => ⟨S4x8192x512, .f32⟩
  | 35 => ⟨S32768x512, .f32⟩
  | 36 => ⟨S32768x512, .bf16⟩
  | 37 => ⟨S32768x512, .f32⟩
  | 38 => ⟨S4x8192x512, .f32⟩
  | 39 => ⟨S4x8192x512, .f32⟩
  | 40 => ⟨S32768x512, .f32⟩
  | 41 => ⟨S32768x512, .f32⟩
  | 42 => ⟨S32768x512, .f32⟩
  | 43 => ⟨S32768x512, .f32⟩
  | 44 => ⟨S4x8192x8x64, .f32⟩
  | 45 => ⟨S4x8192x8x64, .f32⟩
  | 46 => ⟨S32768x512, .f32⟩
  | 47 => ⟨S32768x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_5 : Ref sig .tc := ⟨.hbm, 79, rfl⟩
abbrev main_call1_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_v76 : Ref sig .tc := ⟨.hbm, 113, rfl⟩
abbrev main_v77 : Ref sig .tc := ⟨.hbm, 114, rfl⟩
abbrev main_cst_6 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_7 : Ref sig .tc := ⟨.hbm, 124, rfl⟩
abbrev main_v86 : Ref sig .tc := ⟨.hbm, 125, rfl⟩
abbrev main_v87 : Ref sig .tc := ⟨.hbm, 126, rfl⟩
abbrev main_cst_8 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_9 : Ref sig .tc := ⟨.hbm, 132, rfl⟩
abbrev main_v92 : Ref sig .tc := ⟨.hbm, 133, rfl⟩
abbrev main_v93 : Ref sig .tc := ⟨.hbm, 134, rfl⟩
abbrev main_cst_10 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_11 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_12 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_13 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_14 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩

abbrev nD : Nat := 1
abbrev τ : Topo := Topo.v7x

variable {F : FTy → Type} [FloatOps F]
-- ==== Proof.Words.lean ====
/-
  The integer words of the gather kernel's loop. A tile runs 16 trips; before trip `k` the loop carries five words: the
  number of index fetches started (`min (k + 1) 16`), the number of fetches waited for (`k`), the number of
  write-outs started (`k`), the number waited for (`k - 1`) and the block within the tile (`k % 16`). At those
  words every offset, condition and side condition the printed body computes has the closed form stated here.
-/
module

public import proofs.«01_k».proof.Proof.Gen.KernelIdeal
public import proofs.«01_k».proof.Proof.Gen.KernelIdeal.Skeleton

@[expose] public section

set_option Elab.async false

noncomputable section

namespace Cert.Proof.Gather

open Cert.KernelIdeal Cert.KernelIdeal.Gen
open Idealize.ShloMosaic

/-- The loop runs sixteen trips. -/
theorem trips_eq : k0_t1_loop.trips = 16 := by decide +kernel

/-- The tile's first block, as the kernel computes it. -/
abbrev firstW (L : grid0.Coords) : BitVec 32 :=
  Scalar.muli (Scalar.addi (Scalar.addi 0#32 (Scalar.muli (BitVec.ofNat 32 (L 1).val) 1#32)) (Scalar.muli (BitVec.ofNat 32 (L 0).val) 16#32)) 16#32

/-- Block `k` of the tile at `L`, among all 512 blocks of 128 rows. -/
def blk (L : grid0.Coords) (k : ℕ) : ℕ := 256 * (L 0).val + 16 * (L 1).val + k

theorem coord0_lt (L : grid0.Coords) : (L 0).val < 2 := (L 0).isLt
theorem coord1_lt (L : grid0.Coords) : (L 1).val < 16 := (L 1).isLt

theorem blk_lt (L : grid0.Coords) {k : ℕ} (hk : k < 16) : blk L k < 512 := by
  have := coord0_lt L; have := coord1_lt L; unfold blk; omega

/-- The words carried into trip `k`. -/
def carry (k : ℕ) : BitVec 32 × BitVec 32 × BitVec 32 × BitVec 32 × BitVec 32 :=
  (BitVec.ofNat 32 (min (k + 1) 16), BitVec.ofNat 32 k, BitVec.ofNat 32 k, BitVec.ofNat 32 (k - 1), BitVec.ofNat 32 (k % 16))

abbrev w6 (k : ℕ) : BitVec 32 := BitVec.ofNat 32 (min (k + 1) 16)
abbrev w7 (k : ℕ) : BitVec 32 := BitVec.ofNat 32 k
abbrev w9 (k : ℕ) : BitVec 32 := BitVec.ofNat 32 (k - 1)
abbrev w10 (k : ℕ) : BitVec 32 := BitVec.ofNat 32 (k % 16)

theorem carry_eq (k : ℕ) : carry k = (w6 k, w7 k, w7 k, w9 k, w10 k) := rfl

/-! ## The conditions -/

theorem cond1_iff : ∀ (L : grid0.Coords) (k : Fin k0_t1_loop.trips), k0_cond1 L k (w10 k.val) = 1#1 ↔ k.val < 15 := by decide +kernel
theorem cond2_eq : ∀ (L : grid0.Coords) (k : Fin k0_t1_loop.trips), k0_cond2 L k (w10 k.val) = 1#1 := by decide +kernel
theorem cond5_eq : ∀ (L : grid0.Coords) (k : Fin k0_t1_loop.trips), k0_cond5 L k (w10 k.val) = 1#1 := by decide +kernel
theorem cond7_iff : ∀ (L : grid0.Coords) (k : Fin k0_t1_loop.trips), k0_cond7 L k (w10 k.val) = 1#1 ↔ 0 < k.val := by decide +kernel

/-! ## The offsets -/

theorem off1_eq : k0_off1 = ![0, 0, 0] := k0_off1_eq
theorem off2_eq : ∀ L : grid0.Coords, k0_off2 L = ![0, 128 * blk L 0] := by decide +kernel
theorem off3_eq : k0_off3 = ![0] := k0_off3_eq
theorem off4_eq : ∀ k : Fin k0_t1_loop.trips, k.val < 15 → k0_off4 (w6 k.val) = ![(k.val + 1) % 2, 0, 0] := by decide +kernel
theorem off5_eq : ∀ (L : grid0.Coords) (k : Fin k0_t1_loop.trips), k.val < 15 → k0_off5 L (w10 k.val) = ![0, 128 * blk L (k.val + 1)] := by decide +kernel
theorem off6_eq : ∀ k : Fin k0_t1_loop.trips, k.val < 15 → k0_off6 (w6 k.val) = ![(k.val + 1) % 2] := by decide +kernel
theorem off7_eq : ∀ k : Fin k0_t1_loop.trips, k0_off7 (w7 k.val) = ![k.val % 2, 0, 0] := by decide +kernel
theorem off8_eq : ∀ (L : grid0.Coords) (k : Fin k0_t1_loop.trips), k0_off8 L (w10 k.val) = ![0, 128 * blk L k.val] := by decide +kernel
theorem off9_eq : ∀ k : Fin k0_t1_loop.trips, k0_off9 (w7 k.val) = ![k.val % 2] := by decide +kernel
theorem off10_eq : ∀ k : Fin k0_t1_loop.trips, k0_off10 (w7 k.val) = ![k.val % 2, 0, 0] := by decide +kernel
theorem off11_eq : ∀ k : Fin k0_t1_loop.trips, k0_off11 (w7 k.val) = ![k.val % 2, 0, 0] := by decide +kernel
theorem off12_eq : ∀ k : Fin k0_t1_loop.trips, k0_off12 (w7 k.val) = ![k.val % 2, 0, 0] := by decide +kernel
theorem off13_eq : ∀ (L : grid0.Coords) (k : Fin k0_t1_loop.trips), k0_off13 L (w10 k.val) = ![128 * blk L k.val, 0] := by decide +kernel
theorem off14_eq : ∀ k : Fin k0_t1_loop.trips, k0_off14 (w7 k.val) = ![k.val % 2] := by decide +kernel
theorem off15_eq : ∀ k : Fin k0_t1_loop.trips, 0 < k.val → k0_off15 (w9 k.val) = ![(k.val + 1) % 2, 0, 0] := by decide +kernel
theorem off16_eq : ∀ (L : grid0.Coords) (k : Fin k0_t1_loop.trips), 0 < k.val → k0_off16 L (w10 k.val) = ![128 * blk L (k.val - 1), 0] := by decide +kernel
theorem off17_eq : ∀ k : Fin k0_t1_loop.trips, 0 < k.val → k0_off17 (w9 k.val) = ![(k.val + 1) % 2] := by decide +kernel
theorem off19_eq : ∀ L : grid0.Coords, k0_off19 L (w10 16) = ![128 * blk L 15, 0] := by decide +kernel
theorem off20_eq : k0_off20 (w9 16) = ![1] := by decide +kernel
theorem off21_eq : k0_off21 (w9 16) = ![1, 0, 0] := by decide +kernel

/-! ## The side conditions -/

set_option maxHeartbeats 4000000 in
theorem chk1_all : ∀ (L : grid0.Coords) (k : Fin k0_t1_loop.trips), k0_chk1 L k (w6 k.val) (w7 k.val) (w7 k.val) (w9 k.val) (w10 k.val) := by decide +kernel
theorem chk2_all : ∀ k : Fin k0_t1_loop.trips, k0_chk2 (w7 k.val) := by decide +kernel
theorem chk3_all : ∀ k : Fin k0_t1_loop.trips, k0_chk3 (w7 k.val) := by decide +kernel
theorem chk5_all : ∀ L : grid0.Coords, k0_chk5 L (w10 16) := by decide +kernel
theorem chk4_all : k0_chk4 (w9 16) := by decide +kernel

end Cert.Proof.Gather

end
-- ==== Proof.Views.lean ====
/-
  The windows the gather kernel moves data through, and what each transfer leaves in them. A tile holds two slots of 128
  row numbers and two slots of 128 rows; block `b` of the 512 blocks is 128 consecutive row numbers in HBM, and the 128
  rows of the result at the same positions. Three contents are named: what a fetched slot of row numbers holds
  (`fetched`), what a slot of gathered rows holds (`rowsOf`), and what the whole result holds (`gathered`).
-/
module

public import proofs.«01_k».proof.Proof.Gen.KernelIdeal
public import proofs.«01_k».proof.Proof.Words
public import Idealize.ShloMosaic.Lib.SparseCore.Stream

@[expose] public section

set_option Elab.async false

noncomputable section

namespace Cert.Proof.Gather

open Cert.KernelIdeal Cert.KernelIdeal.Gen
open Idealize.ShloMosaic

variable {F : FTy → Type}

/-! ## The windows -/

/-- One slot of the row-number double buffer. -/
abbrev slotI (off : Fin 3 → ℕ) (h : ∀ a, off a + S1x1x128.size a ≤ S2x1x128.size a) : Memref sig .scVector .vmem S1x128 .i32 :=
  ((Memref.whole cc0_scoped0 : Memref sig .scVector .vmem S2x1x128 .i32).slice (Rect.unit (s := S2x1x128) off S1x1x128.size h) (fun _ => rfl)).squeeze
    S1x128 squeezes_S1x1x128_S1x128
/-- One slot of the gathered-rows double buffer. -/
abbrev slotO (off : Fin 3 → ℕ) (h : ∀ a, off a + S1x128x256.size a ≤ S2x128x256.size a) : Memref sig .scVector .vmem S128x256 .i32 :=
  ((Memref.whole cc0_scoped2 : Memref sig .scVector .vmem S2x128x256 .i32).slice (Rect.unit (s := S2x128x256) off S1x128x256.size h) (fun _ => rfl)).squeeze
    S128x256 squeezes_S1x128x256_S128x256
/-- 128 row numbers of the list in HBM. -/
abbrev blkI (off : Fin 2 → ℕ) (h : ∀ a, off a + S1x128.size a ≤ S1x65536.size a) : Memref sig .scVector .hbm S1x128 .i32 :=
  (Memref.whole main_v0_scv : Memref sig .scVector .hbm S1x65536 .i32).slice (Rect.unit (s := S1x65536) off S1x128.size h) (fun _ => rfl)
/-- 128 rows of the result in HBM. -/
abbrev blkO (off : Fin 2 → ℕ) (h : ∀ a, off a + S128x256.size a ≤ S65536x256.size a) : Memref sig .scVector .hbm S128x256 .i32 :=
  (Memref.whole main_v1_scv : Memref sig .scVector .hbm S65536x256 .i32).slice (Rect.unit (s := S65536x256) off S128x256.size h) (fun _ => rfl)
/-- Half the columns of a slot of gathered rows. -/
abbrev halfO (off : Fin 3 → ℕ) (h : ∀ a, off a + S1x128x256.size a ≤ S2x128x256.size a) (c : Fin 2 → ℕ)
    (hc : ∀ a, c a + S128x128.size a ≤ S128x256.size a) : Memref sig .scVector .vmem S128x128 .i32 :=
  (slotO off h).slice (Rect.unit (s := S128x256) c S128x128.size hc) (fun _ => rfl)
/-- Half the columns of the table. -/
abbrev halfT (c : Fin 2 → ℕ) (hc : ∀ a, c a + S81920x128.size a ≤ S81920x256.size a) : Memref sig .scVector .hbm S81920x128 .i32 :=
  (Memref.whole main_arg0_scv : Memref sig .scVector .hbm S81920x256 .i32).slice (Rect.unit (s := S81920x256) c S81920x128.size hc) (fun _ => rfl)
/-- A slot of row numbers as the stream reads it: a list of 128. -/
abbrev listI (off : Fin 3 → ℕ) (h : ∀ a, off a + S1x1x128.size a ≤ S2x1x128.size a) : Memref sig .scVector .vmem S128 .i32 :=
  ((slotI off h).slice (Rect.unit (s := S1x128) ![0, 0] S1x128.size inb_S1x128_S1x128_0_0) (fun _ => rfl)).squeeze S128 squeezes_S1x128_S128
/-- The semaphore of a fetch into a slot. -/
abbrev semI (off : Fin 1 → ℕ) (h : ∀ a, off a + S1.size a ≤ S2.size a) : DmaSem sig :=
  (((cc0_scoped1 : DmaSems sig S2).slice (Rect.unit (s := S2) off S1.size h)).squeeze S_ squeezes_S1_S_).sem
/-- The semaphore of a write-out of a slot. -/
abbrev semO (off : Fin 1 → ℕ) (h : ∀ a, off a + S1.size a ≤ S2.size a) : DmaSem sig :=
  (((cc0_scoped3 : DmaSems sig S2).slice (Rect.unit (s := S2) off S1.size h)).squeeze S_ squeezes_S1_S_).sem

/-! ## Which elements a window holds -/

theorem mem_slotI {p : ℕ} (h) (i : S2x1x128.Idx) : i ∈ (slotI ![p, 0, 0] h).view.set ↔ (i 0).val = p := by
  have e : (slotI ![p, 0, 0] h).view.set = (Rect.unit (s := S2x1x128) ![p, 0, 0] S1x1x128.size h).set := (View.set_reshape _ _).trans (View.set_slice_whole _ _)
  rw [e, Rect.mem_set_unit]
  have h0 := (i 0).isLt; have h1 := (i 1).isLt; have h2 := (i 2).isLt
  constructor
  · intro H; have := H 0; simp at this; omega
  · intro H a
    match a with
    | 0 => simp; omega
    | 1 => simp; exact Nat.lt_one_iff.mp h1
    | 2 => simp; exact h2

theorem mem_slotO {p : ℕ} (h) (i : S2x128x256.Idx) : i ∈ (slotO ![p, 0, 0] h).view.set ↔ (i 0).val = p := by
  have e : (slotO ![p, 0, 0] h).view.set = (Rect.unit (s := S2x128x256) ![p, 0, 0] S1x128x256.size h).set := (View.set_reshape _ _).trans (View.set_slice_whole _ _)
  rw [e, Rect.mem_set_unit]
  have h0 := (i 0).isLt; have h1 := (i 1).isLt; have h2 := (i 2).isLt
  constructor
  · intro H; have := H 0; simp at this; omega
  · intro H a
    match a with
    | 0 => simp; omega
    | 1 => simp; exact h1
    | 2 => simp; exact h2

theorem mem_blkO {b : ℕ} (h : ∀ a, ![128 * b, 0] a + S128x256.size a ≤ S65536x256.size a) (i : S65536x256.Idx) : i ∈ (blkO ![128 * b, 0] h).view.set ↔ 128 * b ≤ (i 0).val ∧ (i 0).val < 128 * b + 128 := by
  have e : (blkO ![128 * b, 0] h).view.set = (Rect.unit (s := S65536x256) ![128 * b, 0] S128x256.size h).set := View.set_slice_whole _ _
  rw [e, Rect.mem_set_unit]
  have h1 := (i 1).isLt
  constructor
  · intro H; exact H 0
  · intro H a
    match a with
    | 0 => exact H
    | 1 => simp; exact h1

/-! ## Where a window's index lands -/

theorem emb_slotI {p : ℕ} (h) (x : S1x128.Idx) :
    (((slotI ![p, 0, 0] h).view.emb x) 0).val = p ∧ (((slotI ![p, 0, 0] h).view.emb x) 2).val = (x 1).val := by
  have hx : (x 0).val < 1 := (x 0).isLt
  have e : Shape.reshapeEquiv squeezes_S1x1x128_S1x128.numel_eq x = (fun | 0 => ⟨0, Nat.one_pos⟩ | 1 => x 0 | 2 => x 1 : S1x1x128.Idx) :=
    Shape.reshapeEquiv_eq_of_rowMajor _ (by
      rw [Shape.rowMajor_val_two, Shape.rowMajor_val_three]; simp)
  have e' : (slotI ![p, 0, 0] h).view.emb x = (Rect.unit (s := S2x1x128) ![p, 0, 0] S1x1x128.size h).emb (fun | 0 => ⟨0, Nat.one_pos⟩ | 1 => x 0 | 2 => x 1 : S1x1x128.Idx) := by
    rw [← e]; rfl
  rw [e']
  constructor <;> rw [Rect.emb_apply] <;> simp <;> rfl

theorem emb_slotO {p : ℕ} (h) (x : S128x256.Idx) :
    (((slotO ![p, 0, 0] h).view.emb x) 0).val = p ∧ (((slotO ![p, 0, 0] h).view.emb x) 1).val = (x 0).val
      ∧ (((slotO ![p, 0, 0] h).view.emb x) 2).val = (x 1).val := by
  have e : Shape.reshapeEquiv squeezes_S1x128x256_S128x256.numel_eq x = (fun | 0 => ⟨0, Nat.one_pos⟩ | 1 => x 0 | 2 => x 1 : S1x128x256.Idx) :=
    Shape.reshapeEquiv_eq_of_rowMajor _ (by
      rw [Shape.rowMajor_val_two, Shape.rowMajor_val_three]; simp)
  have e' : (slotO ![p, 0, 0] h).view.emb x = (Rect.unit (s := S2x128x256) ![p, 0, 0] S1x128x256.size h).emb (fun | 0 => ⟨0, Nat.one_pos⟩ | 1 => x 0 | 2 => x 1 : S1x128x256.Idx) := by
    rw [← e]; rfl
  rw [e']
  refine ⟨?_, ?_, ?_⟩ <;> rw [Rect.emb_apply] <;> simp <;> rfl

theorem emb_halfO {p c : ℕ} (h) (hc) (x : S128x128.Idx) :
    (((halfO ![p, 0, 0] h ![0, c] hc).view.emb x) 0).val = p ∧ (((halfO ![p, 0, 0] h ![0, c] hc).view.emb x) 1).val = (x 0).val
      ∧ (((halfO ![p, 0, 0] h ![0, c] hc).view.emb x) 2).val = c + (x 1).val := by
  have e := emb_slotO (p := p) h ((Rect.unit (s := S128x256) ![0, c] S128x128.size hc).emb x)
  refine ⟨e.1, e.2.1.trans ?_, e.2.2.trans ?_⟩ <;> rw [Rect.emb_apply] <;> simp

theorem emb_listI {p : ℕ} (h) (x : S128.Idx) :
    (((listI ![p, 0, 0] h).view.emb x) 0).val = p ∧ (((listI ![p, 0, 0] h).view.emb x) 2).val = (x 0).val := by
  have e : Shape.reshapeEquiv squeezes_S1x128_S128.numel_eq x = (fun | 0 => ⟨0, Nat.one_pos⟩ | 1 => x 0 : S1x128.Idx) :=
    Shape.reshapeEquiv_eq_of_rowMajor _ (by
      rw [Shape.rowMajor_val_one, Shape.rowMajor_val_two]; simp)
  have e' : (listI ![p, 0, 0] h).view.emb x
      = (slotI ![p, 0, 0] h).view.emb ((Rect.unit (s := S1x128) ![0, 0] S1x128.size inb_S1x128_S1x128_0_0).emb (fun | 0 => ⟨0, Nat.one_pos⟩ | 1 => x 0 : S1x128.Idx)) := by
    rw [← e]; rfl
  rw [e']
  have e2 := emb_slotI (p := p) h ((Rect.unit (s := S1x128) ![0, 0] S1x128.size inb_S1x128_S1x128_0_0).emb (fun | 0 => ⟨0, Nat.one_pos⟩ | 1 => x 0 : S1x128.Idx))
  refine ⟨e2.1, e2.2.trans ?_⟩
  rw [Rect.emb_apply]; simp

theorem emb_blkI {b : ℕ} (h) (x : S1x128.Idx) : (((blkI ![0, 128 * b] h).view.emb x) 1).val = 128 * b + (x 1).val := by
  show (((Rect.unit (s := S1x65536) ![0, 128 * b] S1x128.size h).emb x) 1).val = _
  rw [Rect.emb_apply]; simp

theorem emb_blkO {b : ℕ} (h) (x : S128x256.Idx) :
    (((blkO ![128 * b, 0] h).view.emb x) 0).val = 128 * b + (x 0).val ∧ (((blkO ![128 * b, 0] h).view.emb x) 1).val = (x 1).val := by
  show (((Rect.unit (s := S65536x256) ![128 * b, 0] S128x256.size h).emb x) 0).val = _ ∧ (((Rect.unit (s := S65536x256) ![128 * b, 0] S128x256.size h).emb x) 1).val = _
  refine ⟨?_, ?_⟩ <;> rw [Rect.emb_apply] <;> simp

theorem emb_halfT {c : ℕ} (hc) (x : S81920x128.Idx) :
    (((halfT ![0, c] hc).view.emb x) 0).val = (x 0).val ∧ (((halfT ![0, c] hc).view.emb x) 1).val = c + (x 1).val := by
  show (((Rect.unit (s := S81920x256) ![0, c] S81920x128.size hc).emb x) 0).val = _ ∧ (((Rect.unit (s := S81920x256) ![0, c] S81920x128.size hc).emb x) 1).val = _
  refine ⟨?_, ?_⟩ <;> rw [Rect.emb_apply] <;> simp

/-! ## The contents -/

/-- An index of the list of row numbers. -/
def listIx (n : ℕ) : S1x65536.Idx := fun | 0 => ⟨0, Nat.one_pos⟩ | 1 => ⟨n % 65536, Nat.mod_lt _ (by decide)⟩
/-- An index of the table. -/
def tableIx (r c : ℕ) : S81920x256.Idx := fun | 0 => ⟨r % 81920, Nat.mod_lt _ (by decide)⟩ | 1 => ⟨c % 256, Nat.mod_lt _ (by decide)⟩

theorem listIx_eq {n : ℕ} {i : S1x65536.Idx} (h : (i 1).val = n) : i = listIx n := by
  have h0 : (i 0).val < 1 := (i 0).isLt; have h1 : (i 1).val < 65536 := (i 1).isLt
  funext a
  match a with
  | 0 => exact Fin.ext (by show (i 0).val = 0; omega)
  | 1 => exact Fin.ext (by show (i 1).val = n % 65536; omega)

theorem tableIx_eq {r c : ℕ} {i : S81920x256.Idx} (h : (i 0).val = r) (h' : (i 1).val = c) : i = tableIx r c := by
  have h0 : (i 0).val < 81920 := (i 0).isLt; have h1 : (i 1).val < 256 := (i 1).isLt
  funext a
  match a with
  | 0 => exact Fin.ext (by show (i 0).val = r % 81920; omega)
  | 1 => exact Fin.ext (by show (i 1).val = c % 256; omega)

variable (T : S81920x256.Idx → Elt F .i32) (I : S1x65536.Idx → Elt F .i32)

/-- What a slot holds once block `b` of the row numbers has been fetched into it. -/
def fetched (b : ℕ) : S2x1x128.Idx → Elt F .i32 := fun i => I (listIx (128 * b + (i 2).val))
/-- What a slot holds once the rows block `b` names have been gathered into it. -/
def rowsOf (b : ℕ) : S2x128x256.Idx → Elt F .i32 :=
  fun i => T (tableIx (I (listIx (128 * b + (i 1).val))).toNat (i 2).val)
/-- What the result holds: row `r` is the row of the table that the list's entry `r` names. -/
def gathered : S65536x256.Idx → Elt F .i32 := fun i => T (tableIx (I (listIx (i 0).val)).toNat (i 1).val)

/-! ## What the transfers leave -/

/-- A fetch of block `b` leaves `fetched b` in its slot. -/
theorem write_fetch {p b : ℕ} (h) (hb) (fd : S2x1x128.Idx → Elt F .i32) (i : S2x1x128.Idx) (hi : i ∈ (slotI ![p, 0, 0] h).view.set) :
    (slotI ![p, 0, 0] h).view.write (Elt F) fd ((ReadAs.same : ReadAs (Elt F) S1x128 .i32 S1x128 .i32).apply ((blkI ![0, 128 * b] hb).view.read (Elt F) I)) Finset.univ i
      = fetched I b i := by
  obtain ⟨x, -, rfl⟩ := Finset.mem_map.mp hi
  rw [View.write_emb_of_mem _ _ (Finset.mem_univ x)]
  refine (cast_eq _ _).trans ?_
  refine ((View.read_apply _ _).trans (cast_eq _ _)).trans ?_
  unfold fetched
  rw [(emb_slotI h x).2]
  exact congrArg I (listIx_eq (emb_blkI hb x))

/-- The stream's list, read off a fetched slot: entry `j` of block `b`. -/
theorem read_list {p b : ℕ} (h) (x : S128.Idx) :
    (listI ![p, 0, 0] h).view.read (Elt F) (fetched I b) x = I (listIx (128 * b + (x 0).val)) := by
  refine ((View.read_apply _ _).trans (cast_eq _ _)).trans ?_
  unfold fetched
  rw [(emb_listI h x).2]

/-- Its entries name rows of the table when the whole list does. -/
theorem list_in (hI : ∀ j, (I j).toNat < 81920) {p b : ℕ} (h) (x : S128.Idx) :
    ((listI ![p, 0, 0] h).view.read (Elt F) (fetched I b) x).toNat < S81920x128.size gathers_S81920x128_S128x128.axis := by
  rw [read_list]; exact hI _

/-- One half of the gather leaves that half of `rowsOf b` in the slot. -/
theorem write_gather (hI : ∀ j, (I j).toNat < 81920) {p b c : ℕ} (h) (h') (hc) (hc') (hn : S128.numel = S128x128.size gathers_S81920x128_S128x128.axis')
    (hin : ∀ x, ((listI ![p, 0, 0] h').view.read (Elt F) (fetched I b) x).toNat < S81920x128.size gathers_S81920x128_S128x128.axis)
    (fd : S2x128x256.Idx → Elt F .i32) (i : S2x128x256.Idx) (hi : i ∈ (halfO ![p, 0, 0] h ![0, c] hc).view.set) :
    (halfO ![p, 0, 0] h ![0, c] hc).view.write (Elt F) fd
        (SparseCore.gatherPayload gathers_S81920x128_S128x128 ((halfT ![0, c] hc').view.read (Elt F) T)
          (SparseCore.rows ((listI ![p, 0, 0] h').view.read (Elt F) (fetched I b)) hn hin)) Finset.univ i
      = rowsOf T I b i := by
  obtain ⟨x, -, rfl⟩ := Finset.mem_map.mp hi
  rw [View.write_emb_of_mem _ _ (Finset.mem_univ x)]
  refine (cast_eq _ _).trans ?_
  unfold SparseCore.gatherPayload
  refine ((View.read_apply _ _).trans (cast_eq _ _)).trans ?_
  unfold rowsOf
  rw [(emb_halfO h hc x).2.1, (emb_halfO h hc x).2.2]
  refine congrArg T (tableIx_eq ?_ ?_)
  · rw [(emb_halfT hc' _).1]
    rw [show (0 : Fin S81920x128.rank) = gathers_S81920x128_S128x128.axis from rfl, Shape.Gathers.idx_axis]
    show ((listI ![p, 0, 0] h').view.read (Elt F) (fetched I b) (S128.rowMajor.symm _)).toNat = _
    rw [read_list]
    have e : ((S128.rowMajor.symm ((x gathers_S81920x128_S128x128.axis').cast hn.symm)) 0).val = (x 0).val := by
      rw [← Shape.rowMajor_val_one, Equiv.apply_symm_apply]; rfl
    rw [e]; rfl
  · rw [(emb_halfT hc' _).2, Shape.Gathers.idx_of_ne _ _ _ 1 (by decide)]; rfl

/-- A write-out of a slot leaves block `b` of the result. -/
theorem write_out {p b : ℕ} (h : ∀ a, ![p, 0, 0] a + S1x128x256.size a ≤ S2x128x256.size a)
    (hb : ∀ a, ![128 * b, 0] a + S128x256.size a ≤ S65536x256.size a) (fd : S65536x256.Idx → Elt F .i32) (i : S65536x256.Idx) (hi : i ∈ (blkO ![128 * b, 0] hb).view.set) :
    (blkO ![128 * b, 0] hb).view.write (Elt F) fd ((ReadAs.same : ReadAs (Elt F) S128x256 .i32 S128x256 .i32).apply ((slotO ![p, 0, 0] h).view.read (Elt F) (rowsOf T I b))) Finset.univ i
      = gathered T I i := by
  obtain ⟨x, -, rfl⟩ := Finset.mem_map.mp hi
  rw [View.write_emb_of_mem _ _ (Finset.mem_univ x)]
  refine (cast_eq _ _).trans ?_
  refine ((View.read_apply _ _).trans (cast_eq _ _)).trans ?_
  unfold rowsOf gathered
  rw [(emb_slotO h x).2.1, (emb_slotO h x).2.2, (emb_blkO hb x).1, (emb_blkO hb x).2]

/-- The two halves cover a slot. -/
theorem mem_half_or {p : ℕ} (h) (hc) (hc') (i : S2x128x256.Idx) (hi : (i 0).val = p) :
    i ∈ (halfO ![p, 0, 0] h ![0, 0] hc).view.set ∨ i ∈ (halfO ![p, 0, 0] h ![0, 128] hc').view.set := by
  have h1 : (i 1).val < 128 := (i 1).isLt; have h2 : (i 2).val < 256 := (i 2).isLt
  rcases lt_or_ge (i 2).val 128 with hlt | hge
  · left
    let x : S128x128.Idx := fun | 0 => ⟨(i 1).val, h1⟩ | 1 => ⟨(i 2).val, hlt⟩
    have e := emb_halfO h hc x
    have : (halfO ![p, 0, 0] h ![0, 0] hc).view.emb x = i := by
      funext a
      match a with
      | 0 => exact Fin.ext (e.1.trans hi.symm)
      | 1 => exact Fin.ext e.2.1
      | 2 => exact Fin.ext (e.2.2.trans (Nat.zero_add _))
    exact this ▸ View.emb_mem_set _ x
  · right
    let x : S128x128.Idx := fun | 0 => ⟨(i 1).val, h1⟩ | 1 => ⟨(i 2).val - 128, by show (i 2).val - 128 < 128; omega⟩
    have e := emb_halfO h hc' x
    have : (halfO ![p, 0, 0] h ![0, 128] hc').view.emb x = i := by
      funext a
      match a with
      | 0 => exact Fin.ext (e.1.trans hi.symm)
      | 1 => exact Fin.ext e.2.1
      | 2 => exact Fin.ext (e.2.2.trans (by show 128 + ((i 2).val - 128) = (i 2).val; omega))
    exact this ▸ View.emb_mem_set _ x

/-- An element of the left half is not one of the right half. -/
theorem not_mem_right {p : ℕ} (h) (hc) (hc') (i : S2x128x256.Idx) (hi : i ∈ (halfO ![p, 0, 0] h ![0, 0] hc).view.set) :
    i ∉ (halfO ![p, 0, 0] h ![0, 128] hc').view.set := by
  obtain ⟨x, -, rfl⟩ := Finset.mem_map.mp hi
  intro hi'
  obtain ⟨y, -, e⟩ := Finset.mem_map.mp hi'
  have e1 := (emb_halfO h hc x).2.2
  have e2 := (emb_halfO h hc' y).2.2
  have : ((halfO ![p, 0, 0] h ![0, 128] hc').view.emb y) 2 = ((halfO ![p, 0, 0] h ![0, 0] hc).view.emb x) 2 := congrFun e 2
  have hx : (x 1).val < 128 := (x 1).isLt
  rw [this, e1] at e2
  omega

/-- After both halves the slot holds `rowsOf b`. -/
theorem write_both (hI : ∀ j, (I j).toNat < 81920) {p b : ℕ} (h) (h') (hc) (hc') (hd) (hd') (hn hn') (hin hin')
    (fd : S2x128x256.Idx → Elt F .i32) (i : S2x128x256.Idx) (hi : i ∈ (slotO ![p, 0, 0] h).view.set) :
    (halfO ![p, 0, 0] h ![0, 128] hd).view.write (Elt F)
        ((halfO ![p, 0, 0] h ![0, 0] hc).view.write (Elt F) fd
          (SparseCore.gatherPayload gathers_S81920x128_S128x128 ((halfT ![0, 0] hc').view.read (Elt F) T)
            (SparseCore.rows ((listI ![p, 0, 0] h').view.read (Elt F) (fetched I b)) hn hin)) Finset.univ)
        (SparseCore.gatherPayload gathers_S81920x128_S128x128 ((halfT ![0, 128] hd').view.read (Elt F) T)
          (SparseCore.rows ((listI ![p, 0, 0] h').view.read (Elt F) (fetched I b)) hn' hin')) Finset.univ i
      = rowsOf T I b i := by
  rcases mem_half_or h hc hd i ((mem_slotO h i).mp hi) with hl | hr
  · rw [View.write_of_not_mem _ _ _ (by rw [View.setOn_univ]; exact not_mem_right h hc hd i hl)]
    exact write_gather T I hI h h' hc hc' hn hin fd i hl
  · exact write_gather T I hI h h' hd hd' hn' hin' _ i hr

end Cert.Proof.Gather

end
-- ==== Proof.Base.lean ====
/-
  What a tile of the gather kernel holds: the locations, the windows' element sets, the semaphore cells, and the
  states a slot can be in — free, with a fetch under way, fetched, with a write-out under way.
-/
module

public import proofs.«01_k».proof.Defs
public import proofs.«01_k».proof.Proof.Views
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic

@[expose] public section

set_option Elab.async false

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The locations -/

/-- The table of rows in HBM. -/
abbrev tLoc (d : Dev nD) : Loc nD τ sig := (SparseCore.T d).loc main_arg0
/-- The positions as given. -/
abbrev aLoc (d : Dev nD) : Loc nD τ sig := (SparseCore.T d).loc main_arg1
/-- The positions as one list. -/
abbrev iLoc (d : Dev nD) : Loc nD τ sig := (SparseCore.T d).loc main_v0
/-- The result. -/
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0

/-- The tile at `L` of device `d`. -/
abbrev thr (d : Dev nD) (L : grid0.Coords) : Thread nD τ := V d (cV L) (jV L)
/-- Its two slots of row numbers. -/
abbrev siLoc (d : Dev nD) (L : grid0.Coords) : Loc nD τ sig := (thr d L).loc cc0_scoped0
/-- Its two slots of gathered rows. -/
abbrev soLoc (d : Dev nD) (L : grid0.Coords) : Loc nD τ sig := (thr d L).loc cc0_scoped2

/-! ## The element sets -/

def setI (p : ℕ) : Finset S2x1x128.Idx := Finset.univ.filter fun i => (i 0).val = p
def setO (p : ℕ) : Finset S2x128x256.Idx := Finset.univ.filter fun i => (i 0).val = p
def setB (b : ℕ) : Finset S65536x256.Idx := Finset.univ.filter fun i => 128 * b ≤ (i 0).val ∧ (i 0).val < 128 * b + 128

theorem set_slotI {p : ℕ} (h : ∀ a, ![p, 0, 0] a + S1x1x128.size a ≤ S2x1x128.size a) : (slotI ![p, 0, 0] h).view.set = setI p := by
  ext i; exact (mem_slotI h i).trans (by simp [setI])
theorem set_slotO {p : ℕ} (h : ∀ a, ![p, 0, 0] a + S1x128x256.size a ≤ S2x128x256.size a) : (slotO ![p, 0, 0] h).view.set = setO p := by
  ext i; exact (mem_slotO h i).trans (by simp [setO])
theorem set_blkO {b : ℕ} (h : ∀ a, ![128 * b, 0] a + S128x256.size a ≤ S65536x256.size a) : (blkO ![128 * b, 0] h).view.set = setB b := by
  ext i; exact (mem_blkO h i).trans (by simp [setB])

/-! ## The semaphore cells and the credits -/

/-- The semaphore of fetches into slot `p`. -/
def cellI (p : ℕ) : DmaSem sig := if p = 0 then semI ![0] (by decide) else semI ![1] (by decide)
/-- The semaphore of write-outs of slot `p`. -/
def cellO (p : ℕ) : DmaSem sig := if p = 0 then semO ![0] (by decide) else semO ![1] (by decide)

theorem semI_eq {p : ℕ} (hp : p < 2) (h : ∀ a, ![p] a + S1.size a ≤ S2.size a) : semI ![p] h = cellI p := by
  rcases (by omega : p = 0 ∨ p = 1) with rfl | rfl <;> rfl
theorem semO_eq {p : ℕ} (hp : p < 2) (h : ∀ a, ![p] a + S1.size a ≤ S2.size a) : semO ![p] h = cellO p := by
  rcases (by omega : p = 0 ∨ p = 1) with rfl | rfl <;> rfl

/-- What a fetch credits its semaphore. -/
abbrev amtI : ℕ := (slotI ![0, 0, 0] (by decide)).view.dmaCredit
/-- What a write-out credits its semaphore. -/
abbrev amtO : ℕ := (blkO ![0, 0] (by decide)).view.dmaCredit

/-! ## The states of a slot -/

section States

variable (d : Dev nD) (L : grid0.Coords) (T : S81920x256.Idx → Elt F .i32) (I : S1x65536.Idx → Elt F .i32)

/-- A slot of row numbers with nothing under way, beside a share of the list. -/
def idxFree (p : ℕ) (q : PosShare TreeShare) : sProp 𝕄 :=
  iprop((∃ f, siLoc d L ↦[setI p]{fullShare} f) ∗ semVal (thr d L, .dma (cellI p)) 0 ∗ iLoc d ↦{q} I)

/-- Block `b` of the list on its way into slot `p`: it will arrive with the share of the list it reads. -/
def idxFly (p b : ℕ) (q : PosShare TreeShare) : sProp 𝕄 :=
  iprop(Transfers.Flight countersEmb (thr d L) (.dma (cellI p)) (default : HIx 1) amtI
    iprop((siLoc d L ↦[setI p]{fullShare} fetched I b) ∗ iLoc d ↦{q} I))

/-- Block `b` of the list arrived in slot `p`. -/
def idxGot (p b : ℕ) (q : PosShare TreeShare) : sProp 𝕄 :=
  iprop((siLoc d L ↦[setI p]{fullShare} fetched I b) ∗ semVal (thr d L, .dma (cellI p)) 0 ∗ iLoc d ↦{q} I)

/-- A slot of gathered rows with nothing under way. -/
def outFree (p : ℕ) : sProp 𝕄 :=
  iprop((∃ f, soLoc d L ↦[setO p]{fullShare} f) ∗ semVal (thr d L, .dma (cellO p)) 0)

/-- Slot `p` on its way to block `b` of the result. -/
def outFly (p b : ℕ) : sProp 𝕄 :=
  iprop(Transfers.Flight countersEmb (thr d L) (.dma (cellO p)) (default : HIx 1) amtO
    iprop((oLoc d ↦[setB b]{fullShare} gathered T I) ∗ ∃ f, soLoc d L ↦[setO p]{fullShare} f))

/-- What the tile owes, with waits on transfers of its own recorded. -/
def owing (O : CellTallies nD τ sig (HIx 1)) (W : Waits sig (HIx 1)) : sProp 𝕄 :=
  iprop(∃ W', ⌜∀ p ∈ W', p ∈ W ∨ p.2 = none⌝ ∗ owes (thr d L) O W')

theorem idxGot_free (p b : ℕ) (q : PosShare TreeShare) : idxGot d L I p b q ⊢ (idxFree d L I p q : sProp 𝕄) := by
  unfold idxGot idxFree
  iintro ⟨Hs, Hv, Hi⟩
  isplitl [Hs]; · iexists _; iexact Hs
  isplitl [Hv] <;> iassumption

theorem owing_intro (O : CellTallies nD τ sig (HIx 1)) (W : Waits sig (HIx 1)) : owes (thr d L) O W ⊢ (owing d L O W : sProp 𝕄) := by
  unfold owing
  iintro H
  iexists W
  isplitr
  · ipureintro; exact fun p hp => .inl hp
  · iexact H

end States

end Cert.Proof.Gather

end
-- ==== Proof.Steps.lean ====
/-
  The transfers of one trip, each with its wait: the fetch of a block of row numbers, the two halves of the gather, and
  the write-out of a block of rows. Every rule takes the window offsets as computed words, with what they come to.
-/
module

public import proofs.«01_k».proof.Proof.Base

@[expose] public section

set_option Elab.async false

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (T : S81920x256.Idx → Elt F .i32) (I : S1x65536.Idx → Elt F .i32)

local notation "WP" => wp frame (wpE (defs₀ (F := F)) 𝒱₀ (thr d L) none) Set.univ

/-- A fetch of block `b` into the free slot `p`. -/
theorem wp_fetch {p b : ℕ} (hp : p < 2) (q : PosShare TreeShare) {o4 o6 o5} (h4 : o4 = ![p, 0, 0]) (h5 : o5 = ![0, 128 * b]) (h6 : o6 = ![p])
    (i4) (i5) (i6) {w1 w2 w3} {Q : PUnit → sProp 𝕄} :
    iprop(idxFree d L I p q ∗ (idxFly d L I p b q -∗ Q ⟨⟩))
      ⊢ WP (Prog.lift (.enqueueDma (blkI o5 i5) (.here (slotI o4 i4)) (.dma (semI o6 i6)) w1 w2 w3)) Q := by
  subst h4 h5 h6
  unfold Prog.lift idxFree idxFly
  rw [← semI_eq hp i6]
  iintro ⟨⟨⟨%f, Hs⟩, Hv, Hi⟩, HQ⟩
  ihave Hi2 := (pointsTo_split_subset (ℓ := iLoc d) (q := q) (f := I) (S := Finset.univ) (Finset.subset_univ (blkI ![0, 128 * b] i5).view.set)).1 $$ Hi
  icases Hi2 with ⟨Hi, Hr⟩
  ihave Hs' := (Entails.of_eq (show (siLoc d L ↦[setI p]{fullShare} f : sProp 𝕄) = siLoc d L ↦[(slotI ![p, 0, 0] i4).view.set]{fullShare} f by rw [set_slotI])) $$ Hs
  iapply (Transfers.wp_dmaLocal countersEmb 𝒱₀ (thr d L) none (default : HIx 1) amtI (rfl : (slotI ![p, 0, 0] i4).view.amount (.dma (semI ![p] i6)) = amtI)
    (View.dmaCredit_pos _ (by decide)) (Finset.Subset.refl _) (src := blkI ![0, 128 * b] i5) (dst := slotI ![p, 0, 0] i4) (fs := I) (q := q)) $$ [Hi Hs' Hv]
  · isplitl [Hi]; · iexact Hi
    isplitl [Hs']; · iexact Hs'
    iexact Hv
  iintro Hfl
  rw [wp_ret]
  imodintro
  iapply HQ
  ihave Hfl' := (Transfers.Flight_frame countersEmb (thr d L)) $$ [Hfl Hr]
  · isplitl [Hr]; · iexact Hr
    iexact Hfl
  iapply (Transfers.Flight_mono countersEmb (thr d L) ?_) $$ Hfl'
  iintro ⟨Hr, Hs, Hi⟩
  isplitl [Hs]
  · iapply (Entails.of_eq (show (siLoc d L ↦[(slotI ![p, 0, 0] i4).view.set]{fullShare} _ : sProp 𝕄) = siLoc d L ↦[setI p]{fullShare} fetched I b by
      rw [← set_slotI i4]
      exact pointsTo_congr fun i hi => write_fetch I i4 i5 f i hi)) $$ Hs
  · iapply (pointsTo_split_subset (ℓ := iLoc d) (q := q) (f := I) (S := Finset.univ) (Finset.subset_univ (blkI ![0, 128 * b] i5).view.set)).2
    isplitl [Hi]; · iexact Hi
    iexact Hr

/-- The wait for it. -/
theorem wp_fetched {p b : ℕ} (hp : p < 2) (q : PosShare TreeShare) {O : CellTallies nD τ sig (HIx 1)} {W : Waits sig (HIx 1)} {o7 o8 o9}
    (h9 : o9 = ![p]) (i7) (i8) (i9) {w1 w2} {Q : PUnit → sProp 𝕄} :
    iprop(Transfers.MayWaits (thr d L) (default : HIx 1) O ∗ idxFly d L I p b q ∗ owing d L O W ∗ (iprop(idxGot d L I p b q ∗ owing d L O W) -∗ Q ⟨⟩))
      ⊢ WP (Prog.lift (.waitDma2 (semI o9 i9) (blkI o8 i8) (slotI o7 i7) w1 w2)) Q := by
  subst h9
  unfold Prog.lift idxFly owing
  rw [semI_eq hp]
  iintro ⟨Hmw, Hfl, ⟨%W', %hW', HO⟩, HQ⟩
  iapply (Transfers.wp_waitLocalO countersEmb 𝒱₀ (thr d L) none (default : HIx 1) (rfl : (slotI o7 i7).view.dmaCredit = amtI)) $$ [Hfl HO Hmw]
  · isplitl [Hfl]; · iexact Hfl
    isplitl [HO]; · iexact HO
    iapply (Transfers.MayWaits.elim (SemLoc.dma (cellI p))) $$ Hmw
  iintro ⟨⟨Hs, Hi⟩, Hv, HO⟩
  rw [wp_ret]
  imodintro
  iapply HQ
  isplitl [Hs Hi Hv]
  · unfold idxGot
    isplitl [Hs]; · iexact Hs
    isplitl [Hv]; · iexact Hv
    iexact Hi
  iexists _
  isplitr
  swap
  · iexact HO
  ipureintro
  intro x hx
  rcases Finset.mem_insert.mp hx with hx | hx
  · exact .inr (hx ▸ rfl)
  · exact hW' x hx

/-- A write-out of the rows of block `b`, gathered in slot `p`. -/
theorem wp_out {p b : ℕ} (hp : p < 2) {fo : S65536x256.Idx → Elt F .i32} {o12 o13 o14} (h12 : o12 = ![p, 0, 0]) (h13 : o13 = ![128 * b, 0]) (h14 : o14 = ![p])
    (i12) (i13) (i14) {w1 w2 w3} {Q : PUnit → sProp 𝕄} :
    iprop((soLoc d L ↦[setO p]{fullShare} rowsOf T I b) ∗ semVal (thr d L, .dma (cellO p)) 0 ∗ (oLoc d ↦[setB b]{fullShare} fo) ∗ (outFly d L T I p b -∗ Q ⟨⟩))
      ⊢ WP (Prog.lift (.enqueueDma (slotO o12 i12) (.here (blkO o13 i13)) (.dma (semO o14 i14)) w1 w2 w3)) Q := by
  subst h12 h13 h14
  unfold Prog.lift outFly
  rw [← semO_eq hp i14]
  iintro ⟨Hs, Hv, Ho, HQ⟩
  ihave Hs' := (Entails.of_eq (show (soLoc d L ↦[setO p]{fullShare} rowsOf T I b : sProp 𝕄) = soLoc d L ↦[(slotO ![p, 0, 0] i12).view.set]{fullShare} rowsOf T I b by rw [set_slotO])) $$ Hs
  ihave Ho' := (Entails.of_eq (show (oLoc d ↦[setB b]{fullShare} fo : sProp 𝕄) = oLoc d ↦[(blkO ![128 * b, 0] i13).view.set]{fullShare} fo by rw [set_blkO])) $$ Ho
  iapply (Transfers.wp_dmaLocal countersEmb 𝒱₀ (thr d L) none (default : HIx 1) amtO (rfl : (blkO ![128 * b, 0] i13).view.amount (.dma (semO ![p] i14)) = amtO)
    (View.dmaCredit_pos _ (by decide)) (Finset.Subset.refl _) (src := slotO ![p, 0, 0] i12) (dst := blkO ![128 * b, 0] i13) (fs := rowsOf T I b)) $$ [Hs' Ho' Hv]
  · isplitl [Hs']; · iexact Hs'
    isplitl [Ho']; · iexact Ho'
    iexact Hv
  iintro Hfl
  rw [wp_ret]
  imodintro
  iapply HQ
  iapply (Transfers.Flight_mono countersEmb (thr d L) ?_) $$ Hfl
  iintro ⟨Ho, Hs⟩
  isplitl [Ho]
  · iapply (Entails.of_eq (show (oLoc d ↦[(blkO ![128 * b, 0] i13).view.set]{fullShare} _ : sProp 𝕄) = oLoc d ↦[setB b]{fullShare} gathered T I by
      rw [← set_blkO i13]
      exact pointsTo_congr fun i hi => write_out T I i12 i13 fo i hi)) $$ Ho
  · iexists rowsOf T I b
    iapply (Entails.of_eq (show (soLoc d L ↦[(slotO ![p, 0, 0] i12).view.set]{fullShare} rowsOf T I b : sProp 𝕄) = soLoc d L ↦[setO p]{fullShare} rowsOf T I b by rw [set_slotO])) $$ Hs

/-- The wait for it: block `b` of the result holds its rows, and the slot is free. -/
theorem wp_outDone {p b : ℕ} (hp : p < 2) {O : CellTallies nD τ sig (HIx 1)} {W : Waits sig (HIx 1)} {o15 o16 o17}
    (h17 : o17 = ![p]) (i15) (i16) (i17) {w1 w2} {Q : PUnit → sProp 𝕄} :
    iprop(Transfers.MayWaits (thr d L) (default : HIx 1) O ∗ outFly d L T I p b ∗ owing d L O W
        ∗ (iprop((oLoc d ↦[setB b]{fullShare} gathered T I) ∗ outFree d L p ∗ owing d L O W) -∗ Q ⟨⟩))
      ⊢ WP (Prog.lift (.waitDma2 (semO o17 i17) (slotO o15 i15) (blkO o16 i16) w1 w2)) Q := by
  subst h17
  unfold Prog.lift outFly owing
  rw [semO_eq hp]
  iintro ⟨Hmw, Hfl, ⟨%W', %hW', HO⟩, HQ⟩
  iapply (Transfers.wp_waitLocalO countersEmb 𝒱₀ (thr d L) none (default : HIx 1) (rfl : (blkO o16 i16).view.dmaCredit = amtO)) $$ [Hfl HO Hmw]
  · isplitl [Hfl]; · iexact Hfl
    isplitl [HO]; · iexact HO
    iapply (Transfers.MayWaits.elim (SemLoc.dma (cellO p))) $$ Hmw
  iintro ⟨⟨Ho, Hs⟩, Hv, HO⟩
  rw [wp_ret]
  imodintro
  iapply HQ
  isplitl [Ho]; · iexact Ho
  isplitl [Hs Hv]
  · unfold outFree
    isplitl [Hs]; · iexact Hs
    iexact Hv
  iexists _
  isplitr
  swap
  · iexact HO
  ipureintro
  intro x hx
  rcases Finset.mem_insert.mp hx with hx | hx
  · exact .inr (hx ▸ rfl)
  · exact hW' x hx

/-! ## The gather -/

/-- What one half of the gather writes. -/
abbrev halfPay (hI : ∀ j, (I j).toNat < 81920) (p b : ℕ) (c : Fin 2 → ℕ) (h : ∀ a, ![p, 0, 0] a + S1x1x128.size a ≤ S2x1x128.size a)
    (hc : ∀ a, c a + S81920x128.size a ≤ S81920x256.size a) : S128x128.Idx → Elt F .i32 :=
  SparseCore.gatherPayload gathers_S81920x128_S128x128 ((halfT c hc).view.read (Elt F) T)
    (SparseCore.rows (si := S128) (o := S128x128.size gathers_S81920x128_S128x128.axis') ((listI ![p, 0, 0] h).view.read (Elt F) (fetched I b)) rfl (list_in I hI h))

theorem half_credit (p : ℕ) (h : ∀ a, ![p, 0, 0] a + S1x128x256.size a ≤ S2x128x256.size a) (c : Fin 2 → ℕ) (hc : ∀ a, c a + S128x128.size a ≤ S128x256.size a)
    (hg : S81920x128.Gathers 0 S128x128) :
    ∑ j, ((halfO ![p, 0, 0] h c hc).slice (S128x128.rowRect hg.axis' j) (S128x128.stride_rowRect hg.axis' j)).view.dmaCredit = (halfO ![p, 0, 0] h c hc).view.dmaCredit := by
  have e : ∑ j, ((halfO ![0, 0, 0] (by decide) ![0, 0] (by decide)).slice (S128x128.rowRect hg.axis' j) (S128x128.stride_rowRect hg.axis' j)).view.dmaCredit
      = (halfO ![0, 0, 0] (by decide) ![0, 0] (by decide)).view.dmaCredit := by
    revert hg; decide +kernel
  exact e

set_option maxHeartbeats 4000000 in
/-- One half of the gather and its wait: the slot of rows written with that half of the rows the fetched slot names, all
    else kept. -/
theorem wp_half (hI : ∀ j, (I j).toNat < 81920) {p b : ℕ} {qt : PosShare TreeShare} {sem : DmaSem sig} {fd : S2x128x256.Idx → Elt F .i32}
    {O : CellTallies nD τ sig (HIx 1)} {W : Waits sig (HIx 1)} {o10 o11 o10'} {c : Fin 2 → ℕ}
    (h10 : o10 = ![p, 0, 0]) (h11 : o11 = ![p, 0, 0]) (h10' : o10' = ![p, 0, 0]) (i10) (i11) (i10') (hc) (hc') (j11) {w1 w2 w3 w4 w5 w6 w7} {Q : PUnit → sProp 𝕄} :
    iprop(Transfers.MayWaits (thr d L) (default : HIx 1) O ∗ (tLoc d ↦{qt} T) ∗ (soLoc d L ↦[setO p]{fullShare} fd) ∗ (siLoc d L ↦[setI p]{fullShare} fetched I b)
        ∗ semVal (thr d L, .dma sem) 0 ∗ owing d L O W
        ∗ (iprop((tLoc d ↦{qt} T) ∗ (∃ h, soLoc d L ↦[setO p]{fullShare} ((halfO ![p, 0, 0] h c hc).view.write (Elt F) fd (halfPay T I hI p b c j11 hc') Finset.univ))
              ∗ (siLoc d L ↦[setI p]{fullShare} fetched I b) ∗ semVal (thr d L, .dma sem) 0 ∗ owing d L O W) -∗ Q ⟨⟩))
      ⊢ WP (SparseCore.enqueueIndirectGather w1 (halfT c hc') (halfO o10 i10 c hc) gathers_S81920x128_S128x128 (listI o11 i11) rfl sem w2 w3 w4 w5)
          (fun _ => WP (SparseCore.waitIndirectGather sem (halfT c hc') (halfO o10' i10' c hc) w6 w7) Q) := by
  subst h10 h11 h10'
  rw [← wp_bind]
  unfold owing
  iintro ⟨Hmw, Ht, Hs, Hl, Hv, ⟨%W', %hW', HO⟩, HQ⟩
  have eO : setO p = (slotO ![p, 0, 0] i10).view.set := (set_slotO i10).symm
  have eI : setI p = (slotI ![p, 0, 0] i11).view.set := (set_slotI i11).symm
  have sO : (halfO ![p, 0, 0] i10 c hc).view.set ⊆ setO p := eO ▸ View.set_slice_subset _ _
  have sI : (listI ![p, 0, 0] i11).view.set ⊆ setI p := by
    rw [eI]
    refine (Finset.Subset.trans (Finset.Subset.antisymm_iff.mp (View.set_reshape _ _)).1 ?_)
    exact View.set_slice_subset _ _
  ihave Ht2 := (pointsTo_split_subset (ℓ := tLoc d) (q := qt) (f := T) (S := Finset.univ) (Finset.subset_univ (halfT c hc').view.set)).1 $$ Ht
  icases Ht2 with ⟨Ht, Htr⟩
  ihave Hs2 := (pointsTo_split_subset (ℓ := soLoc d L) (q := fullShare) (f := fd) sO).1 $$ Hs
  icases Hs2 with ⟨Hs, Hsr⟩
  ihave Hl2 := (pointsTo_split_subset (ℓ := siLoc d L) (q := fullShare) (f := fetched I b) sI).1 $$ Hl
  icases Hl2 with ⟨Hl, Hlr⟩
  iapply (SparseCore.wp_indirectGatherLocal countersEmb 𝒱₀ (thr d L) none (hg := gathers_S81920x128_S128x128) (default : HIx 1)
    (halfO ![p, 0, 0] i10 c hc).view.dmaCredit (half_credit p i10 c hc _) (by decide) (list_in I hI i11)
    (src := halfT c hc') (dst := halfO ![p, 0, 0] i10 c hc) (offs := listI ![p, 0, 0] i11) (q := qt) (qo := fullShare) (fs := T) (fd := fd) (fo := fetched I b)) $$ [Ht Hs Hl Hv]
  · isplitl [Ht]; · iexact Ht
    isplitl [Hs]; · iexact Hs
    isplitl [Hl]; · iexact Hl
    iexact Hv
  iintro Hfl
  unfold SparseCore.waitIndirectGather
  iapply (Transfers.wp_waitLocalO countersEmb 𝒱₀ (thr d L) none (default : HIx 1) (rfl : (halfO ![p, 0, 0] i10' c hc).view.dmaCredit = _)) $$ [Hfl HO Hmw]
  · isplitl [Hfl]; · iexact Hfl
    isplitl [HO]; · iexact HO
    iapply (Transfers.MayWaits.elim (SemLoc.dma sem)) $$ Hmw
  iintro ⟨⟨Hs, Ht, Hl⟩, Hv, HO⟩
  rw [wp_ret]
  imodintro
  iapply HQ
  isplitl [Ht Htr]
  · iapply (pointsTo_split_subset (ℓ := tLoc d) (q := qt) (f := T) (S := Finset.univ) (Finset.subset_univ (halfT c hc').view.set)).2
    isplitl [Ht]; · iexact Ht
    iexact Htr
  isplitl [Hs Hsr]
  · iexists i10
    iapply (pointsTo_split_subset (ℓ := soLoc d L) (q := fullShare) sO).2
    isplitl [Hs]; · iexact Hs
    iapply (Entails.of_eq (SparseCore.pointsTo_rest_write (c := thr d L) (v := (halfO ![p, 0, 0] i10 c hc).view) (S := setO p) fd _)) $$ Hsr
  isplitl [Hl Hlr]
  · iapply (pointsTo_split_subset (ℓ := siLoc d L) (q := fullShare) (f := fetched I b) sI).2
    isplitl [Hl]; · iexact Hl
    iexact Hlr
  isplitl [Hv]; · iexact Hv
  iexists _
  isplitr
  swap
  · iexact HO
  ipureintro
  intro x hx
  rcases Finset.mem_insert.mp hx with hx | hx
  · exact .inr (hx ▸ rfl)
  · exact hW' x hx

end Cert.Proof.Gather

end
-- ==== Proof.Trip.lean ====
/-
  One trip of the pipeline's loop: fetch the next block of row numbers, wait for this one, gather its rows, send them
  out, and wait for the write-out before. The loop's invariant says which slot is in which state and which blocks of
  the result hold their rows.
-/
module

public import proofs.«01_k».proof.Proof.Steps

@[expose] public section

set_option Elab.async false

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (T : S81920x256.Idx → Elt F .i32) (I : S1x65536.Idx → Elt F .i32)

local notation "WP" => wp frame (wpE (defs₀ (F := F)) 𝒱₀ (thr d L) none) Set.univ

/-- One trip of the pipeline's loop. -/
abbrev body (L : grid0.Coords) (k : Fin k0_t1_loop.trips) (acc : BitVec 32 × BitVec 32 × BitVec 32 × BitVec 32 × BitVec 32) :=
  k0_t1_body (F := F) L (Memref.whole main_arg0_scv) (Memref.isWhole_whole _) (Memref.whole main_v0_scv) (Memref.isWhole_whole _)
    (Memref.whole main_v1_scv) (Memref.isWhole_whole _) (Memref.whole cc0_scoped0) (Memref.isWhole_whole _) cc0_scoped1 (Memref.whole cc0_scoped2)
    (Memref.isWhole_whole _) cc0_scoped3 cc0_scoped4 cc0_scoped5 (firstW L) k acc

/-! ## Rules for what is not a transfer -/

theorem wp_assume_lift {P : Prop} {dec : Decidable P} (h : P) {Q : PLift P → sProp 𝕄} :
    Q ⟨h⟩ ⊢ WP (Prog.lift (.assume P dec)) Q := by
  unfold Prog.lift
  rw [wp_assume_of 𝒱₀ (thr d L) none Set.univ h, wp_ret]
  exact fupd_intro

/-- A guarded step that takes `P` to `P'` when it runs, and is skipped only where `P` is `P'`. -/
theorem wp_guard {c : Prop} [Decidable c] {α : Type} {A : c → Prog (TpuEff nD τ sig (Elt F) Λ₀ (thr d L).2) PUnit} {v : α} {P P' : sProp 𝕄} {Q : α → sProp 𝕄}
    (hA : ∀ (h : c) (R : PUnit → sProp 𝕄), iprop(P ∗ (P' -∗ R ⟨⟩)) ⊢ WP (A h) R) (hB : ¬c → P ⊢ P') :
    iprop(P ∗ (P' -∗ Q v)) ⊢ WP (if h : c then (do A h; pure v) else pure v) Q := by
  by_cases h : c
  · rw [dif_pos h]
    simp only [wp_bind, wp_pure]
    refine .trans ?_ (hA h _)
    iintro ⟨HP, HQ⟩
    isplitl [HP]; · iexact HP
    iintro HP
    imodintro
    iapply HQ
    iexact HP
  · rw [dif_neg h, wp_pure]
    iintro ⟨HP, HQ⟩
    imodintro
    iapply HQ
    iapply (hB h) $$ HP

/-! ## The invariant -/

/-- Before trip `k` block `k` is on its way into its slot, and the other slot of row numbers is free. -/
def idxAt (qi : ℕ → PosShare TreeShare) (k : ℕ) : sProp 𝕄 :=
  iprop((if k < 16 then idxFly d L I (k % 2) (blk L k) (qi (k % 2)) else idxFree d L I (k % 2) (qi (k % 2)))
    ∗ idxFree d L I ((k + 1) % 2) (qi ((k + 1) % 2)))

/-- Before trip `k` the slot of rows for block `k` is free, and the other is on its way out with block `k - 1`, if there is one. -/
def outAt (k : ℕ) : sProp 𝕄 :=
  iprop(outFree d L (k % 2) ∗ if 0 < k then outFly d L T I ((k + 1) % 2) (blk L (k - 1)) else outFree d L ((k + 1) % 2))

/-- The blocks of the result not sent yet. -/
def todo (fo : S65536x256.Idx → Elt F .i32) (k : ℕ) : sProp 𝕄 :=
  bigSep (Finset.univ.filter fun j : Fin 16 => k ≤ j.val) fun j => oLoc d ↦[setB (blk L j.val)]{fullShare} fo

/-- The blocks of the result that hold their rows. -/
def done (k : ℕ) : sProp 𝕄 :=
  bigSep (Finset.univ.filter fun j : Fin 16 => j.val + 1 < k) fun j => oLoc d ↦[setB (blk L j.val)]{fullShare} gathered T I

/-- The semaphores of the two halves of the gather at zero. -/
def halves : sProp 𝕄 :=
  iprop(semVal (thr d L, .dma cc0_scoped4.sem) 0 ∗ semVal (thr d L, .dma cc0_scoped5.sem) 0)

def inv (fo : S65536x256.Idx → Elt F .i32) (qt : PosShare TreeShare) (qi : ℕ → PosShare TreeShare) (O : CellTallies nD τ sig (HIx 1)) (W : Waits sig (HIx 1))
    (k : ℕ) (acc : BitVec 32 × BitVec 32 × BitVec 32 × BitVec 32 × BitVec 32) : sProp 𝕄 :=
  iprop(⌜acc = carry k⌝ ∗ Transfers.MayWaits (thr d L) (default : HIx 1) O ∗ (tLoc d ↦{qt} T) ∗ idxAt d L I qi k ∗ outAt d L T I k
    ∗ todo d L fo k ∗ done d L T I k ∗ halves d L ∗ owing d L O W)

theorem todo_take {fo : S65536x256.Idx → Elt F .i32} {k : ℕ} (hk : k < 16) :
    todo d L fo k = iprop((oLoc d ↦[setB (blk L k)]{fullShare} fo) ∗ todo d L fo (k + 1) : sProp 𝕄) := by
  have e : (Finset.univ.filter fun j : Fin 16 => k ≤ j.val) = insert ⟨k, hk⟩ (Finset.univ.filter fun j : Fin 16 => k + 1 ≤ j.val) := by
    ext j
    simp only [Finset.mem_filter, Finset.mem_univ, true_and, Finset.mem_insert, Fin.ext_iff]
    omega
  unfold todo
  rw [e, SparseCore.bigSep_insert' (by simp)]

theorem done_put {k : ℕ} (h0 : 0 < k) (hk : k ≤ 16) :
    done d L T I (k + 1) = iprop((oLoc d ↦[setB (blk L (k - 1))]{fullShare} gathered T I) ∗ done d L T I k : sProp 𝕄) := by
  have e : (Finset.univ.filter fun j : Fin 16 => j.val + 1 < k + 1) = insert ⟨k - 1, by omega⟩ (Finset.univ.filter fun j : Fin 16 => j.val + 1 < k) := by
    ext j
    simp only [Finset.mem_filter, Finset.mem_univ, true_and, Finset.mem_insert, Fin.ext_iff]
    omega
  unfold done
  rw [e, SparseCore.bigSep_insert' (by simp; omega)]

theorem done_one : done d L T I 1 = (done d L T I 0 : sProp 𝕄) := by
  unfold done
  rw [show (Finset.univ.filter fun j : Fin 16 => j.val + 1 < 1) = Finset.univ.filter fun j : Fin 16 => j.val + 1 < 0 from by ext j; simp]

theorem slotI_inb {p : ℕ} (hp : p < 2) : ∀ a, ![p, 0, 0] a + S1x1x128.size a ≤ S2x1x128.size a := by
  rcases (by omega : p = 0 ∨ p = 1) with rfl | rfl <;> decide

set_option maxHeartbeats 4000000 in
/-- A trip keeps the invariant. -/
theorem trip (hI : ∀ j, (I j).toNat < 81920) (fo : S65536x256.Idx → Elt F .i32) (qt : PosShare TreeShare) (qi : ℕ → PosShare TreeShare) (O : CellTallies nD τ sig (HIx 1)) (W : Waits sig (HIx 1))
    (k : Fin k0_t1_loop.trips) (acc) :
    inv d L T I fo qt qi O W k.val acc ⊢ WP (body L k acc) (inv d L T I fo qt qi O W (k.val + 1)) := by
  have hk16 : k.val < 16 := trips_eq ▸ k.isLt
  have hp : k.val % 2 < 2 := Nat.mod_lt _ (by decide)
  have hp' : (k.val + 1) % 2 < 2 := Nat.mod_lt _ (by decide)
  unfold inv idxAt outAt halves
  rw [if_pos hk16, todo_take d L hk16]
  iintro ⟨%hacc, #Hmw, Ht, ⟨Hfly, Hidx⟩, ⟨Hout, Hprev⟩, ⟨Hblk, Htodo⟩, Hdone, ⟨Hv4, Hv5⟩, HO⟩
  subst hacc
  rw [carry_eq]
  unfold body k0_t1_body
  simp only [k0_part1_eq_skeleton, k0_part2_eq_skeleton, k0_part3_eq_skeleton]
  unfold k0_part1_skel k0_part2_skel k0_part3_skel
  simp only [wp_bind, wp_pure, ite_self]
  iapply (wp_assume_lift d L (chk3_all k))
  iapply (wp_assume_lift d L (chk2_all k))
  iapply (wp_assume_lift d L (chk1_all L k))
  iapply (wp_guard d L (P := idxFree d L I ((k.val + 1) % 2) (qi ((k.val + 1) % 2)))
    (P' := if k.val + 1 < 16 then idxFly d L I ((k.val + 1) % 2) (blk L (k.val + 1)) (qi ((k.val + 1) % 2)) else idxFree d L I ((k.val + 1) % 2) (qi ((k.val + 1) % 2))) ?_ ?_)
  · intro h R
    have h15 : k.val < 15 := (cond1_iff L k).mp h
    rw [if_pos (by omega)]
    exact wp_fetch d L I hp' _ (off4_eq k h15) (off5_eq L k h15) (off6_eq k h15) _ _ _
  · intro h
    rw [if_neg (fun h' => h ((cond1_iff L k).mpr (by omega)))]
  isplitl [Hidx]; · iexact Hidx
  iintro Hidx
  dsimp only
  rw [dif_pos (cond2_eq L k)]
  simp only [wp_bind, wp_pure]
  iapply (wp_fetched d L I hp (b := blk L k.val) (qi (k.val % 2)) (O := O) (W := W) (off9_eq k) _ _ _)
  isplitl []; · iexact Hmw
  isplitl [Hfly]; · iexact Hfly
  isplitl [HO]; · iexact HO
  iintro ⟨Hgot, HO⟩
  unfold idxGot outFree
  icases Hgot with ⟨Hl, Hvi, Hq⟩
  icases Hout with ⟨⟨%fd, Hs⟩, Hvo⟩
  have hj := slotI_inb hp
  iapply (wp_half d L T I hI (b := blk L k.val) (O := O) (W := W) (off10_eq k) (off11_eq k) (off10_eq k) _ _ _ _ _ hj)
  isplitl []; · iexact Hmw
  isplitl [Ht]; · iexact Ht
  isplitl [Hs]; · iexact Hs
  isplitl [Hl]; · iexact Hl
  isplitl [Hv4]; · iexact Hv4
  isplitl [HO]; · iexact HO
  iintro ⟨Ht, ⟨%h1, Hs⟩, Hl, Hv4, HO⟩
  imodintro
  iapply (wp_half d L T I hI (b := blk L k.val) (O := O) (W := W) (off10_eq k) (off11_eq k) (off10_eq k) _ _ _ _ _ hj)
  isplitl []; · iexact Hmw
  isplitl [Ht]; · iexact Ht
  isplitl [Hs]; · iexact Hs
  isplitl [Hl]; · iexact Hl
  isplitl [Hv5]; · iexact Hv5
  isplitl [HO]; · iexact HO
  iintro ⟨Ht, ⟨%h2, Hs⟩, Hl, Hv5, HO⟩
  ihave Hs := (Entails.of_eq (show (soLoc d L ↦[setO (k.val % 2)]{fullShare} _ : sProp 𝕄) = soLoc d L ↦[setO (k.val % 2)]{fullShare} rowsOf T I (blk L k.val) by
    rw [← set_slotO h2]
    exact pointsTo_congr fun i hi => write_both T I hI h2 hj _ _ _ _ _ _ _ _ fd i hi)) $$ Hs
  iapply (wp_guard d L (P := iprop((soLoc d L ↦[setO (k.val % 2)]{fullShare} rowsOf T I (blk L k.val)) ∗ semVal (thr d L, .dma (cellO (k.val % 2))) 0 ∗ (oLoc d ↦[setB (blk L k.val)]{fullShare} fo)))
    (P' := outFly d L T I (k.val % 2) (blk L k.val)) ?_ ?_)
  · intro h R
    refine .trans ?_ (wp_out d L T I hp (b := blk L k.val) (fo := fo) (off12_eq k) (off13_eq L k) (off14_eq k) _ _ _)
    iintro ⟨⟨Hs, Hv, Ho⟩, HR⟩
    isplitl [Hs]; · iexact Hs
    isplitl [Hv]; · iexact Hv
    isplitl [Ho]; · iexact Ho
    iexact HR
  · intro h
    exact absurd (cond5_eq L k) h
  isplitl [Hs Hvo Hblk]
  · isplitl [Hs]; · iexact Hs
    isplitl [Hvo]; · iexact Hvo
    iexact Hblk
  iintro Hfly
  dsimp only
  iapply (wp_guard d L
    (P := iprop(Transfers.MayWaits (thr d L) (default : HIx 1) O ∗ (if 0 < k.val then outFly d L T I ((k.val + 1) % 2) (blk L (k.val - 1)) else outFree d L ((k.val + 1) % 2))
      ∗ done d L T I k.val ∗ owing d L O W))
    (P' := iprop(outFree d L ((k.val + 1) % 2) ∗ done d L T I (k.val + 1) ∗ owing d L O W)) ?_ ?_)
  · intro h R
    have h0 : 0 < k.val := (cond7_iff L k).mp h
    rw [if_pos h0, done_put d L T I h0 (le_of_lt hk16)]
    refine .trans ?_ (wp_outDone d L T I hp' (b := blk L (k.val - 1)) (O := O) (W := W) (off17_eq k h0) _ _ _)
    iintro ⟨⟨Hmw, Hfly, Hd, HO⟩, HR⟩
    isplitl [Hmw]; · iexact Hmw
    isplitl [Hfly]; · iexact Hfly
    isplitl [HO]; · iexact HO
    iintro ⟨Hb, Hf, HO⟩
    iapply HR
    isplitl [Hf]; · iexact Hf
    isplitl [Hb Hd]
    · isplitl [Hb]; · iexact Hb
      iexact Hd
    iexact HO
  · intro h
    have h0 : ¬0 < k.val := fun h' => h ((cond7_iff L k).mpr h')
    rw [if_neg h0, show k.val = 0 by omega, done_one]
    iintro ⟨_, Hf, Hd, HO⟩
    isplitl [Hf]; · iexact Hf
    isplitl [Hd]; · iexact Hd
    iexact HO
  isplitl [Hprev Hdone HO]
  · isplitl []; · iexact Hmw
    isplitl [Hprev]; · unfold outFree; iexact Hprev
    isplitl [Hdone]; · iexact Hdone
    iexact HO
  iintro ⟨Hfree, Hdone, HO⟩
  isplitr
  · ipureintro
    clear hj h1 h2 hp hp' hk16 hI fd
    revert k
    revert L
    decide +kernel
  have e2 : (k.val + 1 + 1) % 2 = k.val % 2 := by omega
  rw [e2, if_pos (Nat.succ_pos _), Nat.add_sub_cancel]
  isplitl []; · iexact Hmw
  isplitl [Ht]; · iexact Ht
  isplitl [Hidx Hl Hvi Hq]
  · isplitl [Hidx]; · iexact Hidx
    iapply (idxGot_free d L I _ (blk L k.val) _)
    unfold idxGot
    isplitl [Hl]; · iexact Hl
    isplitl [Hvi]; · iexact Hvi
    iexact Hq
  isplitl [Hfree Hfly]
  · isplitl [Hfree]; · unfold outFree; iexact Hfree
    iexact Hfly
  isplitl [Htodo]; · iexact Htodo
  isplitl [Hdone]; · iexact Hdone
  isplitl [Hv4 Hv5]
  · isplitl [Hv4]; · iexact Hv4
    iexact Hv5
  iexact HO

end Cert.Proof.Gather

end
-- ==== Proof.Tile.lean ====
/-
  A tile's whole task: the first fetch, the sixteen trips, the wait for the last write-out. From shares of the table and
  of the list and from its sixteen blocks of the result it brings back the blocks holding their rows.
-/
module

public import proofs.«01_k».proof.Proof.Trip

@[expose] public section

set_option Elab.async false

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (T : S81920x256.Idx → Elt F .i32) (I : S1x65536.Idx → Elt F .i32)

local notation "WP" => wp frame (wpE (defs₀ (F := F)) 𝒱₀ (thr d L) none) Set.univ

/-! ## What a tile owns -/

/-- The six transfer semaphores of a tile, and the rest of its own. -/
theorem own_sems :
    (ownSems0 (thr d L) : sProp 𝕄)
      = iprop(semVal (thr d L, .dma (cellI 0)) 0 ∗ semVal (thr d L, .dma (cellI 1)) 0 ∗ semVal (thr d L, .dma (cellO 0)) 0 ∗ semVal (thr d L, .dma (cellO 1)) 0
          ∗ semVal (thr d L, .dma cc0_scoped4.sem) 0 ∗ semVal (thr d L, .dma cc0_scoped5.sem) 0
          ∗ bigSep (((((((ownCells (thr d L)).erase (thr d L, .dma (cellI 0))).erase (thr d L, .dma (cellI 1))).erase (thr d L, .dma (cellO 0))).erase
              (thr d L, .dma (cellO 1))).erase (thr d L, .dma cc0_scoped4.sem)).erase (thr d L, .dma cc0_scoped5.sem)) fun g => semVal g 0) := by
  have own (s : DmaSem sig) (h : (SemLoc.dma s : SemLoc sig).isScoped .scVector = true) : ((thr d L, .dma s) : GSem nD τ sig) ∈ ownCells (thr d L) :=
    mem_ownCells.mpr ⟨rfl, h⟩
  have ne {s t : DmaSem sig} (h : s ≠ t) : ((thr d L, .dma s) : GSem nD τ sig) ≠ (thr d L, .dma t) := by
    intro e
    injection e with _ e
    injection e with e
    exact h e
  unfold SparseCore.Cfg.ownSems0
  rw [SparseCore.bigSep_erase' (own (cellI 0) (by decide +kernel)),
    SparseCore.bigSep_erase' (Finset.mem_erase.mpr ⟨ne (by decide +kernel), own (cellI 1) (by decide +kernel)⟩),
    SparseCore.bigSep_erase' (Finset.mem_erase.mpr ⟨ne (by decide +kernel), Finset.mem_erase.mpr ⟨ne (by decide +kernel), own (cellO 0) (by decide +kernel)⟩⟩),
    SparseCore.bigSep_erase' (Finset.mem_erase.mpr ⟨ne (by decide +kernel), Finset.mem_erase.mpr ⟨ne (by decide +kernel), Finset.mem_erase.mpr ⟨ne (by decide +kernel),
      own (cellO 1) (by decide +kernel)⟩⟩⟩),
    SparseCore.bigSep_erase' (Finset.mem_erase.mpr ⟨ne (by decide +kernel), Finset.mem_erase.mpr ⟨ne (by decide +kernel), Finset.mem_erase.mpr ⟨ne (by decide +kernel),
      Finset.mem_erase.mpr ⟨ne (by decide +kernel), own cc0_scoped4.sem (by decide +kernel)⟩⟩⟩⟩),
    SparseCore.bigSep_erase' (Finset.mem_erase.mpr ⟨ne (by decide +kernel), Finset.mem_erase.mpr ⟨ne (by decide +kernel), Finset.mem_erase.mpr ⟨ne (by decide +kernel),
      Finset.mem_erase.mpr ⟨ne (by decide +kernel), Finset.mem_erase.mpr ⟨ne (by decide +kernel), own cc0_scoped5.sem (by decide +kernel)⟩⟩⟩⟩⟩)]

/-- The two scratch buffers of a tile, and the rest of its own. -/
theorem own_bufs :
    (ownBufs (thr d L) : sProp 𝕄)
      = iprop((∃ f, siLoc d L ↦{fullShare} f) ∗ (∃ f, soLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The two slots of a buffer -/

theorem setI_compl : (Finset.univ : Finset S2x1x128.Idx) \ setI 0 = setI 1 := by
  ext i
  have : (i 0).val < 2 := (i 0).isLt
  simp only [setI, Finset.mem_sdiff, Finset.mem_filter, Finset.mem_univ, true_and]
  omega

theorem setO_compl : (Finset.univ : Finset S2x128x256.Idx) \ setO 0 = setO 1 := by
  ext i
  have : (i 0).val < 2 := (i 0).isLt
  simp only [setO, Finset.mem_sdiff, Finset.mem_filter, Finset.mem_univ, true_and]
  omega

/-- A buffer at some contents is a set of its elements and the rest, each at some contents. -/
theorem some_split {ℓ : Loc nD τ sig} (A B : Finset (Idx ℓ)) (h : Finset.univ \ A = B) :
    (iprop(∃ f, ℓ ↦{fullShare} f) : sProp 𝕄) = iprop((∃ f, ℓ ↦[A]{fullShare} f) ∗ ∃ f, ℓ ↦[B]{fullShare} f) := by
  subst h
  have split : (iprop(∃ f, ℓ ↦{fullShare} f) : sProp 𝕄) ⊢ iprop((∃ f, ℓ ↦[A]{fullShare} f) ∗ ∃ f, ℓ ↦[Finset.univ \ A]{fullShare} f) := by
    iintro ⟨%f, H⟩
    ihave H2 := (pointsTo_split_subset (ℓ := ℓ) (q := fullShare) (f := f) (S := Finset.univ) (Finset.subset_univ A)).1 $$ H
    icases H2 with ⟨Ha, Hb⟩
    isplitl [Ha]
    · iexists f; iexact Ha
    · iexists f; iexact Hb
  have join : (iprop((∃ f, ℓ ↦[A]{fullShare} f) ∗ ∃ f, ℓ ↦[Finset.univ \ A]{fullShare} f) : sProp 𝕄) ⊢ iprop(∃ f, ℓ ↦{fullShare} f) := by
    iintro ⟨⟨%f, Ha⟩, ⟨%g, Hb⟩⟩
    classical
    iexists (fun i => if i ∈ A then f i else g i)
    iapply (pointsTo_split_subset (ℓ := ℓ) (q := fullShare) (S := Finset.univ) (Finset.subset_univ A)).2
    isplitl [Ha]
    · iapply (Entails.of_eq (pointsTo_congr (f := f) fun i hi => (if_pos hi).symm)) $$ Ha
    · iapply (Entails.of_eq (pointsTo_congr (f := g) fun i hi => (if_neg (Finset.mem_sdiff.mp hi).2).symm)) $$ Hb
  exact BI.Entails.antisymm split join

/-! ## The blocks at the two ends of the loop -/

theorem todo_zero (fo : S65536x256.Idx → Elt F .i32) :
    (todo d L fo 0 : sProp 𝕄) = bigSep Finset.univ fun j : Fin 16 => oLoc d ↦[setB (blk L j.val)]{fullShare} fo := by
  unfold todo
  rw [show (Finset.univ.filter fun j : Fin 16 => 0 ≤ j.val) = Finset.univ from by ext j; simp]

theorem done_zero : (done d L T I 0 : sProp 𝕄) = iprop(emp) := by
  unfold done
  rw [show (Finset.univ.filter fun j : Fin 16 => j.val + 1 < 0) = ∅ from by ext j; simp, bigSep_empty]
  rfl

theorem done_all : (done d L T I 17 : sProp 𝕄) = bigSep Finset.univ fun j : Fin 16 => oLoc d ↦[setB (blk L j.val)]{fullShare} gathered T I := by
  unfold done
  rw [show (Finset.univ.filter fun j : Fin 16 => j.val + 1 < 17) = Finset.univ from by ext j; simp; omega]

/-- What a tile is handed and hands back: a share of the table, its two shares of the list, and its sixteen blocks of the
    result, as `f` has them. -/
def tileRes (qt : PosShare TreeShare) (qi : ℕ → PosShare TreeShare) (f : S65536x256.Idx → Elt F .i32) : sProp 𝕄 :=
  iprop((tLoc d ↦{qt} T) ∗ (iLoc d ↦{qi 0} I) ∗ (iLoc d ↦{qi 1} I) ∗ bigSep Finset.univ fun j : Fin 16 => oLoc d ↦[setB (blk L j.val)]{fullShare} f)

set_option maxHeartbeats 4000000 in
/-- A tile's task: its blocks of the result come back holding the rows the list names. -/
theorem tile_body (hI : ∀ j, (I j).toNat < 81920) (fo : S65536x256.Idx → Elt F .i32) (qt : PosShare TreeShare) (qi : ℕ → PosShare TreeShare)
    (hF : (K (F := F)).Facts) (O : CellTallies nD τ sig (HIx 1)) (W : Waits sig (HIx 1)) (hO : ∀ g, O g none = 0) :
    iprop(levAts (K (F := F)).L (K (F := F)).lev ∗ emp
        ∗ tileRes d L T I qt qi fo
        ∗ scopedBufs (thr d L) ∗ scopedSems0 (thr d L) ∗ owes (thr d L) O W)
      ⊢ WP (cc0_sc_gather_rows L (Memref.whole main_arg0_scv) (Memref.isWhole_whole _) (Memref.whole main_v0_scv) (Memref.isWhole_whole _)
            (Memref.whole main_v1_scv) (Memref.isWhole_whole _) (Memref.whole cc0_scoped0) (Memref.isWhole_whole _) cc0_scoped1 (Memref.whole cc0_scoped2)
            (Memref.isWhole_whole _) cc0_scoped3 cc0_scoped4 cc0_scoped5)
          fun _ => iprop(tileRes d L T I qt qi (gathered T I)
            ∗ scopedBufs (thr d L) ∗ scopedSems0 (thr d L)
            ∗ ∃ W', ⌜∀ p ∈ W', p ∈ W ∨ p.2 = none⌝ ∗ owes (thr d L) O W') := by
  unfold tileRes
  rw [(K (F := F)).scopedBufs_V hF d (cV L) (jV L), SparseCore.Cfg.scopedSems0_V (Val := Elt F) d (cV L) (jV L), own_sems, own_bufs,
    some_split (ℓ := siLoc d L) (setI 0) (setI 1) setI_compl, some_split (ℓ := soLoc d L) (setO 0) (setO 1) setO_compl, ← todo_zero]
  simp only [cc0_sc_gather_rows_eq_skeleton]
  unfold cc0_sc_gather_rows_skel
  simp only [k0_part4_eq_skeleton, k0_part5_eq_skeleton]
  unfold k0_part4_skel k0_part5_skel
  simp only [wp_bind, wp_pure]
  iintro ⟨#Hlv, -, ⟨Ht, Hq0, Hq1, Hblk⟩, ⟨⟨Hi0, Hi1⟩, ⟨Ho0, Ho1⟩, Hbufs⟩, ⟨HvI0, HvI1, HvO0, HvO1, Hv4, Hv5, Hsems⟩, HO⟩
  ihave #Hmw := (show levAts (K (F := F)).L (K (F := F)).lev ⊢ Transfers.MayWaits (thr d L) (default : HIx 1) O from
    (K (F := F)).mayWaits_none (thr := thr d L) hO) $$ Hlv
  iapply (wp_fetch d L I (p := 0) (b := blk L 0) (by decide) (qi 0) off1_eq (off2_eq L) off3_eq _ _ _)
  isplitl [Hi0 HvI0 Hq0]
  · unfold idxFree
    isplitl [Hi0]; · iexact Hi0
    isplitl [HvI0]; · iexact HvI0
    iexact Hq0
  iintro Hfly
  imodintro
  iapply (Scf.wp_for _ _ _ _ _ _ _ _ _ (inv d L T I fo qt qi O W) (fun k acc => trip d L T I hI fo qt qi O W k acc))
  isplitl [Ht Hfly Hi1 HvI1 Hq1 Ho0 HvO0 Ho1 HvO1 Hblk Hv4 Hv5 HO]
  · unfold inv idxAt outAt halves
    rw [if_pos (by decide : 0 < 16), if_neg (by decide : ¬0 < 0), done_zero]
    isplitr
    · ipureintro
      decide
    isplitl []; · iexact Hmw
    isplitl [Ht]; · iexact Ht
    isplitl [Hfly Hi1 HvI1 Hq1]
    · isplitl [Hfly]; · iexact Hfly
      unfold idxFree
      isplitl [Hi1]; · iexact Hi1
      isplitl [HvI1]; · iexact HvI1
      iexact Hq1
    isplitl [Ho0 HvO0 Ho1 HvO1]
    · unfold outFree
      isplitl [Ho0 HvO0]
      · isplitl [Ho0]; · iexact Ho0
        iexact HvO0
      · isplitl [Ho1]; · iexact Ho1
        iexact HvO1
    isplitl [Hblk]; · iexact Hblk
    isplitr; · iempintro
    isplitl [Hv4 Hv5]
    · isplitl [Hv4]; · iexact Hv4
      iexact Hv5
    iapply (owing_intro d L O W); iexact HO
  iintro %acc
  rw [show Scf.trips k0_t1_loop.lb k0_t1_loop.ub k0_t1_loop.st = 16 from trips_eq]
  unfold inv idxAt outAt halves
  rw [if_neg (by decide : ¬16 < 16), if_pos (by decide : 0 < 16)]
  iintro ⟨%hacc, -, Ht, ⟨Hx0, Hx1⟩, ⟨Hf0, Hfly⟩, -, Hdone, ⟨Hv4, Hv5⟩, HO⟩
  subst hacc
  rw [carry_eq]
  dsimp only
  iapply (wp_assume_lift d L (chk5_all L))
  iapply (wp_assume_lift d L chk4_all)
  imodintro
  iapply (wp_outDone d L T I (p := 1) (by decide) (b := blk L 15) (O := O) (W := W) off20_eq _ _ _)
  isplitl []; · iexact Hmw
  isplitl [Hfly]; · iexact Hfly
  isplitl [HO]; · iexact HO
  iintro ⟨Hb, Hf1, HO⟩
  ihave Hall := (Entails.of_eq (done_put d L T I (k := 16) (by decide) (by decide)).symm) $$ [Hb Hdone]
  · isplitl [Hb]; · iexact Hb
    iexact Hdone
  ihave Hall := (Entails.of_eq (done_all d L T I)) $$ Hall
  unfold idxFree outFree owing
  icases Hx0 with ⟨Hi0, HvI0, Hq0⟩
  icases Hx1 with ⟨Hi1, HvI1, Hq1⟩
  icases Hf0 with ⟨Ho0, HvO0⟩
  icases Hf1 with ⟨Ho1, HvO1⟩
  imodintro
  isplitl [Ht Hq0 Hq1 Hall]
  · isplitl [Ht]; · iexact Ht
    isplitl [Hq0]; · iexact Hq0
    isplitl [Hq1]; · iexact Hq1
    iexact Hall
  isplitl [Hi0 Hi1 Ho0 Ho1 Hbufs]
  · isplitl [Hi0 Hi1]
    · isplitl [Hi0]; · iexact Hi0
      iexact Hi1
    isplitl [Ho0 Ho1]
    · isplitl [Ho0]; · iexact Ho0
      iexact Ho1
    iexact Hbufs
  isplitl [HvI0 HvI1 HvO0 HvO1 Hv4 Hv5 Hsems]
  · isplitl [HvI0]; · iexact HvI0
    isplitl [HvI1]; · iexact HvI1
    isplitl [HvO0]; · iexact HvO0
    isplitl [HvO1]; · iexact HvO1
    isplitl [Hv4]; · iexact Hv4
    isplitl [Hv5]; · iexact Hv5
    iexact Hsems
  iexact HO

end Cert.Proof.Gather

end
-- ==== Proof.Split.lean ====
/-
  The arrays of the gather kernel split into what each tile takes, and joined from what the tiles hand back.
-/
module

public import proofs.«01_k».proof.Proof.Tile

@[expose] public section

set_option Elab.async false

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

/-! ## The tiles, and each one's share of the arrays -/

/-- The tile of core `c`, subcore `s`. -/
def coordsV (c : Fin (grid0.bound 0)) (s : Fin (grid0.bound 1)) : grid0.Coords := fun
  | 0 => c
  | 1 => s
  | ⟨_ + 2, h⟩ => absurd h (Nat.not_lt.2 (Nat.le_add_left _ _))

/-- A tile's share of the table. -/
def qt (c : Fin 2) (i : Fin 16) : PosShare TreeShare := Transfers.dealOf (Transfers.dealOf fullShare Finset.univ c) Finset.univ i
/-- A tile's two shares of the list of positions. -/
def qi (c : Fin 2) (i : Fin 16) (p : ℕ) : PosShare TreeShare := Transfers.dealOf (qt c i) Finset.univ (if p = 0 then (0 : Fin 2) else 1)

/-- The number of block `j` of the tile at core `c`, subcore `i`. -/
abbrev blkNo (t : Fin 2 × Fin 16 × Fin 16) : ℕ := 256 * t.1.val + 16 * t.2.1.val + t.2.2.val

theorem setB_disjoint : ∀ t ∈ (Finset.univ : Finset (Fin 2 × Fin 16 × Fin 16)), ∀ t' ∈ (Finset.univ : Finset (Fin 2 × Fin 16 × Fin 16)), t ≠ t' →
    Disjoint (setB (blkNo t)) (setB (blkNo t')) := by
  rintro ⟨a, b, c⟩ - ⟨a', b', c'⟩ - hne
  rw [Finset.disjoint_left]
  intro x hx hx'
  simp only [setB, Finset.mem_filter, Finset.mem_univ, true_and, blkNo] at hx hx'
  apply hne
  have := a.isLt; have := b.isLt; have := c.isLt; have := a'.isLt; have := b'.isLt; have := c'.isLt
  have h1 : a = a' := Fin.ext (by omega)
  have h2 : b = b' := Fin.ext (by omega)
  have h3 : c = c' := Fin.ext (by omega)
  rw [h1, h2, h3]

theorem setB_cover : (Finset.univ : Finset (Fin 2 × Fin 16 × Fin 16)).biUnion (fun t => setB (blkNo t)) = Finset.univ := by
  ext x
  simp only [Finset.mem_biUnion, Finset.mem_univ, true_and, iff_true]
  have hx : (x 0).val < 65536 := (x 0).isLt
  refine ⟨(⟨(x 0).val / 32768, by omega⟩, ⟨(x 0).val / 2048 % 16, by omega⟩, ⟨(x 0).val / 128 % 16, by omega⟩), ?_⟩
  simp only [setB, Finset.mem_filter, Finset.mem_univ, true_and, blkNo]
  omega

omit [FloatOps F] in
theorem sep_regroup (A B C : sProp 𝕄) : (iprop((A ∗ B) ∗ C) : sProp 𝕄) = iprop(A ∗ B ∗ C) := by
  have h₁ : iprop((A ∗ B) ∗ C) ⊢ (iprop(A ∗ B ∗ C) : sProp 𝕄) := by
    iintro ⟨⟨HA, HB⟩, HC⟩
    isplitl [HA]; · iexact HA
    isplitl [HB] <;> iassumption
  have h₂ : iprop(A ∗ B ∗ C) ⊢ (iprop((A ∗ B) ∗ C) : sProp 𝕄) := by
    iintro ⟨HA, HB, HC⟩
    isplitr [HC]
    · isplitl [HA] <;> iassumption
    · iexact HC
  exact Entails.antisymm h₁ h₂

/-- The table, the list and the result's array, whole, are the tiles' shares and blocks. -/
theorem arrays_split (d : Dev nD) (T : S81920x256.Idx → Elt F .i32) (I : S1x65536.Idx → Elt F .i32) (f : S65536x256.Idx → Elt F .i32) :
    (iprop((tLoc d ↦{fullShare} T) ∗ (iLoc d ↦{fullShare} I) ∗ oLoc d ↦{fullShare} f) : sProp 𝕄)
      = bigSep Finset.univ fun c : Fin 2 => bigSep Finset.univ fun i : Fin 16 => tileRes d (coordsV c i) T I (qt c i) (qi c i) f := by
  have hT : (tLoc d ↦{fullShare} T : sProp 𝕄) = bigSep Finset.univ fun c : Fin 2 => bigSep Finset.univ fun i : Fin 16 => tLoc d ↦{qt c i} T := by
    rw [Transfers.pointsTo_deal (Finset.univ : Finset (Fin 2)) Finset.univ_nonempty]
    refine bigSep_congr fun c _ => ?_
    rw [Transfers.pointsTo_deal (Finset.univ : Finset (Fin 16)) Finset.univ_nonempty]
    rfl
  have hI : (iLoc d ↦{fullShare} I : sProp 𝕄) = bigSep Finset.univ fun c : Fin 2 => bigSep Finset.univ fun i : Fin 16 =>
      iprop((iLoc d ↦{qi c i 0} I) ∗ iLoc d ↦{qi c i 1} I) := by
    rw [Transfers.pointsTo_deal (Finset.univ : Finset (Fin 2)) Finset.univ_nonempty]
    refine bigSep_congr fun c _ => ?_
    rw [Transfers.pointsTo_deal (Finset.univ : Finset (Fin 16)) Finset.univ_nonempty]
    refine bigSep_congr fun i _ => ?_
    rw [Transfers.pointsTo_deal (Finset.univ : Finset (Fin 2)) Finset.univ_nonempty, BI.bigSep_fin_two]
    rfl
  have hO : (oLoc d ↦{fullShare} f : sProp 𝕄) = bigSep Finset.univ fun c : Fin 2 => bigSep Finset.univ fun i : Fin 16 =>
      bigSep Finset.univ fun j : Fin 16 => oLoc d ↦[setB (blk (coordsV c i) j.val)]{fullShare} f := by
    have h := pointsTo_biUnion (ℓ := oLoc d) (q := fullShare) (f := f) (Val := Elt F) (Ix := HIx 1) (Name := ℕ) (U := UU) (Lvl := ℕ)
      (Finset.univ : Finset (Fin 2 × Fin 16 × Fin 16)) (fun t => setB (blkNo t)) setB_disjoint
    rw [setB_cover] at h
    refine h.trans ?_
    rw [bigSep_univ_prod]
    refine bigSep_congr fun c _ => ?_
    rw [bigSep_univ_prod]
    rfl
  rw [hT, hI, hO]
  unfold tileRes
  rw [← bigSep_sep', ← bigSep_sep']
  refine bigSep_congr fun c _ => ?_
  rw [← bigSep_sep', ← bigSep_sep']
  refine bigSep_congr fun i _ => ?_
  exact congrArg (BI.sep _) (sep_regroup _ _ _)

end Cert.Proof.Gather

end
-- ==== Proof.Launch.lean ====
/-
  The kernel as a whole: what its call hands each tile and takes back, @main's reshape and its call, and the run of the
  program with what the result's array ends holding.
-/
module

public import proofs.«01_k».proof.Proof.Split

@[expose] public section

set_option Elab.async false

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the arrays hold at the call -/

/-- The table as given. -/
abbrev tab (d : Dev nD) : S81920x256.Idx → Elt F .i32 := m (tLoc d)
/-- The positions as one list. -/
abbrev lst (d : Dev nD) : S1x65536.Idx → Elt F .i32 := shapeCast S1x65536 (m (aLoc d)) shapeCasts_S4x16384_S1x65536
/-- The result: the rows the list names. -/
abbrev out (d : Dev nD) : S65536x256.Idx → Elt F .i32 := gathered (tab m d) (lst m d)

/-- What the proof asks of the launch memory: each position is a row of the table. -/
abbrev InRange : Prop := ∀ (d : Dev nD) (j : S4x16384.Idx), (m (aLoc d) j : BitVec 32).toNat < 81920

omit [FloatOps F] in
theorem lst_lt (h : InRange m) (d : Dev nD) (j : S1x65536.Idx) : (lst m d j : BitVec 32).toNat < 81920 := h d _

/-! ## What the call hands over and takes back -/

/-- A tile's part, the result as `f` has it. -/
abbrev part (d : Dev nD) (f : S65536x256.Idx → Elt F .i32) (c : Fin 2) (i : Fin 16) : sProp 𝕄 :=
  tileRes d (coordsV c i) (tab m d) (lst m d) (qt c i) (qi c i) f

instance part_storable (d : Dev nD) (f : S65536x256.Idx → Elt F .i32) (c : Fin 2) (i : Fin 16) :
    BI.Storable (upEmb : UEmb _ 𝕄) (part m d f c i) :=
  (inferInstance : BI.Storable (upEmb : UEmb _ 𝕄) iprop((tLoc d ↦{qt c i} tab m d) ∗ (iLoc d ↦{qi c i 0} lst m d) ∗ (iLoc d ↦{qi c i 1} lst m d)
    ∗ bigSep Finset.univ fun j : Fin 16 => oLoc d ↦[setB (blk (coordsV c i) j.val)]{fullShare} f))

/-- Each core's part is its tiles' parts. -/
def P : (K (F := F)).Pay (nD := nD) (Val := Elt F) (Name := ℕ) (U := UU) where
  st := fun q d c => match q with | 0 => bigSep Finset.univ fun i : Fin 16 => part m d (m (oLoc d)) c i
  dn := fun q d c => match q with | 0 => bigSep Finset.univ fun i : Fin 16 => part m d (out m d) c i
  go := fun q d c i => match q with | 0 => part m d (m (oLoc d)) c i
  td := fun q d c i => match q with | 0 => part m d (out m d) c i
  x := fun _ _ => iprop(emp)

instance P_storable : (P (F := F) m).IsStorable where
  st q d c := match q with | 0 => (inferInstance : BI.Storable (upEmb : UEmb _ 𝕄) (bigSep Finset.univ fun i : Fin 16 => part m d (m (oLoc d)) c i))
  dn q d c := match q with | 0 => (inferInstance : BI.Storable (upEmb : UEmb _ 𝕄) (bigSep Finset.univ fun i : Fin 16 => part m d (out m d) c i))
  go q d c i := match q with | 0 => part_storable m d (m (oLoc d)) c i
  td q d c i := match q with | 0 => part_storable m d (out m d) c i

/-! ## The tiles' tasks -/

theorem defs₀_vector (c : Fin τ.nSC) (s : Fin τ.nSub) :
    defs₀ (F := F) (.scVector c s) 0 () = SparseCore.onTile hcore0 hsub0 (fun c s =>
      cc0_sc_gather_rows (coordsV c s) (Memref.whole main_arg0_scv) (Memref.isWhole_whole _) (Memref.whole main_v0_scv) (Memref.isWhole_whole _)
        (Memref.whole main_v1_scv) (Memref.isWhole_whole _) (Memref.whole cc0_scoped0) (Memref.isWhole_whole _) cc0_scoped1 (Memref.whole cc0_scoped2)
        (Memref.isWhole_whole _) cc0_scoped3 cc0_scoped4 cc0_scoped5) ⟨⟩ c s := rfl

omit [FloatOps F] in
/-- A tile's record of waits, in the form the launch asks for. -/
theorem waits_post {O : CellTallies nD τ sig (HIx 1)} {W : Waits sig (HIx 1)} {d : Dev nD} {L : grid0.Coords} {A B C : sProp 𝕄} {q : HIx 1} :
    iprop(A ∗ B ∗ C ∗ ∃ W', ⌜∀ p ∈ W', p ∈ W ∨ p.2 = none⌝ ∗ owes (thr d L) O W')
      ⊢ iprop(A ∗ B ∗ C ∗ ∃ W', ⌜∀ p ∈ W', p ∈ W ∨ p.2 = none ∨ p.2 = q⌝ ∗ owes (thr d L) O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tab m d) (lst m d) (lst_lt m hpre d) (m (oLoc d)) (qt c i) (qi c i) hF O W hO).trans
    (wp_mono frame _ _ fun _ => waits_post)

theorem vecSplit : (K (F := F)).VecSplit' (P m) 0 := by
  intro d c
  show iprop(bigSep Finset.univ fun i : Fin 16 => part m d (m (oLoc d)) c i) ⊢ |={Set.univ}=> iprop(
      (bigSep Finset.univ fun i : Fin 16 => part m d (m (oLoc d)) c i)
      ∗ ((bigSep Finset.univ fun i : Fin 16 => part m d (out m d) c i) -∗ bigSep Finset.univ fun i : Fin 16 => part m d (out m d) c i))
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev bT : DevRef τ sig := Proc.devRef .tc (main_arg0 : Ref sig .tc)
abbrev bA : DevRef τ sig := Proc.devRef .tc (main_arg1 : Ref sig .tc)
abbrev bI : DevRef τ sig := Proc.devRef .tc (main_v0 : Ref sig .tc)
abbrev bO : DevRef τ sig := Proc.devRef .tc (main_v1 : Ref sig .tc)
/-- The arrays @main's reshape runs over. -/
abbrev bufs : Finset (DevRef τ sig) := {bT, bA, bI, bO}

/-- The arrays as launched. -/
abbrev V₀ (d : Dev nD) : Valuation τ sig (Elt F) := fun b => m (d, b)

/-- The reshape of the positions to one list. -/
abbrev opR : HloOp τ sig (Elt F) := StableHlo.reshape main_arg1 main_v0 (rfl : (.i32 : EltTy) = .i32) shapeCasts_S4x16384_S1x65536

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (aLoc d ↦{fullShare} W main_arg1) ∗ (iLoc d ↦{fullShare} W main_v0)
      ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

omit [FloatOps F] in
theorem held_bufs (d : Dev nD) (W : Valuation τ sig (Elt F)) :
    (held (T d) bufs W : sProp 𝕄) = iprop((tLoc d ↦{fullShare} W bT) ∗ (aLoc d ↦{fullShare} W bA) ∗ (iLoc d ↦{fullShare} W bI) ∗ oLoc d ↦{fullShare} W bO) := by
  unfold held bufs
  rw [SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) bufs (V₀ m d) := by
  rw [unscopedBufs_eq, held_bufs]

/-- After the reshape: the arguments and the result's array as launched, the list made. -/
theorem held_reshaped (d : Dev nD) :
    (held (T d) bufs ((opR (F := F)).result (V₀ m d)) : sProp 𝕄)
      = iprop((tLoc d ↦{fullShare} tab m d) ∗ (aLoc d ↦{fullShare} m (aLoc d)) ∗ (iLoc d ↦{fullShare} lst m d) ∗ oLoc d ↦{fullShare} m (oLoc d)) := by
  rw [held_bufs, (opR (F := F)).result_of_not_mem (V₀ m d) (b := bT) (show bT ∉ ({bI} : Finset (DevRef τ sig)) by decide),
    (opR (F := F)).result_of_not_mem (V₀ m d) (b := bA) (show bA ∉ ({bI} : Finset (DevRef τ sig)) by decide),
    (opR (F := F)).result_of_not_mem (V₀ m d) (b := bO) (show bO ∉ ({bI} : Finset (DevRef τ sig)) by decide),
    show (opR (F := F)).result (V₀ m d) bI = lst m d from StableHlo.reshape_result ..]

theorem opR_bufs : (opR (F := F)).bufs ⊆ bufs := show ({bA, bI} : Finset (DevRef τ sig)) ⊆ bufs by decide

theorem st0_eq (d : Dev nD) : (bigSep Finset.univ fun c : Fin ((K (F := F)).nCore 0) => (P m).st 0 d c)
    = iprop((tLoc d ↦{fullShare} tab m d) ∗ (iLoc d ↦{fullShare} lst m d) ∗ oLoc d ↦{fullShare} m (oLoc d)) :=
  (arrays_split d (tab m d) (lst m d) (m (oLoc d))).symm
theorem dn0_eq (d : Dev nD) : (bigSep Finset.univ fun c : Fin ((K (F := F)).nCore 0) => (P m).dn 0 d c)
    = iprop((tLoc d ↦{fullShare} tab m d) ∗ (iLoc d ↦{fullShare} lst m d) ∗ oLoc d ↦{fullShare} out m d) :=
  (arrays_split d (tab m d) (lst m d) (out m d)).symm

/-- What @main ends with: its arguments as launched, the result's array holding the gathered rows. -/
abbrev FIN (d : Dev nD) : sProp 𝕄 := iprop((tLoc d ↦{fullShare} tab m d) ∗ (aLoc d ↦{fullShare} m (aLoc d)) ∗ oLoc d ↦{fullShare} out m d)

/-- @main on device `d`'s TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := bufs) opR_bufs (V := V₀ m d)) $$ [Hb Hheld]
  · isplitl [Hb] <;> iassumption
  iintro ⟨Hb, Hheld⟩
  rw [wp_ret]; imodintro
  ihave Hh := (Entails.of_eq (held_reshaped (F := F) m d)) $$ Hheld
  icases Hh with ⟨Ht, Ha, Hi, Ho⟩
  iapply ((K (F := F)).wp_run (D (F := F)) 𝒱 (EH := EH) (P := P m) κ d 0) $$ [Hst Ht Ha Hi Ho Hb Hts]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨Ht, -, Ho⟩
  imodintro
  isplitl [Hst]; · iexact Hst
  isplitr [Hb Hts]
  · isplitl [Ht]; · iexact Ht
    isplitl [Ha]; · iexact Ha
    iexact Ho
  isplitl [Hb] <;> iassumption

/-! ## The run -/

def fq (d : Dev nD) (s' : Phys nD τ sig (Elt F)) : Prop :=
  s'.mem.mem (tLoc d) = tab m d ∧ s'.mem.mem (aLoc d) = m (aLoc d) ∧ s'.mem.mem (oLoc d) = out m d

set_option maxRecDepth 16384 in
theorem hfin (d : Dev nD) (s' : Phys nD τ sig (Elt F)) : iprop(FIN m d ∗ SI s') ⊢ (⌜fq m d s'⌝ : sProp 𝕄) := by
  iintro ⟨⟨Ht, Ha, Ho⟩, HSI⟩
  ihave H := (persistent_entails_right (SI_pointsTo_agree (st := s') (ℓ := tLoc d) (I := Finset.univ) (q := fullShare) (f := tab m d))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := out m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- How the program ends: each device's arguments as launched, its result the gathered rows, every counter at zero. -/
def QC : PUnit × MemSt nD τ sig (Elt F) → Prop := fun r =>
  (∀ c : Dev nD, r.2.mem (tLoc c) = tab m c ∧ r.2.mem (aLoc c) = m (aLoc c) ∧ r.2.mem (oLoc c) = out m c) ∧ r.2.sem = fun _ => 0

/-- From any memory whose positions are rows of the table, the program runs to its end and leaves the gathered rows. -/
theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  What the reference computes, and that the kernel computes the same: with every position a row of the table, the
  reference's wrap of negative positions and its clamp leave each position as it is, so its result at row `r` is the row
  of the table that entry `r` of the list names.
-/
module

public import proofs.«01_k».proof.Proof.Launch
public import proofs.«01_k».proof.Proof.Gen.ReferenceIdeal.Run
public import proofs.«01_k».proof.Proof.Gen.Reference.Run
public import proofs.«01_k».proof.Proof.Gen.Pre_dest_in_range
public import Idealize.ShloMosaic.Lib.ValueIdxCore
public import Idealize.ShloMosaic.Lib.Pipeline.Value

@[expose] public section

set_option Elab.async false

noncomputable section

namespace Cert.Proof.Gather

open Cert.ReferenceIdeal Cert.ReferenceIdeal.Gen
open Cert.KernelIdeal (S1x65536)
open Cert.KernelIdeal.Gen (shapeCasts_S4x16384_S1x65536)
open Idealize.ShloMosaic Idealize.ShloMosaic.TcCoe Idealize.SL.Sem

/-! ## One position -/

/-- A position in range, read as a signed number, is its own value, at most the last row. -/
theorem toInt_row {v : BitVec 32} (h : v.toNat < 81920) : v.toInt.toNat = v.toNat := by
  rw [BitVec.toInt_eq_toNat_cond, if_pos (by omega)]; rfl

theorem cmpi_neg {v : BitVec 32} (h : v.toNat < 81920) : IntOp.cmpi .slt v 0#32 = 0#1 := by
  have : v.slt 0#32 = false := by
    rw [BitVec.slt_eq_decide, decide_eq_false_iff_not, BitVec.toInt_eq_toNat_cond, if_pos (by omega)]
    simp
  simp only [IntOp.cmpi, this]; rfl

/-- The precondition on one position says that it is a row of the table. -/
theorem row_of_pre {v : BitVec 32} (e : IntOp.andi (IntOp.cmpi .sge v 0#32) (IntOp.cmpi .slt v 81920#32) = 1#1) : v.toNat < 81920 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

/-! ## The reference's result -/

/-- The rows the reference gathers, in order: its list of positions, the negative ones wrapped. -/
abbrev refRows (A : IVec S4x16384 32) : IVec S65536 32 :=
  select (cmpi .slt (shapeCast S65536 A shapeCasts_S4x16384_S65536) (broadcastInDim S65536 ![] bcast_S_S65536 (constantI S_ 32 0#32)))
    (addi (shapeCast S65536 A shapeCasts_S4x16384_S65536) (broadcastInDim S65536 ![] bcast_S_S65536 (constantI S_ 32 81920#32)))
    (shapeCast S65536 A shapeCasts_S4x16384_S65536)

/-- The reference's result, as a term of its arguments. -/
abbrev refOut (T : IVec S81920x256 32) (A : IVec S4x16384 32) : IVec S65536x256 32 :=
  Host.gather gather_S81920x256_S65536x1_S65536x256_1_0_n_n_0_1_1256 T (broadcastInDim S65536x1 ![0] bcast_S65536_S65536x1_0 (refRows A))

/-- With the positions in range none is wrapped. -/
theorem refRows_eq {A : IVec S4x16384 32} (hA : ∀ j, (A j).toNat < 81920) : refRows A = shapeCast S65536 A shapeCasts_S4x16384_S65536 := by
  funext j
  show (if IntOp.cmpi .slt (shapeCast S65536 A shapeCasts_S4x16384_S65536 j) 0#32 = 1#1 then _ else _) = _
  rw [cmpi_neg (v := shapeCast S65536 A shapeCasts_S4x16384_S65536 j) (hA _)]
  exact if_neg (by decide)

/-- The place of the list's entry `r` for result index `y`. -/
abbrev rowIx (y : S65536x256.Idx) : S65536x1.Idx := fun a => match a with | ⟨0, _⟩ => ⟨(y 0).val, (y 0).isLt⟩ | ⟨1, _⟩ => ⟨0, Nat.one_pos⟩

/-- A gather of whole rows read at an index: the row its start index names, read signed and clamped to the table. -/
theorem gather_rows_apply (T : IVec S81920x256 32) (idx : IVec S65536x1 32) (y : S65536x256.Idx) :
    Host.gather gather_S81920x256_S65536x1_S65536x256_1_0_n_n_0_1_1256 T idx y = T (tableIx (min (idx (rowIx y)).toInt.toNat 81919) (y 1).val) := by
  unfold Host.gather
  refine congrArg T (tableIx_eq ?_ ?_)
  · show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S81920x256_S65536x1_S65536x256_1_0_n_n_0_1_1256.startIndexMap from List.mem_singleton.mpr rfl)]
    refine congrArg (fun j => min (idx j).toInt.toNat 81919) ?_
    funext b; refine Fin.ext ?_
    match b with
    | ⟨0, _⟩ => rfl
    | ⟨1, _⟩ => rfl
  · show GatherDims.start _ y idx 1 + GatherDims.batchCoord _ y 1 + GatherDims.offCoord _ y 1 = _
    rw [GatherDims.batchCoord_eq_zero _ _ _ List.not_mem_nil]
    unfold GatherDims.start
    rw [dif_neg (show (1 : Fin 2) ∉ gather_S81920x256_S65536x1_S65536x256_1_0_n_n_0_1_1256.startIndexMap by decide)]
    simp only [Nat.zero_add, Nat.add_zero]
    unfold GatherDims.offCoord
    rw [dif_pos (by decide)]
    rfl

/-- The reference's result is the kernel's: row `r` is the row of the table that entry `r` of the list names. -/
theorem refOut_eq {F : FTy → Type} (T : IVec S81920x256 32) {A : IVec S4x16384 32} (hA : ∀ j, (A j).toNat < 81920) :
    refOut T A = gathered (F := F) T (shapeCast S1x65536 A shapeCasts_S4x16384_S1x65536) := by
  funext y
  have hy : (y 0).val < 65536 := (y 0).isLt
  unfold refOut
  rw [gather_rows_apply, refRows_eq hA]
  have hb : broadcastInDim S65536x1 ![0] bcast_S65536_S65536x1_0 (shapeCast S65536 A shapeCasts_S4x16384_S65536) (rowIx y)
      = shapeCast S1x65536 A shapeCasts_S4x16384_S1x65536 (listIx (y 0).val) := by
    let k : S65536.Idx := fun | 0 => ⟨(y 0).val, hy⟩
    rw [broadcastInDim_apply _ _ _ _ k (fun a => by obtain rfl : a = 0 := Subsingleton.elim _ _; rfl)]
    unfold shapeCast
    refine congrArg A (Shape.reshapeEquiv_eq_of_rowMajor _ ?_)
    rw [Shape.rowMajor_reshapeEquiv]
    show (Shape.rowMajor (⟨2, ![1, 65536]⟩ : Shape) (listIx (y 0).val)).val = (Shape.rowMajor (⟨1, ![65536]⟩ : Shape) k).val
    rw [Shape.rowMajor_val_two, Shape.rowMajor_val_one]
    show 0 * 65536 + (y 0).val % 65536 = (y 0).val
    omega
  rw [hb]
  have hl : (shapeCast S1x65536 A shapeCasts_S4x16384_S1x65536 (listIx (y 0).val)).toNat < 81920 := hA _
  rw [toInt_row hl, Nat.min_eq_left (by omega)]
  rfl

/-! ## The reference's run -/

/-- The reference's program has no semaphores, so its counters are at zero throughout. -/
theorem ref_sems (c : GSem nD τ sig → Int) : c = fun _ => 0 := by
  funext g
  match g with
  | (_, .reg s) => exact s.elim0
  | (_, .dma s) => exact s.elim0

end Cert.Proof.Gather

end
-- ==== Proof.Reduce.Cell.lean ====
/-
  The residual sum and the final norm, element by element, over the extended reals: the two bf16 halves of a word, the
  gated sum of four expert rows on top of the residual, and the root-mean-square norm of a row.
-/
module

public import Idealize.ShloMosaic.Lib.Pointwise

@[expose] public section

noncomputable section

namespace Cert.Proof.Reduce

open Idealize.ShloMosaic

/-- A row of 512 words, of which the first 256 are `a` and the others `b`, read as 1024 values: the low halves of the
    words, then their high halves, each a float whose lower 16 bits are zero. -/
def half (a b : Fin 256 → BitVec 32) (c : Fin 1024) : EReal :=
  if h : (c : ℕ) < 512 then
    Ideal.ofBits .f32 (IntOp.shli .vector (if h' : (c : ℕ) < 256 then a ⟨c, h'⟩ else b ⟨c - 256, by omega⟩) 16#32)
  else
    Ideal.ofBits .f32 (IntOp.andi (if h' : (c : ℕ) - 512 < 256 then a ⟨c - 512, h'⟩ else b ⟨c - 512 - 256, by omega⟩) 4294901760#32)

/-- The residual `x` plus the four expert values `y`, each times its gate, added one after another. -/
def gated (x : EReal) (y g : Fin 4 → EReal) : EReal := x + y 0 * g 0 + y 1 * g 1 + y 2 * g 2 + y 3 * g 3

/-- The same as one sum over the four experts. -/
theorem gated_eq_sum (x : EReal) (y g : Fin 4 → EReal) : gated x y g = x + ∑ k : Fin 4, y k * g k := by
  simp only [gated, Fin.sum_univ_four, add_assoc]

/-- A row's element `c` over the row's root mean square, times the gain. -/
def normed (a : Fin 1024 → EReal) (w : EReal) (c : Fin 1024) : EReal :=
  a c * Ideal.rsqrt (Ideal.div (∑ j : Fin 1024, a j * a j) (Ideal.ofBits .f32 1149239296#32) + Ideal.ofBits .f32 925353388#32) * w

/-- A token's row before the norm: from its residual row `x`, the words `y0`, `y1` of its four expert rows, and its gates. -/
def tokenRow (y0 y1 : Fin 4 → Fin 256 → BitVec 32) (x : Fin 1024 → EReal) (g : Fin 4 → EReal) (c : Fin 1024) : EReal :=
  gated (x c) (fun k => half (y0 k) (y1 k) c) g

end Cert.Proof.Reduce

end
-- ==== Proof.Reduce.Block.lean ====
/-
  What one grid point of the reduce kernel stores, element by element, for each of its two launches.
-/
module

public import proofs.«01_k».proof.Proof.Gen.ReduceIdeal.Frame
public import proofs.«01_k».proof.Proof.Reduce.Cell
public import Idealize.ShloMosaic.Lib.Pointwise

@[expose] public section

set_option maxRecDepth 16384

noncomputable section

namespace Cert.Proof.Reduce

open Idealize.ShloMosaic Cert.ReduceIdeal Cert.ReduceIdeal.Gen

/-- The gates, spread over 128 lanes and transposed: row `r`, lane `k` holds token `r`'s gate of expert `k`. -/
theorem gates_apply (x3 : Vec Ideal S4x1024 .f32) (r : Fin 1024) (k : Fin 4) :
    k0_pay2 x3 (ix2 r ⟨k, by omega⟩) = x3 (ix2 k r) := by
  fin_cases k <;> pointwise [k0_pay2] <;> rfl

variable (x0 x1 : Vec Ideal S4x1024x256 .i32) (x2 : Vec Ideal S1024x1024 .f32) (x3 : Vec Ideal S4x1024 .f32)
  (x4 : Vec Ideal S1x1024 .f32) (r c : Fin 1024)

/-- What a grid point stores, at row `r` and column `c`, of its blocks. -/
def blockCell : EReal :=
  normed (tokenRow (fun k j => x0 (ix3 k r j)) (fun k j => x1 (ix3 k r j)) (fun j => x2 (ix2 r j)) (fun k => x3 (ix2 k r)))
    (x4 (ix2 0 c)) c

/-- The residual and the first three experts' rows. -/
theorem three_apply :
    k0_pay5 (k0_pay2 (View.ld x3 r0_0)) (View.ld x2 r0_1) (k0_pay3 (View.ld x0 r0_2) (View.ld x1 r0_2)) (k0_pay4 (View.ld x3 r0_0))
        (View.ld x0 r0_3) (View.ld x1 r0_3) (View.ld x0 r0_4) (View.ld x1 r0_4) (ix2 r c)
      = x2 (ix2 r c) + half (fun j => x0 (ix3 0 r j)) (fun j => x1 (ix3 0 r j)) c * x3 (ix2 0 r)
          + half (fun j => x0 (ix3 1 r j)) (fun j => x1 (ix3 1 r j)) c * x3 (ix2 1 r)
          + half (fun j => x0 (ix3 2 r j)) (fun j => x1 (ix3 2 r j)) c * x3 (ix2 2 r) := by
  have e0 := gates_apply (View.ld x3 r0_0) r 0
  have e1 := gates_apply (View.ld x3 r0_0) r 1
  have e2 := gates_apply (View.ld x3 r0_0) r 2
  generalize hg : k0_pay2 (View.ld x3 r0_0) = G at e0 e1 e2 ⊢
  unfold k0_pay4
  rw [hg]
  pointwise at e0 e1 e2
  pointwise [k0_pay5, k0_pay3]
  rw [e0, e1, e2]
  rfl

/-- The first launch's store at row `r`, column `c`. -/
theorem out0_apply : out0_5 x0 x1 x2 x3 x4 (ix2 r c) = blockCell x0 x1 x2 x3 x4 r c := by
  unfold out0_5 k0_pay7
  rw [View.canon_unit_zero (h := by funext a; fin_cases a <;> rfl)]
  have e3 := gates_apply (View.ld x3 r0_0) r 3
  have et := three_apply x0 x1 x2 x3 r
  generalize k0_pay5 (k0_pay2 (View.ld x3 r0_0)) (View.ld x2 r0_1) (k0_pay3 (View.ld x0 r0_2) (View.ld x1 r0_2))
    (k0_pay4 (View.ld x3 r0_0)) (View.ld x0 r0_3) (View.ld x1 r0_3) (View.ld x0 r0_4) (View.ld x1 r0_4) = T at et ⊢
  generalize k0_pay2 (View.ld x3 r0_0) = G at e3 ⊢
  pointwise at e3
  pointwise [k0_pay1, k0_pay6]
  simp only [et]
  rw [e3]
  rfl

/-- The second launch's store at row `r`, column `c`: the same of its blocks. -/
theorem outs1_apply (V : (c : Dev nD) → (b : Ref sig .tc) → Buf (Elt Ideal) ((c.tc : Thread nD τ).loc b)) (d : Dev nD)
    (t : Fin cfg1.N) :
    outsAt1 V d t (ix2 r c)
      = blockCell (iblk1 V d 0 t) (iblk1 V d 1 t) (iblk1 V d 2 t) (iblk1 V d 3 t) (iblk1 V d 4 t) r c := by
  rw [← out0_apply]
  unfold outsAt1 out1_A_5
  rw [View.read_writes_eq_canon _ _ _ (cover1_A_5 _ _ _ _ _ _ _ _ _ _ _ _ _ _ _ _ _ _ _)]
  unfold kernelRun1_A
  dsimp only
  sl_unfold_words
  simp only [View.readAt_eq_ld, Memref.IsWhole.read_unread]
  rfl

end Cert.Proof.Reduce

end
-- ==== Proof.Reduce.Array.lean ====
/-
  The array each launch of the reduce kernel leaves: the first fills rows 0 to 16383 of a fresh array, the second fills
  rows 16384 to 32767 of a copy of it and leaves the others.
-/
module

public import proofs.«01_k».proof.Proof.Reduce.Block

@[expose] public section

set_option maxRecDepth 16384

noncomputable section

namespace Cert.Proof.Reduce

open Idealize.ShloMosaic Idealize.ShloMosaic.TcCoe Cert.ReduceIdeal Cert.ReduceIdeal.Gen

/-- Token `r`'s result at column `c`, from a part's arrays. -/
def partCell (a b : Vec Ideal S4x16384x256 .i32) (x : Vec Ideal S16384x1024 .f32) (g : Vec Ideal S4x16384 .f32)
    (w : Vec Ideal S1x1024 .f32) (r : Fin 16384) (c : Fin 1024) : EReal :=
  normed (tokenRow (fun k j => a (ix3 k r j)) (fun k j => b (ix3 k r j)) (fun j => x (ix2 r j)) (fun k => g (ix2 k r)))
    (w (ix2 0 c)) c

/-- Row `1024 t + r` of a part. -/
def rowAt (t : ℕ) (ht : t < 16) (r : Fin 1024) : Fin 16384 := ⟨t * 1024 + r, by omega⟩

/-- A token's row within the second part. -/
def upper (r : Fin 32768) : Fin 16384 := ⟨r - 16384, by omega⟩

variable (V : (c : Dev nD) → (b : Ref sig .tc) → Buf (Elt Ideal) ((c : Thread nD τ).loc b)) (d : Dev nD)

/-! ## The first launch -/

/-- Where each window stands at a grid point. -/
theorem idx0 : ∀ t : Fin cfg0.N,
    (win0_0.index t (0 : Fin 3) = 0 ∧ win0_0.index t (1 : Fin 3) = t ∧ win0_0.index t (2 : Fin 3) = 0)
      ∧ (win0_1.index t (0 : Fin 3) = 0 ∧ win0_1.index t (1 : Fin 3) = t ∧ win0_1.index t (2 : Fin 3) = 0)
      ∧ (win0_2.index t (0 : Fin 2) = t ∧ win0_2.index t (1 : Fin 2) = 0)
      ∧ (win0_3.index t (0 : Fin 2) = 0 ∧ win0_3.index t (1 : Fin 2) = t)
      ∧ (win0_4.index t (0 : Fin 2) = 0 ∧ win0_4.index t (1 : Fin 2) = 0)
      ∧ (win0_5.index t (0 : Fin 2) = t ∧ win0_5.index t (1 : Fin 2) = 0) :=
  (by decide +kernel : ∀ t : Fin grid0.N, _)

theorem lt0 (t : Fin cfg0.N) : (t : ℕ) < 16 := Nat.lt_of_lt_of_eq t.isLt N_0

theorem iblk0_0_apply (t : Fin cfg0.N) (k : Fin 4) (r : Fin 1024) (j : Fin 256) :
    iblk0 V d 0 t (ix3 k r j) = V d main_v0 (ix3 k (rowAt t (lt0 t) r) j) := by
  obtain ⟨⟨h0, h1, h2⟩, -⟩ := idx0 t
  refine congrArg (V d main_v0) (funext fun a => Fin.ext ?_)
  match a with
  | ⟨0, _⟩ => show win0_0.index t (0 : Fin 3) * 4 + 1 * k.val = k.val; omega
  | ⟨1, _⟩ => show win0_0.index t (1 : Fin 3) * 1024 + 1 * r.val = t * 1024 + r; omega
  | ⟨2, _⟩ => show win0_0.index t (2 : Fin 3) * 256 + 1 * j.val = j.val; omega

theorem iblk0_1_apply (t : Fin cfg0.N) (k : Fin 4) (r : Fin 1024) (j : Fin 256) :
    iblk0 V d 1 t (ix3 k r j) = V d main_v1 (ix3 k (rowAt t (lt0 t) r) j) := by
  obtain ⟨-, ⟨h0, h1, h2⟩, -⟩ := idx0 t
  refine congrArg (V d main_v1) (funext fun a => Fin.ext ?_)
  match a with
  | ⟨0, _⟩ => show win0_1.index t (0 : Fin 3) * 4 + 1 * k.val = k.val; omega
  | ⟨1, _⟩ => show win0_1.index t (1 : Fin 3) * 1024 + 1 * r.val = t * 1024 + r; omega
  | ⟨2, _⟩ => show win0_1.index t (2 : Fin 3) * 256 + 1 * j.val = j.val; omega

theorem iblk0_2_apply (t : Fin cfg0.N) (r j : Fin 1024) :
    iblk0 V d 2 t (ix2 r j) = V d main_arg2 (ix2 (rowAt t (lt0 t) r) j) := by
  obtain ⟨-, -, ⟨h0, h1⟩, -⟩ := idx0 t
  refine congrArg (V d main_arg2) (funext fun a => Fin.ext ?_)
  match a with
  | ⟨0, _⟩ => show win0_2.index t (0 : Fin 2) * 1024 + 1 * r.val = t * 1024 + r; omega
  | ⟨1, _⟩ => show win0_2.index t (1 : Fin 2) * 1024 + 1 * j.val = j.val; omega

theorem iblk0_3_apply (t : Fin cfg0.N) (k : Fin 4) (r : Fin 1024) :
    iblk0 V d 3 t (ix2 k r) = V d main_arg3 (ix2 k (rowAt t (lt0 t) r)) := by
  obtain ⟨-, -, -, ⟨h0, h1⟩, -⟩ := idx0 t
  refine congrArg (V d main_arg3) (funext fun a => Fin.ext ?_)
  match a with
  | ⟨0, _⟩ => show win0_3.index t (0 : Fin 2) * 4 + 1 * k.val = k.val; omega
  | ⟨1, _⟩ => show win0_3.index t (1 : Fin 2) * 1024 + 1 * r.val = t * 1024 + r; omega

theorem iblk0_4_apply (t : Fin cfg0.N) (c : Fin 1024) : iblk0 V d 4 t (ix2 0 c) = V d main_arg8 (ix2 0 c) := by
  obtain ⟨-, -, -, -, ⟨h0, h1⟩, -⟩ := idx0 t
  refine congrArg (V d main_arg8) (funext fun a => Fin.ext ?_)
  match a with
  | ⟨0, _⟩ => show win0_4.index t (0 : Fin 2) * 1 + 1 * 0 = 0; omega
  | ⟨1, _⟩ => show win0_4.index t (1 : Fin 2) * 1024 + 1 * c.val = c.val; omega

/-- The first launch's rows as one function of the arrays it finds. -/
def G0 : Vec Ideal S32768x1024 .f32 := fun i =>
  if h : ((i 0 : Fin 32768) : ℕ) < 16384 then
    partCell (V d main_v0) (V d main_v1) (V d main_arg2) (V d main_arg3) (V d main_arg8) ⟨(i 0 : Fin 32768), h⟩ (i 1)
  else 0

theorem flushed0 (t : Fin cfg0.N) :
    (dat0 V d).flushed 5 t = ((cfg0.win 5).blk t).view.read (Elt Ideal) (G0 V d) := by
  obtain ⟨-, -, -, -, -, h0, h1⟩ := idx0 t
  have ht := lt0 t
  show (cfg0.win 5).cut (grid0.coords t) ((dat0 V d).after 5 t) = _
  rw [after0_5]
  refine funext fun (i : S1024x1024.Idx) => ?_
  obtain ⟨r, c, rfl⟩ : ∃ r c : Fin 1024, i = ix2 r c := ⟨i 0, i 1, by funext a; fin_cases a <;> rfl⟩
  have e : ((cfg0.win 5).blk t).view.emb (ix2 r c) = (ix2 (⟨t * 1024 + r, by omega⟩ : Fin 32768) c : S32768x1024.Idx) := by
    refine funext fun a => Fin.ext ?_
    match a with
    | ⟨0, _⟩ => show win0_5.index t (0 : Fin 2) * 1024 + 1 * r.val = t * 1024 + r; omega
    | ⟨1, _⟩ => show win0_5.index t (1 : Fin 2) * 1024 + 1 * c.val = c.val; omega
  show out0_5 _ _ _ _ _ (ix2 r c) = G0 V d (((cfg0.win 5).blk t).view.emb (ix2 r c))
  rw [e, out0_apply]
  refine Eq.trans ?_ (dif_pos (show t * 1024 + (r : ℕ) < 16384 by omega)).symm
  unfold blockCell partCell
  simp only [iblk0_0_apply, iblk0_1_apply, iblk0_2_apply, iblk0_3_apply, iblk0_4_apply]
  rfl

theorem mem_blk0 (t : Fin cfg0.N) (i : S32768x1024.Idx) :
    i ∈ ((cfg0.win 5).blk t).view.set
      ↔ ∀ a : Fin 2, win0_5.index t a * S1024x1024.size a ≤ i a ∧ (i a : ℕ) < win0_5.index t a * S1024x1024.size a + S1024x1024.size a := by
  show i ∈ ((View.whole main_v2).slice (win0_5.rect t)).set ↔ _
  rw [View.set_slice_whole, Rect.mem_set_unit]
  exact Iff.rfl

/-- Rows 0 to 16383 after the first launch. -/
theorem arr0_apply (r : Fin 32768) (hr : (r : ℕ) < 16384) (c : Fin 1024) :
    (dat0 V d).arrAt 5 cfg0.N (ix2 r c)
      = partCell (V d main_v0) (V d main_v1) (V d main_arg2) (V d main_arg3) (V d main_arg8) ⟨r, hr⟩ c := by
  rw [(dat0 V d).arrAt_eq_piecewise 5 (G0 V d) (fun t _ => flushed0 V d t)]
  rw [if_pos]
  · exact dif_pos hr
  · have hlt : r / 1024 < grid0.N := by have := N_0; omega
    refine ⟨⟨r / 1024, hlt⟩, flush0_5 _, ?_⟩
    rw [mem_blk0]
    obtain ⟨-, -, -, -, -, h0, h1⟩ := idx0 ⟨r / 1024, hlt⟩
    intro a
    match a with
    | ⟨0, _⟩ =>
      show win0_5.index _ (0 : Fin 2) * 1024 ≤ r.val ∧ r.val < win0_5.index _ (0 : Fin 2) * 1024 + 1024
      rw [h0]; show r.val / 1024 * 1024 ≤ r.val ∧ r.val < r.val / 1024 * 1024 + 1024; omega
    | ⟨1, _⟩ =>
      show win0_5.index _ (1 : Fin 2) * 1024 ≤ c.val ∧ c.val < win0_5.index _ (1 : Fin 2) * 1024 + 1024
      rw [h1]; omega

/-! ## The second launch -/

/-- Where each window stands at a grid point. -/
theorem idx1 : ∀ t : Fin cfg1.N,
    (win1_0.index t (0 : Fin 3) = 0 ∧ win1_0.index t (1 : Fin 3) = t ∧ win1_0.index t (2 : Fin 3) = 0)
      ∧ (win1_1.index t (0 : Fin 3) = 0 ∧ win1_1.index t (1 : Fin 3) = t ∧ win1_1.index t (2 : Fin 3) = 0)
      ∧ (win1_2.index t (0 : Fin 2) = t ∧ win1_2.index t (1 : Fin 2) = 0)
      ∧ (win1_3.index t (0 : Fin 2) = 0 ∧ win1_3.index t (1 : Fin 2) = t)
      ∧ (win1_4.index t (0 : Fin 2) = 0 ∧ win1_4.index t (1 : Fin 2) = 0)
      ∧ (win1_5.index t (0 : Fin 2) = t + 16 ∧ win1_5.index t (1 : Fin 2) = 0) :=
  (by decide +kernel : ∀ t : Fin grid1.N, _)

theorem lt1 (t : Fin cfg1.N) : (t : ℕ) < 16 := Nat.lt_of_lt_of_eq t.isLt N_1

theorem iblk1_0_apply (t : Fin cfg1.N) (k : Fin 4) (r : Fin 1024) (j : Fin 256) :
    iblk1 V d 0 t (ix3 k r j) = V d main_v3 (ix3 k (rowAt t (lt1 t) r) j) := by
  obtain ⟨⟨h0, h1, h2⟩, -⟩ := idx1 t
  refine congrArg (V d main_v3) (funext fun a => Fin.ext ?_)
  match a with
  | ⟨0, _⟩ => show win1_0.index t (0 : Fin 3) * 4 + 1 * k.val = k.val; omega
  | ⟨1, _⟩ => show win1_0.index t (1 : Fin 3) * 1024 + 1 * r.val = t * 1024 + r; omega
  | ⟨2, _⟩ => show win1_0.index t (2 : Fin 3) * 256 + 1 * j.val = j.val; omega

theorem iblk1_1_apply (t : Fin cfg1.N) (k : Fin 4) (r : Fin 1024) (j : Fin 256) :
    iblk1 V d 1 t (ix3 k r j) = V d main_v4 (ix3 k (rowAt t (lt1 t) r) j) := by
  obtain ⟨-, ⟨h0, h1, h2⟩, -⟩ := idx1 t
  refine congrArg (V d main_v4) (funext fun a => Fin.ext ?_)
  match a with
  | ⟨0, _⟩ => show win1_1.index t (0 : Fin 3) * 4 + 1 * k.val = k.val; omega
  | ⟨1, _⟩ => show win1_1.index t (1 : Fin 3) * 1024 + 1 * r.val = t * 1024 + r; omega
  | ⟨2, _⟩ => show win1_1.index t (2 : Fin 3) * 256 + 1 * j.val = j.val; omega

theorem iblk1_2_apply (t : Fin cfg1.N) (r j : Fin 1024) :
    iblk1 V d 2 t (ix2 r j) = V d main_arg6 (ix2 (rowAt t (lt1 t) r) j) := by
  obtain ⟨-, -, ⟨h0, h1⟩, -⟩ := idx1 t
  refine congrArg (V d main_arg6) (funext fun a => Fin.ext ?_)
  match a with
  | ⟨0, _⟩ => show win1_2.index t (0 : Fin 2) * 1024 + 1 * r.val = t * 1024 + r; omega
  | ⟨1, _⟩ => show win1_2.index t (1 : Fin 2) * 1024 + 1 * j.val = j.val; omega

theorem iblk1_3_apply (t : Fin cfg1.N) (k : Fin 4) (r : Fin 1024) :
    iblk1 V d 3 t (ix2 k r) = V d main_arg7 (ix2 k (rowAt t (lt1 t) r)) := by
  obtain ⟨-, -, -, ⟨h0, h1⟩, -⟩ := idx1 t
  refine congrArg (V d main_arg7) (funext fun a => Fin.ext ?_)
  match a with
  | ⟨0, _⟩ => show win1_3.index t (0 : Fin 2) * 4 + 1 * k.val = k.val; omega
  | ⟨1, _⟩ => show win1_3.index t (1 : Fin 2) * 1024 + 1 * r.val = t * 1024 + r; omega

theorem iblk1_4_apply (t : Fin cfg1.N) (c : Fin 1024) : iblk1 V d 4 t (ix2 0 c) = V d main_arg8 (ix2 0 c) := by
  obtain ⟨-, -, -, -, ⟨h0, h1⟩, -⟩ := idx1 t
  refine congrArg (V d main_arg8) (funext fun a => Fin.ext ?_)
  match a with
  | ⟨0, _⟩ => show win1_4.index t (0 : Fin 2) * 1 + 1 * 0 = 0; omega
  | ⟨1, _⟩ => show win1_4.index t (1 : Fin 2) * 1024 + 1 * c.val = c.val; omega

/-- The second launch's rows as one function of the arrays it finds. -/
def G1 : Vec Ideal S32768x1024 .f32 := fun i =>
  if 16384 ≤ ((i 0 : Fin 32768) : ℕ) then
    partCell (V d main_v3) (V d main_v4) (V d main_arg6) (V d main_arg7) (V d main_arg8) (upper (i 0)) (i 1)
  else 0

theorem flushed1 (t : Fin cfg1.N) :
    (dat1 V d).flushed 5 t = ((cfg1.win 5).blk t).view.read (Elt Ideal) (G1 V d) := by
  obtain ⟨-, -, -, -, -, h0, h1⟩ := idx1 t
  have ht := lt1 t
  show (cfg1.win 5).cut (grid1.coords t) ((dat1 V d).after 5 t) = _
  rw [after1_5]
  refine funext fun (i : S1024x1024.Idx) => ?_
  obtain ⟨r, c, rfl⟩ : ∃ r c : Fin 1024, i = ix2 r c := ⟨i 0, i 1, by funext a; fin_cases a <;> rfl⟩
  have e : ((cfg1.win 5).blk t).view.emb (ix2 r c) = (ix2 (⟨16384 + (t * 1024 + r), by omega⟩ : Fin 32768) c : S32768x1024.Idx) := by
    refine funext fun a => Fin.ext ?_
    match a with
    | ⟨0, _⟩ => show win1_5.index t (0 : Fin 2) * 1024 + 1 * r.val = 16384 + (t * 1024 + r); omega
    | ⟨1, _⟩ => show win1_5.index t (1 : Fin 2) * 1024 + 1 * c.val = c.val; omega
  show outsAt1 V d t (ix2 r c) = G1 V d (((cfg1.win 5).blk t).view.emb (ix2 r c))
  rw [e, outs1_apply]
  refine Eq.trans ?_ (if_pos (show 16384 ≤ 16384 + (t * 1024 + (r : ℕ)) by omega)).symm
  have er : upper ⟨16384 + (t * 1024 + r), by omega⟩ = rowAt t ht r :=
    Fin.ext (by show 16384 + (t * 1024 + (r : ℕ)) - 16384 = t * 1024 + r; omega)
  show _ = partCell _ _ _ _ _ (upper ⟨16384 + (t * 1024 + r), _⟩) c
  rw [er]
  unfold blockCell partCell
  simp only [iblk1_0_apply, iblk1_1_apply, iblk1_2_apply, iblk1_3_apply, iblk1_4_apply]

theorem mem_blk1 (t : Fin cfg1.N) (i : S32768x1024.Idx) :
    i ∈ ((cfg1.win 5).blk t).view.set
      ↔ ∀ a : Fin 2, win1_5.index t a * S1024x1024.size a ≤ i a ∧ (i a : ℕ) < win1_5.index t a * S1024x1024.size a + S1024x1024.size a := by
  show i ∈ ((View.whole main_v5).slice (win1_5.rect t)).set ↔ _
  rw [View.set_slice_whole, Rect.mem_set_unit]
  exact Iff.rfl

/-- Rows 16384 to 32767 after the second launch. -/
theorem arr1_apply (r : Fin 32768) (hr : 16384 ≤ (r : ℕ)) (c : Fin 1024) :
    (dat1 V d).arrAt 5 cfg1.N (ix2 r c)
      = partCell (V d main_v3) (V d main_v4) (V d main_arg6) (V d main_arg7) (V d main_arg8) (upper r) c := by
  rw [(dat1 V d).arrAt_eq_piecewise 5 (G1 V d) (fun t _ => flushed1 V d t)]
  rw [if_pos]
  · exact if_pos hr
  · have hlt : (r - 16384) / 1024 < grid1.N := by have := N_1; omega
    refine ⟨⟨(r - 16384) / 1024, hlt⟩, flush1_5 _, ?_⟩
    rw [mem_blk1]
    obtain ⟨-, -, -, -, -, h0, h1⟩ := idx1 ⟨(r - 16384) / 1024, hlt⟩
    intro a
    match a with
    | ⟨0, _⟩ =>
      show win1_5.index _ (0 : Fin 2) * 1024 ≤ r.val ∧ r.val < win1_5.index _ (0 : Fin 2) * 1024 + 1024
      rw [h0]
      show ((r.val - 16384) / 1024 + 16) * 1024 ≤ r.val ∧ r.val < ((r.val - 16384) / 1024 + 16) * 1024 + 1024
      omega
    | ⟨1, _⟩ =>
      show win1_5.index _ (1 : Fin 2) * 1024 ≤ c.val ∧ c.val < win1_5.index _ (1 : Fin 2) * 1024 + 1024
      rw [h1]; omega

/-- The second launch leaves rows 0 to 16383 as it finds them. -/
theorem arr1_kept (r : Fin 32768) (hr : (r : ℕ) < 16384) (c : Fin 1024) :
    (dat1 V d).arrAt 5 cfg1.N (ix2 r c) = V d main_v5 (ix2 r c) := by
  rw [(dat1 V d).arrAt_eq_piecewise 5 (G1 V d) (fun t _ => flushed1 V d t)]
  rw [if_neg]
  · rw [A_eq1]
  · rintro ⟨t, -, hm⟩
    rw [mem_blk1] at hm
    obtain ⟨-, -, -, -, -, h0, -⟩ := idx1 t
    have h : win1_5.index t (0 : Fin 2) * 1024 ≤ r.val := (hm 0).1
    rw [h0] at h; omega

end Cert.Proof.Reduce

end
-- ==== Proof.Reduce.Ref.lean ====
/-
  The plain reference of the residual sum and the final norm, element by element.
-/
module

public import proofs.«01_k».proof.Proof.Gen.ReduceRefIdeal.Run
public import proofs.«01_k».proof.Proof.Reduce.Cell
public import Idealize.ShloMosaic.Lib.Pointwise

@[expose] public section

set_option maxRecDepth 16384

noncomputable section

namespace Cert.Proof.Reduce

open Idealize.ShloMosaic Idealize.ShloMosaic.TcCoe Cert.ReduceRefIdeal Cert.ReduceRefIdeal.Gen
  Cert.ReduceRefIdeal.Value

/-- The row of the packed expert rows that holds token `r`'s row for its expert `k`. -/
def packedRow (k : Fin 4) (r : Fin 16384) : Fin 65536 := ⟨k * 16384 + r, by omega⟩

/-- A part's rows before the norm, as the reference computes them. -/
def refPart (a b : IVec S65536x256 32) (x : FVec Ideal S16384x1024 .f32) (g : FVec Ideal S4x16384 .f32) :
    FVec Ideal S16384x1024 .f32 :=
  addf x (Host.dotGeneral dot_S4x16384x1024_S4x16384_S16384x1024_0_0_2_n_1_1 none
    (shapeCast _ (concatenate S65536x1024 1
      [⟨S65536x512, (bitcastToFloat (F := Ideal) .f32 (Host.shli (concatenate S65536x512 1 [⟨S65536x256, a⟩, ⟨S65536x256, b⟩] concatenates_S65536x256_S65536x256_S65536x512_d1) (broadcastInDim S65536x512 ![] bcast_S_S65536x512 (constantI S_ 32 16#32))))⟩,
       ⟨S65536x512, (bitcastToFloat (F := Ideal) .f32 (andi (concatenate S65536x512 1 [⟨S65536x256, a⟩, ⟨S65536x256, b⟩] concatenates_S65536x256_S65536x256_S65536x512_d1) (broadcastInDim S65536x512 ![] bcast_S_S65536x512 (constantI S_ 32 4294901760#32))))⟩]
      concatenates_S65536x512_S65536x512_S65536x1024_d1) shapeCasts_S65536x1024_S4x16384x1024) g)

theorem refPart_apply (a b : IVec S65536x256 32) (x : FVec Ideal S16384x1024 .f32) (g : FVec Ideal S4x16384 .f32)
    (r : Fin 16384) (c : Fin 1024) :
    refPart a b x g (ix2 r c)
      = tokenRow (fun k j => a (ix2 (packedRow k r) j)) (fun k j => b (ix2 (packedRow k r) j)) (fun j => x (ix2 r j))
          (fun k => g (ix2 k r)) c := by
  unfold tokenRow
  rw [gated_eq_sum]
  unfold refPart
  pointwise
  rfl

/-- Both parts' rows one after the other. -/
def refRows (a b : FVec Ideal S16384x1024 .f32) : FVec Ideal S32768x1024 .f32 :=
  concatenate S32768x1024 0 [⟨S16384x1024, a⟩, ⟨S16384x1024, b⟩] concatenates_S16384x1024_S16384x1024_S32768x1024_d0

/-- The reference's norm of an array's rows. -/
def refNorm (x : FVec Ideal S32768x1024 .f32) (w : FVec Ideal S1x1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x3727C5AC#32))))))
    (broadcastInDim S32768x1024 ![0, 1] bcast_S1x1024_S32768x1024_0_1 w)

theorem refNorm_apply (x : FVec Ideal S32768x1024 .f32) (w : FVec Ideal S1x1024 .f32) (r : Fin 32768) (c : Fin 1024) :
    refNorm x w (ix2 r c) = normed (fun j => x (ix2 r j)) (w (ix2 0 c)) c := by
  unfold refNorm
  pointwise
  rfl

theorem refRows_lower (a b : FVec Ideal S16384x1024 .f32) (r : Fin 32768) (hr : (r : ℕ) < 16384) (c : Fin 1024) :
    refRows a b (ix2 r c) = a (ix2 ⟨r, hr⟩ c) := by
  unfold refRows
  pointwise
  rw [dif_pos hr]

theorem refRows_upper (a b : FVec Ideal S16384x1024 .f32) (r : Fin 32768) (hr : ¬ (r : ℕ) < 16384) (c : Fin 1024) :
    refRows a b (ix2 r c) = b (ix2 ⟨r - 16384, by omega⟩ c) := by
  unfold refRows
  pointwise
  rw [dif_neg hr]

variable (m : (ℓ : Loc nD τ sig) → Buf (Elt Ideal) ℓ) (d : Dev nD)

/-- The reference's result as the norm of the two parts' rows. -/
theorem res_eq :
    res_out0 m d
      = refNorm (refRows
          (refPart (m ((d : Thread nD τ).loc main_arg0)) (m ((d : Thread nD τ).loc main_arg1)) (m ((d : Thread nD τ).loc main_arg2)) (m ((d : Thread nD τ).loc main_arg3)))
          (refPart (m ((d : Thread nD τ).loc main_arg4)) (m ((d : Thread nD τ).loc main_arg5)) (m ((d : Thread nD τ).loc main_arg6)) (m ((d : Thread nD τ).loc main_arg7))))
          (m ((d : Thread nD τ).loc main_arg8)) := by
  unfold res_out0 res_main_v34
  rfl

end Cert.Proof.Reduce

end
-- ==== Proof.Reduce.Run.lean ====
/-
  The two launches of the reduce kernel, run: the result array holds what the second launch leaves.
-/
module

public import proofs.«01_k».proof.Proof.Gen.ReduceIdeal.Frame

@[expose] public section

set_option maxRecDepth 16384

noncomputable section

namespace Cert.Proof.Reduce

open Cert.ReduceIdeal Cert.ReduceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- From any memory with zero counters every execution ends with the result array at what the second launch leaves and
    every argument as it was. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Proof.Reduce

end
-- ==== Proof.Reduce.Value.lean ====
/-
  The residual sum and the final norm: the two launches of the reduce kernel and the plain reference leave the same array,
  over the extended reals.
-/
module

public import proofs.«01_k».proof.Proof.Reduce.Array
public import proofs.«01_k».proof.Proof.Reduce.Ref
public import proofs.«01_k».proof.Proof.Reduce.Run

@[expose] public section

set_option maxRecDepth 16384

noncomputable section

namespace Cert.Proof.Reduce

open Idealize.ShloMosaic Idealize.ShloMosaic.TcCoe Cert.ReduceIdeal Cert.ReduceIdeal.Gen

variable (m : (ℓ : Loc nD τ sig) → Buf (Elt Ideal) ℓ) (ρ : Dev nD → PrngReg) (d : Dev nD)

/-- The packed rows of a part, one expert after another, as an array of four. -/
def byExpert (a : Vec Ideal S65536x256 .i32) : Vec Ideal S4x16384x256 .i32 :=
  shapeCast _ a shapeCasts_S65536x256_S4x16384x256

theorem byExpert_apply (a : Vec Ideal S65536x256 .i32) (k : Fin 4) (r : Fin 16384) (j : Fin 256) :
    byExpert a (ix3 k r j) = a (ix2 (packedRow k r) j) := by
  unfold byExpert
  pointwise
  rfl

/-! ## The arrays each launch finds -/

theorem V1_main_v0 : V1 m ρ d main_v0 = byExpert (m ((d : Thread nD τ).loc main_arg0)) := by
  show StableHlo.after hostOps0 (W0 m ρ d) (Proc.devRef .tc main_v0) = _
  after_results <;> rfl

theorem V1_main_v1 : V1 m ρ d main_v1 = byExpert (m ((d : Thread nD τ).loc main_arg1)) := by
  show StableHlo.after hostOps0 (W0 m ρ d) (Proc.devRef .tc main_v1) = _
  after_results <;> rfl

theorem V3_main_v3 : V3 m ρ d main_v3 = byExpert (m ((d : Thread nD τ).loc main_arg4)) := by
  have h : V3 m ρ d main_v3 = byExpert (W2 m ρ d (Proc.devRef .tc main_arg4)) := by
    show StableHlo.after hostOps1 (W2 m ρ d) (Proc.devRef .tc main_v3) = _
    generalize W2 m ρ d = W
    after_results <;> rfl
  rw [h, W2_args m ρ d main_arg4 (by decide)]

theorem V3_main_v4 : V3 m ρ d main_v4 = byExpert (m ((d : Thread nD τ).loc main_arg5)) := by
  have h : V3 m ρ d main_v4 = byExpert (W2 m ρ d (Proc.devRef .tc main_arg5)) := by
    show StableHlo.after hostOps1 (W2 m ρ d) (Proc.devRef .tc main_v4) = _
    generalize W2 m ρ d = W
    after_results <;> rfl
  rw [h, W2_args m ρ d main_arg5 (by decide)]

theorem V3_main_v5 : V3 m ρ d main_v5 = (dat0 (V1 m ρ) d).arrAt 5 cfg0.N := by
  have h : V3 m ρ d main_v5 = W2 m ρ d (Proc.devRef .tc main_v2) := by
    show StableHlo.after hostOps1 (W2 m ρ d) (Proc.devRef .tc main_v5) = _
    generalize W2 m ρ d = W
    after_results <;> rfl
  exact h.trans (W2_arr m ρ d 5)

/-! ## The result -/

/-- The kernel's result at row `r`, column `c`. -/
def resultCell (r : Fin 32768) (c : Fin 1024) : EReal :=
  if h : (r : ℕ) < 16384 then
    partCell (byExpert (m ((d : Thread nD τ).loc main_arg0))) (byExpert (m ((d : Thread nD τ).loc main_arg1)))
      (m ((d : Thread nD τ).loc main_arg2)) (m ((d : Thread nD τ).loc main_arg3)) (m ((d : Thread nD τ).loc main_arg8)) ⟨r, h⟩ c
  else
    partCell (byExpert (m ((d : Thread nD τ).loc main_arg4))) (byExpert (m ((d : Thread nD τ).loc main_arg5)))
      (m ((d : Thread nD τ).loc main_arg6)) (m ((d : Thread nD τ).loc main_arg7)) (m ((d : Thread nD τ).loc main_arg8)) (upper r) c

/-- The kernel's result array. -/
def result : Buf (Elt Ideal) ((d : Thread nD τ).loc main_v5) := W4 m ρ d (Proc.devRef .tc main_v5)

theorem result_apply (r : Fin 32768) (c : Fin 1024) : result m ρ d (ix2 r c) = resultCell m d r c := by
  have e : result m ρ d = (dat1 (V3 m ρ) d).arrAt 5 cfg1.N := W4_arr m ρ d 5
  rw [e]
  unfold resultCell
  split
  · rename_i h
    rw [arr1_kept (V3 m ρ) d r h c, V3_main_v5, arr0_apply (V1 m ρ) d r h c, V1_main_v0, V1_main_v1]
    rw [show V1 m ρ d main_arg2 = _ from W1_args m ρ d main_arg2 (by decide),
      show V1 m ρ d main_arg3 = _ from W1_args m ρ d main_arg3 (by decide),
      show V1 m ρ d main_arg8 = _ from W1_args m ρ d main_arg8 (by decide)]
  · rename_i h
    rw [arr1_apply (V3 m ρ) d r (by omega) c, V3_main_v3, V3_main_v4]
    rw [show V3 m ρ d main_arg6 = _ from W3_args m ρ d main_arg6 (by decide),
      show V3 m ρ d main_arg7 = _ from W3_args m ρ d main_arg7 (by decide),
      show V3 m ρ d main_arg8 = _ from W3_args m ρ d main_arg8 (by decide)]

/-- A token's rows as the kernel and as the reference read them. -/
theorem partCell_eq (a b : Vec Ideal S65536x256 .i32) (x : Vec Ideal S16384x1024 .f32) (g : Vec Ideal S4x16384 .f32)
    (w : Vec Ideal S1x1024 .f32) (r : Fin 16384) (c : Fin 1024) :
    partCell (byExpert a) (byExpert b) x g w r c = normed (fun j => refPart a b x g (ix2 r j)) (w (ix2 0 c)) c := by
  unfold partCell
  simp only [byExpert_apply, refPart_apply]

/-- The kernel's result is the reference's, at the same arguments. -/
theorem result_eq (m' : (ℓ : Loc Cert.ReduceRefIdeal.nD Cert.ReduceRefIdeal.τ Cert.ReduceRefIdeal.sig) → Buf (Elt Ideal) ℓ)
    (e0 : m' ((d.tc : Thread _ Cert.ReduceRefIdeal.τ).loc Cert.ReduceRefIdeal.main_arg0) = m ((d : Thread nD τ).loc main_arg0))
    (e1 : m' ((d.tc : Thread _ Cert.ReduceRefIdeal.τ).loc Cert.ReduceRefIdeal.main_arg1) = m ((d : Thread nD τ).loc main_arg1))
    (e2 : m' ((d.tc : Thread _ Cert.ReduceRefIdeal.τ).loc Cert.ReduceRefIdeal.main_arg2) = m ((d : Thread nD τ).loc main_arg2))
    (e3 : m' ((d.tc : Thread _ Cert.ReduceRefIdeal.τ).loc Cert.ReduceRefIdeal.main_arg3) = m ((d : Thread nD τ).loc main_arg3))
    (e4 : m' ((d.tc : Thread _ Cert.ReduceRefIdeal.τ).loc Cert.ReduceRefIdeal.main_arg4) = m ((d : Thread nD τ).loc main_arg4))
    (e5 : m' ((d.tc : Thread _ Cert.ReduceRefIdeal.τ).loc Cert.ReduceRefIdeal.main_arg5) = m ((d : Thread nD τ).loc main_arg5))
    (e6 : m' ((d.tc : Thread _ Cert.ReduceRefIdeal.τ).loc Cert.ReduceRefIdeal.main_arg6) = m ((d : Thread nD τ).loc main_arg6))
    (e7 : m' ((d.tc : Thread _ Cert.ReduceRefIdeal.τ).loc Cert.ReduceRefIdeal.main_arg7) = m ((d : Thread nD τ).loc main_arg7))
    (e8 : m' ((d.tc : Thread _ Cert.ReduceRefIdeal.τ).loc Cert.ReduceRefIdeal.main_arg8) = m ((d : Thread nD τ).loc main_arg8)) :
    Cert.ReduceRefIdeal.Value.res_out0 m' d = result m ρ d := by
  rw [res_eq, e0, e1, e2, e3, e4, e5, e6, e7, e8]
  refine funext fun (i : S32768x1024.Idx) => ?_
  obtain ⟨r, c, rfl⟩ : ∃ (r : Fin 32768) (c : Fin 1024), i = ix2 r c := ⟨i 0, i 1, by funext a; fin_cases a <;> rfl⟩
  refine Eq.trans (refNorm_apply _ _ r c) (Eq.trans ?_ (result_apply m ρ d r c).symm)
  unfold resultCell
  split
  · rename_i h
    rw [partCell_eq]
    exact congrArg (fun a => normed a _ c) (funext fun j => refRows_lower _ _ r h j)
  · rename_i h
    rw [partCell_eq]
    exact congrArg (fun a => normed a _ c) (funext fun j => refRows_upper _ _ r h j)

end Cert.Proof.Reduce

end
-- ==== Proof.Experts.Words.lean ====
/-
  The words the experts' kernel computes from its table, as plain numbers. The table's row 0 names the expert of each of
  the 160 blocks of rows, its word (1, 0) how many blocks are used, and its row 2 how many rows of each block are.
-/
module

public import proofs.«01_k».proof.Proof.Gen.ExpertsIdeal
public import Idealize.ShloMosaic.Lib.WordCmp

@[expose] public section

set_option Elab.async false

noncomputable section

namespace Cert.Proof.Experts

open Cert.ExpertsIdeal Cert.ExpertsIdeal.Gen
open Idealize.ShloMosaic Idealize.ShloMosaic.WordCmp

/-- The table's contents. -/
abbrev Tab : Type := S8x256.Idx → BitVec 32

/-- The table's index at row `r` and column `k`. -/
def tix (r k : ℕ) : S8x256.Idx := fun | 0 => ⟨r % 8, Nat.mod_lt _ (by decide)⟩ | 1 => ⟨k % 256, Nat.mod_lt _ (by decide)⟩

theorem tix_eq {r k : ℕ} {i : S8x256.Idx} (h : (i 0).val = r) (h' : (i 1).val = k) : i = tix r k := by
  have h0 : (i 0).val < 8 := (i 0).isLt
  have h1 : (i 1).val < 256 := (i 1).isLt
  funext a
  match a with
  | 0 => exact Fin.ext (by show (i 0).val = r % 8; omega)
  | 1 => exact Fin.ext (by show (i 1).val = k % 256; omega)

/-- The expert of block `k`; past the last block, the last block's. -/
def ex (M : Tab) (k : ℕ) : BitVec 32 := M (tix 0 (min k 159))
/-- How many blocks are used, as a word. -/
def un (M : Tab) : BitVec 32 := M (tix 1 0)
/-- How many blocks are used. -/
def used (M : Tab) : ℕ := (un M).toNat

/-- What the proof asks of the table: every block's expert is one of the 32, and at least one block is used. -/
structure InRange (M : Tab) : Prop where
  he : ∀ k, (ex M k).toNat < 32
  hu : 1 ≤ used M
  hu' : used M < 2 ^ 31

/-! ## The conditions -/

theorem ofBool_iff {b : Bool} : BitVec.ofBool b = 1#1 ↔ b = true := by cases b <;> decide

/-- A condition read back through a widening and a comparison with zero. -/
theorem ne_ext (b : BitVec 1) : Scalar.cmpi .ne (Scalar.extui b) 0#32 = b := by
  revert b; decide

theorem slt_iff {n : ℕ} {w : BitVec 32} (hn : n < 2 ^ 31) (hw : w.toNat < 2 ^ 31) : Scalar.cmpi .slt (BitVec.ofNat 32 n) w = 1#1 ↔ n < w.toNat := by
  have h : (BitVec.ofNat 32 n).toNat = n := by rw [BitVec.toNat_ofNat]; omega
  show IntOp.cmpi .slt (BitVec.ofNat 32 n) w = 1#1 ↔ _
  rw [cmpi_slt_of_lt (by rw [h]; exact hn) hw, ofBool_iff, h]
  exact decide_eq_true_iff

theorem sge_iff {n : ℕ} {w : BitVec 32} (hn : n < 2 ^ 31) (hw : w.toNat < 2 ^ 31) : Scalar.cmpi .sge (BitVec.ofNat 32 n) w = 1#1 ↔ w.toNat ≤ n := by
  have h : (BitVec.ofNat 32 n).toNat = n := by rw [BitVec.toNat_ofNat]; omega
  show IntOp.cmpi .sge (BitVec.ofNat 32 n) w = 1#1 ↔ _
  rw [cmpi_sge_of_lt (by rw [h]; exact hn) hw, ofBool_iff, h]
  exact decide_eq_true_iff

theorem eq_iff {v w : BitVec 32} : Scalar.cmpi .eq v w = 1#1 ↔ v = w := by
  show IntOp.cmpi .eq v w = 1#1 ↔ _
  rw [cmpi_eq_eq, ofBool_iff]; exact decide_eq_true_iff

theorem ne_iff {v w : BitVec 32} : Scalar.cmpi .ne v w = 1#1 ↔ v ≠ w := by
  show IntOp.cmpi .ne v w = 1#1 ↔ _
  rw [cmpi_ne_eq, ofBool_iff]; exact decide_eq_true_iff

theorem and_iff {a b : BitVec 1} : Scalar.andi a b = 1#1 ↔ a = 1#1 ∧ b = 1#1 := by revert a b; decide
theorem or_iff {a b : BitVec 1} : Scalar.ori a b = 1#1 ↔ a = 1#1 ∨ b = 1#1 := by revert a b; decide

theorem pt_lt (i : grid0.Coords) : (i 0).val < 160 := (i 0).isLt

theorem cond1_iff {M : Tab} (hM : InRange M) (i : grid0.Coords) : k0_cond1 i (un M) = 1#1 ↔ (i 0).val < used M := by
  have := pt_lt i
  exact (Iff.of_eq (congrArg (· = 1#1) (ne_ext _))).trans (slt_iff (by omega) hM.hu')

theorem cond2_iff (i : grid0.Coords) : k0_cond2 i = 1#1 ↔ (i 0).val = 0 := by
  revert i; decide +kernel

theorem cond3_iff (i : grid0.Coords) (v4 v21 : BitVec 32) : k0_cond3 i v4 v21 = 1#1 ↔ ((i 0).val = 0 ∨ v21 ≠ v4) := by
  refine (Iff.of_eq (congrArg (· = 1#1) (ne_ext _))).trans (or_iff.trans (or_congr ?_ ne_iff))
  have := pt_lt i
  rw [eq_iff]
  constructor
  · intro h
    have := congrArg BitVec.toNat h
    rw [BitVec.toNat_ofNat] at this
    simp at this; omega
  · intro h; rw [h]

theorem cond4_iff {M : Tab} (hM : InRange M) {n : ℕ} (hn : n < 2 ^ 31) : k0_cond4 (un M) (BitVec.ofNat 32 n) = 1#1 ↔ n < used M :=
  (Iff.of_eq (congrArg (· = 1#1) (ne_ext _))).trans (slt_iff hn hM.hu')

theorem cond5_iff {M : Tab} (hM : InRange M) (i : grid0.Coords) : k0_cond5 i (un M) = 1#1 ↔ used M ≤ (i 0).val := by
  have := pt_lt i
  exact (Iff.of_eq (congrArg (· = 1#1) (ne_ext _))).trans (sge_iff (by omega) hM.hu')

/-! ## The offsets -/

theorem clip_toNat {n : ℕ} (hn : n < 2 ^ 31) : (Scalar.minsi 159#32 (Scalar.maxsi 0#32 (BitVec.ofNat 32 n))).toNat = min n 159 := by
  have h : (BitVec.ofNat 32 n).toNat = n := by rw [BitVec.toNat_ofNat]; omega
  have hi : (BitVec.ofNat 32 n).toInt = n := by rw [BitVec.toInt_eq_toNat_of_lt (by rw [h]; omega), h]
  show (IntOp.minsi 159#32 (IntOp.maxsi 0#32 (BitVec.ofNat 32 n))).toNat = _
  have e : IntOp.maxsi 0#32 (BitVec.ofNat 32 n) = BitVec.ofNat 32 n := by
    unfold IntOp.maxsi
    rw [if_neg]
    simp only [BitVec.slt, decide_eq_true_eq, hi]; simp
  rw [e]; unfold IntOp.minsi
  by_cases hc : 159 < n
  · rw [if_pos (by simp only [BitVec.slt, decide_eq_true_eq, hi]; simpa using hc)]
    show (159 : ℕ) = _; omega
  · rw [if_neg (by simp only [BitVec.slt, decide_eq_true_eq, hi]; simpa using hc), h]; omega

theorem off2_eq : ∀ i : grid0.Coords, k0_off2 i = ![0, (i 0).val] := by decide +kernel
theorem off6_eq : ∀ i : grid0.Coords, k0_off6 i = ![0, (i 0).val - 1] := by decide +kernel
theorem off20_eq : ∀ i : grid0.Coords, k0_off20 i = ![2, (i 0).val] := by decide +kernel
theorem off3_eq {n : ℕ} (hn : n < 2 ^ 31) : k0_off3 (BitVec.ofNat 32 n) = ![0, min n 159] := congrArg (fun k => ![0, k]) (clip_toNat hn)
theorem off7_eq {n : ℕ} (hn : n < 2 ^ 31) : k0_off7 (BitVec.ofNat 32 n) = ![0, min n 159] := congrArg (fun k => ![0, k]) (clip_toNat hn)
theorem off8_eq : ∀ p < 2, k0_off8 (BitVec.ofNat 32 p) = ![0, p] := by decide +kernel
theorem off9_eq : ∀ p < 2, k0_off9 (BitVec.ofNat 32 p) = ![p, 0, 0] := by decide +kernel
theorem off11_eq : ∀ p < 2, k0_off11 (BitVec.ofNat 32 p) = ![1, p] := by decide +kernel
theorem off12_eq : ∀ p < 2, k0_off12 (BitVec.ofNat 32 p) = ![p, 0, 0] := by decide +kernel
theorem off14_eq : ∀ p < 2, k0_off14 (BitVec.ofNat 32 p) = ![0, 1 - p] := by decide +kernel
theorem off15_eq : ∀ p < 2, k0_off15 (BitVec.ofNat 32 p) = ![1 - p, 0, 0] := by decide +kernel
theorem off17_eq : ∀ p < 2, k0_off17 (BitVec.ofNat 32 p) = ![1, 1 - p] := by decide +kernel
theorem off18_eq : ∀ p < 2, k0_off18 (BitVec.ofNat 32 p) = ![1 - p, 0, 0] := by decide +kernel
theorem off21_eq : ∀ p < 2, k0_off21 (BitVec.ofNat 32 p) = ![p, 0, 0] := by decide +kernel
theorem off22_eq : ∀ p < 2, k0_off22 (BitVec.ofNat 32 p) = ![p, 0, 0] := by decide +kernel
theorem flip_eq : ∀ p < 2, Scalar.subi 1#32 (BitVec.ofNat 32 p) = BitVec.ofNat 32 (1 - p) := by decide +kernel
theorem flip_toNat : ∀ p < 2, (BitVec.ofNat 32 p).toNat = p := by decide +kernel

/-! ## The checks -/

theorem inb_E {e : ℕ} (he : e < 32) : ∀ a, (![e, 0, 0] : Fin 3 → ℕ) a + S1x1024x2048.size a ≤ S32x1024x2048.size a := by
  intro a; match a with
  | 0 => show e + 1 ≤ 32; omega
  | 1 => exact Nat.le_refl _
  | 2 => exact Nat.le_refl _
theorem inb_D {e : ℕ} (he : e < 32) : ∀ a, (![e, 0, 0] : Fin 3 → ℕ) a + S1x1024x1024.size a ≤ S32x1024x1024.size a := by
  intro a; match a with
  | 0 => show e + 1 ≤ 32; omega
  | 1 => exact Nat.le_refl _
  | 2 => exact Nat.le_refl _
theorem words_E : ∀ e < 32, S32x1024x2048.WholeWordsAt (EltTy.packing .bf16) ![e, 0, 0] S1x1024x2048.size (fun _ => 1) := by decide +kernel
theorem words_D : ∀ e < 32, S32x1024x1024.WholeWordsAt (EltTy.packing .bf16) ![e, 0, 0] S1x1024x1024.size (fun _ => 1) := by decide +kernel
theorem inb_gu {p : ℕ} (hp : p < 2) : ∀ a, (![p, 0, 0] : Fin 3 → ℕ) a + S1x1024x2048.size a ≤ S2x1024x2048.size a := by
  intro a; match a with
  | 0 => show p + 1 ≤ 2; omega
  | 1 => exact Nat.le_refl _
  | 2 => exact Nat.le_refl _
theorem inb_dn {p : ℕ} (hp : p < 2) : ∀ a, (![p, 0, 0] : Fin 3 → ℕ) a + S1x1024x1024.size a ≤ S2x1024x1024.size a := by
  intro a; match a with
  | 0 => show p + 1 ≤ 2; omega
  | 1 => exact Nat.le_refl _
  | 2 => exact Nat.le_refl _
theorem inb_sem : ∀ r < 2, ∀ p < 2, ∀ a, (![r, p] : Fin 2 → ℕ) a + S1x1.size a ≤ S2x2.size a := by decide +kernel
theorem words_gu : ∀ p < 2, S2x1024x2048.WholeWordsAt (EltTy.packing .bf16) ![p, 0, 0] S1x1024x2048.size (fun _ => 1) := by decide +kernel
theorem words_dn : ∀ p < 2, S2x1024x1024.WholeWordsAt (EltTy.packing .bf16) ![p, 0, 0] S1x1024x1024.size (fun _ => 1) := by decide +kernel

theorem inb_T {k : ℕ} (hk : k < 256) : ∀ a, (![0, k] : Fin 2 → ℕ) a + S1x1.size a ≤ S8x256.size a := by
  intro a; match a with
  | 0 => exact (by decide : 0 + 1 ≤ 8)
  | 1 => show k + 1 ≤ 256; omega

theorem chk1_of {n : ℕ} (hn : n < 2 ^ 31) : k0_chk1 (BitVec.ofNat 32 n) := by
  unfold k0_chk1; rw [off3_eq hn]; exact inb_T (by omega)
theorem chk2_of (i : grid0.Coords) (v0 : BitVec 32) {v4 : BitVec 32} (h : v4.toNat < 32) : k0_chk2 i v0 v4 :=
  ⟨fun _ _ => inb_E h, fun _ _ _ => words_E _ h, fun _ _ => inb_D h, fun _ _ _ => words_D _ h⟩
theorem chk3_of (i : grid0.Coords) (v0 v21 : BitVec 32) {v4 : BitVec 32} (h : v4.toNat < 32) {n : ℕ} (hn : n < 2 ^ 31) : k0_chk3 i v0 v4 (BitVec.ofNat 32 n) v21 :=
  ⟨fun _ _ _ => by rw [off7_eq hn]; exact inb_T (by omega), fun _ _ => inb_E h, fun _ _ _ => words_E _ h, fun _ _ => inb_D h, fun _ _ _ => words_D _ h⟩
theorem chk5_of (i : grid0.Coords) (v0 v4 v6 v21 : BitVec 32) {v114 : BitVec 32} (h : v114.toNat < 32) : k0_chk5 i v0 v4 v6 v21 v114 :=
  ⟨fun _ _ _ => inb_E h, fun _ _ _ _ => words_E _ h, fun _ _ _ => inb_D h, fun _ _ _ _ => words_D _ h⟩
theorem chk4_of (i : grid0.Coords) (v0 v4 v6 v21 : BitVec 32) {p : ℕ} (hp : p < 2) : k0_chk4 i v0 v4 v6 v21 (BitVec.ofNat 32 p) := by
  have hq : 1 - p < 2 := by omega
  unfold k0_chk4
  rw [off8_eq p hp, off9_eq p hp, off11_eq p hp, off12_eq p hp, off14_eq p hp, off15_eq p hp, off17_eq p hp, off18_eq p hp]
  repeat' apply And.intro
  all_goals intros
  all_goals first
    | exact inb_sem _ (by decide) _ hp _ | exact inb_sem _ (by decide) _ hq _ | exact inb_gu hp _ | exact inb_gu hq _
    | exact inb_dn hp _ | exact inb_dn hq _ | exact words_gu _ hp | exact words_gu _ hq | exact words_dn _ hp | exact words_dn _ hq
theorem chk6_of (i : grid0.Coords) (v0 : BitVec 32) {p : ℕ} (hp : p < 2) : k0_chk6 i v0 (BitVec.ofNat 32 p) := by
  unfold k0_chk6
  rw [off21_eq p hp, off22_eq p hp]
  repeat' apply And.intro
  all_goals intros
  all_goals first | exact inb_gu hp _ | exact inb_dn hp _

/-! ## Which block comes next -/

/-- `n` is where the run of blocks after `j` that use `j`'s expert ends: either past the used blocks, or at a block of another expert. -/
structure Next (M : Tab) (j n : ℕ) : Prop where
  lt : j < n
  small : n < 2 ^ 31
  same : ∀ k, j < k → k < n → k < used M ∧ ex M k = ex M j
  stop : ¬(n < used M ∧ ex M n = ex M j)

theorem Next.eq {M : Tab} {j n n' : ℕ} (h : Next M j n) (h' : Next M j n') : n = n' := by
  rcases Nat.lt_trichotomy n n' with hlt | he | hlt
  · exact absurd (h'.same n h.lt hlt) h.stop
  · exact he
  · exact absurd (h.same n' h'.lt hlt) h'.stop

/-- Within a run the end is the same from the next block. -/
theorem Next.step {M : Tab} {j n : ℕ} (h : Next M j n) (hu : j + 1 < used M) (he : ex M (j + 1) = ex M j) : Next M (j + 1) n := by
  have hne : n ≠ j + 1 := fun e => h.stop (e ▸ ⟨hu, he⟩)
  have := h.lt
  refine ⟨by omega, h.small, fun k h1 h2 => ⟨(h.same k (by omega) h2).1, (h.same k (by omega) h2).2.trans he.symm⟩, fun ⟨h1, h2⟩ => h.stop ⟨h1, h2.trans he⟩⟩

/-- Where the next block has another expert the run ends there. -/
theorem Next.here {M : Tab} {j n : ℕ} (h : Next M j n) (he : ex M (j + 1) ≠ ex M j) : n = j + 1 := by
  have := h.lt
  by_contra hne
  exact he (h.same (j + 1) (by omega) (by omega)).2

/-- The last point's run ends past the used blocks. -/
theorem Next.last {M : Tab} {j n : ℕ} (h : Next M j n) (hj : min (used M) 160 ≤ j + 1) : ¬n < used M := by
  intro hn
  have := h.lt
  have hj' : 159 ≤ j := by omega
  refine h.stop ⟨hn, ?_⟩
  unfold ex
  rw [show min n 159 = 159 by omega, show min j 159 = 159 by omega]

end Cert.Proof.Experts

end
-- ==== Proof.Experts.Slots.lean ====
/-
  The windows the experts' kernel copies weights through: expert `e`'s matrix in HBM, and one of the two slots of a
  double buffer. `landed` names what a double buffer's slot holds once an expert's matrix has been copied into it. The
  two weight arrays (the gate and up matrices, and the down matrices) are treated alike.
-/
module

public import proofs.«01_k».proof.Proof.Experts.Words
public import Idealize.ShloMosaic.Lib.Transfers
public import Idealize.ShloMosaic.Lib.Memref

@[expose] public section

set_option Elab.async false

noncomputable section

namespace Cert.Proof.Experts

open Cert.ExpertsIdeal Cert.ExpertsIdeal.Gen
open Idealize.ShloMosaic

variable {F : FTy → Type}

/-- The semaphore of a copy: row 0 for the gate and up matrices, row 1 for the down matrices, one column for each slot. -/
abbrev semW (off : Fin 2 → ℕ) (h : ∀ a, off a + S1x1.size a ≤ S2x2.size a) : DmaSem sig :=
  (((cc0_scratch2 : DmaSems sig S2x2).slice (Rect.unit (s := S2x2) off S1x1.size h)).squeeze S_ squeezes_S1x1_S_).sem

/-- The same by its row and column. -/
def cell (r p : ℕ) : DmaSem sig := if r = 0 then (if p = 0 then (12 : Fin 16) else (13 : Fin 16)) else (if p = 0 then (14 : Fin 16) else (15 : Fin 16))

theorem semW_eq {r p : ℕ} (hr : r < 2) (hp : p < 2) (h : ∀ a, ![r, p] a + S1x1.size a ≤ S2x2.size a) : semW ![r, p] h = cell r p := by
  rcases (by omega : r = 0 ∨ r = 1) with rfl | rfl <;> rcases (by omega : p = 0 ∨ p = 1) with rfl | rfl <;> (revert h; decide +kernel)

/-! ## The gate and up matrices -/

/-- One slot of the double buffer. -/
abbrev slotG (off : Fin 3 → ℕ) (h : ∀ a, off a + S1x1024x2048.size a ≤ S2x1024x2048.size a) : Memref sig .tc .vmem S1024x2048 .bf16 :=
  ((Memref.whole cc0_scratch0 : Memref sig .tc .vmem S2x1024x2048 .bf16).slice (Rect.unit (s := S2x1024x2048) off S1x1024x2048.size h) (fun _ => rfl)).squeeze
    S1024x2048 squeezes_S1x1024x2048_S1024x2048
/-- One expert's matrix in HBM. -/
abbrev matG (off : Fin 3 → ℕ) (h : ∀ a, off a + S1x1024x2048.size a ≤ S32x1024x2048.size a) : Memref sig .tc .hbm S1024x2048 .bf16 :=
  ((Memref.whole main_arg3 : Memref sig .tc .hbm S32x1024x2048 .bf16).slice (Rect.unit (s := S32x1024x2048) off S1x1024x2048.size h) (fun _ => rfl)).squeeze
    S1024x2048 squeezes_S1x1024x2048_S1024x2048

/-- The elements of slot `p`. -/
def setG (p : ℕ) : Finset S2x1024x2048.Idx := Finset.univ.filter fun i => (i 0).val = p

theorem mem_slotG {p : ℕ} (h) (i : S2x1024x2048.Idx) : i ∈ (slotG ![p, 0, 0] h).view.set ↔ (i 0).val = p := by
  have e : (slotG ![p, 0, 0] h).view.set = (Rect.unit (s := S2x1024x2048) ![p, 0, 0] S1x1024x2048.size h).set := (View.set_reshape _ _).trans (View.set_slice_whole _ _)
  rw [e, Rect.mem_set_unit]
  have h0 := (i 0).isLt; have h1 := (i 1).isLt; have h2 := (i 2).isLt
  constructor
  · intro H; have := H 0; simp at this; omega
  · intro H a
    match a with
    | 0 => simp; omega
    | 1 => simp; exact h1
    | 2 => simp; exact h2

theorem set_slotG {p : ℕ} (h : ∀ a, ![p, 0, 0] a + S1x1024x2048.size a ≤ S2x1024x2048.size a) : (slotG ![p, 0, 0] h).view.set = setG p := by
  ext i; exact (mem_slotG h i).trans (by simp [setG])

/-- An index of the weight array. -/
def ixG (e : ℕ) (a : Fin 1024) (b : Fin 2048) : S32x1024x2048.Idx := fun | 0 => ⟨e % 32, Nat.mod_lt _ (by decide)⟩ | 1 => a | 2 => b

theorem ixG_eq {e : ℕ} {a : Fin 1024} {b : Fin 2048} {i : S32x1024x2048.Idx} (h0 : (i 0).val = e) (h1 : (i 1).val = a.val) (h2 : (i 2).val = b.val) : i = ixG e a b := by
  have hi : (i 0).val < 32 := (i 0).isLt
  funext x
  match x with
  | 0 => exact Fin.ext (by show (i 0).val = e % 32; omega)
  | 1 => exact Fin.ext h1
  | 2 => exact Fin.ext h2

/-- A double buffer whose every slot holds expert `e`'s matrix. -/
def landedG (W : S32x1024x2048.Idx → Elt F .bf16) (e : ℕ) : S2x1024x2048.Idx → Elt F .bf16 := fun i => W (ixG e (i 1) (i 2))

theorem emb_sqG {s0 : Shape} {n : ℕ} (hs : s0 = ⟨3, ![n, 1024, 2048]⟩) {p : ℕ} (h : ∀ a, (![p, 0, 0] : Fin 3 → ℕ) a + S1x1024x2048.size a ≤ (⟨3, ![n, 1024, 2048]⟩ : Shape).size a) (x : S1024x2048.Idx) :
    (((Rect.unit (s := ⟨3, ![n, 1024, 2048]⟩) ![p, 0, 0] S1x1024x2048.size h).emb (Shape.reshapeEquiv squeezes_S1x1024x2048_S1024x2048.numel_eq x)) 0).val = p
      ∧ (((Rect.unit (s := ⟨3, ![n, 1024, 2048]⟩) ![p, 0, 0] S1x1024x2048.size h).emb (Shape.reshapeEquiv squeezes_S1x1024x2048_S1024x2048.numel_eq x)) 1).val = (x 0).val
      ∧ (((Rect.unit (s := ⟨3, ![n, 1024, 2048]⟩) ![p, 0, 0] S1x1024x2048.size h).emb (Shape.reshapeEquiv squeezes_S1x1024x2048_S1024x2048.numel_eq x)) 2).val = (x 1).val := by
  have e : Shape.reshapeEquiv squeezes_S1x1024x2048_S1024x2048.numel_eq x = (fun | 0 => ⟨0, Nat.one_pos⟩ | 1 => x 0 | 2 => x 1 : S1x1024x2048.Idx) :=
    Shape.reshapeEquiv_eq_of_rowMajor _ (by
      rw [Shape.rowMajor_val_two, Shape.rowMajor_val_three]; simp)
  rw [e]
  refine ⟨?_, ?_, ?_⟩ <;> rw [Rect.emb_apply] <;> simp <;> rfl

theorem write_matG (W : S32x1024x2048.Idx → Elt F .bf16) {p e : ℕ} (h) (hb) (fd : S2x1024x2048.Idx → Elt F .bf16) (i : S2x1024x2048.Idx)
    (hi : i ∈ (slotG ![p, 0, 0] h).view.set) :
    (slotG ![p, 0, 0] h).view.write (Elt F) fd ((ReadAs.same : ReadAs (Elt F) S1024x2048 .bf16 S1024x2048 .bf16).apply ((matG ![e, 0, 0] hb).view.read (Elt F) W)) Finset.univ i
      = landedG W e i := by
  obtain ⟨x, -, rfl⟩ := Finset.mem_map.mp hi
  rw [View.write_emb_of_mem _ _ (Finset.mem_univ x)]
  refine (cast_eq _ _).trans ?_
  refine ((View.read_apply _ _).trans (cast_eq _ _)).trans ?_
  unfold landedG
  have hs := emb_sqG (n := 2) rfl h x
  have hm := emb_sqG (n := 32) rfl hb x
  exact congrArg W (ixG_eq hm.1 (hm.2.1.trans hs.2.1.symm) (hm.2.2.trans hs.2.2.symm))

/-- The matrix read off a slot that holds it. -/
def blockG (W : S32x1024x2048.Idx → Elt F .bf16) (e : ℕ) : S1x1024x2048.Idx → Elt F .bf16 := fun x => W (ixG e (x 1) (x 2))

theorem read_slotG (W : S32x1024x2048.Idx → Elt F .bf16) {p e : ℕ} {o : Fin 3 → ℕ} (ho : o = ![p, 0, 0]) (h : ∀ a, o a + S1x1024x2048.size a ≤ S2x1024x2048.size a) (f : S2x1024x2048.Idx → Elt F .bf16)
    (hf : ∀ i ∈ setG p, f i = landedG W e i) :
    ((Memref.whole cc0_scratch0 : Memref sig .tc .vmem S2x1024x2048 .bf16).access (Rect.unit (s := S2x1024x2048) o S1x1024x2048.size h) : View sig .tc _ _ _).read (Elt F) f = blockG W e := by
  subst ho
  funext x
  refine ((View.read_apply _ _).trans (cast_eq _ _)).trans ?_
  have hx : (x 0).val < 1 := (x 0).isLt
  have e0 : (((Rect.unit (s := S2x1024x2048) ![p, 0, 0] S1x1024x2048.size h).emb x) 0).val = p := by rw [Rect.emb_apply]; simp; exact Nat.lt_one_iff.mp hx
  have e1 : (((Rect.unit (s := S2x1024x2048) ![p, 0, 0] S1x1024x2048.size h).emb x) 1).val = (x 1).val := by rw [Rect.emb_apply]; simp
  have e2 : (((Rect.unit (s := S2x1024x2048) ![p, 0, 0] S1x1024x2048.size h).emb x) 2).val = (x 2).val := by rw [Rect.emb_apply]; simp
  refine (hf _ ?_).trans ?_
  · simp only [setG, Finset.mem_filter, Finset.mem_univ, true_and]; exact e0
  · unfold landedG blockG
    exact congrArg W (congrArg₂ (ixG e) (Fin.ext e1) (Fin.ext e2))

theorem access_setG {p : ℕ} {o : Fin 3 → ℕ} (ho : o = ![p, 0, 0]) (h : ∀ a, o a + S1x1024x2048.size a ≤ S2x1024x2048.size a) :
    ((Memref.whole cc0_scratch0 : Memref sig .tc .vmem S2x1024x2048 .bf16).access (Rect.unit (s := S2x1024x2048) o S1x1024x2048.size h) : View sig .tc _ _ _).set = setG p := by
  subst ho
  refine Eq.trans ?_ (set_slotG h)
  exact (View.set_reshape _ _).symm

/-! ## The down matrices -/

/-- One slot of the double buffer. -/
abbrev slotD (off : Fin 3 → ℕ) (h : ∀ a, off a + S1x1024x1024.size a ≤ S2x1024x1024.size a) : Memref sig .tc .vmem S1024x1024 .bf16 :=
  ((Memref.whole cc0_scratch1 : Memref sig .tc .vmem S2x1024x1024 .bf16).slice (Rect.unit (s := S2x1024x1024) off S1x1024x1024.size h) (fun _ => rfl)).squeeze
    S1024x1024 squeezes_S1x1024x1024_S1024x1024
/-- One expert's matrix in HBM. -/
abbrev matD (off : Fin 3 → ℕ) (h : ∀ a, off a + S1x1024x1024.size a ≤ S32x1024x1024.size a) : Memref sig .tc .hbm S1024x1024 .bf16 :=
  ((Memref.whole main_arg5 : Memref sig .tc .hbm S32x1024x1024 .bf16).slice (Rect.unit (s := S32x1024x1024) off S1x1024x1024.size h) (fun _ => rfl)).squeeze
    S1024x1024 squeezes_S1x1024x1024_S1024x1024

/-- The elements of slot `p`. -/
def setD (p : ℕ) : Finset S2x1024x1024.Idx := Finset.univ.filter fun i => (i 0).val = p

theorem mem_slotD {p : ℕ} (h) (i : S2x1024x1024.Idx) : i ∈ (slotD ![p, 0, 0] h).view.set ↔ (i 0).val = p := by
  have e : (slotD ![p, 0, 0] h).view.set = (Rect.unit (s := S2x1024x1024) ![p, 0, 0] S1x1024x1024.size h).set := (View.set_reshape _ _).trans (View.set_slice_whole _ _)
  rw [e, Rect.mem_set_unit]
  have h0 := (i 0).isLt; have h1 := (i 1).isLt; have h2 := (i 2).isLt
  constructor
  · intro H; have := H 0; simp at this; omega
  · intro H a
    match a with
    | 0 => simp; omega
    | 1 => simp; exact h1
    | 2 => simp; exact h2

theorem set_slotD {p : ℕ} (h : ∀ a, ![p, 0, 0] a + S1x1024x1024.size a ≤ S2x1024x1024.size a) : (slotD ![p, 0, 0] h).view.set = setD p := by
  ext i; exact (mem_slotD h i).trans (by simp [setD])

/-- An index of the weight array. -/
def ixD (e : ℕ) (a : Fin 1024) (b : Fin 1024) : S32x1024x1024.Idx := fun | 0 => ⟨e % 32, Nat.mod_lt _ (by decide)⟩ | 1 => a | 2 => b

theorem ixD_eq {e : ℕ} {a : Fin 1024} {b : Fin 1024} {i : S32x1024x1024.Idx} (h0 : (i 0).val = e) (h1 : (i 1).val = a.val) (h2 : (i 2).val = b.val) : i = ixD e a b := by
  have hi : (i 0).val < 32 := (i 0).isLt
  funext x
  match x with
  | 0 => exact Fin.ext (by show (i 0).val = e % 32; omega)
  | 1 => exact Fin.ext h1
  | 2 => exact Fin.ext h2

/-- A double buffer whose every slot holds expert `e`'s matrix. -/
def landedD (W : S32x1024x1024.Idx → Elt F .bf16) (e : ℕ) : S2x1024x1024.Idx → Elt F .bf16 := fun i => W (ixD e (i 1) (i 2))

theorem emb_sqD {s0 : Shape} {n : ℕ} (hs : s0 = ⟨3, ![n, 1024, 1024]⟩) {p : ℕ} (h : ∀ a, (![p, 0, 0] : Fin 3 → ℕ) a + S1x1024x1024.size a ≤ (⟨3, ![n, 1024, 1024]⟩ : Shape).size a) (x : S1024x1024.Idx) :
    (((Rect.unit (s := ⟨3, ![n, 1024, 1024]⟩) ![p, 0, 0] S1x1024x1024.size h).emb (Shape.reshapeEquiv squeezes_S1x1024x1024_S1024x1024.numel_eq x)) 0).val = p
      ∧ (((Rect.unit (s := ⟨3, ![n, 1024, 1024]⟩) ![p, 0, 0] S1x1024x1024.size h).emb (Shape.reshapeEquiv squeezes_S1x1024x1024_S1024x1024.numel_eq x)) 1).val = (x 0).val
      ∧ (((Rect.unit (s := ⟨3, ![n, 1024, 1024]⟩) ![p, 0, 0] S1x1024x1024.size h).emb (Shape.reshapeEquiv squeezes_S1x1024x1024_S1024x1024.numel_eq x)) 2).val = (x 1).val := by
  have e : Shape.reshapeEquiv squeezes_S1x1024x1024_S1024x1024.numel_eq x = (fun | 0 => ⟨0, Nat.one_pos⟩ | 1 => x 0 | 2 => x 1 : S1x1024x1024.Idx) :=
    Shape.reshapeEquiv_eq_of_rowMajor _ (by
      rw [Shape.rowMajor_val_two, Shape.rowMajor_val_three]; simp)
  rw [e]
  refine ⟨?_, ?_, ?_⟩ <;> rw [Rect.emb_apply] <;> simp <;> rfl

theorem write_matD (W : S32x1024x1024.Idx → Elt F .bf16) {p e : ℕ} (h) (hb) (fd : S2x1024x1024.Idx → Elt F .bf16) (i : S2x1024x1024.Idx)
    (hi : i ∈ (slotD ![p, 0, 0] h).view.set) :
    (slotD ![p, 0, 0] h).view.write (Elt F) fd ((ReadAs.same : ReadAs (Elt F) S1024x1024 .bf16 S1024x1024 .bf16).apply ((matD ![e, 0, 0] hb).view.read (Elt F) W)) Finset.univ i
      = landedD W e i := by
  obtain ⟨x, -, rfl⟩ := Finset.mem_map.mp hi
  rw [View.write_emb_of_mem _ _ (Finset.mem_univ x)]
  refine (cast_eq _ _).trans ?_
  refine ((View.read_apply _ _).trans (cast_eq _ _)).trans ?_
  unfold landedD
  have hs := emb_sqD (n := 2) rfl h x
  have hm := emb_sqD (n := 32) rfl hb x
  exact congrArg W (ixD_eq hm.1 (hm.2.1.trans hs.2.1.symm) (hm.2.2.trans hs.2.2.symm))

/-- The matrix read off a slot that holds it. -/
def blockD (W : S32x1024x1024.Idx → Elt F .bf16) (e : ℕ) : S1x1024x1024.Idx → Elt F .bf16 := fun x => W (ixD e (x 1) (x 2))

theorem read_slotD (W : S32x1024x1024.Idx → Elt F .bf16) {p e : ℕ} {o : Fin 3 → ℕ} (ho : o = ![p, 0, 0]) (h : ∀ a, o a + S1x1024x1024.size a ≤ S2x1024x1024.size a) (f : S2x1024x1024.Idx → Elt F .bf16)
    (hf : ∀ i ∈ setD p, f i = landedD W e i) :
    ((Memref.whole cc0_scratch1 : Memref sig .tc .vmem S2x1024x1024 .bf16).access (Rect.unit (s := S2x1024x1024) o S1x1024x1024.size h) : View sig .tc _ _ _).read (Elt F) f = blockD W e := by
  subst ho
  funext x
  refine ((View.read_apply _ _).trans (cast_eq _ _)).trans ?_
  have hx : (x 0).val < 1 := (x 0).isLt
  have e0 : (((Rect.unit (s := S2x1024x1024) ![p, 0, 0] S1x1024x1024.size h).emb x) 0).val = p := by rw [Rect.emb_apply]; simp; exact Nat.lt_one_iff.mp hx
  have e1 : (((Rect.unit (s := S2x1024x1024) ![p, 0, 0] S1x1024x1024.size h).emb x) 1).val = (x 1).val := by rw [Rect.emb_apply]; simp
  have e2 : (((Rect.unit (s := S2x1024x1024) ![p, 0, 0] S1x1024x1024.size h).emb x) 2).val = (x 2).val := by rw [Rect.emb_apply]; simp
  refine (hf _ ?_).trans ?_
  · simp only [setD, Finset.mem_filter, Finset.mem_univ, true_and]; exact e0
  · unfold landedD blockD
    exact congrArg W (congrArg₂ (ixD e) (Fin.ext e1) (Fin.ext e2))

theorem access_setD {p : ℕ} {o : Fin 3 → ℕ} (ho : o = ![p, 0, 0]) (h : ∀ a, o a + S1x1024x1024.size a ≤ S2x1024x1024.size a) :
    ((Memref.whole cc0_scratch1 : Memref sig .tc .vmem S2x1024x1024 .bf16).access (Rect.unit (s := S2x1024x1024) o S1x1024x1024.size h) : View sig .tc _ _ _).set = setD p := by
  subst ho
  refine Eq.trans ?_ (set_slotD h)
  exact (View.set_reshape _ _).symm

end Cert.Proof.Experts

end
-- ==== Proof.Experts.Steps.lean ====
/-
  The states the experts' double buffers pass through, and the rule of each copy and of each wait. A slot of a double
  buffer is free, in flight with an expert's matrix, or holds it; with each slot goes a share of the weights in HBM, so
  that both slots may be in flight at once.
-/
module

public import proofs.«01_k».proof.Proof.Experts.Slots
public import Idealize.ShloMosaic.Lib.Pipeline.Sound
public import Idealize.ShloMosaic.Lib.Pipeline.Frame
public import Idealize.ShloMosaic.Lib.Tactic
public import proofs.«01_k».proof.Proof.Gen.ExpertsIdeal.Skeleton
public import proofs.«01_k».proof.Proof.Gen.ExpertsIdeal.Launch

@[expose] public section

set_option Elab.async false

noncomputable section

namespace Cert.Proof.Experts

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

/-- The kernel's variants: the naturals, the steps a search still has to run. -/
abbrev 𝒱₀ : Variants := Variants.nat

local notation "𝕄" => MT nD τ sig Unit (Elt F) ℕ (UD sig nD τ) ℕ

abbrev thr (c : Dev nD) : Thread nD τ := (c : Thread nD τ)

variable (c : Dev nD) (G : S32x1024x2048.Idx → Elt F .bf16) (D : S32x1024x1024.Idx → Elt F .bf16)

local notation "WP" => wp frame (wpE (defs₀ (F := F)) 𝒱₀ (thr c) none) Set.univ

/-- Nothing is owed, whatever waits have been recorded. -/
def owing : sProp 𝕄 := iprop(∃ W : Waits sig Unit, owes (thr c) 0 W)

/-- The share of the weights that goes with slot `p`. -/
def qs (p : ℕ) : PosShare TreeShare := Transfers.dealOf fullShare (Finset.univ : Finset (Fin 2)) (if p = 0 then 0 else 1)

/-! ## The gate and up matrices -/

/-- What a copy credits its semaphore. -/
abbrev amtG : ℕ := (slotG ![0, 0, 0] (by decide)).view.dmaCredit

/-- Slot `p` free. -/
def freeG (p : ℕ) : sProp 𝕄 :=
  iprop((∃ f : S2x1024x2048.Idx → Elt F .bf16, (thr c).loc cc0_scratch0 ↦[setG p]{fullShare} f) ∗ semVal (thr c, .dma (cell 0 p)) 0 ∗ ((thr c).loc main_arg3 ↦{qs p} G))
/-- Slot `p` holding expert `e`'s matrix. -/
def gotG (p e : ℕ) : sProp 𝕄 :=
  iprop(((thr c).loc cc0_scratch0 ↦[setG p]{fullShare} landedG G e) ∗ semVal (thr c, .dma (cell 0 p)) 0 ∗ ((thr c).loc main_arg3 ↦{qs p} G))
/-- Expert `e`'s matrix on its way into slot `p`. -/
def flyG (p e : ℕ) : sProp 𝕄 :=
  Transfers.Flight countersEmb (thr c) (.dma (cell 0 p)) () amtG
    iprop(((thr c).loc cc0_scratch0 ↦[setG p]{fullShare} landedG G e) ∗ ((thr c).loc main_arg3 ↦{qs p} G))

theorem free_of_gotG {p e : ℕ} : gotG c G p e ⊢ freeG c G p := by
  unfold gotG freeG
  iintro ⟨Hs, Hv, Hw⟩
  isplitl [Hs]; · iexists _; iexact Hs
  isplitl [Hv] <;> iassumption

/-- A copy of expert `e`'s matrix into the free slot `p`. -/
theorem wp_startG {p e : ℕ} (hp : p < 2) {o oh os} (ho : o = ![p, 0, 0]) (hoh : oh = ![e, 0, 0]) (hos : os = ![0, p])
    (i1) (i2) (i3) {w1 w2 w3} {α : Type} {k : PUnit → Prog (TpuEff nD τ sig (Elt F) (Λ₀ F) (thr c).2) α} {Q : α → sProp 𝕄} :
    iprop(freeG c G p ∗ (flyG c G p e -∗ WP (k ⟨⟩) Q))
      ⊢ WP (.op (.enqueueDma (matG oh i2) (.here (slotG o i1)) (.dma (semW os i3)) w1 w2 w3) k) Q := by
  subst ho hoh hos
  unfold freeG flyG
  rw [← semW_eq (r := 0) (by decide) hp i3]
  iintro ⟨⟨⟨%f, Hs⟩, Hv, Hi⟩, HQ⟩
  ihave Hi2 := (pointsTo_split_subset (ℓ := (thr c).loc main_arg3) (q := qs p) (f := G) (S := Finset.univ) (Finset.subset_univ (matG ![e, 0, 0] i2).view.set)).1 $$ Hi
  icases Hi2 with ⟨Hi, Hr⟩
  ihave Hs' := (Entails.of_eq (show ((thr c).loc cc0_scratch0 ↦[setG p]{fullShare} f : sProp 𝕄) = (thr c).loc cc0_scratch0 ↦[(slotG ![p, 0, 0] i1).view.set]{fullShare} f by rw [set_slotG])) $$ Hs
  iapply (Transfers.wp_dmaLocal countersEmb 𝒱₀ (thr c) none () amtG (rfl : (slotG ![p, 0, 0] i1).view.amount (.dma (semW ![0, p] i3)) = amtG)
    (View.dmaCredit_pos _ (by decide)) (Finset.Subset.refl _) (src := matG ![e, 0, 0] i2) (dst := slotG ![p, 0, 0] i1) (fs := G) (q := qs p)) $$ [Hi Hs' Hv]
  · isplitl [Hi]; · iexact Hi
    isplitl [Hs']; · iexact Hs'
    iexact Hv
  iintro Hfl
  iapply HQ
  ihave Hfl' := (Transfers.Flight_frame countersEmb (thr c)) $$ [Hfl Hr]
  · isplitl [Hr]; · iexact Hr
    iexact Hfl
  iapply (Transfers.Flight_mono countersEmb (thr c) ?_) $$ Hfl'
  iintro ⟨Hr, Hs, Hi⟩
  isplitl [Hs]
  · iapply (Entails.of_eq (show ((thr c).loc cc0_scratch0 ↦[(slotG ![p, 0, 0] i1).view.set]{fullShare} _ : sProp 𝕄) = (thr c).loc cc0_scratch0 ↦[setG p]{fullShare} landedG G e by
      rw [← set_slotG i1]
      exact pointsTo_congr fun i hi => write_matG G i1 i2 f i hi)) $$ Hs
  · iapply (pointsTo_split_subset (ℓ := (thr c).loc main_arg3) (q := qs p) (f := G) (S := Finset.univ) (Finset.subset_univ (matG ![e, 0, 0] i2).view.set)).2
    isplitl [Hi]; · iexact Hi
    iexact Hr

/-- The wait for it. -/
theorem wp_waitG {p e : ℕ} (hp : p < 2) {o oh os} (hos : os = ![0, p])
    (i1) (i2) (i3) {w1 w2} {α : Type} {k : PUnit → Prog (TpuEff nD τ sig (Elt F) (Λ₀ F) (thr c).2) α} {Q : α → sProp 𝕄} :
    iprop(flyG c G p e ∗ owing c ∗ (iprop(gotG c G p e ∗ owing c) -∗ WP (k ⟨⟩) Q))
      ⊢ WP (.op (.waitDma2 (semW os i3) (matG oh i2) (slotG o i1) w1 w2) k) Q := by
  subst hos
  unfold flyG owing
  rw [semW_eq (r := 0) (by decide) hp]
  iintro ⟨Hfl, ⟨%W', HO⟩, HQ⟩
  iapply (Transfers.wp_waitLocal countersEmb 𝒱₀ (thr c) none () (rfl : (slotG o i1).view.dmaCredit = amtG)) $$ [Hfl HO]
  · isplitl [Hfl] <;> iassumption
  iintro ⟨⟨Hs, Hi⟩, Hv, HO⟩
  iapply HQ
  isplitl [Hs Hi Hv]
  · unfold gotG
    isplitl [Hs]; · iexact Hs
    isplitl [Hv]; · iexact Hv
    iexact Hi
  iexists _
  iexact HO

/-! ## The down matrices -/

/-- What a copy credits its semaphore. -/
abbrev amtD : ℕ := (slotD ![0, 0, 0] (by decide)).view.dmaCredit

/-- Slot `p` free. -/
def freeD (p : ℕ) : sProp 𝕄 :=
  iprop((∃ f : S2x1024x1024.Idx → Elt F .bf16, (thr c).loc cc0_scratch1 ↦[setD p]{fullShare} f) ∗ semVal (thr c, .dma (cell 1 p)) 0 ∗ ((thr c).loc main_arg5 ↦{qs p} D))
/-- Slot `p` holding expert `e`'s matrix. -/
def gotD (p e : ℕ) : sProp 𝕄 :=
  iprop(((thr c).loc cc0_scratch1 ↦[setD p]{fullShare} landedD D e) ∗ semVal (thr c, .dma (cell 1 p)) 0 ∗ ((thr c).loc main_arg5 ↦{qs p} D))
/-- Expert `e`'s matrix on its way into slot `p`. -/
def flyD (p e : ℕ) : sProp 𝕄 :=
  Transfers.Flight countersEmb (thr c) (.dma (cell 1 p)) () amtD
    iprop(((thr c).loc cc0_scratch1 ↦[setD p]{fullShare} landedD D e) ∗ ((thr c).loc main_arg5 ↦{qs p} D))

theorem free_of_gotD {p e : ℕ} : gotD c D p e ⊢ freeD c D p := by
  unfold gotD freeD
  iintro ⟨Hs, Hv, Hw⟩
  isplitl [Hs]; · iexists _; iexact Hs
  isplitl [Hv] <;> iassumption

/-- A copy of expert `e`'s matrix into the free slot `p`. -/
theorem wp_startD {p e : ℕ} (hp : p < 2) {o oh os} (ho : o = ![p, 0, 0]) (hoh : oh = ![e, 0, 0]) (hos : os = ![1, p])
    (i1) (i2) (i3) {w1 w2 w3} {α : Type} {k : PUnit → Prog (TpuEff nD τ sig (Elt F) (Λ₀ F) (thr c).2) α} {Q : α → sProp 𝕄} :
    iprop(freeD c D p ∗ (flyD c D p e -∗ WP (k ⟨⟩) Q))
      ⊢ WP (.op (.enqueueDma (matD oh i2) (.here (slotD o i1)) (.dma (semW os i3)) w1 w2 w3) k) Q := by
  subst ho hoh hos
  unfold freeD flyD
  rw [← semW_eq (r := 1) (by decide) hp i3]
  iintro ⟨⟨⟨%f, Hs⟩, Hv, Hi⟩, HQ⟩
  ihave Hi2 := (pointsTo_split_subset (ℓ := (thr c).loc main_arg5) (q := qs p) (f := D) (S := Finset.univ) (Finset.subset_univ (matD ![e, 0, 0] i2).view.set)).1 $$ Hi
  icases Hi2 with ⟨Hi, Hr⟩
  ihave Hs' := (Entails.of_eq (show ((thr c).loc cc0_scratch1 ↦[setD p]{fullShare} f : sProp 𝕄) = (thr c).loc cc0_scratch1 ↦[(slotD ![p, 0, 0] i1).view.set]{fullShare} f by rw [set_slotD])) $$ Hs
  iapply (Transfers.wp_dmaLocal countersEmb 𝒱₀ (thr c) none () amtD (rfl : (slotD ![p, 0, 0] i1).view.amount (.dma (semW ![1, p] i3)) = amtD)
    (View.dmaCredit_pos _ (by decide)) (Finset.Subset.refl _) (src := matD ![e, 0, 0] i2) (dst := slotD ![p, 0, 0] i1) (fs := D) (q := qs p)) $$ [Hi Hs' Hv]
  · isplitl [Hi]; · iexact Hi
    isplitl [Hs']; · iexact Hs'
    iexact Hv
  iintro Hfl
  iapply HQ
  ihave Hfl' := (Transfers.Flight_frame countersEmb (thr c)) $$ [Hfl Hr]
  · isplitl [Hr]; · iexact Hr
    iexact Hfl
  iapply (Transfers.Flight_mono countersEmb (thr c) ?_) $$ Hfl'
  iintro ⟨Hr, Hs, Hi⟩
  isplitl [Hs]
  · iapply (Entails.of_eq (show ((thr c).loc cc0_scratch1 ↦[(slotD ![p, 0, 0] i1).view.set]{fullShare} _ : sProp 𝕄) = (thr c).loc cc0_scratch1 ↦[setD p]{fullShare} landedD D e by
      rw [← set_slotD i1]
      exact pointsTo_congr fun i hi => write_matD D i1 i2 f i hi)) $$ Hs
  · iapply (pointsTo_split_subset (ℓ := (thr c).loc main_arg5) (q := qs p) (f := D) (S := Finset.univ) (Finset.subset_univ (matD ![e, 0, 0] i2).view.set)).2
    isplitl [Hi]; · iexact Hi
    iexact Hr

/-- The wait for it. -/
theorem wp_waitD {p e : ℕ} (hp : p < 2) {o oh os} (hos : os = ![1, p])
    (i1) (i2) (i3) {w1 w2} {α : Type} {k : PUnit → Prog (TpuEff nD τ sig (Elt F) (Λ₀ F) (thr c).2) α} {Q : α → sProp 𝕄} :
    iprop(flyD c D p e ∗ owing c ∗ (iprop(gotD c D p e ∗ owing c) -∗ WP (k ⟨⟩) Q))
      ⊢ WP (.op (.waitDma2 (semW os i3) (matD oh i2) (slotD o i1) w1 w2) k) Q := by
  subst hos
  unfold flyD owing
  rw [semW_eq (r := 1) (by decide) hp]
  iintro ⟨Hfl, ⟨%W', HO⟩, HQ⟩
  iapply (Transfers.wp_waitLocal countersEmb 𝒱₀ (thr c) none () (rfl : (slotD o i1).view.dmaCredit = amtD)) $$ [Hfl HO]
  · isplitl [Hfl] <;> iassumption
  iintro ⟨⟨Hs, Hi⟩, Hv, HO⟩
  iapply HQ
  isplitl [Hs Hi Hv]
  · unfold gotD
    isplitl [Hs]; · iexact Hs
    isplitl [Hv]; · iexact Hv
    iexact Hi
  iexists _
  iexact HO

/-! ## Both together -/

/-- Slot `p` of both buffers free. -/
def slotFree (p : ℕ) : sProp 𝕄 := iprop(freeG c G p ∗ freeD c D p)
/-- Slot `p` of both buffers holding expert `e`'s matrices. -/
def slotGot (p e : ℕ) : sProp 𝕄 := iprop(gotG c G p e ∗ gotD c D p e)
/-- Expert `e`'s matrices on their way into slot `p`. -/
def slotFly (p e : ℕ) : sProp 𝕄 := iprop(flyG c G p e ∗ flyD c D p e)

theorem free_of_got {p e : ℕ} : slotGot c G D p e ⊢ slotFree c G D p := by
  unfold slotGot slotFree
  iintro ⟨Hg, Hd⟩
  isplitl [Hg]
  · iapply (free_of_gotG c G) $$ Hg
  · iapply (free_of_gotD c D) $$ Hd

end Cert.Proof.Experts

end
-- ==== Proof.Experts.Access.lean ====
/-
  The body's other accesses: the words of the prefetched table, the word that names the current slot, and the whole
  staging buffers of the windows.
-/
module

public import proofs.«01_k».proof.Proof.Experts.Steps
public import Idealize.ShloMosaic.Lib.Pipeline.FrameBody

@[expose] public section

set_option Elab.async false

noncomputable section

namespace Cert.Proof.Experts

open Cert.ExpertsIdeal Cert.ExpertsIdeal.Gen

open Idealize.ShloMosaic Idealize.ShloMosaic.WordCmp
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)

local notation "WP" => wp frame (wpE (defs₀ (F := F)) 𝒱₀ (thr c) none) Set.univ

/-- The table in scalar memory, at half the full share. -/
def table (M : Tab) : sProp 𝕄 := iprop((thr c).loc main_arg0 ↦{fullShare.right} M)
/-- The word that names the current slot. -/
def wordIs (w : BitVec 32) : sProp 𝕄 := iprop((thr c).loc cc0_scratch3 ↦{fullShare} (fun _ => w : S1.Idx → Elt F .i32))
/-- The same, of any value. -/
def wordAny : sProp 𝕄 := iprop(∃ f : S1.Idx → Elt F .i32, (thr c).loc cc0_scratch3 ↦{fullShare} f)

theorem wordAny_of (w : BitVec 32) : (wordIs c w : sProp 𝕄) ⊢ wordAny c := by
  unfold wordIs wordAny
  iintro H; iexists _; iexact H

/-- Reading a word of the table. -/
theorem wp_table (bd : Option ℕ) (E : Set ℕ) {M : Tab} {r k : ℕ} (hr : r < 8) (hk : k < 256) {o : Fin 2 → ℕ} (ho : o = ![r, k]) (h) (h1) (h2) {Q : BitVec 32 → sProp 𝕄} :
    iprop(table c M ∗ (table c M -∗ Q (M (tix r k))))
      ⊢ wp frame (wpE (defs₀ (F := F)) 𝒱₀ (thr c) bd) E (smemLoad (Memref.whole main_arg0) (Rect.unit (s := S8x256) o S1x1.size h) h1 h2) Q := by
  subst ho
  unfold smemLoad smemLoadElt table
  iintro ⟨HT, HQ⟩
  iapply (wp_load_rect 𝒱₀ (thr c) bd E (m := Memref.whole main_arg0) (r := Rect.unit (s := S8x256) ![r, k] S1x1.size h) (Finset.subset_univ _)) $$ HT
  iintro HT
  rw [wp_ret]; imodintro
  have e : ∀ z : (Rect.unit (s := S8x256) ![r, k] S1x1.size h).shape.Idx,
      ((Memref.whole main_arg0).access (Rect.unit (s := S8x256) ![r, k] S1x1.size h)).read (Elt F) M z = M (tix r k) := fun z => by
    have z0 : (z 0).val < 1 := (z 0).isLt
    have z1 : (z 1).val < 1 := (z 1).isLt
    refine congrArg M (tix_eq ?_ ?_)
    · show r + 1 * (z 0).val = r
      omega
    · show k + 1 * (z 1).val = k
      omega
  rw [e]
  iapply HQ
  iexact HT

/-- Reading the slot's word. -/
theorem wp_word {w : BitVec 32} (h) (h1) (h2) {Q : BitVec 32 → sProp 𝕄} :
    iprop(wordIs c w ∗ (wordIs c w -∗ Q w)) ⊢ WP (smemLoad (Memref.whole cc0_scratch3) (Rect.unit (s := S1) ![0] S1.size h) h1 h2) Q := by
  unfold smemLoad smemLoadElt wordIs
  iintro ⟨HT, HQ⟩
  iapply (wp_load_rect 𝒱₀ (thr c) none Set.univ (m := Memref.whole cc0_scratch3) (r := Rect.unit (s := S1) ![0] S1.size h) (Finset.subset_univ _)) $$ HT
  iintro HT
  rw [wp_ret]; imodintro
  have e : ∀ z : (Rect.unit (s := S1) ![0] S1.size h).shape.Idx,
      ((Memref.whole cc0_scratch3).access (Rect.unit (s := S1) ![0] S1.size h)).read (Elt F) (fun _ => w : S1.Idx → Elt F .i32) z = w := fun z => rfl
  rw [e]
  iapply HQ
  iexact HT

/-- A read of the slot's word whose value is not used. -/
theorem wp_word_dead (h) (h1) (h2) {Q : BitVec 32 → sProp 𝕄} :
    iprop(wordAny c ∗ (wordAny c -∗ ∀ w, Q w)) ⊢ WP (smemLoad (Memref.whole cc0_scratch3) (Rect.unit (s := S1) ![0] S1.size h) h1 h2) Q := by
  unfold smemLoad smemLoadElt wordAny
  iintro ⟨⟨%f, HT⟩, HQ⟩
  iapply (wp_load_rect 𝒱₀ (thr c) none Set.univ (m := Memref.whole cc0_scratch3) (r := Rect.unit (s := S1) ![0] S1.size h) (Finset.subset_univ _)) $$ HT
  iintro HT
  rw [wp_ret]; imodintro
  iapply HQ $$ [HT]
  iexists _; iexact HT

/-- Setting the slot's word. -/
theorem wp_setWord {w : BitVec 32} (h) (h1) (h2) {Q : PUnit → sProp 𝕄} :
    iprop(wordAny c ∗ (wordIs c w -∗ Q ⟨⟩))
      ⊢ WP (Prog.lift (.store (Memref.whole cc0_scratch3) (Rect.unit (s := S1) ![0] S1.size h) (fun _ => w) Finset.univ h1 h2)) Q := by
  unfold wordAny wordIs Prog.lift
  iintro ⟨⟨%f, HT⟩, HQ⟩
  iapply (wp_store 𝒱₀ (thr c) none Set.univ (m := Memref.whole cc0_scratch3) (r := Rect.unit (s := S1) ![0] S1.size h) (Mk := Finset.univ) (Finset.subset_univ _)) $$ HT
  iintro HT
  rw [wp_ret]; imodintro
  iapply HQ
  have e : ((Memref.whole cc0_scratch3).access (Rect.unit (s := S1) ![0] S1.size h)).write (Elt F) f (fun _ => w) Finset.univ = (fun _ => w : S1.Idx → Elt F .i32) :=
    Memref.write_access_unit_zero_univ (Elt F) cc0_scratch3 (off := ![0]) (funext fun a => by fin_cases a; rfl) h f (fun _ => w)
  rw [e]
  iexact HT

/-- A side condition that holds. -/
theorem wp_assume_lift (bd : Option ℕ) (E : Set ℕ) {P : Prop} {dec : Decidable P} (h : P) {Q : PLift P → sProp 𝕄} :
    Q ⟨h⟩ ⊢ wp frame (wpE (defs₀ (F := F)) 𝒱₀ (thr c) bd) E (Prog.lift (.assume P dec)) Q := by
  unfold Prog.lift
  rw [wp_assume_of 𝒱₀ (thr c) bd E h, wp_ret]
  exact fupd_intro

/-- The whole rectangle's coordinates are the buffer's own. -/
theorem idx_whole {s : Shape} (h : ∀ a : Fin s.rank, (fun _ => 0 : Fin s.rank → ℕ) a + s.size a ≤ s.size a) (x : s.Idx) :
    (Rect.unit (s := s) (fun _ => 0) s.size h).toLoadRect.idx x = x := by
  funext a
  apply Fin.ext
  show 0 + 1 * (x a).val = (x a).val
  omega

/-- A load of a whole staging buffer. -/
theorem wp_loadWhole {sp : CoreSpace} {s : Shape} {e : EltTy} {m : Memref sig .tc sp s e} {o : Fin s.rank → ℕ} (ho : o = fun _ => 0) {q : PosShare TreeShare}
    {X : s.Idx → Elt F e} (h) (h1) {Q : (s.Idx → Elt F e) → sProp 𝕄} :
    iprop(owns (thr c) m q X ∗ (owns (thr c) m q X -∗ Q X))
      ⊢ WP (Prog.lift (.load m (Rect.unit (s := s) o s.size h).toLoadRect h1)) Q := by
  subst ho
  unfold owns Prog.lift
  iintro ⟨⟨%f, %hf, H⟩, HQ⟩
  iapply (wp_load 𝒱₀ (thr c) none Set.univ (m := m) (View.setOn_subset_set _ _)) $$ H
  iintro H
  rw [wp_ret]; imodintro
  have e : m.view.readAt (Elt F) (Rect.unit (s := s) (fun _ => 0) s.size h).toLoadRect f = X := by
    rw [← hf]
    exact funext fun x => congrArg (m.view.read (Elt F) f) (idx_whole h x)
  rw [e]
  iapply HQ
  iexists f
  isplitr; · ipureintro; exact hf
  iexact H

/-- A load of a whole staging buffer whose value is not used. -/
theorem wp_loadDead {sp : CoreSpace} {s : Shape} {e : EltTy} {m : Memref sig .tc sp s e} {o : Fin s.rank → ℕ} {q : PosShare TreeShare}
    {X : s.Idx → Elt F e} (h) (h1) {Q : (s.Idx → Elt F e) → sProp 𝕄} :
    iprop(owns (thr c) m q X ∗ (owns (thr c) m q X -∗ ∀ v, Q v))
      ⊢ WP (Prog.lift (.load m (Rect.unit (s := s) o s.size h).toLoadRect h1)) Q := by
  unfold owns Prog.lift
  iintro ⟨⟨%f, %hf, H⟩, HQ⟩
  iapply (wp_load 𝒱₀ (thr c) none Set.univ (m := m) (View.setOn_subset_set _ _)) $$ H
  iintro H
  rw [wp_ret]; imodintro
  iapply HQ $$ [H]
  iexists f
  isplitr; · ipureintro; exact hf
  iexact H

/-- A store over a whole staging buffer. -/
theorem wp_storeWhole {sp : CoreSpace} {s : Shape} {e : EltTy} {m : Memref sig .tc sp s e} {o : Fin s.rank → ℕ} (ho : o = fun _ => 0)
    {X : s.Idx → Elt F e} {w : s.Idx → Elt F e} (h) (h1) (h2) {Q : PUnit → sProp 𝕄} :
    iprop(owns (thr c) m fullShare X ∗ (owns (thr c) m fullShare w -∗ Q ⟨⟩))
      ⊢ WP (Prog.lift (.store m (Rect.unit (s := s) o s.size h) w Finset.univ h1 h2)) Q := by
  subst ho
  unfold owns Prog.lift
  iintro ⟨⟨%f, %hf, H⟩, HQ⟩
  iapply (wp_store 𝒱₀ (thr c) none Set.univ (m := m) (r := Rect.unit (s := s) (fun _ => 0) s.size h) (Mk := Finset.univ)
    (S := m.view.set) ((View.setOn_subset_set _ _).trans (by rw [View.set_slice]; exact View.setOn_subset_set _ _))) $$ H
  iintro H
  rw [wp_ret]; imodintro
  iapply HQ
  iexists _
  isplitr
  · ipureintro
    exact funext fun x => (congrArg (m.view.read (Elt F) _) (idx_whole h x)).symm.trans
      (congrFun (View.read_write_univ (v := m.access (Rect.unit (s := s) (fun _ => 0) s.size h)) f w) x)
  iexact H

/-- A load of an expert's matrix out of a slot that holds it. -/
theorem wp_loadG (G : S32x1024x2048.Idx → Elt F .bf16) {p e : ℕ} (hp : p < 2) {o : Fin 3 → ℕ} (ho : o = ![p, 0, 0]) (h) (h1) {Q : (S1x1024x2048.Idx → Elt F .bf16) → sProp 𝕄} :
    iprop(gotG c G p e ∗ (gotG c G p e -∗ Q (blockG G e)))
      ⊢ WP (Prog.lift (.load (Memref.whole cc0_scratch0) (Rect.unit (s := S2x1024x2048) o S1x1024x2048.size h).toLoadRect h1)) Q := by
  unfold gotG Prog.lift
  iintro ⟨⟨Hs, Hv, Hw⟩, HQ⟩
  iapply (wp_load_rect 𝒱₀ (thr c) none Set.univ (m := Memref.whole cc0_scratch0) (r := Rect.unit (s := S2x1024x2048) o S1x1024x2048.size h) (S := setG p)
    (by rw [access_setG ho h])) $$ Hs
  iintro Hs
  rw [wp_ret]; imodintro
  rw [read_slotG G ho h (landedG G e) (fun i _ => rfl)]
  iapply HQ
  isplitl [Hs]; · iexact Hs
  isplitl [Hv] <;> iassumption

theorem wp_loadD (D : S32x1024x1024.Idx → Elt F .bf16) {p e : ℕ} (hp : p < 2) {o : Fin 3 → ℕ} (ho : o = ![p, 0, 0]) (h) (h1) {Q : (S1x1024x1024.Idx → Elt F .bf16) → sProp 𝕄} :
    iprop(gotD c D p e ∗ (gotD c D p e -∗ Q (blockD D e)))
      ⊢ WP (Prog.lift (.load (Memref.whole cc0_scratch1) (Rect.unit (s := S2x1024x1024) o S1x1024x1024.size h).toLoadRect h1)) Q := by
  unfold gotD Prog.lift
  iintro ⟨⟨Hs, Hv, Hw⟩, HQ⟩
  iapply (wp_load_rect 𝒱₀ (thr c) none Set.univ (m := Memref.whole cc0_scratch1) (r := Rect.unit (s := S2x1024x1024) o S1x1024x1024.size h) (S := setD p)
    (by rw [access_setD ho h])) $$ Hs
  iintro Hs
  rw [wp_ret]; imodintro
  rw [read_slotD D ho h (landedD D e) (fun i _ => rfl)]
  iapply HQ
  isplitl [Hs]; · iexact Hs
  isplitl [Hv] <;> iassumption

end Cert.Proof.Experts

end
-- ==== Proof.Experts.Loop.lean ====
/-
  The search for the next chunk of another expert: the loop that runs over the table's first row while the chunks are
  used and their expert is the current one. It is a label that calls itself; its specification says what the count it
  returns is.
-/
module

public import proofs.«01_k».proof.Proof.Experts.Access

@[expose] public section

set_option Elab.async false

noncomputable section

namespace Cert.Proof.Experts

open Cert.ExpertsIdeal Cert.ExpertsIdeal.Gen

open Idealize.ShloMosaic Idealize.ShloMosaic.WordCmp
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)

/-- What the search from `n` returns: the first count from `n` on that is past the used chunks or has another expert. -/
structure Found (M : Tab) (v4 : BitVec 32) (n : ℕ) (r : BitVec 32) : Prop where
  count : ∃ n', r = BitVec.ofNat 32 n' ∧ n ≤ n' ∧ n' < 2 ^ 31 ∧ (∀ k, n ≤ k → k < n' → k < used M ∧ Experts.ex M k = v4) ∧ ¬ (n' < used M ∧ Experts.ex M n' = v4)

/-- The specification of the search from `n`. -/
def spec (M : Tab) (v4 : BitVec 32) (n : ℕ) : sWPT 𝕄 (BitVec 32) := do
  sWPT.consume (table c M)
  let r ← sWPT.arbitrary
  sWPT.assume (Found M v4 n r)
  sWPT.produce (table c M)
  pure r

theorem spec_apply (M : Tab) (v4 : BitVec 32) (n : ℕ) (K : BitVec 32 → sProp 𝕄) :
    spec c M v4 n K = iprop(table c M ∗ ∀ r : BitVec 32, ⌜Found M v4 n r⌝ -∗ (table c M -∗ K r)) := rfl

/-- The search meets it, by induction on the number of used chunks still ahead. -/
theorem search {M : Tab} (hM : InRange M) (i : grid0.Coords) (v4 : BitVec 32) (E : Set ℕ) :
    ∀ d n, used M - n = d → n < 2 ^ 31 → ∀ K, spec c M v4 n K
      ⊢ wp frame (wpE (defs₀ (F := F)) 𝒱₀ (thr c) (some d)) E
          (defs₀ (F := F) .tc 1 ⟨i, un M, Memref.whole main_arg0, Memref.isWhole_whole _, v4, BitVec.ofNat 32 n⟩) K := by
  intro d
  induction d using Nat.strong_induction_on with
  | _ d ih =>
    intro n hd hn K
    rw [spec_apply]
    show _ ⊢ wp frame (wpE (defs₀ (F := F)) 𝒱₀ (thr c) (some d)) E
      (cc0_while1 i (un M) (Memref.whole main_arg0) (Memref.isWhole_whole _) v4 (BitVec.ofNat 32 n)) K
    simp only [cc0_while1_eq_skeleton]; unfold cc0_while1_skel
    simp only [wp_bind]
    refine .trans ?_ (wp_assume_lift c (some d) E (chk1_of hn))
    refine .trans ?_ (wp_table c (some d) E (M := M) (by decide) (by omega) (off3_eq hn) _ _ _)
    iintro ⟨HT, HK⟩
    isplitl [HT]; · iexact HT
    iintro HT
    have hu := hM.hu'
    by_cases hc : n < used M ∧ ex M n = v4
    · have ht : Scalar.andi (Scalar.cmpi .slt (BitVec.ofNat 32 n) (un M)) (Scalar.cmpi .eq (M (tix 0 (min n 159))) v4) = 1#1 :=
        and_iff.mpr ⟨(slt_iff hn hu).mpr hc.1, eq_iff.mpr hc.2⟩
      rw [if_pos ht]
      have hadd : Scalar.addi (BitVec.ofNat 32 n) 1#32 = BitVec.ofNat 32 (n + 1) := (BitVec.ofNat_add _ _).symm
      rw [hadd]
      unfold Prog.lift
      iapply (wp_call_spec 𝒱₀ (thr c) (some d) E (spec c M v4 (n + 1)) (used M - (n + 1)) (fun u hu => by cases hu; show used M - (n + 1) < d; omega)
        (ih (used M - (n + 1)) (by omega) (n + 1) rfl (by omega)))
      rw [spec_apply]
      isplitl [HT]; · iexact HT
      iintro %r %hr HT
      rw [wp_ret]; imodintro
      iapply HK $$ [] HT
      ipureintro
      obtain ⟨n', h1, h2, h3, h4, h5⟩ := hr.count
      refine ⟨n', h1, by omega, h3, fun k hk hk' => ?_, h5⟩
      rcases Nat.eq_or_lt_of_le hk with rfl | hk
      · exact hc
      · exact h4 k hk hk'
    · have ht : ¬ Scalar.andi (Scalar.cmpi .slt (BitVec.ofNat 32 n) (un M)) (Scalar.cmpi .eq (M (tix 0 (min n 159))) v4) = 1#1 := fun h =>
        hc ⟨(slt_iff hn hu).mp (and_iff.mp h).1, eq_iff.mp (and_iff.mp h).2⟩
      rw [if_neg ht, wp_pure]
      imodintro
      iapply HK $$ [] HT
      ipureintro
      exact ⟨n, rfl, le_rfl, hn, fun k hk hk' => absurd hk' (by omega), hc⟩

/-- From the point after `j`, with `j`'s own expert, it is the next chunk of another expert. -/
theorem Found.next {M : Tab} {j : ℕ} {r : BitVec 32} (h : Found M (ex M j) (j + 1) r) : ∃ n, r = BitVec.ofNat 32 n ∧ Next M j n := by
  obtain ⟨n, h1, h2, h3, h4, h5⟩ := h.count
  exact ⟨n, h1, ⟨by omega, h3, fun k hk hk' => h4 k (by omega) hk', h5⟩⟩

end Cert.Proof.Experts

end
-- ==== Proof.Experts.Part1.lean ====
/-
  The first part of the body at a used chunk: the copies that bring the experts' matrices into the double buffers, and
  the waits for them. After it the current slot holds the chunk's own expert, and the other slot is in flight with the
  next expert, where a used chunk has one.
-/
module

public import proofs.«01_k».proof.Proof.Experts.Loop

@[expose] public section

set_option Elab.async false

noncomputable section

namespace Cert.Proof.Experts

open Cert.ExpertsIdeal Cert.ExpertsIdeal.Gen

open Idealize.ShloMosaic Idealize.ShloMosaic.WordCmp
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD) (G : S32x1024x2048.Idx → Elt F .bf16) (D : S32x1024x1024.Idx → Elt F .bf16)

local notation "WP" => wp frame (wpE (defs₀ (F := F)) 𝒱₀ (thr c) none) Set.univ

/-! ## The state between the points -/

/-- No copy in flight and no slot of use: before the first point, and from the last used one on. -/
def Idle : sProp 𝕄 := iprop(slotFree c G D 0 ∗ slotFree c G D 1 ∗ wordAny c)

/-- Slot `p` holds chunk `j`'s expert; the other is in flight with chunk `n`'s, if that chunk is used. -/
def Busy (M : Tab) (j p n : ℕ) : sProp 𝕄 :=
  iprop(wordIs c (BitVec.ofNat 32 p) ∗ slotGot c G D p (ex M j).toNat ∗ (if n < used M then slotFly c G D (1 - p) (ex M n).toNat else slotFree c G D (1 - p)))

/-- Slot `1 - p` in flight with chunk `j`'s expert, slot `p` free: the current slot is about to change. -/
def Turn (M : Tab) (j p : ℕ) : sProp 𝕄 :=
  iprop(wordIs c (BitVec.ofNat 32 p) ∗ slotFly c G D (1 - p) (ex M j).toNat ∗ slotFree c G D p)

/-- The state in front of point `t`. -/
def State (M : Tab) (t : ℕ) : sProp 𝕄 :=
  if t = 0 ∨ min (used M) 160 ≤ t then Idle c G D
  else iprop(∃ p, ⌜p < 2⌝ ∗ ∃ n, ⌜Next M (t - 1) n⌝ ∗ Busy c G D M (t - 1) p n)

/-- The state once the first copies have been started. -/
def Started (M : Tab) (t : ℕ) : sProp 𝕄 :=
  if t = 0 then Turn c G D M 0 1 else iprop(∃ p, ⌜p < 2⌝ ∗ ∃ n, ⌜Next M (t - 1) n⌝ ∗ Busy c G D M (t - 1) p n)

/-- A busy state whose next chunk is past the used ones is idle. -/
theorem idle_of_busy {M : Tab} {j p n : ℕ} (hp : p < 2) (hn : ¬ n < used M) : Busy c G D M j p n ⊢ Idle c G D := by
  unfold Busy Idle
  rw [if_neg hn]
  iintro ⟨Hw, Hg, Hf⟩
  ihave Hg' := (free_of_got c G D) $$ Hg
  ihave Hw' := (wordAny_of c _) $$ Hw
  rcases (by omega : p = 0 ∨ p = 1) with rfl | rfl
  · isplitl [Hg']; · iexact Hg'
    isplitl [Hf]; · iexact Hf
    iexact Hw'
  · isplitl [Hf]; · iexact Hf
    isplitl [Hg']; · iexact Hg'
    iexact Hw'

/-- The busy state of a used point `t` is the state in front of the next. -/
theorem state_of_busy {M : Tab} {t p n : ℕ} (hp : p < 2) (hn : Next M t n) : Busy c G D M t p n ⊢ State c G D M (t + 1) := by
  unfold State
  by_cases h : min (used M) 160 ≤ t + 1
  · rw [if_pos (.inr h)]
    exact idle_of_busy c G D hp (hn.last h)
  · rw [if_neg (by omega)]
    iintro H
    iexists p
    isplitr; · ipureintro; exact hp
    iexists n
    isplitr; · ipureintro; exact hn
    iexact H

/-- With the chunk's expert the one before's, the busy state is the chunk's own. -/
theorem busy_same {M : Tab} {j p n n' : ℕ} (hn' : Next M j n') (hu : j + 1 < used M) (he : ex M (j + 1) = ex M j) (hn : Next M (j + 1) n) :
    Busy c G D M j p n' ⊢ Busy c G D M (j + 1) p n := by
  rw [(hn'.step hu he).eq hn]
  unfold Busy
  rw [he]

/-- With another, the slots are about to change. -/
theorem turn_of_busy {M : Tab} {j p n' : ℕ} (hn' : Next M j n') (hu : j + 1 < used M) (he : ex M (j + 1) ≠ ex M j) :
    Busy c G D M j p n' ⊢ Turn c G D M (j + 1) p := by
  rw [hn'.here he]
  unfold Busy Turn
  rw [if_pos hu]
  iintro ⟨Hw, Hg, Hf⟩
  isplitl [Hw]; · iexact Hw
  isplitl [Hf]; · iexact Hf
  iapply (free_of_got c G D) $$ Hg

theorem started_same {M : Tab} {t n : ℕ} (h0 : t ≠ 0) (hu : t < used M) (he : ex M (t - 1) = ex M t) (hn : Next M t n) :
    Started c G D M t ⊢ iprop(∃ p, ⌜p < 2⌝ ∗ Busy c G D M t p n) := by
  unfold Started
  rw [if_neg h0]
  obtain ⟨j, rfl⟩ : ∃ j, t = j + 1 := ⟨t - 1, by omega⟩
  rw [Nat.add_sub_cancel] at he ⊢
  iintro ⟨%p, %hp, %n', %hn', H⟩
  iexists p
  isplitr; · ipureintro; exact hp
  iapply (busy_same c G D hn' hu he.symm hn) $$ H

theorem started_turn {M : Tab} {t : ℕ} (hu : t < used M) (he : t = 0 ∨ ex M (t - 1) ≠ ex M t) :
    Started c G D M t ⊢ iprop(∃ p, ⌜p < 2⌝ ∗ Turn c G D M t p) := by
  unfold Started
  by_cases h0 : t = 0
  · subst h0
    rw [if_pos rfl]
    iintro H
    iexists 1
    isplitr; · ipureintro; decide
    iexact H
  rw [if_neg h0]
  replace he := he.resolve_left h0
  obtain ⟨j, rfl⟩ : ∃ j, t = j + 1 := ⟨t - 1, by omega⟩
  rw [Nat.add_sub_cancel] at he ⊢
  iintro ⟨%p, %hp, %n', %hn', H⟩
  iexists p
  isplitr; · ipureintro; exact hp
  iapply (turn_of_busy c G D hn' hu he.symm) $$ H

/-! ## The steps as they stand in the body -/

/-- A guarded step in front of `B` that takes `P` to `P'` when it runs, and is skipped only where `P` is `P'`. -/
theorem wp_guard {q : Prop} [Decidable q] {α : Type} {A : q → Prog (TpuEff nD τ sig (Elt F) (Λ₀ F) (thr c).2) α} {B : Prog (TpuEff nD τ sig (Elt F) (Λ₀ F) (thr c).2) α}
    {P P' : sProp 𝕄} {Q : α → sProp 𝕄}
    (hA : ∀ h : q, iprop(P ∗ (P' -∗ WP B Q)) ⊢ WP (A h) Q) (hB : ¬q → P ⊢ P') :
    iprop(P ∗ (P' -∗ WP B Q)) ⊢ WP (if h : q then A h else B) Q := by
  by_cases h : q
  · rw [dif_pos h]
    exact hA h
  · rw [dif_neg h]
    iintro ⟨HP, HQ⟩
    iapply HQ
    iapply (hB h) $$ HP

theorem wp_startGL {p e : ℕ} (hp : p < 2) {o oh os} (ho : o = ![p, 0, 0]) (hoh : oh = ![e, 0, 0]) (hos : os = ![0, p])
    (i1) (i2) (i3) {w1 w2 w3} {Q : PUnit → sProp 𝕄} :
    iprop(freeG c G p ∗ (flyG c G p e -∗ Q ⟨⟩))
      ⊢ WP (Prog.lift (.enqueueDma (matG oh i2) (.here (slotG o i1)) (.dma (semW os i3)) w1 w2 w3)) Q := by
  unfold Prog.lift
  refine .trans ?_ (wp_startG c G hp ho hoh hos i1 i2 i3)
  iintro ⟨H, HQ⟩
  isplitl [H]; · iexact H
  iintro H
  rw [wp_ret]; imodintro
  iapply HQ
  iexact H

theorem wp_waitGL {p e : ℕ} (hp : p < 2) {o oh os} (hos : os = ![0, p])
    (i1) (i2) (i3) {w1 w2} {Q : PUnit → sProp 𝕄} :
    iprop(flyG c G p e ∗ owing c ∗ (iprop(gotG c G p e ∗ owing c) -∗ Q ⟨⟩))
      ⊢ WP (Prog.lift (.waitDma2 (semW os i3) (matG oh i2) (slotG o i1) w1 w2)) Q := by
  unfold Prog.lift
  refine .trans ?_ (wp_waitG c G hp (e := e) (oh := oh) (o := o) hos i1 i2 i3)
  iintro ⟨H, HO, HQ⟩
  isplitl [H]; · iexact H
  isplitl [HO]; · iexact HO
  iintro H
  rw [wp_ret]; imodintro
  iapply HQ
  iexact H

theorem wp_startDL {p e : ℕ} (hp : p < 2) {o oh os} (ho : o = ![p, 0, 0]) (hoh : oh = ![e, 0, 0]) (hos : os = ![1, p])
    (i1) (i2) (i3) {w1 w2 w3} {Q : PUnit → sProp 𝕄} :
    iprop(freeD c D p ∗ (flyD c D p e -∗ Q ⟨⟩))
      ⊢ WP (Prog.lift (.enqueueDma (matD oh i2) (.here (slotD o i1)) (.dma (semW os i3)) w1 w2 w3)) Q := by
  unfold Prog.lift
  refine .trans ?_ (wp_startD c D hp ho hoh hos i1 i2 i3)
  iintro ⟨H, HQ⟩
  isplitl [H]; · iexact H
  iintro H
  rw [wp_ret]; imodintro
  iapply HQ
  iexact H

theorem wp_waitDL {p e : ℕ} (hp : p < 2) {o oh os} (hos : os = ![1, p])
    (i1) (i2) (i3) {w1 w2} {Q : PUnit → sProp 𝕄} :
    iprop(flyD c D p e ∗ owing c ∗ (iprop(gotD c D p e ∗ owing c) -∗ Q ⟨⟩))
      ⊢ WP (Prog.lift (.waitDma2 (semW os i3) (matD oh i2) (slotD o i1) w1 w2)) Q := by
  unfold Prog.lift
  refine .trans ?_ (wp_waitD c D hp (e := e) (oh := oh) (o := o) hos i1 i2 i3)
  iintro ⟨H, HO, HQ⟩
  isplitl [H]; · iexact H
  isplitl [HO]; · iexact HO
  iintro H
  rw [wp_ret]; imodintro
  iapply HQ
  iexact H

/-! ## The part -/

/-- The expert of chunk `t`, read off the table. -/
theorem ex_eq {M : Tab} {t : ℕ} (ht : t ≤ 159) : M (tix 0 t) = ex M t := by unfold ex; rw [min_eq_left ht]

theorem part1 {M : Tab} (hM : InRange M) (i : grid0.Coords) (hu : (i 0).val < used M) {n : ℕ} (hn : Next M (i 0).val n)
    {m2 : Memref sig .tc .vmem S512x256 .i32} {m3 : Memref sig .tc .vmem S512x256 .i32} (m5) (m7) (m8) (m9) (h2) (h3) (h5) (h7) (h8) (h9)
    (b0 b1 : Vec F S512x256 .i32) (hw2) (hc1) {Q : (Σ' (v26 : Elt F .i32) (_ : k0_chk6 i (un M) v26), FVec F S512x2048 .f32) → sProp 𝕄} :
    iprop(table c M ∗ owing c ∗ State c G D M (i 0).val ∗ owns (thr c) m2 fullShare b0 ∗ owns (thr c) m3 fullShare b1
        ∗ (∀ p hw6, ⌜p < 2⌝ -∗ iprop(table c M ∗ owing c ∗ Busy c G D M (i 0).val p n ∗ owns (thr c) m2 fullShare b0 ∗ owns (thr c) m3 fullShare b1)
            -∗ Q ⟨BitVec.ofNat 32 p, hw6, k0_pay4 b0 b1 (M (tix 2 (i 0).val)) (blockG G (ex M (i 0).val).toNat)⟩))
      ⊢ WP (k0_part1 i (Memref.whole main_arg0) (Memref.isWhole_whole _) m2 h2 m3 h3 (Memref.whole main_arg3) (Memref.isWhole_whole _) m5 h5
          (Memref.whole main_arg5) (Memref.isWhole_whole _) m7 h7 m8 h8 m9 h9 (Memref.whole cc0_scratch0) (Memref.isWhole_whole _)
          (Memref.whole cc0_scratch1) (Memref.isWhole_whole _) cc0_scratch2 (Memref.whole cc0_scratch3) (Memref.isWhole_whole _)
          (BitVec.ofNat 32 (i 0).val) (un M) (M (tix 0 (i 0).val)) hw2 (BitVec.ofNat 32 n) hc1) Q := by
  have ht : (i 0).val < 160 := pt_lt i
  have hex := ex_eq (M := M) (t := (i 0).val) (by omega)
  have hex' := ex_eq (M := M) (t := (i 0).val - 1) (by omega)
  simp only [k0_part1_eq_skeleton]; unfold k0_part1_skel
  iintro ⟨HT, HO, HS, H2, H3, HQ⟩
  -- the first copies
  iapply (wp_guard c (P := State c G D M (i 0).val) (P' := Started c G D M (i 0).val) ?_ ?_)
  · intro hc
    have h0 : (i 0).val = 0 := (cond2_iff i).mp hc
    unfold State Started
    rw [if_pos (.inl h0), if_pos h0]
    simp only [wp_bind]
    unfold Idle slotFree
    iintro ⟨⟨⟨HG0, HD0⟩, H1, Hw⟩, HR⟩
    iapply (wp_word_dead c _ _ _)
    isplitl [Hw]; · iexact Hw
    iintro Hw %v93
    iapply (wp_setWord c (w := 1#32) _ _ _)
    isplitl [Hw]; · iexact Hw
    iintro Hw
    iapply (wp_startGL c G (p := 0) (e := (M (tix 0 (i 0).val)).toNat) (by decide) rfl rfl rfl _ _ _)
    isplitl [HG0]; · iexact HG0
    iintro HG0
    iapply (wp_startDL c D (p := 0) (e := (M (tix 0 (i 0).val)).toNat) (by decide) rfl rfl rfl _ _ _)
    isplitl [HD0]; · iexact HD0
    iintro HD0
    iapply HR
    unfold Turn slotFly slotFree
    rw [hex, h0]
    isplitl [Hw]; · iexact Hw
    isplitl [HG0 HD0]
    · isplitl [HG0] <;> iassumption
    iexact H1
  · intro hc
    have h0 : (i 0).val ≠ 0 := fun h => hc ((cond2_iff i).mpr h)
    unfold State Started
    rw [if_neg (by omega), if_neg h0]
  isplitl [HS]; · iexact HS
  iintro HS
  simp only [wp_bind]
  iapply (wp_table c none Set.univ (M := M) (by decide) (by omega) (off6_eq i) _ _ _)
  isplitl [HT]; · iexact HT
  iintro HT
  iapply (wp_assume_lift c none Set.univ (chk3_of i _ _ (by rw [hex]; exact hM.he _) hn.small))
  -- a new expert
  iapply (wp_guard c (P := iprop(Started c G D M (i 0).val ∗ table c M ∗ owing c))
    (P' := iprop((∃ p, ⌜p < 2⌝ ∗ Busy c G D M (i 0).val p n) ∗ table c M ∗ owing c)) ?_ ?_)
  · intro hc
    have he := (cond3_iff i _ _).mp hc
    rw [hex', hex] at he
    simp only [wp_bind]
    iintro ⟨⟨HS, HT, HO⟩, HR⟩
    ihave HS' := (started_turn c G D hu he) $$ HS
    icases HS' with ⟨%p, %hp, HS⟩
    unfold Turn
    icases HS with ⟨Hw, Hfly, Hfree⟩
    iapply (wp_word c _ _ _)
    isplitl [Hw]; · iexact Hw
    iintro Hw
    iapply (wp_assume_lift c none Set.univ (chk4_of i _ _ _ _ hp))
    iapply (wp_word c _ _ _)
    isplitl [Hw]; · iexact Hw
    iintro Hw
    ihave Hw := (wordAny_of c _) $$ Hw
    iapply (wp_setWord c (w := Scalar.subi 1#32 (BitVec.ofNat 32 p)) _ _ _)
    isplitl [Hw]; · iexact Hw
    iintro Hw
    rw [flip_eq p hp]
    iapply (wp_guard c (P := iprop(slotFree c G D p ∗ table c M))
      (P' := iprop((if n < used M then slotFly c G D p (ex M n).toNat else slotFree c G D p) ∗ table c M)) ?_ ?_)
    · intro hc4
      have hlt := (cond4_iff hM hn.small).mp hc4
      rw [if_pos hlt]
      simp only [wp_bind]
      iintro ⟨⟨Hfree, HT⟩, HR⟩
      iapply (wp_table c none Set.univ (M := M) (by decide) (by omega) (off7_eq hn.small) _ _ _)
      isplitl [HT]; · iexact HT
      iintro HT
      iapply (wp_assume_lift c none Set.univ (chk5_of i _ _ _ _ (hM.he n)))
      unfold slotFree slotFly
      icases Hfree with ⟨HG, HD⟩
      iapply (wp_startGL c G (p := p) (e := (ex M n).toNat) hp (off9_eq p hp) rfl (off8_eq p hp) _ _ _)
      isplitl [HG]; · iexact HG
      iintro HG
      iapply (wp_startDL c D (p := p) (e := (ex M n).toNat) hp (off12_eq p hp) rfl (off11_eq p hp) _ _ _)
      isplitl [HD]; · iexact HD
      iintro HD
      iapply HR
      isplitr [HT]
      · isplitl [HG] <;> iassumption
      iexact HT
    · intro hc4
      rw [if_neg (fun h => hc4 ((cond4_iff hM hn.small).mpr h))]
    isplitl [Hfree HT]
    · isplitl [Hfree] <;> iassumption
    iintro ⟨Hnext, HT⟩
    simp only [wp_bind]
    unfold slotFly
    icases Hfly with ⟨HG, HD⟩
    iapply (wp_waitGL c G (p := 1 - p) (e := (ex M (i 0).val).toNat) (by omega) (off14_eq p hp) _ _ _)
    isplitl [HG]; · iexact HG
    isplitl [HO]; · iexact HO
    iintro ⟨HG, HO⟩
    iapply (wp_waitDL c D (p := 1 - p) (e := (ex M (i 0).val).toNat) (by omega) (off17_eq p hp) _ _ _)
    isplitl [HD]; · iexact HD
    isplitl [HO]; · iexact HO
    iintro ⟨HD, HO⟩
    iapply HR
    isplitr [HT HO]
    · iexists (1 - p)
      isplitr; · ipureintro; omega
      unfold Busy slotGot slotFly
      rw [show 1 - (1 - p) = p by omega]
      isplitl [Hw]; · iexact Hw
      isplitr [Hnext]
      · isplitl [HG] <;> iassumption
      iexact Hnext
    isplitl [HT] <;> iassumption
  · intro hc
    have he := fun h => hc ((cond3_iff i _ _).mpr h)
    rw [hex', hex] at he
    obtain ⟨he1, he2⟩ := not_or.mp he
    iintro ⟨HS, HT, HO⟩
    isplitl [HS]
    · iapply (started_same c G D he1 hu (not_not.mp he2) hn) $$ HS
    isplitl [HT] <;> iassumption
  isplitl [HS HT HO]
  · isplitl [HS]; · iexact HS
    isplitl [HT] <;> iassumption
  iintro ⟨⟨%p, %hp, HB⟩, HT, HO⟩
  simp only [wp_bind, wp_pure]
  unfold Busy slotGot
  icases HB with ⟨Hw, ⟨HG, HD⟩, Hnext⟩
  iapply (wp_word c _ _ _)
  isplitl [Hw]; · iexact Hw
  iintro Hw
  iapply (wp_assume_lift c none Set.univ (chk6_of i _ hp))
  iapply (wp_loadWhole c (funext fun a => by fin_cases a <;> rfl) _ _)
  isplitl [H2]; · iexact H2
  iintro H2
  iapply (wp_loadWhole c (funext fun a => by fin_cases a <;> rfl) _ _)
  isplitl [H3]; · iexact H3
  iintro H3
  iapply (wp_table c none Set.univ (M := M) (by decide) (by omega) (off20_eq i) _ _ _)
  isplitl [HT]; · iexact HT
  iintro HT
  iapply (wp_loadG c G hp (off21_eq p hp) _ _)
  isplitl [HG]; · iexact HG
  iintro HG
  imodintro
  iapply HQ $$ %p %_ %hp
  isplitl [HT]; · iexact HT
  isplitl [HO]; · iexact HO
  isplitl [Hw HG HD Hnext]
  · isplitl [Hw]; · iexact Hw
    isplitl [HG HD]
    · isplitl [HG] <;> iassumption
    iexact Hnext
  isplitl [H2] <;> iassumption

end Cert.Proof.Experts

end
-- ==== Proof.Experts.Own.lean ====
/-
  What the launch hands the kernel besides its windows: the two double buffers, their semaphores, the slot word and the
  two weight arrays are the idle state, and the idle state gives them back.
-/
module

public import proofs.«01_k».proof.Proof.Experts.Part1

@[expose] public section

set_option Elab.async false

noncomputable section

namespace Cert.Proof.Experts

open Cert.ExpertsIdeal Cert.ExpertsIdeal.Gen

open Idealize.ShloMosaic Idealize.ShloMosaic.WordCmp
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD) (G : Buf (Elt F) ((thr c).loc main_arg3)) (D : Buf (Elt F) ((thr c).loc main_arg5))

theorem disjG : Disjoint (setG 0) (setG 1) := by
  rw [Finset.disjoint_left]
  intro i h0 h1
  simp only [setG, Finset.mem_filter, Finset.mem_univ, true_and] at h0 h1
  omega

theorem unionG : setG 0 ∪ setG 1 = Finset.univ := by
  ext i
  have h : (i 0).val < 2 := (i 0).isLt
  simp only [setG, Finset.mem_union, Finset.mem_filter, Finset.mem_univ, true_and, iff_true]
  omega

/-- The array dealt to the two slots. -/
theorem dealG : ((thr c).loc main_arg3 ↦{fullShare} G : sProp 𝕄)
    = iprop(((thr c).loc main_arg3 ↦{qs 0} G) ∗ ((thr c).loc main_arg3 ↦{qs 1} G)) :=
  (Transfers.pointsTo_deal (Finset.univ : Finset (Fin 2)) Finset.univ_nonempty fullShare).trans
    (BI.bigSep_univ_eq_bigSepL [(0 : Fin 2), (1 : Fin 2)] (by decide) (by decide) _)

/-- The double buffer, its semaphores and the array are the two slots free. -/
theorem freeG_split :
    iprop((∃ f : Buf (Elt F) ((thr c).loc cc0_scratch0), (thr c).loc cc0_scratch0 ↦{fullShare} f) ∗ semVal (thr c, .dma (cell 0 0)) 0 ∗ semVal (thr c, .dma (cell 0 1)) 0
        ∗ ((thr c).loc main_arg3 ↦{fullShare} G))
      ⊢ (iprop(freeG c G 0 ∗ freeG c G 1) : sProp 𝕄) := by
  rw [dealG]
  unfold freeG
  iintro ⟨⟨%f, Hs⟩, H0, H1, Ha, Hb⟩
  ihave Hs' := (Entails.of_eq (show ((thr c).loc cc0_scratch0 ↦{fullShare} f : sProp 𝕄) = (thr c).loc cc0_scratch0 ↦[setG 0 ∪ setG 1]{fullShare} f by rw [unionG])) $$ Hs
  ihave Hs2 := (pointsTo_union (ℓ := (thr c).loc cc0_scratch0) (q := fullShare) (f := f) disjG).1 $$ Hs'
  icases Hs2 with ⟨Hs, Ht⟩
  isplitl [Hs H0 Ha]
  · isplitl [Hs]; · iexists f; iexact Hs
    isplitl [H0]; · iexact H0
    iexact Ha
  · isplitl [Ht]; · iexists f; iexact Ht
    isplitl [H1]; · iexact H1
    iexact Hb

/-- And back. -/
theorem freeG_join :
    (iprop(freeG c G 0 ∗ freeG c G 1) : sProp 𝕄)
      ⊢ iprop((∃ f : Buf (Elt F) ((thr c).loc cc0_scratch0), (thr c).loc cc0_scratch0 ↦{fullShare} f) ∗ semVal (thr c, .dma (cell 0 0)) 0 ∗ semVal (thr c, .dma (cell 0 1)) 0
        ∗ ((thr c).loc main_arg3 ↦{fullShare} G)) := by
  rw [dealG]
  unfold freeG
  iintro ⟨⟨⟨%f, Hs⟩, H0, Ha⟩, ⟨%g, Ht⟩, H1, Hb⟩
  isplitl [Hs Ht]
  · ihave Hu := (pointsTo_join (ℓ := (thr c).loc cc0_scratch0) (q := fullShare) (f := f) (g := g) disjG) $$ [Hs Ht]
    · isplitl [Hs] <;> iassumption
    iexists _
    iapply (Entails.of_eq (show ((thr c).loc cc0_scratch0 ↦[setG 0 ∪ setG 1]{fullShare} _ : sProp 𝕄) = (thr c).loc cc0_scratch0 ↦{fullShare} _ by rw [unionG])) $$ Hu
  isplitl [H0]; · iexact H0
  isplitl [H1]; · iexact H1
  isplitl [Ha] <;> iassumption

theorem disjD : Disjoint (setD 0) (setD 1) := by
  rw [Finset.disjoint_left]
  intro i h0 h1
  simp only [setD, Finset.mem_filter, Finset.mem_univ, true_and] at h0 h1
  omega

theorem unionD : setD 0 ∪ setD 1 = Finset.univ := by
  ext i
  have h : (i 0).val < 2 := (i 0).isLt
  simp only [setD, Finset.mem_union, Finset.mem_filter, Finset.mem_univ, true_and, iff_true]
  omega

/-- The array dealt to the two slots. -/
theorem dealD : ((thr c).loc main_arg5 ↦{fullShare} D : sProp 𝕄)
    = iprop(((thr c).loc main_arg5 ↦{qs 0} D) ∗ ((thr c).loc main_arg5 ↦{qs 1} D)) :=
  (Transfers.pointsTo_deal (Finset.univ : Finset (Fin 2)) Finset.univ_nonempty fullShare).trans
    (BI.bigSep_univ_eq_bigSepL [(0 : Fin 2), (1 : Fin 2)] (by decide) (by decide) _)

/-- The double buffer, its semaphores and the array are the two slots free. -/
theorem freeD_split :
    iprop((∃ f : Buf (Elt F) ((thr c).loc cc0_scratch1), (thr c).loc cc0_scratch1 ↦{fullShare} f) ∗ semVal (thr c, .dma (cell 1 0)) 0 ∗ semVal (thr c, .dma (cell 1 1)) 0
        ∗ ((thr c).loc main_arg5 ↦{fullShare} D))
      ⊢ (iprop(freeD c D 0 ∗ freeD c D 1) : sProp 𝕄) := by
  rw [dealD]
  unfold freeD
  iintro ⟨⟨%f, Hs⟩, H0, H1, Ha, Hb⟩
  ihave Hs' := (Entails.of_eq (show ((thr c).loc cc0_scratch1 ↦{fullShare} f : sProp 𝕄) = (thr c).loc cc0_scratch1 ↦[setD 0 ∪ setD 1]{fullShare} f by rw [unionD])) $$ Hs
  ihave Hs2 := (pointsTo_union (ℓ := (thr c).loc cc0_scratch1) (q := fullShare) (f := f) disjD).1 $$ Hs'
  icases Hs2 with ⟨Hs, Ht⟩
  isplitl [Hs H0 Ha]
  · isplitl [Hs]; · iexists f; iexact Hs
    isplitl [H0]; · iexact H0
    iexact Ha
  · isplitl [Ht]; · iexists f; iexact Ht
    isplitl [H1]; · iexact H1
    iexact Hb

/-- And back. -/
theorem freeD_join :
    (iprop(freeD c D 0 ∗ freeD c D 1) : sProp 𝕄)
      ⊢ iprop((∃ f : Buf (Elt F) ((thr c).loc cc0_scratch1), (thr c).loc cc0_scratch1 ↦{fullShare} f) ∗ semVal (thr c, .dma (cell 1 0)) 0 ∗ semVal (thr c, .dma (cell 1 1)) 0
        ∗ ((thr c).loc main_arg5 ↦{fullShare} D)) := by
  rw [dealD]
  unfold freeD
  iintro ⟨⟨⟨%f, Hs⟩, H0, Ha⟩, ⟨%g, Ht⟩, H1, Hb⟩
  isplitl [Hs Ht]
  · ihave Hu := (pointsTo_join (ℓ := (thr c).loc cc0_scratch1) (q := fullShare) (f := f) (g := g) disjD) $$ [Hs Ht]
    · isplitl [Hs] <;> iassumption
    iexists _
    iapply (Entails.of_eq (show ((thr c).loc cc0_scratch1 ↦[setD 0 ∪ setD 1]{fullShare} _ : sProp 𝕄) = (thr c).loc cc0_scratch1 ↦{fullShare} _ by rw [unionD])) $$ Hu
  isplitl [H0]; · iexact H0
  isplitl [H1]; · iexact H1
  isplitl [Ha] <;> iassumption

/-- The kernel's own semaphores. -/
abbrev osem : Fin 4 → SemLoc sig := fun k => .dma (cell (k.val / 2) (k.val % 2))

theorem osem_facts : Pipeline.OwnSemFacts spec0 osem := by decide

/-- The arrays the kernel addresses itself. -/
abbrev heldRefs : Finset (Ref sig .tc) := {main_arg3, main_arg5}

variable (V : (c : Dev nD) → (b : Ref sig .tc) → Buf (Elt F) ((c.tc : Thread nD τ).loc b))

theorem own_eq : (Pipeline.ΦD osem spec0 heldRefs V c : sProp 𝕄)
    = iprop(((∃ f : Buf (Elt F) ((thr c).loc cc0_scratch0), (thr c).loc cc0_scratch0 ↦{fullShare} f)
          ∗ (∃ f : Buf (Elt F) ((thr c).loc cc0_scratch1), (thr c).loc cc0_scratch1 ↦{fullShare} f) ∗ wordAny c)
        ∗ (∃ r, prngReg c r)
        ∗ (semVal (thr c, .dma (cell 0 0)) 0 ∗ semVal (thr c, .dma (cell 0 1)) 0 ∗ semVal (thr c, .dma (cell 1 0)) 0 ∗ semVal (thr c, .dma (cell 1 1)) 0)
        ∗ ((thr c).loc main_arg3 ↦{fullShare} V c main_arg3) ∗ ((thr c).loc main_arg5 ↦{fullShare} V c main_arg5)) := by
  rw [Pipeline.ΦD_eq, scopedRest0_eq, Pipeline.ownSems0_eq_of_list c osem [0, 1, 2, 3] (by decide) (by decide),
    BI.bigSep_eq_bigSepL_of_eq (S := heldRefs) [main_arg3, main_arg5] (by decide) (by decide)]
  rfl

/-- What the launch hands over is the idle state. -/
theorem idle_of_own : (Pipeline.ΦD osem spec0 heldRefs V c : sProp 𝕄)
    ⊢ iprop((∃ r, prngReg c r) ∗ Idle c (V c main_arg3) (V c main_arg5)) := by
  rw [own_eq]
  unfold Idle slotFree
  iintro ⟨⟨Hg, Hd, Hw⟩, Hr, ⟨S0, S1, S2, S3⟩, HG, HD⟩
  isplitl [Hr]; · iexact Hr
  ihave HG' := (freeG_split c (V c main_arg3)) $$ [Hg S0 S1 HG]
  · isplitl [Hg]; · iexact Hg
    isplitl [S0]; · iexact S0
    isplitl [S1] <;> iassumption
  ihave HD' := (freeD_split c (V c main_arg5)) $$ [Hd S2 S3 HD]
  · isplitl [Hd]; · iexact Hd
    isplitl [S2]; · iexact S2
    isplitl [S3] <;> iassumption
  icases HG' with ⟨G0, G1⟩
  icases HD' with ⟨D0, D1⟩
  isplitl [G0 D0]; · isplitl [G0] <;> iassumption
  isplitl [G1 D1]; · isplitl [G1] <;> iassumption
  iexact Hw

/-- And the idle state gives it back. -/
theorem own_of_idle : (iprop((∃ r, prngReg c r) ∗ Idle c (V c main_arg3) (V c main_arg5)) : sProp 𝕄)
    ⊢ Pipeline.ΦD osem spec0 heldRefs V c := by
  rw [own_eq]
  unfold Idle slotFree
  iintro ⟨Hr, ⟨G0, D0⟩, ⟨G1, D1⟩, Hw⟩
  ihave HG := (freeG_join c (V c main_arg3)) $$ [G0 G1]
  · isplitl [G0] <;> iassumption
  ihave HD := (freeD_join c (V c main_arg5)) $$ [D0 D1]
  · isplitl [D0] <;> iassumption
  icases HG with ⟨Hg, S0, S1, HG⟩
  icases HD with ⟨Hd, S2, S3, HD⟩
  isplitl [Hg Hd Hw]
  · isplitl [Hg]; · iexact Hg
    isplitl [Hd] <;> iassumption
  isplitl [Hr]; · iexact Hr
  isplitl [S0 S1 S2 S3]
  · isplitl [S0]; · iexact S0
    isplitl [S1]; · iexact S1
    isplitl [S2] <;> iassumption
  isplitl [HG] <;> iassumption

end Cert.Proof.Experts

end
-- ==== Proof.Experts.Table.lean ====
/-
  What the launch asks of the block table: at every point the blocks it selects lie inside their arrays, and the two
  output blocks are stored.
-/
module

public import proofs.«01_k».proof.Proof.Experts.Words
public import proofs.«01_k».proof.Proof.Gen.ExpertsIdeal.Launch

@[expose] public section

set_option Elab.async false

noncomputable section

namespace Cert.Proof.Experts

open Cert.ExpertsIdeal Cert.ExpertsIdeal.Gen

open Idealize.ShloMosaic Idealize.ShloMosaic.WordCmp
open Idealize.ShloMosaic.TcCoe

variable {F : FTy → Type} [FloatOps F]

/-- The block table as the contents the launch holds. -/
def pf (M : Tab) : pre0.Contents (Elt F) := fun | 0 => M | ⟨_ + 1, h⟩ => absurd h (Nat.not_lt.2 (Nat.le_add_left _ _))

theorem word_eq (M : Tab) {r k : ℕ} (h : ∀ a, (![r, k] : Fin 2 → ℕ) a + S1x1.size a ≤ S8x256.size a) (x : S1x1.Idx) :
    M ((Rect.unit (s := S8x256) ![r, k] S1x1.size h).emb x) = M (tix r k) := by
  have h0 : (x 0).val < 1 := (x 0).isLt
  have h1 : (x 1).val < 1 := (x 1).isLt
  refine congrArg M (tix_eq ?_ ?_) <;> rw [Rect.emb_apply] <;> simp <;> omega

/-- The word an index map reads. -/
theorem pf_at (M : Tab) {r k : ℕ} {o : Fin 2 → ℕ} (ho : o = ![r, k]) (h : ∀ a, o a + S1x1.size a ≤ S8x256.size a) (h1) :
    (pf (F := F) M).at 0 (Rect.unit (s := S8x256) o S1x1.size h) h1 = M (tix r k) := by
  subst ho
  exact word_eq M h _

theorem pf_atD (M : Tab) : (pf (F := F) M).atD 0 ![1, 0] = un M := by
  refine (dif_pos (by decide)).trans ?_
  exact congrArg M (tix_eq rfl rfl)

theorem off1_eq : ∀ i : grid0.Coords, k0_off1 i = ![0, (i 0).val] := by decide +kernel

theorem min_toNat {t : ℕ} {w : BitVec 32} (ht : t < 160) (h : 1 ≤ w.toNat) (h' : w.toNat < 2 ^ 31) :
    (Scalar.minsi (BitVec.ofNat 32 t) (Scalar.subi w 1#32)).toNat = min t (w.toNat - 1) := by
  have hs : (Scalar.subi w 1#32).toNat = w.toNat - 1 := by
    show (w - 1#32).toNat = _
    rw [BitVec.toNat_sub]; simp; omega
  have ht' : (BitVec.ofNat 32 t).toNat = t := by rw [BitVec.toNat_ofNat]; omega
  have hti : (BitVec.ofNat 32 t).toInt = t := by rw [BitVec.toInt_eq_toNat_of_lt (by omega), ht']
  have hsi : (Scalar.subi w 1#32).toInt = ((w.toNat - 1 : ℕ) : ℤ) := by rw [BitVec.toInt_eq_toNat_of_lt (by omega), hs]
  show (IntOp.minsi (BitVec.ofNat 32 t) (Scalar.subi w 1#32)).toNat = _
  unfold IntOp.minsi
  rw [BitVec.slt, hti, hsi]
  by_cases hc : t < w.toNat - 1
  · rw [if_pos (by simpa using by omega)]; omega
  · rw [if_neg (by simpa using by omega)]; omega

/-- The rows' block at point `t`: block `t`, past the used ones the last of them. -/
theorem rows_eq {M : Tab} (hM : InRange M) (i : grid0.Coords) (h1 : ∀ a, (![1, 0] : Fin 2 → ℕ) a + S1x1.size a ≤ S8x256.size a) (h2 : S1x1.numel = 1) :
    cc0_transform_0 h1 h2 (pf (F := F) M) i = ![min (i 0).val (used M - 1), 0] := by
  unfold cc0_transform_0
  have e := pf_at (F := F) M rfl h1 h2
  simp only [e]
  exact congrArg (fun k => ![k, 0]) (min_toNat (pt_lt i) hM.hu hM.hu')

theorem rows_eq' {M : Tab} (hM : InRange M) (i : grid0.Coords) (h1 : ∀ a, (![1, 0] : Fin 2 → ℕ) a + S1x1.size a ≤ S8x256.size a) (h2 : S1x1.numel = 1) :
    cc0_transform_1 h1 h2 (pf (F := F) M) i = ![min (i 0).val (used M - 1), 0] := rows_eq hM i h1 h2

/-- The biases' blocks at point `t`: the block's expert's. -/
theorem bias_eq (M : Tab) (i : grid0.Coords) (h1 : ∀ i : grid0.Coords, ∀ a, (k0_off1 i) a + S1x1.size a ≤ S8x256.size a) (h2 : S1x1.numel = 1) :
    cc0_transform_3 h1 h2 (pf (F := F) M) i = ![(ex M (i 0).val).toNat, 0, 0] := by
  have := pt_lt i
  unfold cc0_transform_3 ex
  rw [show min (i 0).val 159 = (i 0).val by omega]
  have e := pf_at (F := F) M (off1_eq i) (h1 i) h2
  exact congrArg (fun w : BitVec 32 => ![w.toNat, 0, 0]) e

theorem bias_eq' (M : Tab) (i : grid0.Coords) (h1 : ∀ i : grid0.Coords, ∀ a, (k0_off1 i) a + S1x1.size a ≤ S8x256.size a) (h2 : S1x1.numel = 1) :
    cc0_transform_5 h1 h2 (pf (F := F) M) i = ![(ex M (i 0).val).toNat, 0, 0] := bias_eq M i h1 h2

/-- The launch's side condition on the table. -/
theorem ok_pf {M : Tab} (hM : InRange M) : ok0 (pf (F := F) M) := by
  refine ⟨fun i => ⟨?_, Or.inl rfl⟩, fun i => ⟨?_, Or.inl rfl⟩, fun i => ⟨?_, Or.inl rfl⟩, fun i => ⟨?_, Or.inl rfl⟩⟩
  · rw [rows_eq hM]
    have := pt_lt i
    intro a; match a with
    | 0 => show (min (i 0).val (used M - 1) + 1) * 512 ≤ 81920; omega
    | 1 => exact (by decide : (0 + 1) * 256 ≤ 256)
  · rw [rows_eq' hM]
    have := pt_lt i
    intro a; match a with
    | 0 => show (min (i 0).val (used M - 1) + 1) * 512 ≤ 81920; omega
    | 1 => exact (by decide : (0 + 1) * 256 ≤ 256)
  · rw [bias_eq]
    have := hM.he (i 0).val
    intro a; match a with
    | 0 => show ((ex M (i 0).val).toNat + 1) * 1 ≤ 32; omega
    | 1 => exact (by decide : (0 + 1) * 1 ≤ 1)
    | 2 => exact (by decide : (0 + 1) * 2048 ≤ 2048)
  · rw [bias_eq']
    have := hM.he (i 0).val
    intro a; match a with
    | 0 => show ((ex M (i 0).val).toNat + 1) * 1 ≤ 32; omega
    | 1 => exact (by decide : (0 + 1) * 1 ≤ 1)
    | 2 => exact (by decide : (0 + 1) * 1024 ≤ 1024)

/-- Both outputs are stored at every point. -/
theorem live_pf {M : Tab} (hM : InRange M) (w : Fin 6) (i : grid0.Coords) : idle0 (pf (F := F) M) w i = false := by
  have h1 := cond1_iff hM i
  have h5 := cond5_iff hM i
  have key : (!(k0_cond1 i (un M) == 1#1) && !(k0_cond5 i (un M) == 1#1)) = false := by
    by_cases h : (i 0).val < used M
    · rw [h1.mpr h]; rfl
    · rw [h5.mpr (by omega)]; exact Bool.and_false _
  match w with
  | 0 => rfl
  | 1 => rfl
  | 2 => rfl
  | 3 => rfl
  | 4 => show (!(k0_cond1 i ((pf (F := F) M).atD 0 ![1, 0]) == 1#1) && !(k0_cond5 i ((pf (F := F) M).atD 0 ![1, 0]) == 1#1)) = false; rw [pf_atD]; exact key
  | 5 => show (!(k0_cond1 i ((pf (F := F) M).atD 0 ![1, 0]) == 1#1) && !(k0_cond5 i ((pf (F := F) M).atD 0 ![1, 0]) == 1#1)) = false; rw [pf_atD]; exact key

end Cert.Proof.Experts

end
-- ==== Proof.Experts.Body.lean ====
/-
  The whole body at a point: at a used chunk its two output blocks are the expert's network of the chunk's rows, past
  the used chunks they are zero.
-/
module

public import proofs.«01_k».proof.Proof.Experts.Part1

@[expose] public section

set_option Elab.async false

noncomputable section

namespace Cert.Proof.Experts

open Cert.ExpertsIdeal Cert.ExpertsIdeal.Gen

open Idealize.ShloMosaic Idealize.ShloMosaic.WordCmp
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD) (G : S32x1024x2048.Idx → Elt F .bf16) (D : S32x1024x1024.Idx → Elt F .bf16)

local notation "WP" => wp frame (wpE (defs₀ (F := F)) 𝒱₀ (thr c) none) Set.univ

/-- The gate and up products of chunk `t`. -/
def gateUp (M : Tab) (t : ℕ) (b0 b1 : Vec F S512x256 .i32) : FVec F S512x2048 .f32 :=
  k0_pay4 b0 b1 (M (tix 2 t)) (blockG G (ex M t).toNat)

/-- The first output block at point `t`. -/
def outA (M : Tab) (t : ℕ) (b0 b1 : Vec F S512x256 .i32) (b2 : Vec F S1x1x2048 .f32) (b3 : Vec F S1x1x1024 .f32) : FVec F S512x512 .bf16 :=
  if t < used M then k0_pay6 (gateUp G M t b0 b1) b2 (blockD D (ex M t).toNat) b3 else k0_pay2

/-- From the first unused block on no copy is in flight, before a point as after it. -/
theorem state_past (c : Dev nD) (G : Buf (Elt F) ((thr c).loc main_arg3)) (D : Buf (Elt F) ((thr c).loc main_arg5))
    (M : Tab) {t : ℕ} (h : used M ≤ t) (h' : t < 160) : (State c G D M t : sProp 𝕄) ⊢ State c G D M (t + 1) := by
  unfold State
  rw [if_pos (.inr (by omega)), if_pos (.inr (by omega))]

/-- The second. -/
def outB (M : Tab) (t : ℕ) (b0 b1 : Vec F S512x256 .i32) (b2 : Vec F S1x1x2048 .f32) (b3 : Vec F S1x1x1024 .f32) : FVec F S512x512 .bf16 :=
  if t < used M then k0_pay1 (k0_pay5 (gateUp G M t b0 b1) b2 (blockD D (ex M t).toNat) b3) (k0_pay7 (gateUp G M t b0 b1) b2 (blockD D (ex M t).toNat) b3)
  else k0_pay3

theorem zero2 : (![0, 0] : Fin 2 → ℕ) = fun _ => 0 := funext fun a => by fin_cases a <;> rfl
theorem zero3 : (![0, 0, 0] : Fin 3 → ℕ) = fun _ => 0 := funext fun a => by fin_cases a <;> rfl

theorem body {M : Tab} (hM : InRange M) (i : grid0.Coords)
    {m2 : Memref sig .tc .vmem S512x256 .i32} {m3 : Memref sig .tc .vmem S512x256 .i32} {m5 : Memref sig .tc .vmem S1x1x2048 .f32}
    {m7 : Memref sig .tc .vmem S1x1x1024 .f32} {m8 m9 : Memref sig .tc .vmem S512x512 .bf16} (h2) (h3) (h5) (h7) (h8) (h9)
    (b0 b1 : Vec F S512x256 .i32) (b2 : Vec F S1x1x2048 .f32) (b3 : Vec F S1x1x1024 .f32) (x8 x9 : Vec F S512x512 .bf16) {Q : PUnit → sProp 𝕄} :
    iprop((table c M ∗ owing c ∗ State c G D M (i 0).val)
        ∗ (owns (thr c) m2 fullShare b0 ∗ owns (thr c) m3 fullShare b1 ∗ owns (thr c) m5 fullShare b2 ∗ owns (thr c) m7 fullShare b3
            ∗ owns (thr c) m8 fullShare x8 ∗ owns (thr c) m9 fullShare x9)
        ∗ (iprop((table c M ∗ owing c ∗ State c G D M ((i 0).val + 1))
            ∗ (owns (thr c) m2 fullShare b0 ∗ owns (thr c) m3 fullShare b1 ∗ owns (thr c) m5 fullShare b2 ∗ owns (thr c) m7 fullShare b3
                ∗ owns (thr c) m8 fullShare (outA G D M (i 0).val b0 b1 b2 b3) ∗ owns (thr c) m9 fullShare (outB G D M (i 0).val b0 b1 b2 b3))) -∗ Q ⟨⟩))
      ⊢ WP (cc0_experts i (Memref.whole main_arg0) (Memref.isWhole_whole _) m2 h2 m3 h3 (Memref.whole main_arg3) (Memref.isWhole_whole _) m5 h5
          (Memref.whole main_arg5) (Memref.isWhole_whole _) m7 h7 m8 h8 m9 h9 (Memref.whole cc0_scratch0) (Memref.isWhole_whole _)
          (Memref.whole cc0_scratch1) (Memref.isWhole_whole _) cc0_scratch2 (Memref.whole cc0_scratch3) (Memref.isWhole_whole _)) Q := by
  have ht : (i 0).val < 160 := pt_lt i
  have hex := ex_eq (M := M) (t := (i 0).val) (by omega)
  simp only [cc0_experts_eq_skeleton]; unfold cc0_experts_skel
  simp only [wp_bind]
  iintro ⟨⟨HT, HO, HS⟩, ⟨H2, H3, H5, H7, H8, H9⟩, HQ⟩
  iapply (wp_table c none Set.univ (M := M) (r := 1) (k := 0) (by decide) (by decide) rfl _ _ _)
  isplitl [HT]; · iexact HT
  iintro HT
  iapply (wp_table c none Set.univ (M := M) (by decide) (by omega) (off2_eq i) _ _ _)
  isplitl [HT]; · iexact HT
  iintro HT
  iapply (wp_assume_lift c none Set.univ (chk2_of i _ (by rw [hex]; exact hM.he _)))
  have hadd : Scalar.addi (BitVec.ofNat 32 (i 0).val) 1#32 = BitVec.ofNat 32 ((i 0).val + 1) := (BitVec.ofNat_add _ _).symm
  simp only [hadd]
  conv in Prog.lift (.call _ _) => unfold Prog.lift
  iapply (wp_call_spec 𝒱₀ (thr c) none Set.univ (spec c M (M (tix 0 (i 0).val)) ((i 0).val + 1)) (used M - ((i 0).val + 1)) (fun u hu => nomatch hu)
    (search c hM i (M (tix 0 (i 0).val)) Set.univ _ _ rfl (by omega)))
  rw [spec_apply]
  isplitl [HT]; · iexact HT
  iintro %r %hr HT
  rw [hex] at hr
  obtain ⟨n, rfl, hn⟩ := hr.next
  rw [wp_ret]; imodintro
  by_cases hu : (i 0).val < used M
  · have hc1 := (cond1_iff hM i).mpr hu
    have hc5 : ¬ k0_cond5 i (un M) = 1#1 := fun h => absurd ((cond5_iff hM i).mp h) (by omega)
    unfold outA outB
    rw [if_pos hu, if_pos hu]
    have hc1' : k0_cond1 i (M (tix 1 0)) = 1#1 := hc1
    have hc5' : ¬ k0_cond5 i (M (tix 1 0)) = 1#1 := hc5
    rw [dif_pos hc1', dif_neg hc5']
    simp only [wp_bind, wp_pure]
    iapply (part1 c G D hM i hu hn m5 m7 m8 m9 h2 h3 h5 h7 h8 h9 b0 b1 _ hc1)
    isplitl [HT]; · iexact HT
    isplitl [HO]; · iexact HO
    isplitl [HS]; · iexact HS
    isplitl [H2]; · iexact H2
    isplitl [H3]; · iexact H3
    iintro %p %hw6 %hp ⟨HT, HO, HB, H2, H3⟩
    simp only [k0_part2_eq_skeleton]; unfold k0_part2_skel
    simp only [wp_bind, wp_pure]
    unfold Busy slotGot
    icases HB with ⟨Hw, ⟨HG, HD⟩, Hnext⟩
    iapply (wp_loadWhole c zero3 _ _)
    isplitl [H5]; · iexact H5
    iintro H5
    iapply (wp_loadD c D hp (off22_eq p hp) _ _)
    isplitl [HD]; · iexact HD
    iintro HD
    iapply (wp_loadWhole c zero3 _ _)
    isplitl [H7]; · iexact H7
    iintro H7
    iapply (wp_loadDead c _ _)
    isplitl [H8]; · iexact H8
    iintro H8 %v87
    iapply (wp_storeWhole c zero2 _ _ _)
    isplitl [H8]; · iexact H8
    iintro H8
    imodintro
    iapply (wp_loadDead c _ _)
    isplitl [H9]; · iexact H9
    iintro H9 %v92
    iapply (wp_storeWhole c zero2 _ _ _)
    isplitl [H9]; · iexact H9
    iintro H9
    imodintro
    iapply HQ
    isplitl [HT HO Hw HG HD Hnext]
    · isplitl [HT]; · iexact HT
      isplitl [HO]; · iexact HO
      iapply (state_of_busy c G D hp hn)
      unfold Busy slotGot
      isplitl [Hw]; · iexact Hw
      isplitl [HG HD]
      · isplitl [HG] <;> iassumption
      iexact Hnext
    isplitl [H2]; · iexact H2
    isplitl [H3]; · iexact H3
    isplitl [H5]; · iexact H5
    isplitl [H7]; · iexact H7
    isplitl [H8]; · iexact H8
    iexact H9
  · have hc1 : ¬ k0_cond1 i (M (tix 1 0)) = 1#1 := fun h => hu ((cond1_iff hM i).mp h)
    have hc5 : k0_cond5 i (M (tix 1 0)) = 1#1 := (cond5_iff hM i).mpr (not_lt.mp hu)
    unfold outA outB
    rw [if_neg hu, if_neg hu, dif_neg hc1, dif_pos hc5]
    simp only [wp_bind, wp_pure]
    iapply (wp_loadDead c _ _)
    isplitl [H8]; · iexact H8
    iintro H8 %v14
    iapply (wp_storeWhole c zero2 _ _ _)
    isplitl [H8]; · iexact H8
    iintro H8
    iapply (wp_loadDead c _ _)
    isplitl [H9]; · iexact H9
    iintro H9 %v16
    iapply (wp_storeWhole c zero2 _ _ _)
    isplitl [H9]; · iexact H9
    iintro H9
    imodintro
    iapply HQ
    isplitl [HT HO HS]
    · isplitl [HT]; · iexact HT
      isplitl [HO]; · iexact HO
      iapply (state_past c G D M (by omega) (by omega)) $$ HS
    isplitl [H2]; · iexact H2
    isplitl [H3]; · iexact H3
    isplitl [H5]; · iexact H5
    isplitl [H7]; · iexact H7
    isplitl [H8]; · iexact H8
    iexact H9

end Cert.Proof.Experts

end
-- ==== Proof.Experts.Launch.lean ====
/-
  The launch of the experts' call: what each point finds and leaves, the body's obligation, and the run of the program.
-/
module

public import proofs.«01_k».proof.Proof.Experts.Own
public import proofs.«01_k».proof.Proof.Experts.Table
public import proofs.«01_k».proof.Proof.Experts.Body

@[expose] public section

set_option Elab.async false

noncomputable section

namespace Cert.Proof.Experts

open Cert.ExpertsIdeal Cert.ExpertsIdeal.Gen

open Idealize.ShloMosaic Idealize.ShloMosaic.WordCmp
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat)

variable {F : FTy → Type} [FloatOps F]

local notation "𝕄" => MT nD τ sig Unit (Elt F) ℕ (UD sig nD τ) ℕ

variable {M : Tab} (hM : InRange M)

/-- The table the launch runs at. -/
abbrev adm : (p : Fin 1) → (pcfgs (F := F) p).Adm := fun _ => ⟨pf M, ok_pf hM⟩

/-- The pipeline at it. -/
abbrev cfgM : Pipeline.Cfg sig (Λ₀ F) := Pipeline.pin (pcfgs (F := F)) (adm hM) 0

variable (V : (c : Dev nD) → (b : Ref sig .tc) → Buf (Elt F) ((c.tc : Thread nD τ).loc b)) (c : Dev nD)

/-- Window `w`'s block at point `t`. -/
def iblk (w : Fin (cfgM (F := F) hM).W) (t : Fin (cfgM (F := F) hM).N) :
    (((cfgM (F := F) hM).win w).xblock ((cfgM (F := F) hM).grid.coords t)).Idx → Elt F ((cfgM (F := F) hM).win w).elt :=
  (((cfgM (F := F) hM).win w).blk t).view.read (Elt F) (V c (Pipeline.arrRef spec0 w))

theorem coords_val : ∀ t : Fin grid0.N, (grid0.coords t 0).val = t.val := by decide +kernel

/-- The proof's data: inputs keep their blocks, the outputs get the point's rows. -/
def dat : Dat τ (Elt F) Unit ℕ (UD sig nD τ) ℕ (cfgM (F := F) hM) c where
  A w := V c (Pipeline.arrRef spec0 w)
  after w t := match w with
    | ⟨0, _⟩ => iblk hM V c 0 t
    | ⟨1, _⟩ => iblk hM V c 1 t
    | ⟨2, _⟩ => iblk hM V c 2 t
    | ⟨3, _⟩ => iblk hM V c 3 t
    | ⟨4, _⟩ => outA (V c main_arg3) (V c main_arg5) M t.val (iblk hM V c 0 t) (iblk hM V c 1 t) (iblk hM V c 2 t) (iblk hM V c 3 t)
    | ⟨5, _⟩ => outB (V c main_arg3) (V c main_arg5) M t.val (iblk hM V c 0 t) (iblk hM V c 1 t) (iblk hM V c 2 t) (iblk hM V c 3 t)
  Φ t := iprop(table c M ∗ (∃ r, prngReg c r) ∗ State c (V c main_arg3) (V c main_arg5) M t.val)
  q _ := fullShare
  owed _ := 0

theorem after4 (t) : (dat hM V c).after 4 t = outA (V c main_arg3) (V c main_arg5) M t.val (iblk hM V c 0 t) (iblk hM V c 1 t) (iblk hM V c 2 t) (iblk hM V c 3 t) := by
  rfl
theorem after5 (t) : (dat hM V c).after 5 t = outB (V c main_arg3) (V c main_arg5) M t.val (iblk hM V c 0 t) (iblk hM V c 1 t) (iblk hM V c 2 t) (iblk hM V c 3 t) := by
  rfl

/-! ## What a point finds -/

theorem before_0 (t) (d) : (dat hM V c).before 0 t d = iblk hM V c 0 t :=
  ((dat hM V c).before_in_eq_fetched 0 rfl (fun _ => rfl) (fun _ _ _ => rfl) (fun _ => rfl) t d).trans rfl
theorem before_1 (t) (d) : (dat hM V c).before 1 t d = iblk hM V c 1 t :=
  ((dat hM V c).before_in_eq_fetched 1 rfl (fun _ => rfl) (fun _ _ _ => rfl) (fun _ => rfl) t d).trans rfl
theorem before_2 (t) (d) : (dat hM V c).before 2 t d = iblk hM V c 2 t :=
  ((dat hM V c).before_in_eq_fetched 2 rfl (fun _ => rfl) (fun _ _ _ => rfl) (fun _ => rfl) t d).trans rfl
theorem before_3 (t) (d) : (dat hM V c).before 3 t d = iblk hM V c 3 t :=
  ((dat hM V c).before_in_eq_fetched 3 rfl (fun _ => rfl) (fun _ _ _ => rfl) (fun _ => rfl) t d).trans rfl

theorem live (w : Fin 6) (i : grid0.Coords) : (cfgM (F := F) hM).idle w i = false := live_pf hM w i

/-! ## The body's obligation -/

theorem obligation : Pipeline.BodyObligation (dat hM V c) (defs₀ (F := F)) 𝒱₀ () Set.univ := fun t => by
  have ht : (grid0.coords t 0).val = t.val := coords_val t
  have e0 : (dat hM V c).Φ t.castSucc = iprop(table c M ∗ (∃ r, prngReg c r) ∗ State c (V c main_arg3) (V c main_arg5) M (grid0.coords t 0).val) := by
    rw [ht]; rfl
  have e1 : (dat hM V c).Φ t.succ = iprop(table c M ∗ (∃ r, prngReg c r) ∗ State c (V c main_arg3) (V c main_arg5) M ((grid0.coords t 0).val + 1)) := by
    rw [ht]; rfl
  have e4 : outA (V c main_arg3) (V c main_arg5) M (grid0.coords t 0).val (iblk hM V c 0 t) (iblk hM V c 1 t) (iblk hM V c 2 t) (iblk hM V c 3 t) = (dat hM V c).after 4 t := by
    rw [ht]; exact (after4 hM V c t).symm
  have e5 : outB (V c main_arg3) (V c main_arg5) M (grid0.coords t 0).val (iblk hM V c 0 t) (iblk hM V c 1 t) (iblk hM V c 2 t) (iblk hM V c 3 t) = (dat hM V c).after 5 t := by
    rw [ht]; exact (after5 hM V c t).symm
  rw [bigSep_W0, bigSep_W0, e0, e1]
  dsimp only
  sl_whnfR [defs₀, Defs.onTc]
  have l4 : idle0 (pf (F := F) M) 4 (((pcfgs (F := F) 0).gridAt (pf M)).coords t) = false := live_pf hM 4 _
  rw [l4]
  dsimp only
  iintro ⟨⟨HT, HR, HS⟩, ⟨%W, %hW, HO⟩, ⟨%d0, H0⟩, ⟨%d1, H1⟩, ⟨%d2, H2⟩, ⟨%d3, H3⟩, ⟨%d4, H4⟩, ⟨%d5, H5⟩⟩
  iapply (body c (V c main_arg3) (V c main_arg5) hM (grid0.coords t) _ _ _ _ _ _ (iblk hM V c 0 t) (iblk hM V c 1 t) (iblk hM V c 2 t) (iblk hM V c 3 t) _ _)
  isplitl [HT HO HS]
  · isplitl [HT]; · iexact HT
    isplitl [HO]; · unfold owing; iexists W; iexact HO
    iexact HS
  isplitl [H0 H1 H2 H3 H4 H5]
  · isplitl [H0]; · iapply (Entails.of_eq (congrArg (owns c.tc (stage0_0 ((cfgM hM).slots t 0)) fullShare) (before_0 hM V c t d0))) $$ H0
    isplitl [H1]; · iapply (Entails.of_eq (congrArg (owns c.tc (stage0_1 ((cfgM hM).slots t 1)) fullShare) (before_1 hM V c t d1))) $$ H1
    isplitl [H2]; · iapply (Entails.of_eq (congrArg (owns c.tc (stage0_2 ((cfgM hM).slots t 2)) fullShare) (before_2 hM V c t d2))) $$ H2
    isplitl [H3]; · iapply (Entails.of_eq (congrArg (owns c.tc (stage0_3 ((cfgM hM).slots t 3)) fullShare) (before_3 hM V c t d3))) $$ H3
    isplitl [H4]; · iexact H4
    iexact H5
  iintro ⟨⟨HT, HO, HS⟩, H0, H1, H2, H3, H4, H5⟩
  isplitl [HT HR HS]
  · isplitl [HT]; · iexact HT
    isplitl [HR]; · iexact HR
    iexact HS
  isplitl [HO]
  · unfold owing
    icases HO with ⟨%W', HO⟩
    iexists W'
    isplitr; · ipureintro; exact fun _ _ => Or.inl trivial
    iexact HO
  isplitl [H0]; · iexact H0
  isplitl [H1]; · iexact H1
  isplitl [H2]; · iexact H2
  isplitl [H3]; · iexact H3
  isplitl [H4]; · iapply (Entails.of_eq (congrArg (owns c.tc (stage0_4 ((cfgM hM).slots t 4)) fullShare) e4)) $$ H4
  iapply (Entails.of_eq (congrArg (owns c.tc (stage0_5 ((cfgM hM).slots t 5)) fullShare) e5)) $$ H5

/-! ## The run -/

section Run

variable (m : (ℓ : Loc nD τ sig) → Buf (Elt F) ℓ) (g : Dev nD → PrngReg)

/-- The block table in the launch memory. -/
abbrev tabOf : Tab := m ((thr 0).loc main_arg0)

/-- The launch memory by reference. -/
abbrev mem (c : Dev nD) (b : Ref sig .tc) : Buf (Elt F) ((c.tc : Thread nD τ).loc b) := m ((c.tc : Thread nD τ).loc b)

theorem start (hM : InRange (tabOf m)) (c : Dev nD) :
    iprop(Pipeline.ΦD osem spec0 heldRefs (mem m) c ∗ Pipeline.ΦT pre0 (pf (tabOf m)) c) ⊢ ((dat hM (mem m) c).Φ 0 : sProp 𝕄) := by
  have e : (Pipeline.ΦT pre0 (pf (F := F) (tabOf m)) c : sProp 𝕄) = table c (tabOf m) :=
    (BI.bigSep_univ_eq_bigSepL [(0 : Fin 1)] (by decide) (by decide) _).trans rfl
  have e0 : (dat hM (mem m) c).Φ 0 = iprop(table c (tabOf m) ∗ (∃ r, prngReg c r) ∗ Idle c (mem m c main_arg3) (mem m c main_arg5)) := by
    show iprop(table c (tabOf m) ∗ (∃ r, prngReg c r) ∗ State c (mem m c main_arg3) (mem m c main_arg5) (tabOf m) 0) = _
    unfold State; rw [if_pos (.inl rfl)]
  rw [e, e0]
  iintro ⟨HD, HT⟩
  isplitl [HT]; · iexact HT
  iapply (idle_of_own c (mem m)) $$ HD

theorem finish (hM : InRange (tabOf m)) (c : Dev nD) :
    ((dat hM (mem m) c).Φ (Fin.last _) : sProp 𝕄) ⊢ Pipeline.ΦD osem spec0 heldRefs (mem m) c := by
  have e0 : (dat hM (mem m) c).Φ (Fin.last _) = iprop(table c (tabOf m) ∗ (∃ r, prngReg c r) ∗ Idle c (mem m c main_arg3) (mem m c main_arg5)) := by
    show iprop(table c (tabOf m) ∗ (∃ r, prngReg c r) ∗ State c (mem m c main_arg3) (mem m c main_arg5) (tabOf m) grid0.N) = _
    rw [N_0]
    unfold State; rw [if_pos (.inr (Nat.min_le_right _ _))]
  rw [e0]
  iintro ⟨-, HI⟩
  iapply (own_of_idle c (mem m)) $$ HI

theorem held_sub : heldRefs ⊆ Pipeline.restRefsP sig pre0 spec0 := by decide

/-- The program runs: its windows' arrays end as the data says, every other array as it was. -/
theorem run (hM : InRange (tabOf m)) :
    θ_run (defs (F := F)) (onTc (main (F := F))) ⟨m, fun _ => 0, g⟩ fun r =>
      Pipeline.FramePost (Pipeline.pin (pcfgs (F := F)) (adm hM)) (fun _ c => dat hM (mem m) c) 0 (mem m) r ∧ r.2.sem = fun _ => 0 :=
  Pipeline.θ_run_frameP_dma (pcfgs (F := F)) (adm hM) (fun _ c => dat hM (mem m) c) 0 launch0 osem defs₀ 𝒱₀ osem_facts heldRefs held_sub m g main
    (fun c => (obligation hM (mem m) c).loose) (fun c w => Pipeline.Dat.share_full _ (fun _ => rfl) w) (fun _ _ => rfl) (mem m)
    (Pipeline.hmainP_region _ 0 defs₀ 𝒱₀ m main fun _ => rfl)
    (fun _ _ => rfl) (fun c k => by obtain rfl : c = 0 := Subsingleton.elim _ _; match k with | 0 => rfl)
    (start m hM) (finish m hM) _ (fun _ h => h)

end Run

end Cert.Proof.Experts

end
-- ==== Proof.Experts.Frame.lean ====
/-
  What the experts' run leaves of the arguments, for any float values: each is as it was, and every counter is zero.
-/
module

public import proofs.«01_k».proof.Proof.Experts.Launch

@[expose] public section

noncomputable section

namespace Cert.Proof.Experts

open Idealize.ShloMosaic Idealize.ShloMosaic.TcCoe Idealize.SL.Sem Cert.ExpertsIdeal Cert.ExpertsIdeal.Gen

variable {F : FTy → Type} [FloatOps F]

/-- On device `c` each argument of `m'` is as in `m`. -/
structure Kept (m m' : (ℓ : Loc nD τ sig) → Buf (Elt F) ℓ) (c : Dev nD) : Prop where
  a0 : m' ((c.tc : Thread nD τ).loc main_arg0) = m ((c.tc : Thread nD τ).loc main_arg0)
  a1 : m' ((c.tc : Thread nD τ).loc main_arg1) = m ((c.tc : Thread nD τ).loc main_arg1)
  a2 : m' ((c.tc : Thread nD τ).loc main_arg2) = m ((c.tc : Thread nD τ).loc main_arg2)
  a3 : m' ((c.tc : Thread nD τ).loc main_arg3) = m ((c.tc : Thread nD τ).loc main_arg3)
  a4 : m' ((c.tc : Thread nD τ).loc main_arg4) = m ((c.tc : Thread nD τ).loc main_arg4)
  a5 : m' ((c.tc : Thread nD τ).loc main_arg5) = m ((c.tc : Thread nD τ).loc main_arg5)
  a6 : m' ((c.tc : Thread nD τ).loc main_arg6) = m ((c.tc : Thread nD τ).loc main_arg6)

theorem rest_arg0 : main_arg0 ∈ Pipeline.restRefs sig spec0 := by decide
theorem rest_arg3 : main_arg3 ∈ Pipeline.restRefs sig spec0 := by decide
theorem rest_arg5 : main_arg5 ∈ Pipeline.restRefs sig spec0 := by decide

variable (m : (ℓ : Loc nD τ sig) → Buf (Elt F) ℓ) (g : Dev nD → PrngReg) (hM : InRange (tabOf m))

/-- How the run ends: the arguments kept, the outputs as the data says, the counters zero. -/
def Post : PUnit × MemSt nD τ sig (Elt F) → Prop := fun r =>
  (∀ c : Dev nD, Kept m r.2.mem c
    ∧ r.2.mem ((c.tc : Thread nD τ).loc main_v0_0) = (dat hM (mem m) c).arrAt 4 (cfgM (F := F) hM).N
    ∧ r.2.mem ((c.tc : Thread nD τ).loc main_v0_1) = (dat hM (mem m) c).arrAt 5 (cfgM (F := F) hM).N)
  ∧ r.2.sem = fun _ => 0

/-- From any memory whose table is in range the kernel runs to its end, and ends so. -/
theorem run_kept : θ_run (defs (F := F)) (onTc (main (F := F))) ⟨m, fun _ => 0, g⟩ (Post m hM) :=
  (θ_run (defs (F := F)) _ _).mono (fun r e => ⟨fun c =>
    ⟨⟨(e.1 c).2 main_arg0 rest_arg0,
      ((e.1 c).1 0).trans ((dat hM (mem m) c).arrAt_in 0 rfl _), ((e.1 c).1 1).trans ((dat hM (mem m) c).arrAt_in 1 rfl _),
      (e.1 c).2 main_arg3 rest_arg3, ((e.1 c).1 2).trans ((dat hM (mem m) c).arrAt_in 2 rfl _),
      (e.1 c).2 main_arg5 rest_arg5, ((e.1 c).1 3).trans ((dat hM (mem m) c).arrAt_in 3 rfl _)⟩,
      (e.1 c).1 4, (e.1 c).1 5⟩, e.2⟩) (run m g hM)

end Cert.Proof.Experts

end
-- ==== Proof.Experts.Cell.lean ====
/-
  An expert's network, element by element, over the extended reals: a row of 1024 values read from words and masked past
  the chunk's valid rows, the gate and up products with their bias, the clipped gated unit, and the down product.
-/
module

public import proofs.«01_k».proof.Proof.Reduce.Cell
public import Idealize.ShloMosaic.Lib.Pointwise
public import Idealize.ShloMosaic.Lib.IdealHost

@[expose] public section

noncomputable section

namespace Cert.Proof.Experts

open Idealize.ShloMosaic
open Cert.Proof.Reduce (half)

/-- Row `r` of a chunk with `n` valid rows, its words `a` and `b` read as 1024 values; zero from row `n` on. -/
def masked (r : ℕ) (n : BitVec 32) (a b : Fin 256 → BitVec 32) (k : Fin 1024) : EReal :=
  Scalar.select (IntOp.cmpi .slt (BitVec.ofNat 32 r) n) (half a b k) 0

/-- A masked value times a weight: the product, masked. -/
theorem masked_mul (r : ℕ) (n : BitVec 32) (a b : Fin 256 → BitVec 32) (k : Fin 1024) (w : EReal) :
    masked r n a b k * w = Scalar.select (IntOp.cmpi .slt (BitVec.ofNat 32 r) n) (half a b k * w) 0 := by
  unfold masked Scalar.select
  split
  · rfl
  · exact zero_mul w

/-- A row times a matrix, plus a bias. -/
def affine {K N : ℕ} (x : Fin K → EReal) (W : Fin K → Fin N → EReal) (b : Fin N → EReal) (f : Fin N) : EReal :=
  ∑ k : Fin K, x k * W k f + b f

/-- The clipped gated unit of a gate value and an up value: the limits are 7 and -7, the slope 1.702. -/
def unit (g u : EReal) : EReal :=
  (min (Ideal.ofBits .f32 1088421888#32) (max (Ideal.ofBits .f32 3235905536#32) u) + 1)
    * (min g (Ideal.ofBits .f32 1088421888#32)
        * Ideal.div 1 (1 + Ideal.exp (-(Ideal.ofBits .f32 1071242019#32 * min g (Ideal.ofBits .f32 1088421888#32)))))

/-- The hidden row: gates are the first 1024 products, ups the others. -/
def hidden (gu : Fin 2048 → EReal) (f : Fin 1024) : EReal := unit (gu ⟨f, by omega⟩) (gu ⟨1024 + f, by omega⟩)

/-- A chunk's row after its expert. -/
def network (x : Fin 1024 → EReal) (G : Fin 1024 → Fin 2048 → EReal) (b : Fin 2048 → EReal)
    (D : Fin 1024 → Fin 1024 → EReal) (b' : Fin 1024 → EReal) (j : Fin 1024) : EReal :=
  affine (hidden (affine x G b)) D b' j

/-- The two column halves an output array stores side by side: the first array takes 0 to 255 and 512 to 767, the second
    256 to 511 and 768 to 1023. -/
def col (p : Fin 2) (c : Fin 512) : Fin 1024 :=
  if (c : ℕ) < 256 then ⟨p * 256 + c, by omega⟩ else ⟨p * 256 + 512 + (c - 256), by omega⟩

end Cert.Proof.Experts

end
-- ==== Proof.Experts.Block.lean ====
/-
  What one grid point of the experts' kernel stores, element by element.
-/
module

public import proofs.«01_k».proof.Proof.Experts.Body
public import proofs.«01_k».proof.Proof.Experts.Cell

@[expose] public section

set_option maxRecDepth 16384

noncomputable section

namespace Cert.Proof.Experts

open Idealize.ShloMosaic Cert.ExpertsIdeal Cert.ExpertsIdeal.Gen

theorem products_apply (b0 b1 : Vec Ideal S512x256 .i32) (n : BitVec 32) (W : Vec Ideal S1x1024x2048 .bf16) (r : Fin 512)
    (f : Fin 2048) :
    k0_pay4 b0 b1 n W (ix2 r f)
      = ∑ k : Fin 1024, masked r n (fun j => b0 (ix2 r j)) (fun j => b1 (ix2 r j)) k * W (ix3 0 k f) := by
  simp only [masked_mul]
  pointwise [k0_pay4]
  rfl

theorem down_apply (g : FVec Ideal S512x2048 .f32) (b2 : Vec Ideal S1x1x2048 .f32) (W : Vec Ideal S1x1024x1024 .bf16)
    (b3 : Vec Ideal S1x1x1024 .f32) (r : Fin 512) (j : Fin 1024) :
    k0_pay5 g b2 W b3 (ix2 r j)
      = affine (hidden fun f => g (ix2 r f) + b2 (ix3 0 0 f)) (fun f j => W (ix3 0 f j)) (fun j => b3 (ix3 0 0 j)) j := by
  pointwise [k0_pay5]
  simp only [zero_sub]
  rfl

theorem left_apply (g : FVec Ideal S512x2048 .f32) (b2 : Vec Ideal S1x1x2048 .f32) (W : Vec Ideal S1x1024x1024 .bf16)
    (b3 : Vec Ideal S1x1x1024 .f32) (r c : Fin 512) :
    k0_pay6 g b2 W b3 (ix2 r c) = k0_pay5 g b2 W b3 (ix2 r (col 0 c)) := by
  unfold k0_pay6
  generalize k0_pay5 g b2 W b3 = y
  pointwise
  unfold col
  split
  · exact congrArg (fun k => y (ix2 r k)) (Fin.ext (by simp))
  · exact congrArg (fun k => y (ix2 r k)) (Fin.ext (by simp))

theorem right_apply (g : FVec Ideal S512x2048 .f32) (b2 : Vec Ideal S1x1x2048 .f32) (W : Vec Ideal S1x1024x1024 .bf16)
    (b3 : Vec Ideal S1x1x1024 .f32) (r c : Fin 512) :
    k0_pay1 (k0_pay5 g b2 W b3) (k0_pay7 g b2 W b3) (ix2 r c) = k0_pay5 g b2 W b3 (ix2 r (col 1 c)) := by
  unfold k0_pay7
  generalize k0_pay5 g b2 W b3 = y
  pointwise [k0_pay1]
  unfold col
  split
  · exact congrArg (fun k => y (ix2 r k)) (Fin.ext (by simp))
  · exact congrArg (fun k => y (ix2 r k)) (Fin.ext (by simp))

variable (G : S32x1024x2048.Idx → Elt Ideal .bf16) (D : S32x1024x1024.Idx → Elt Ideal .bf16) (M : Tab) (t : ℕ)
  (b0 b1 : Vec Ideal S512x256 .i32) (b2 : Vec Ideal S1x1x2048 .f32) (b3 : Vec Ideal S1x1x1024 .f32)

/-- Row `r` of chunk `t` after its expert; zero past the used chunks. -/
def blockRow (r : Fin 512) (j : Fin 1024) : EReal :=
  if t < used M then
    network (masked r (M (tix 2 t)) (fun j => b0 (ix2 r j)) (fun j => b1 (ix2 r j)))
      (fun k f => G (ixG (ex M t).toNat k f)) (fun f => b2 (ix3 0 0 f)) (fun f j => D (ixD (ex M t).toNat f j))
      (fun j => b3 (ix3 0 0 j)) j
  else 0

theorem network_apply (r : Fin 512) (j : Fin 1024) :
    k0_pay5 (gateUp G M t b0 b1) b2 (blockD D (ex M t).toNat) b3 (ix2 r j)
      = network (masked r (M (tix 2 t)) (fun j => b0 (ix2 r j)) (fun j => b1 (ix2 r j)))
          (fun k f => G (ixG (ex M t).toNat k f)) (fun f => b2 (ix3 0 0 f)) (fun f j => D (ixD (ex M t).toNat f j))
          (fun j => b3 (ix3 0 0 j)) j := by
  rw [down_apply]
  unfold gateUp
  simp only [products_apply]
  rfl

theorem outA_apply (r c : Fin 512) : outA G D M t b0 b1 b2 b3 (ix2 r c) = blockRow G D M t b0 b1 b2 b3 r (col 0 c) := by
  unfold outA blockRow
  split
  · rw [left_apply, network_apply]
  · exact Ideal.ofBits_zero_bf16

theorem outB_apply (r c : Fin 512) : outB G D M t b0 b1 b2 b3 (ix2 r c) = blockRow G D M t b0 b1 b2 b3 r (col 1 c) := by
  unfold outB blockRow
  split
  · rw [right_apply, network_apply]
  · exact Ideal.ofBits_zero_bf16

end Cert.Proof.Experts

end
-- ==== Proof.Experts.Array.lean ====
/-
  The two arrays the experts' call leaves: every row is its own tokens' halves after the network of its chunk's expert,
  zero past the used chunks.
-/
module

public import proofs.«01_k».proof.Proof.Experts.Launch
public import proofs.«01_k».proof.Proof.Experts.Block

@[expose] public section

set_option maxRecDepth 16384

noncomputable section

namespace Cert.Proof.Experts

open Idealize.ShloMosaic Idealize.ShloMosaic.TcCoe Cert.ExpertsIdeal Cert.ExpertsIdeal.Gen

/-- Row `i` of all rows at column `j`: the network of the row's expert, zero past the used chunks. -/
def outCell {M : Tab} (hM : InRange M) (x0 x1 : Vec Ideal S81920x256 .i32) (G : Vec Ideal S32x1024x2048 .bf16) (B : Vec Ideal S32x1x2048 .f32)
    (D : Vec Ideal S32x1024x1024 .bf16) (B' : Vec Ideal S32x1x1024 .f32) (i : Fin 81920) (j : Fin 1024) : EReal :=
  if i.val / 512 < used M then
    network (masked (i.val % 512) (M (tix 2 (i.val / 512))) (fun j => x0 (ix2 i j)) (fun j => x1 (ix2 i j)))
      (fun k f => G (ix3 ⟨(ex M (i.val / 512)).toNat, hM.he _⟩ k f)) (fun f => B (ix3 ⟨(ex M (i.val / 512)).toNat, hM.he _⟩ 0 f))
      (fun f j => D (ix3 ⟨(ex M (i.val / 512)).toNat, hM.he _⟩ f j)) (fun j => B' (ix3 ⟨(ex M (i.val / 512)).toNat, hM.he _⟩ 0 j)) j
  else 0

variable {M : Tab} (hM : InRange M) (V : (c : Dev nD) → (b : Ref sig .tc) → Buf (Elt Ideal) ((c.tc : Thread nD τ).loc b)) (d : Dev nD)

/-- The array of one output: columns `col p` of all rows. -/
def outRows (p : Fin 2) : Vec Ideal S81920x512 .bf16 := fun i =>
  outCell hM (V d main_arg1) (V d main_arg2) (V d main_arg3) (V d main_arg4) (V d main_arg5) (V d main_arg6) (i 0) (col p (i 1))

/-! ## What a point's blocks read -/

theorem idx4 : ∀ t : Fin grid0.N, cc0_transform_6 (grid0.coords t) 0 = t.val ∧ cc0_transform_6 (grid0.coords t) 1 = 0 := by decide +kernel
theorem idx5 : ∀ t : Fin grid0.N, cc0_transform_7 (grid0.coords t) 0 = t.val ∧ cc0_transform_7 (grid0.coords t) 1 = 0 := by decide +kernel

theorem lt_N (t : Fin grid0.N) : t.val < 160 := Nat.lt_of_lt_of_eq t.isLt N_0

/-- Row `r` of chunk `t`. -/
def rowIn (t : Fin grid0.N) (r : Fin 512) : Fin 81920 := ⟨t * 512 + r, by have := lt_N t; omega⟩

theorem iblk0_apply (t : Fin grid0.N) (ht : t.val < used M) (r : Fin 512) (j : Fin 256) :
    iblk hM V d 0 t (ix2 r j) = V d main_arg1 (ix2 (rowIn t r) j) := by
  have h : ((cfgM (F := Ideal) hM).win 0).index t = ![min t.val (used M - 1), 0] := (rows_eq hM (grid0.coords t) _ _).trans (by rw [coords_val])
  have h0 : ((cfgM (F := Ideal) hM).win 0).index t (0 : Fin 2) = min t.val (used M - 1) := congrFun h (0 : Fin 2)
  have h1 : ((cfgM (F := Ideal) hM).win 0).index t (1 : Fin 2) = 0 := congrFun h (1 : Fin 2)
  refine congrArg (V d main_arg1) (funext fun a => Fin.ext ?_)
  match a with
  | ⟨0, _⟩ => show ((cfgM (F := Ideal) hM).win 0).index t (0 : Fin 2) * 512 + 1 * r.val = t * 512 + r; rw [h0]; omega
  | ⟨1, _⟩ => show ((cfgM (F := Ideal) hM).win 0).index t (1 : Fin 2) * 256 + 1 * j.val = j.val; rw [h1]; omega

theorem iblk1_apply (t : Fin grid0.N) (ht : t.val < used M) (r : Fin 512) (j : Fin 256) :
    iblk hM V d 1 t (ix2 r j) = V d main_arg2 (ix2 (rowIn t r) j) := by
  have h : ((cfgM (F := Ideal) hM).win 1).index t = ![min t.val (used M - 1), 0] := (rows_eq' hM (grid0.coords t) _ _).trans (by rw [coords_val])
  have h0 : ((cfgM (F := Ideal) hM).win 1).index t (0 : Fin 2) = min t.val (used M - 1) := congrFun h (0 : Fin 2)
  have h1 : ((cfgM (F := Ideal) hM).win 1).index t (1 : Fin 2) = 0 := congrFun h (1 : Fin 2)
  refine congrArg (V d main_arg2) (funext fun a => Fin.ext ?_)
  match a with
  | ⟨0, _⟩ => show ((cfgM (F := Ideal) hM).win 1).index t (0 : Fin 2) * 512 + 1 * r.val = t * 512 + r; rw [h0]; omega
  | ⟨1, _⟩ => show ((cfgM (F := Ideal) hM).win 1).index t (1 : Fin 2) * 256 + 1 * j.val = j.val; rw [h1]; omega

theorem iblk2_apply (t : Fin grid0.N) (f : Fin 2048) :
    iblk hM V d 2 t (ix3 0 0 f) = V d main_arg4 (ix3 ⟨(ex M t.val).toNat, hM.he _⟩ 0 f) := by
  have h : ((cfgM (F := Ideal) hM).win 2).index t = ![(ex M t.val).toNat, 0, 0] := (bias_eq M (grid0.coords t) _ _).trans (by rw [coords_val])
  have h0 : ((cfgM (F := Ideal) hM).win 2).index t (0 : Fin 3) = (ex M t.val).toNat := congrFun h (0 : Fin 3)
  have h1 : ((cfgM (F := Ideal) hM).win 2).index t (1 : Fin 3) = 0 := congrFun h (1 : Fin 3)
  have h2 : ((cfgM (F := Ideal) hM).win 2).index t (2 : Fin 3) = 0 := congrFun h (2 : Fin 3)
  refine congrArg (V d main_arg4) (funext fun a => Fin.ext ?_)
  match a with
  | ⟨0, _⟩ => show ((cfgM (F := Ideal) hM).win 2).index t (0 : Fin 3) * 1 + 1 * 0 = (ex M t.val).toNat; rw [h0]; omega
  | ⟨1, _⟩ => show ((cfgM (F := Ideal) hM).win 2).index t (1 : Fin 3) * 1 + 1 * 0 = 0; rw [h1]
  | ⟨2, _⟩ => show ((cfgM (F := Ideal) hM).win 2).index t (2 : Fin 3) * 2048 + 1 * f.val = f.val; rw [h2]; omega

theorem iblk3_apply (t : Fin grid0.N) (f : Fin 1024) :
    iblk hM V d 3 t (ix3 0 0 f) = V d main_arg6 (ix3 ⟨(ex M t.val).toNat, hM.he _⟩ 0 f) := by
  have h : ((cfgM (F := Ideal) hM).win 3).index t = ![(ex M t.val).toNat, 0, 0] := (bias_eq' M (grid0.coords t) _ _).trans (by rw [coords_val])
  have h0 : ((cfgM (F := Ideal) hM).win 3).index t (0 : Fin 3) = (ex M t.val).toNat := congrFun h (0 : Fin 3)
  have h1 : ((cfgM (F := Ideal) hM).win 3).index t (1 : Fin 3) = 0 := congrFun h (1 : Fin 3)
  have h2 : ((cfgM (F := Ideal) hM).win 3).index t (2 : Fin 3) = 0 := congrFun h (2 : Fin 3)
  refine congrArg (V d main_arg6) (funext fun a => Fin.ext ?_)
  match a with
  | ⟨0, _⟩ => show ((cfgM (F := Ideal) hM).win 3).index t (0 : Fin 3) * 1 + 1 * 0 = (ex M t.val).toNat; rw [h0]; omega
  | ⟨1, _⟩ => show ((cfgM (F := Ideal) hM).win 3).index t (1 : Fin 3) * 1 + 1 * 0 = 0; rw [h1]
  | ⟨2, _⟩ => show ((cfgM (F := Ideal) hM).win 3).index t (2 : Fin 3) * 1024 + 1 * f.val = f.val; rw [h2]; omega

/-- A point's row, from the arrays. -/
theorem blockRow_eq (t : Fin grid0.N) (r : Fin 512) (j : Fin 1024) :
    blockRow (V d main_arg3) (V d main_arg5) M t.val (iblk hM V d 0 t) (iblk hM V d 1 t) (iblk hM V d 2 t) (iblk hM V d 3 t) r j
      = outCell hM (V d main_arg1) (V d main_arg2) (V d main_arg3) (V d main_arg4) (V d main_arg5) (V d main_arg6) (rowIn t r) j := by
  have q : (rowIn t r).val / 512 = t.val := by simp only [rowIn]; omega
  have q' : (rowIn t r).val % 512 = r.val := by simp only [rowIn]; omega
  have eG (k : Fin 1024) (f : Fin 2048) : (ix3 ⟨(ex M t.val).toNat, hM.he _⟩ k f : S32x1024x2048.Idx) = ixG (ex M t.val).toNat k f := ixG_eq rfl rfl rfl
  have eD (k j : Fin 1024) : (ix3 ⟨(ex M t.val).toNat, hM.he _⟩ k j : S32x1024x1024.Idx) = ixD (ex M t.val).toNat k j := ixD_eq rfl rfl rfl
  unfold blockRow outCell
  simp only [q, q']
  by_cases ht : t.val < used M
  · rw [if_pos ht, if_pos ht]
    simp only [iblk0_apply hM V d t ht, iblk1_apply hM V d t ht, iblk2_apply, iblk3_apply, eG, eD]
  · rw [if_neg ht, if_neg ht]

/-! ## The arrays -/

theorem flush4 (t : Fin grid0.N) : ((cfgM (F := Ideal) hM).win 4).flush t = true :=
  (Pipeline.Window.flush_eq_flushOf _ t).trans
    ((by decide +kernel : ∀ t : Fin grid0.N, Pipeline.Window.flushOf grid0 true cc0_transform_6 t = true) t)
theorem flush5 (t : Fin grid0.N) : ((cfgM (F := Ideal) hM).win 5).flush t = true :=
  (Pipeline.Window.flush_eq_flushOf _ t).trans
    ((by decide +kernel : ∀ t : Fin grid0.N, Pipeline.Window.flushOf grid0 true cc0_transform_7 t = true) t)

theorem flushed4 (t : Fin grid0.N) :
    (dat hM V d).flushed 4 t = (((cfgM (F := Ideal) hM).win 4).blk t).view.read (Elt Ideal) (outRows hM V d 0) := by
  have h0 : ((cfgM (F := Ideal) hM).win 4).index t (0 : Fin 2) = t.val := (idx4 t).1
  have h1 : ((cfgM (F := Ideal) hM).win 4).index t (1 : Fin 2) = 0 := (idx4 t).2
  show ((cfgM (F := Ideal) hM).win 4).cut (grid0.coords t) ((dat hM V d).after 4 t) = _
  rw [after4]
  refine funext fun (i : S512x512.Idx) => ?_
  obtain ⟨r, c, rfl⟩ : ∃ r c : Fin 512, i = ix2 r c := ⟨i 0, i 1, by funext a; fin_cases a <;> rfl⟩
  have e : (((cfgM (F := Ideal) hM).win 4).blk t).view.emb (ix2 r c) = (ix2 (rowIn t r) c : S81920x512.Idx) := by
    refine funext fun a => Fin.ext ?_
    match a with
    | ⟨0, _⟩ => show ((cfgM (F := Ideal) hM).win 4).index t (0 : Fin 2) * 512 + 1 * r.val = t * 512 + r; rw [h0]; omega
    | ⟨1, _⟩ => show ((cfgM (F := Ideal) hM).win 4).index t (1 : Fin 2) * 512 + 1 * c.val = c.val; rw [h1]; omega
  show outA (F := Ideal) _ _ _ _ _ _ _ _ (ix2 r c) = outRows hM V d 0 ((((cfgM (F := Ideal) hM).win 4).blk t).view.emb (ix2 r c))
  rw [e]
  exact (outA_apply _ _ _ _ _ _ _ _ r c).trans (blockRow_eq hM V d t r (col 0 c))

theorem flushed5 (t : Fin grid0.N) :
    (dat hM V d).flushed 5 t = (((cfgM (F := Ideal) hM).win 5).blk t).view.read (Elt Ideal) (outRows hM V d 1) := by
  have h0 : ((cfgM (F := Ideal) hM).win 5).index t (0 : Fin 2) = t.val := (idx5 t).1
  have h1 : ((cfgM (F := Ideal) hM).win 5).index t (1 : Fin 2) = 0 := (idx5 t).2
  show ((cfgM (F := Ideal) hM).win 5).cut (grid0.coords t) ((dat hM V d).after 5 t) = _
  rw [after5]
  refine funext fun (i : S512x512.Idx) => ?_
  obtain ⟨r, c, rfl⟩ : ∃ r c : Fin 512, i = ix2 r c := ⟨i 0, i 1, by funext a; fin_cases a <;> rfl⟩
  have e : (((cfgM (F := Ideal) hM).win 5).blk t).view.emb (ix2 r c) = (ix2 (rowIn t r) c : S81920x512.Idx) := by
    refine funext fun a => Fin.ext ?_
    match a with
    | ⟨0, _⟩ => show ((cfgM (F := Ideal) hM).win 5).index t (0 : Fin 2) * 512 + 1 * r.val = t * 512 + r; rw [h0]; omega
    | ⟨1, _⟩ => show ((cfgM (F := Ideal) hM).win 5).index t (1 : Fin 2) * 512 + 1 * c.val = c.val; rw [h1]; omega
  show outB (F := Ideal) _ _ _ _ _ _ _ _ (ix2 r c) = outRows hM V d 1 ((((cfgM (F := Ideal) hM).win 5).blk t).view.emb (ix2 r c))
  rw [e]
  exact (outB_apply _ _ _ _ _ _ _ _ r c).trans (blockRow_eq hM V d t r (col 1 c))

theorem mem_blk4 (t : Fin grid0.N) (i : S81920x512.Idx) :
    i ∈ (((cfgM (F := Ideal) hM).win 4).blk t).view.set
      ↔ ∀ a : Fin 2, ((cfgM (F := Ideal) hM).win 4).index t a * S512x512.size a ≤ i a
          ∧ (i a : ℕ) < ((cfgM (F := Ideal) hM).win 4).index t a * S512x512.size a + S512x512.size a := by
  refine (iff_of_eq (congrArg (i ∈ ·) (View.set_slice_whole (b := main_v0_0) (((cfgM (F := Ideal) hM).win 4).rect t)))).trans ?_
  exact Rect.mem_set_unit.trans Iff.rfl

theorem mem_blk5 (t : Fin grid0.N) (i : S81920x512.Idx) :
    i ∈ (((cfgM (F := Ideal) hM).win 5).blk t).view.set
      ↔ ∀ a : Fin 2, ((cfgM (F := Ideal) hM).win 5).index t a * S512x512.size a ≤ i a
          ∧ (i a : ℕ) < ((cfgM (F := Ideal) hM).win 5).index t a * S512x512.size a + S512x512.size a := by
  refine (iff_of_eq (congrArg (i ∈ ·) (View.set_slice_whole (b := main_v0_1) (((cfgM (F := Ideal) hM).win 5).rect t)))).trans ?_
  exact Rect.mem_set_unit.trans Iff.rfl

/-- The first output after the launch. -/
theorem arr4 : (dat hM V d).arrAt 4 (cfgM (F := Ideal) hM).N = outRows hM V d 0 := by
  refine funext fun (i : S81920x512.Idx) => ?_
  obtain ⟨r, c, rfl⟩ : ∃ (r : Fin 81920) (c : Fin 512), i = ix2 r c := ⟨i 0, i 1, by funext a; fin_cases a <;> rfl⟩
  refine ((dat hM V d).arrAt_eq_piecewise 4 (outRows hM V d 0) (fun t _ => flushed4 hM V d t) (ix2 r c : S81920x512.Idx)).trans (if_pos ?_)
  have hlt : r / 512 < grid0.N := by have := N_0; omega
  refine ⟨⟨r / 512, hlt⟩, flush4 hM _, ?_⟩
  refine (mem_blk4 hM ⟨r / 512, hlt⟩ (ix2 r c)).mpr ?_
  have h0 : ((cfgM (F := Ideal) hM).win 4).index ⟨r / 512, hlt⟩ (0 : Fin 2) = r / 512 := (idx4 ⟨r / 512, hlt⟩).1
  have h1 : ((cfgM (F := Ideal) hM).win 4).index ⟨r / 512, hlt⟩ (1 : Fin 2) = 0 := (idx4 ⟨r / 512, hlt⟩).2
  intro a
  match a with
  | ⟨0, _⟩ =>
    show ((cfgM (F := Ideal) hM).win 4).index _ (0 : Fin 2) * 512 ≤ r.val ∧ r.val < ((cfgM (F := Ideal) hM).win 4).index _ (0 : Fin 2) * 512 + 512
    rw [h0]; omega
  | ⟨1, _⟩ =>
    show ((cfgM (F := Ideal) hM).win 4).index _ (1 : Fin 2) * 512 ≤ c.val ∧ c.val < ((cfgM (F := Ideal) hM).win 4).index _ (1 : Fin 2) * 512 + 512
    rw [h1]; omega

/-- The second output after the launch. -/
theorem arr5 : (dat hM V d).arrAt 5 (cfgM (F := Ideal) hM).N = outRows hM V d 1 := by
  refine funext fun (i : S81920x512.Idx) => ?_
  obtain ⟨r, c, rfl⟩ : ∃ (r : Fin 81920) (c : Fin 512), i = ix2 r c := ⟨i 0, i 1, by funext a; fin_cases a <;> rfl⟩
  refine ((dat hM V d).arrAt_eq_piecewise 5 (outRows hM V d 1) (fun t _ => flushed5 hM V d t) (ix2 r c : S81920x512.Idx)).trans (if_pos ?_)
  have hlt : r / 512 < grid0.N := by have := N_0; omega
  refine ⟨⟨r / 512, hlt⟩, flush5 hM _, ?_⟩
  refine (mem_blk5 hM ⟨r / 512, hlt⟩ (ix2 r c)).mpr ?_
  have h0 : ((cfgM (F := Ideal) hM).win 5).index ⟨r / 512, hlt⟩ (0 : Fin 2) = r / 512 := (idx5 ⟨r / 512, hlt⟩).1
  have h1 : ((cfgM (F := Ideal) hM).win 5).index ⟨r / 512, hlt⟩ (1 : Fin 2) = 0 := (idx5 ⟨r / 512, hlt⟩).2
  intro a
  match a with
  | ⟨0, _⟩ =>
    show ((cfgM (F := Ideal) hM).win 5).index _ (0 : Fin 2) * 512 ≤ r.val ∧ r.val < ((cfgM (F := Ideal) hM).win 5).index _ (0 : Fin 2) * 512 + 512
    rw [h0]; omega
  | ⟨1, _⟩ =>
    show ((cfgM (F := Ideal) hM).win 5).index _ (1 : Fin 2) * 512 ≤ c.val ∧ c.val < ((cfgM (F := Ideal) hM).win 5).index _ (1 : Fin 2) * 512 + 512
    rw [h1]; omega

end Cert.Proof.Experts

end
-- ==== Proof.Experts.Ref.lean ====
/-
  The plain reference of the experts' call, element by element: every chunk's rows go through the network of the chunk's
  expert, whose matrices and biases the reference gathers by the table's row 0.
-/
module

public import proofs.«01_k».proof.Proof.Gen.ExpertsRefIdeal.Run
public import proofs.«01_k».proof.Proof.Experts.Slots
public import proofs.«01_k».proof.Proof.Experts.Cell
public import Idealize.ShloMosaic.Lib.ValueIdxCore
public import Idealize.ShloMosaic.Lib.Pipeline.Value

@[expose] public section

set_option maxRecDepth 16384

noncomputable section

namespace Cert.Proof.Experts

open Idealize.ShloMosaic Idealize.ShloMosaic.TcCoe Cert.ExpertsRefIdeal Cert.ExpertsRefIdeal.Gen Cert.ExpertsRefIdeal.Value

/-! ## The gathers -/

/-- The experts the reference gathers by: the table's row 0, its negative entries wrapped. -/
def refExpert (M : IVec S8x256 32) : IVec S160x1 32 :=
  broadcastInDim S160x1 ![0] bcast_S160_S160x1_0 (select (cmpi .slt (shapeCast _ (extractStridedSlice S1x160 ![0, 0] M slices_S8x256_S1x160_0_0) shapeCasts_S1x160_S160) (broadcastInDim S160 ![] bcast_S_S160 (constantI S_ 32 0#32))) (addi (shapeCast _ (extractStridedSlice S1x160 ![0, 0] M slices_S8x256_S1x160_0_0) shapeCasts_S1x160_S160) (broadcastInDim S160 ![] bcast_S_S160 (constantI S_ 32 32#32))) (shapeCast _ (extractStridedSlice S1x160 ![0, 0] M slices_S8x256_S1x160_0_0) shapeCasts_S1x160_S160))

/-- A gather of one slab of a rank-3 array for each of 160 indices. -/
abbrev slab (a b : ℕ) (wf : GatherDims.WF ⟨3, ![32, a, b]⟩ S160x1 ⟨3, ![160, a, b]⟩ [1, 2] [0] [] [0] [] 1 ![1, a, b]) : GatherDims ⟨3, ![32, a, b]⟩ S160x1 ⟨3, ![160, a, b]⟩ where
  offsetDims := [1, 2]
  collapsedSliceDims := [0]
  operandBatchingDims := []
  startIndicesBatchingDims := []
  startIndexMap := [0]
  indexVectorDim := 1
  sliceSizes := ![1, a, b]
  wf := wf

theorem one_notMem : (1 : Fin 3) ∉ [(0 : Fin 3)] := by decide
theorem two_notMem : (2 : Fin 3) ∉ [(0 : Fin 3)] := by decide

/-- Read at an index: the slab its start index names, read signed and clamped to the array. -/
theorem slab_apply {α : Type} {a b : ℕ} (wf : GatherDims.WF ⟨3, ![32, a, b]⟩ S160x1 ⟨3, ![160, a, b]⟩ [1, 2] [0] [] [0] [] 1 ![1, a, b]) (T : (⟨3, ![32, a, b]⟩ : Shape).Idx → α) (idx : IVec S160x1 32) (t : Fin 160) (x : Fin a) (y : Fin b) :
    Host.gather (slab a b wf) T idx (ix3 t x y) = T (ix3 ⟨min (idx (ix2 t 0)).toInt.toNat 31, by omega⟩ x y) := by
  unfold Host.gather
  refine congrArg T (funext fun i => Fin.ext ?_)
  match i with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slab a b wf).startIndexMap from List.mem_singleton.mpr rfl)]
    refine congrArg (fun j => min (idx j).toInt.toNat 31) (funext fun b => Fin.ext ?_)
    match b with
    | ⟨0, _⟩ => rfl
    | ⟨1, _⟩ => rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 3) ∉ (slab a b wf).startIndexMap from one_notMem)]
    simp only [Nat.zero_add, Nat.add_zero]
    unfold GatherDims.offCoord
    rw [dif_pos ((GatherDims.mem_sKept _ _).mpr ⟨one_notMem, List.not_mem_nil⟩)]
    rfl
  | ⟨2, _⟩ =>
    show GatherDims.start _ _ idx 2 + GatherDims.batchCoord _ _ 2 + GatherDims.offCoord _ _ 2 = _
    rw [GatherDims.batchCoord_eq_zero _ _ _ List.not_mem_nil]
    unfold GatherDims.start
    rw [dif_neg (show (2 : Fin 3) ∉ (slab a b wf).startIndexMap from two_notMem)]
    simp only [Nat.zero_add, Nat.add_zero]
    unfold GatherDims.offCoord
    rw [dif_pos ((GatherDims.mem_sKept _ _).mpr ⟨two_notMem, List.not_mem_nil⟩)]
    rfl

/-- With every expert in range none is wrapped. -/
theorem refExpert_apply {M : Tab} (hM : ∀ k, (ex M k).toNat < 32) (t : Fin 160) : refExpert M (ix2 t 0) = ex M t := by
  have e : M (ix2 0 ⟨t, by omega⟩) = ex M t := by
    unfold ex
    exact congrArg M (tix_eq rfl (by show t.val = min t.val 159; omega))
  have h := hM t
  unfold refExpert
  pointwise
  rw [e]
  have hn : IntOp.cmpi .slt (ex M t) 0#32 = 0#1 := by
    have : (ex M t).slt 0#32 = false := by
      rw [BitVec.slt_eq_decide, decide_eq_false_iff_not, BitVec.toInt_eq_toNat_cond, if_pos (by omega)]
      simp
    simp only [IntOp.cmpi, this]; rfl
  rw [hn]
  exact if_neg (by decide)

/-- The slab gathered for chunk `t` is its expert's. -/
theorem gathered_apply {α : Type} {a b : ℕ} (wf : GatherDims.WF ⟨3, ![32, a, b]⟩ S160x1 ⟨3, ![160, a, b]⟩ [1, 2] [0] [] [0] [] 1 ![1, a, b]) {M : Tab} (hM : ∀ k, (ex M k).toNat < 32) (T : (⟨3, ![32, a, b]⟩ : Shape).Idx → α)
    (t : Fin 160) (x : Fin a) (y : Fin b) :
    Host.gather (slab a b wf) T (refExpert M) (ix3 t x y) = T (ix3 ⟨(ex M t).toNat, hM t⟩ x y) := by
  have h := hM t
  rw [slab_apply]
  refine congrArg (fun k => T (ix3 k x y)) (Fin.ext ?_)
  show min (refExpert M (ix2 t 0)).toInt.toNat 31 = _
  rw [refExpert_apply hM, BitVec.toInt_eq_toNat_cond, if_pos (by omega)]
  exact Nat.min_eq_left (by omega)

/-! ## The network -/

section Network

variable (M : IVec S8x256 32) (x0 x1 : IVec S81920x256 32) (W : FVec Ideal S160x1024x2048 .f32) (B : FVec Ideal S160x1x2048 .f32)
  (gu : FVec Ideal S160x512x2048 .f32) (W' : FVec Ideal S160x1024x1024 .f32) (B' : FVec Ideal S160x1x1024 .f32)
  (y : FVec Ideal S160x512x1024 .f32)

/-- Row `r` of chunk `t` among all rows. -/
def rowOf (t : Fin 160) (r : Fin 512) : Fin 81920 := ⟨t * 512 + r, by omega⟩

/-- The gate and up products of every row, with their bias. -/
def refProducts : FVec Ideal S160x512x2048 .f32 :=
  addf (Host.dotGeneral dot_S160x512x1024_S160x1024x2048_S160x512x2048_2_1_1_2_0_0 none (select (cmpi .slt (iotaInDim S160x512x1024 32 1) (broadcastInDim S160x512x1024 ![0, 1, 2] bcast_S160x1x1_S160x512x1024_0_1_2 (broadcastInDim S160x1x1 ![0] bcast_S160_S160x1x1_0 (shapeCast _ (extractStridedSlice S1x160 ![2, 0] M slices_S8x256_S1x160_2_0) shapeCasts_S1x160_S160)))) (shapeCast _ (concatenate S81920x1024 1 [⟨S81920x512, (bitcastToFloat (F := Ideal) .f32 (Host.shli (concatenate S81920x512 1 [⟨S81920x256, x0⟩, ⟨S81920x256, x1⟩] concatenates_S81920x256_S81920x256_S81920x512_d1) (broadcastInDim S81920x512 ![] bcast_S_S81920x512 (constantI S_ 32 16#32))))⟩, ⟨S81920x512, (bitcastToFloat (F := Ideal) .f32 (andi (concatenate S81920x512 1 [⟨S81920x256, x0⟩, ⟨S81920x256, x1⟩] concatenates_S81920x256_S81920x256_S81920x512_d1) (broadcastInDim S81920x512 ![] bcast_S_S81920x512 (constantI S_ 32 4294901760#32))))⟩] concatenates_S81920x512_S81920x512_S81920x1024_d1) shapeCasts_S81920x1024_S160x512x1024) (broadcastInDim S160x512x1024 ![] bcast_S_S160x512x1024 (id (constant S_ .f32 0x00000000#32)))) W) (broadcastInDim S160x512x2048 ![0, 1, 2] bcast_S160x1x2048_S160x512x2048_0_1_2 B)

theorem refProducts_apply (t : Fin 160) (r : Fin 512) (f : Fin 2048) :
    refProducts M x0 x1 W B (ix3 t r f)
      = affine (masked r (M (ix2 2 ⟨t, by omega⟩)) (fun j => x0 (ix2 (rowOf t r) j)) (fun j => x1 (ix2 (rowOf t r) j)))
          (fun k f => W (ix3 t k f)) (fun f => B (ix3 t 0 f)) f := by
  unfold affine refProducts
  simp only [masked_mul, id_eq]
  pointwise
  rfl

/-- The hidden rows from the products. -/
def refHidden : FVec Ideal S160x512x1024 .f32 :=
  mulf (addf (minimumf (broadcastInDim S160x512x1024 ![] bcast_S_S160x512x1024 (id (constant S_ .f32 0x40E00000#32))) (maximumf (broadcastInDim S160x512x1024 ![] bcast_S_S160x512x1024 (id (constant S_ .f32 0xC0E00000#32))) (extractStridedSlice S160x512x1024 ![0, 0, 1024] gu slices_S160x512x2048_S160x512x1024_0_0_1024))) (broadcastInDim S160x512x1024 ![] bcast_S_S160x512x1024 (constant S_ .f32 0x3F800000#32)))
    (mulf (minimumf (extractStridedSlice S160x512x1024 ![0, 0, 0] gu slices_S160x512x2048_S160x512x1024_0_0_0) (broadcastInDim S160x512x1024 ![] bcast_S_S160x512x1024 (constant S_ .f32 0x40E00000#32))) (Host.divf (broadcastInDim S160x512x1024 ![] bcast_S_S160x512x1024 (constant S_ .f32 0x3F800000#32)) (addf (broadcastInDim S160x512x1024 ![] bcast_S_S160x512x1024 (constant S_ .f32 0x3F800000#32)) (Host.exp (Host.negf (mulf (broadcastInDim S160x512x1024 ![] bcast_S_S160x512x1024 (constant S_ .f32 0x3FD9DB23#32)) (minimumf (extractStridedSlice S160x512x1024 ![0, 0, 0] gu slices_S160x512x2048_S160x512x1024_0_0_0) (broadcastInDim S160x512x1024 ![] bcast_S_S160x512x1024 (constant S_ .f32 0x40E00000#32)))))))))

theorem refHidden_apply (t : Fin 160) (r : Fin 512) (f : Fin 1024) :
    refHidden gu (ix3 t r f) = hidden (fun f => gu (ix3 t r f)) f := by
  unfold refHidden
  simp only [id_eq]
  pointwise
  rfl

/-- The down products with their bias. -/
def refDown : FVec Ideal S160x512x1024 .f32 :=
  addf (Host.dotGeneral dot_S160x512x1024_S160x1024x1024_S160x512x1024_2_1_1_2_0_0 none y W') (broadcastInDim S160x512x1024 ![0, 1, 2] bcast_S160x1x1024_S160x512x1024_0_1_2 B')

theorem refDown_apply (t : Fin 160) (r : Fin 512) (j : Fin 1024) :
    refDown W' B' y (ix3 t r j) = affine (fun f => y (ix3 t r f)) (fun f j => W' (ix3 t f j)) (fun j => B' (ix3 t 0 j)) j := by
  unfold refDown
  pointwise
  rfl

/-- All rows one after another, zero past the used chunks. -/
def refRows : FVec Ideal S81920x1024 .bf16 :=
  truncf .bf16 (shapeCast _ (select (cmpi .slt (iotaInDim S160x512x1024 32 0) (broadcastInDim S160x512x1024 ![] bcast_S_S160x512x1024 (shapeCast _ (extractStridedSlice S1x1 ![1, 0] M slices_S8x256_S1x1_1_0) shapeCasts_S1x1_S_))) y (broadcastInDim S160x512x1024 ![] bcast_S_S160x512x1024 (id (constant S_ .f32 0x00000000#32)))) shapeCasts_S160x512x1024_S81920x1024) bitsLt_bf16_f32

/-- The chunk of a row, and its place in it. -/
def chunkOf (i : Fin 81920) : Fin 160 := ⟨i / 512, by omega⟩
def placeOf (i : Fin 81920) : Fin 512 := ⟨i % 512, by omega⟩

theorem rowOf_eq (i : Fin 81920) : rowOf (chunkOf i) (placeOf i) = i :=
  Fin.ext (Nat.div_add_mod' i.val 512)

theorem refRows_apply (i : Fin 81920) (j : Fin 1024) :
    refRows M y (ix2 i j) = Scalar.select (IntOp.cmpi .slt (BitVec.ofNat 32 (chunkOf i)) (M (ix2 1 0))) (y (ix3 (chunkOf i) (placeOf i) j)) 0 := by
  unfold refRows
  simp only [id_eq]
  pointwise
  rfl

variable (z : FVec Ideal S81920x1024 .bf16)

/-- The two result arrays: each holds two column ranges side by side. -/
def refLeft : FVec Ideal S81920x512 .bf16 :=
  concatenate S81920x512 1 [⟨S81920x256, (extractStridedSlice S81920x256 ![0, 0] z slices_S81920x1024_S81920x256_0_0)⟩, ⟨S81920x256, (extractStridedSlice S81920x256 ![0, 512] z slices_S81920x1024_S81920x256_0_512)⟩] concatenates_S81920x256_S81920x256_S81920x512_d1

def refRight : FVec Ideal S81920x512 .bf16 :=
  concatenate S81920x512 1 [⟨S81920x256, (extractStridedSlice S81920x256 ![0, 256] z slices_S81920x1024_S81920x256_0_256)⟩, ⟨S81920x256, (extractStridedSlice S81920x256 ![0, 768] z slices_S81920x1024_S81920x256_0_768)⟩] concatenates_S81920x256_S81920x256_S81920x512_d1

theorem refLeft_apply (i : Fin 81920) (c : Fin 512) : refLeft z (ix2 i c) = z (ix2 i (col 0 c)) := by
  unfold refLeft
  pointwise
  unfold col
  split
  · exact congrArg (fun k => z (ix2 i k)) (Fin.ext (by simp))
  · exact congrArg (fun k => z (ix2 i k)) (Fin.ext (by simp))

theorem refRight_apply (i : Fin 81920) (c : Fin 512) : refRight z (ix2 i c) = z (ix2 i (col 1 c)) := by
  unfold refRight
  pointwise
  unfold col
  split
  · exact congrArg (fun k => z (ix2 i k)) (Fin.ext (by simp))
  · exact congrArg (fun k => z (ix2 i k)) (Fin.ext (by simp))

end Network

/-! ## The results -/

variable (M : Tab) (x0 x1 : IVec S81920x256 32) (G : FVec Ideal S32x1024x2048 .bf16) (B : FVec Ideal S32x1x2048 .f32)
  (D : FVec Ideal S32x1024x1024 .bf16) (B' : FVec Ideal S32x1x1024 .f32)

/-- All of the reference's rows. -/
def refAll : FVec Ideal S81920x1024 .bf16 :=
  refRows M (refDown
    (extf .f32 (Host.gather gather_S32x1024x1024_S160x1_S160x1024x1024_12_0_n_n_0_1_110241024 D (refExpert M)) bitsLt_bf16_f32)
    (Host.gather gather_S32x1x1024_S160x1_S160x1x1024_12_0_n_n_0_1_111024 B' (refExpert M))
    (refHidden (refProducts M x0 x1
      (extf .f32 (Host.gather gather_S32x1024x2048_S160x1_S160x1024x2048_12_0_n_n_0_1_110242048 G (refExpert M)) bitsLt_bf16_f32)
      (Host.gather gather_S32x1x2048_S160x1_S160x1x2048_12_0_n_n_0_1_112048 B (refExpert M)))))

variable {M} in
theorem refAll_apply (hM : InRange M) (i : Fin 81920) (j : Fin 1024) :
    refAll M x0 x1 G B D B' (ix2 i j)
      = if i.val / 512 < used M then
          network (masked (i.val % 512) (M (tix 2 (i.val / 512))) (fun j => x0 (ix2 i j)) (fun j => x1 (ix2 i j)))
            (fun k f => G (ix3 ⟨(ex M (i.val / 512)).toNat, hM.he _⟩ k f)) (fun f => B (ix3 ⟨(ex M (i.val / 512)).toNat, hM.he _⟩ 0 f))
            (fun f j => D (ix3 ⟨(ex M (i.val / 512)).toNat, hM.he _⟩ f j)) (fun j => B' (ix3 ⟨(ex M (i.val / 512)).toNat, hM.he _⟩ 0 j)) j
        else 0 := by
  have eG (t : Fin 160) (k : Fin 1024) (f : Fin 2048) :
      extf .f32 (Host.gather gather_S32x1024x2048_S160x1_S160x1024x2048_12_0_n_n_0_1_110242048 G (refExpert M)) bitsLt_bf16_f32 (ix3 t k f)
        = G (ix3 ⟨(ex M t).toNat, hM.he t⟩ k f) := gathered_apply _ hM.he G t k f
  have eD (t : Fin 160) (k j : Fin 1024) :
      extf .f32 (Host.gather gather_S32x1024x1024_S160x1_S160x1024x1024_12_0_n_n_0_1_110241024 D (refExpert M)) bitsLt_bf16_f32 (ix3 t k j)
        = D (ix3 ⟨(ex M t).toNat, hM.he t⟩ k j) := gathered_apply _ hM.he D t k j
  have eB (t : Fin 160) (f : Fin 2048) : Host.gather gather_S32x1x2048_S160x1_S160x1x2048_12_0_n_n_0_1_112048 B (refExpert M) (ix3 t 0 f)
      = B (ix3 ⟨(ex M t).toNat, hM.he t⟩ 0 f) := gathered_apply _ hM.he B t 0 f
  have eB' (t : Fin 160) (j : Fin 1024) : Host.gather gather_S32x1x1024_S160x1_S160x1x1024_12_0_n_n_0_1_111024 B' (refExpert M) (ix3 t 0 j)
      = B' (ix3 ⟨(ex M t).toNat, hM.he t⟩ 0 j) := gathered_apply _ hM.he B' t 0 j
  have e2 : M (ix2 2 ⟨chunkOf i, by omega⟩) = M (tix 2 (i.val / 512)) := congrArg M (tix_eq rfl rfl)
  have e1 : M (ix2 1 0) = un M := congrArg M (tix_eq rfl rfl)
  unfold refAll network
  simp only [refRows_apply, refDown_apply, refHidden_apply, refProducts_apply, eG, eD, eB, eB', rowOf_eq, e1, e2]
  unfold Scalar.select
  exact if_congr (slt_iff (by have := i.isLt; show i.val / 512 < _; omega) hM.hu') rfl rfl

variable (m : (ℓ : Loc nD τ sig) → Buf (Elt Ideal) ℓ) (d : Dev nD)

theorem res_left : res_out0 m d
    = refLeft (refAll (m ((d : Thread nD τ).loc main_arg0)) (m ((d : Thread nD τ).loc main_arg1)) (m ((d : Thread nD τ).loc main_arg2))
        (m ((d : Thread nD τ).loc main_arg3)) (m ((d : Thread nD τ).loc main_arg4)) (m ((d : Thread nD τ).loc main_arg5)) (m ((d : Thread nD τ).loc main_arg6))) := by
  unfold res_out0 res_main_v81
  rfl

theorem res_right : res_out1 m d
    = refRight (refAll (m ((d : Thread nD τ).loc main_arg0)) (m ((d : Thread nD τ).loc main_arg1)) (m ((d : Thread nD τ).loc main_arg2))
        (m ((d : Thread nD τ).loc main_arg3)) (m ((d : Thread nD τ).loc main_arg4)) (m ((d : Thread nD τ).loc main_arg5)) (m ((d : Thread nD τ).loc main_arg6))) := by
  unfold res_out1 res_main_v84
  rfl

end Cert.Proof.Experts

end
-- ==== Proof.Experts.Value.lean ====
/-
  The experts' call against its reference: what the precondition says of the table, and that both leave the same arrays.
-/
module

public import proofs.«01_k».proof.Proof.Gen.Pre_experts_in_range
public import proofs.«01_k».proof.Proof.Experts.Frame
public import proofs.«01_k».proof.Proof.Experts.Array
public import proofs.«01_k».proof.Proof.Experts.Ref

@[expose] public section

set_option maxRecDepth 16384

noncomputable section

namespace Cert.Proof.Experts

open Idealize.ShloMosaic Idealize.ShloMosaic.TcCoe Idealize.SL.Sem

/-! ## The precondition -/

/-- One entry of the precondition: an expert of the 32, and at least one chunk used. -/
theorem bounds_of_pre {v n : BitVec 32}
    (e : IntOp.andi (IntOp.andi (IntOp.cmpi .sge v 0#32) (IntOp.cmpi .slt v 32#32)) (IntOp.cmpi .sge n 1#32) = 1#1) :
    v.toNat < 32 ∧ 1 ≤ n.toNat ∧ n.toNat < 2 ^ 31 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  have hv := v.isLt
  have hn := n.isLt
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

theorem inRange_of_pre {F : FTy → Type} [FloatOps F] (M : Tab) (a1 a2 : IVec Cert.ExpertsIdeal.S81920x256 32) (a3 : FVec F Cert.ExpertsIdeal.S32x1024x2048 .bf16)
    (a4 : FVec F Cert.ExpertsIdeal.S32x1x2048 .f32) (a5 : FVec F Cert.ExpertsIdeal.S32x1024x1024 .bf16) (a6 : FVec F Cert.ExpertsIdeal.S32x1x1024 .f32)
    (h : Cert.Pre_experts_in_range.fn M a1 a2 a3 a4 a5 a6 = fun _ => 1#1) : InRange M := by
  have key (k : Fin 160) : (ex M k).toNat < 32 ∧ 1 ≤ (un M).toNat ∧ (un M).toNat < 2 ^ 31 := by
    have e := congrFun h (ix1 k)
    unfold Cert.Pre_experts_in_range.fn at e
    have hk : M (ix2 0 ⟨k, by omega⟩) = ex M k := congrArg M (tix_eq rfl (by show k.val = min k.val 159; omega))
    have hu : M (ix2 1 0) = un M := congrArg M (tix_eq rfl rfl)
    rw [← hk, ← hu]
    refine bounds_of_pre (Eq.trans ?_ e)
    symm
    pointwise
  refine ⟨fun k => ?_, (key 0).2.1, (key 0).2.2⟩
  have := (key ⟨min k 159, by omega⟩).1
  unfold ex at this ⊢
  rwa [show min (min k 159) 159 = min k 159 by omega] at this

/-! ## The results -/

variable {M : Tab} (hM : InRange M) (x0 x1 : IVec Cert.ExpertsIdeal.S81920x256 32) (G : FVec Ideal Cert.ExpertsIdeal.S32x1024x2048 .bf16)
  (B : FVec Ideal Cert.ExpertsIdeal.S32x1x2048 .f32) (D : FVec Ideal Cert.ExpertsIdeal.S32x1024x1024 .bf16) (B' : FVec Ideal Cert.ExpertsIdeal.S32x1x1024 .f32)

theorem left_eq : refLeft (refAll M x0 x1 G B D B') = fun i => outCell hM x0 x1 G B D B' (i 0) (col 0 (i 1)) := by
  refine funext fun i => ?_
  obtain ⟨r, c, rfl⟩ : ∃ (r : Fin 81920) (c : Fin 512), i = ix2 r c := ⟨i 0, i 1, by funext a; fin_cases a <;> rfl⟩
  rw [refLeft_apply, refAll_apply x0 x1 G B D B' hM]
  rfl

theorem right_eq : refRight (refAll M x0 x1 G B D B') = fun i => outCell hM x0 x1 G B D B' (i 0) (col 1 (i 1)) := by
  refine funext fun i => ?_
  obtain ⟨r, c, rfl⟩ : ∃ (r : Fin 81920) (c : Fin 512), i = ix2 r c := ⟨i 0, i 1, by funext a; fin_cases a <;> rfl⟩
  rw [refRight_apply, refAll_apply x0 x1 G B D B' hM]
  rfl

/-- The kernel's outputs are the reference's results, for memories that agree on the arguments. -/
theorem results_eq (m : (ℓ : Loc Cert.ExpertsIdeal.nD Cert.ExpertsIdeal.τ Cert.ExpertsIdeal.sig) → Buf (Elt Ideal) ℓ)
    (m' : (ℓ : Loc Cert.ExpertsRefIdeal.nD Cert.ExpertsRefIdeal.τ Cert.ExpertsRefIdeal.sig) → Buf (Elt Ideal) ℓ) (hM : InRange (tabOf m)) (d : Dev Cert.ExpertsIdeal.nD)
    (e0 : m' ((d.tc : Thread Cert.ExpertsRefIdeal.nD Cert.ExpertsRefIdeal.τ).loc Cert.ExpertsRefIdeal.main_arg0) = m ((d.tc : Thread Cert.ExpertsIdeal.nD Cert.ExpertsIdeal.τ).loc Cert.ExpertsIdeal.main_arg0))
    (e1 : m' ((d.tc : Thread Cert.ExpertsRefIdeal.nD Cert.ExpertsRefIdeal.τ).loc Cert.ExpertsRefIdeal.main_arg1) = m ((d.tc : Thread Cert.ExpertsIdeal.nD Cert.ExpertsIdeal.τ).loc Cert.ExpertsIdeal.main_arg1))
    (e2 : m' ((d.tc : Thread Cert.ExpertsRefIdeal.nD Cert.ExpertsRefIdeal.τ).loc Cert.ExpertsRefIdeal.main_arg2) = m ((d.tc : Thread Cert.ExpertsIdeal.nD Cert.ExpertsIdeal.τ).loc Cert.ExpertsIdeal.main_arg2))
    (e3 : m' ((d.tc : Thread Cert.ExpertsRefIdeal.nD Cert.ExpertsRefIdeal.τ).loc Cert.ExpertsRefIdeal.main_arg3) = m ((d.tc : Thread Cert.ExpertsIdeal.nD Cert.ExpertsIdeal.τ).loc Cert.ExpertsIdeal.main_arg3))
    (e4 : m' ((d.tc : Thread Cert.ExpertsRefIdeal.nD Cert.ExpertsRefIdeal.τ).loc Cert.ExpertsRefIdeal.main_arg4) = m ((d.tc : Thread Cert.ExpertsIdeal.nD Cert.ExpertsIdeal.τ).loc Cert.ExpertsIdeal.main_arg4))
    (e5 : m' ((d.tc : Thread Cert.ExpertsRefIdeal.nD Cert.ExpertsRefIdeal.τ).loc Cert.ExpertsRefIdeal.main_arg5) = m ((d.tc : Thread Cert.ExpertsIdeal.nD Cert.ExpertsIdeal.τ).loc Cert.ExpertsIdeal.main_arg5))
    (e6 : m' ((d.tc : Thread Cert.ExpertsRefIdeal.nD Cert.ExpertsRefIdeal.τ).loc Cert.ExpertsRefIdeal.main_arg6) = m ((d.tc : Thread Cert.ExpertsIdeal.nD Cert.ExpertsIdeal.τ).loc Cert.ExpertsIdeal.main_arg6)) :
    Cert.ExpertsRefIdeal.Value.res_main_v81 m' d = outRows hM (mem m) d 0 ∧ Cert.ExpertsRefIdeal.Value.res_main_v84 m' d = outRows hM (mem m) d 1 := by
  obtain rfl : d = 0 := Subsingleton.elim _ _
  constructor
  · refine (res_left m' 0).trans ?_
    rw [e0, e1, e2, e3, e4, e5, e6]
    exact left_eq hM _ _ _ _ _ _
  · refine (res_right m' 0).trans ?_
    rw [e0, e1, e2, e3, e4, e5, e6]
    exact right_eq hM _ _ _ _ _ _

end Cert.Proof.Experts

end
-- ==== Proof.Prep.Cell.lean ====
/-
  The mixer's preparation of one token, element by element, over the extended reals. A token's row is normed and projected
  to 3328 columns; every result is a function of the token's projections and of those of the two tokens before it.
-/
module

public import Idealize.ShloMosaic.Lib.Pointwise
public import Idealize.ShloMosaic.Lib.IdealHost

@[expose] public section

noncomputable section

namespace Cert.Proof.Prep

open Idealize.ShloMosaic

/-- A row over its root mean square, times the gain. -/
def normRow (x g : Fin 1024 → EReal) (k : Fin 1024) : EReal :=
  x k * Ideal.rsqrt (Ideal.div (∑ j : Fin 1024, x j * x j) (Ideal.ofBits .f32 1149239296#32) + Ideal.ofBits .f32 925353388#32) * g k

/-- The projections of a row. -/
def projRow (x g : Fin 1024 → EReal) (W : Fin 1024 → Fin 3328 → EReal) (j : Fin 3328) : EReal :=
  ∑ k : Fin 1024, normRow x g k * W k j

/-- A row of zeros has the projections zero. -/
theorem projRow_zero (g : Fin 1024 → EReal) (W : Fin 1024 → Fin 3328 → EReal) : projRow (fun _ => 0) g W = fun _ => 0 := by
  funext j
  unfold projRow normRow
  simp only [zero_mul, Finset.sum_const_zero]

/-- The mix of a token's projections `p` with those `p'` of the token before it. -/
def mixed (p p' : Fin 3328 → EReal) (mu : Fin 1792 → EReal) (j : Fin 1792) : EReal :=
  p ⟨1536 + j, by omega⟩ + (p' ⟨1536 + j, by omega⟩ - p ⟨1536 + j, by omega⟩) * mu j

/-- The convolution's input, and its gated result from the token and the two before it. -/
def convIn (p : Fin 3328 → EReal) (c : Fin 512) : EReal := p ⟨1024 + c, by omega⟩ * p ⟨c, by omega⟩
def convOut (p p' p'' : Fin 3328 → EReal) (w : Fin 3 → Fin 512 → EReal) (c : Fin 512) : EReal :=
  p ⟨512 + c, by omega⟩ * (w 0 c * convIn p'' c + w 1 c * convIn p' c + w 2 c * convIn p c)

/-- The first column of a column's head, and the sum over a head. -/
def headCol (c : Fin 512) (e : Fin 64) : Fin 512 := ⟨c / 64 * 64 + e, by omega⟩
def headSum (f : Fin 512 → EReal) (c : Fin 512) : EReal := ∑ e : Fin 64, f (headCol c e)

def vConv (y cg : Fin 512 → EReal) (c : Fin 512) : EReal :=
  y c * Ideal.rsqrt (Ideal.div (headSum (fun k => y k * y k) c) (Ideal.ofBits .f32 1115684864#32) + Ideal.ofBits .f32 925353388#32) * cg c

/-- The receptance, key and value columns of the mix. -/
def recv (q : Fin 1792 → EReal) (c : Fin 512) : EReal := q ⟨c, by omega⟩
def key (q : Fin 1792 → EReal) (c : Fin 512) : EReal := q ⟨512 + c, by omega⟩
def val (q : Fin 1792 → EReal) (c : Fin 512) : EReal := q ⟨1024 + c, by omega⟩

/-- One over one plus the exponential of `-x`. -/
def logistic (x : EReal) : EReal :=
  Ideal.div (Ideal.ofBits .f32 1065353216#32) (Ideal.ofBits .f32 1065353216#32 + Ideal.exp (-x))

/-- The rate. -/
def vRate (q : Fin 1792 → EReal) (a0 : Fin 512 → EReal) (up : Fin 64 → Fin 512 → EReal) (c : Fin 512) : EReal :=
  logistic (a0 c + ∑ j : Fin 64, q ⟨1600 + j, by omega⟩ * up j c)

/-- The decay before the double exponential, negated. -/
def decayIn (q : Fin 1792 → EReal) (w0 : Fin 512 → EReal) (up : Fin 64 → Fin 512 → EReal) (c : Fin 512) : EReal :=
  -(w0 c + ∑ j : Fin 64, Ideal.tanh (q ⟨1536 + j, by omega⟩) * up j c)

def vDecay (n : EReal) : EReal :=
  -(Ideal.exp (-(max n 0 + Ideal.log (1 + Ideal.exp (-max n (-n)))) - Ideal.ofBits .f32 1056964608#32))

def vKey (k a ka : EReal) : EReal :=
  k * (Ideal.ofBits .f32 1065353216#32 + (a - Ideal.ofBits .f32 1065353216#32) * ka)

/-- The key over its norm within the head. -/
def vUnit (k : Fin 512 → EReal) (c : Fin 512) : EReal :=
  Ideal.div (k c) (max (Ideal.sqrt (headSum (fun j => k j * k j) c)) (Ideal.ofBits .f32 730643660#32))

def vGate (q : Fin 1792 → EReal) (up : Fin 128 → Fin 512 → EReal) (c : Fin 512) : EReal :=
  ∑ j : Fin 128, logistic (q ⟨1664 + j, by omega⟩) * up j c

end Cert.Proof.Prep

end
-- ==== Proof.Prep.Ref.lean ====
/-
  The plain reference of the mixer's preparation, element by element.
-/
module

public import proofs.«01_k».proof.Proof.Gen.PrepRefIdeal
public import proofs.«01_k».proof.Proof.Prep.Cell
public import Idealize.ShloMosaic.Lib.Pointwise

@[expose] public section

set_option maxRecDepth 16384

noncomputable section

namespace Cert.Proof.Prep

open Idealize.ShloMosaic Idealize.ShloMosaic.TcCoe Cert.PrepRefIdeal Cert.PrepRefIdeal.Gen

variable {F : FTy → Type} [FloatOps F]

/-- The reference's projections. -/
def refProj (x : FVec F S4x8192x1024 .f32) (g : FVec F S1024 .f32) (w : FVec F S1024x3328 .f32) : FVec F S4x8192x3328 .f32 :=
  Host.dotGeneral dot_S4x8192x1024_S1024x3328_S4x8192x3328_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 g))) w

/-- The reference's mix. -/
def refMix (P : FVec F S4x8192x3328 .f32) (mu : FVec F S1792 .f32) : FVec F S4x8192x1792 .f32 :=
  addf (extractStridedSlice S4x8192x1792 ![0, 0, 1536] P slices_S4x8192x3328_S4x8192x1792_0_0_1536) (mulf (subf (extractStridedSlice S4x8192x1792 ![0, 0, 0] (pad S4x8193x1792 ![0, 1, 0] ![0, 0, 0] ![0, 0, 0] (extractStridedSlice S4x8192x1792 ![0, 0, 1536] P slices_S4x8192x3328_S4x8192x1792_0_0_1536) (sitofp .f32 (constantI S_ 32 0#32)) pads_S4x8192x1792_S4x8193x1792_000_100_000 h_S_) slices_S4x8193x1792_S4x8192x1792_0_0_0) (extractStridedSlice S4x8192x1792 ![0, 0, 1536] P slices_S4x8192x3328_S4x8192x1792_0_0_1536)) (broadcastInDim S4x8192x1792 ![0, 1, 2] bcast_S1x1x1792_S4x8192x1792_0_1_2 (broadcastInDim S1x1x1792 ![2] bcast_S1792_S1x1x1792_2 mu)))

/-- The convolution's input. -/
def refIn (P : FVec F S4x8192x3328 .f32) : FVec F S4x8192x512 .f32 :=
  mulf (extractStridedSlice S4x8192x512 ![0, 0, 1024] (extractStridedSlice S4x8192x1536 ![0, 0, 0] P slices_S4x8192x3328_S4x8192x1536_0_0_0) slices_S4x8192x1536_S4x8192x512_0_0_1024) (extractStridedSlice S4x8192x512 ![0, 0, 0] (extractStridedSlice S4x8192x1536 ![0, 0, 0] P slices_S4x8192x3328_S4x8192x1536_0_0_0) slices_S4x8192x1536_S4x8192x512_0_0_0)

/-- The gated convolution. -/
def refGated (P : FVec F S4x8192x3328 .f32) (cw : FVec F S3x512 .f32) : FVec F S4x8192x512 .f32 :=
  mulf (extractStridedSlice S4x8192x512 ![0, 0, 512] (extractStridedSlice S4x8192x1536 ![0, 0, 0] P slices_S4x8192x3328_S4x8192x1536_0_0_0) slices_S4x8192x1536_S4x8192x512_0_0_512) (addf (addf (mulf (broadcastInDim S4x8192x512 ![0, 1, 2] bcast_S1x1x512_S4x8192x512_0_1_2 (broadcastInDim S1x1x512 ![2] bcast_S512_S1x1x512_2 (shapeCast _ (extractStridedSlice S1x512 ![0, 0] cw slices_S3x512_S1x512_0_0) shapeCasts_S1x512_S512))) (extractStridedSlice S4x8192x512 ![0, 0, 0] (pad S4x8194x512 ![0, 2, 0] ![0, 0, 0] ![0, 0, 0] (refIn P) (sitofp .f32 (constantI S_ 32 0#32)) pads_S4x8192x512_S4x8194x512_000_200_000 h_S_) slices_S4x8194x512_S4x8192x512_0_0_0)) (mulf (broadcastInDim S4x8192x512 ![0, 1, 2] bcast_S1x1x512_S4x8192x512_0_1_2 (broadcastInDim S1x1x512 ![2] bcast_S512_S1x1x512_2 (shapeCast _ (extractStridedSlice S1x512 ![1, 0] cw slices_S3x512_S1x512_1_0) shapeCasts_S1x512_S512))) (extractStridedSlice S4x8192x512 ![0, 1, 0] (pad S4x8194x512 ![0, 2, 0] ![0, 0, 0] ![0, 0, 0] (refIn P) (sitofp .f32 (constantI S_ 32 0#32)) pads_S4x8192x512_S4x8194x512_000_200_000 h_S_) slices_S4x8194x512_S4x8192x512_0_1_0))) (mulf (broadcastInDim S4x8192x512 ![0, 1, 2] bcast_S1x1x512_S4x8192x512_0_1_2 (broadcastInDim S1x1x512 ![2] bcast_S512_S1x1x512_2 (shapeCast _ (extractStridedSlice S1x512 ![2, 0] cw slices_S3x512_S1x512_2_0) shapeCasts_S1x512_S512))) (extractStridedSlice S4x8192x512 ![0, 2, 0] (pad S4x8194x512 ![0, 2, 0] ![0, 0, 0] ![0, 0, 0] (refIn P) (sitofp .f32 (constantI S_ 32 0#32)) pads_S4x8192x512_S4x8194x512_000_200_000 h_S_) slices_S4x8194x512_S4x8192x512_0_2_0)))

/-- The convolution over its heads' root mean square. -/
def refConv (Y : FVec F S4x8192x512 .f32) (cg : FVec F S512 .f32) : FVec F S32768x512 .bf16 :=
  truncf .bf16 (shapeCast _ (mulf (shapeCast _ (mulf (shapeCast _ Y shapeCasts_S4x8192x512_S4x8192x8x64) (broadcastInDim S4x8192x8x64 ![0, 1, 2, 3] bcast_S4x8192x8x1_S4x8192x8x64_0_1_2_3 (Host.rsqrt (addf (Host.divf (broadcastInDim S4x8192x8x1 ![0, 1, 2] bcast_S4x8192x8_S4x8192x8x1_0_1_2 (Host.reduceAdd (mulf (shapeCast _ Y shapeCasts_S4x8192x512_S4x8192x8x64) (shapeCast _ Y shapeCasts_S4x8192x512_S4x8192x8x64)) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x3727C5AC#32)))))) shapeCasts_S4x8192x8x64_S4x8192x512) (broadcastInDim S4x8192x512 ![0, 1, 2] bcast_S1x1x512_S4x8192x512_0_1_2 (broadcastInDim S1x1x512 ![2] bcast_S512_S1x1x512_2 cg))) shapeCasts_S4x8192x512_S32768x512) bitsLt_bf16_f32

/-- The receptance. -/
def refColumns0 (Q : FVec F S4x8192x1792 .f32) : FVec F S32768x512 .f32 :=
  shapeCast _ (extractStridedSlice S4x8192x512 ![0, 0, 0] Q slices_S4x8192x1792_S4x8192x512_0_0_0) shapeCasts_S4x8192x512_S32768x512

/-- The value. -/
def refColumns1024 (Q : FVec F S4x8192x1792 .f32) : FVec F S32768x512 .f32 :=
  shapeCast _ (extractStridedSlice S4x8192x512 ![0, 0, 1024] Q slices_S4x8192x1792_S4x8192x512_0_0_1024) shapeCasts_S4x8192x512_S32768x512

/-- The decay's argument. -/
def refDecayIn (Q : FVec F S4x8192x1792 .f32) (w0 : FVec F S512 .f32) (wup : FVec F S64x512 .f32) : FVec F S4x8192x512 .f32 :=
  Host.negf (addf (broadcastInDim S4x8192x512 ![0, 1, 2] bcast_S1x1x512_S4x8192x512_0_1_2 (broadcastInDim S1x1x512 ![2] bcast_S512_S1x1x512_2 w0)) (Host.dotGeneral dot_S4x8192x64_S64x512_S4x8192x512_2_0_01_1_n_n none (Host.tanh (extractStridedSlice S4x8192x64 ![0, 0, 1536] Q slices_S4x8192x1792_S4x8192x64_0_0_1536)) wup))

/-- The decay. -/
def refDecay (D : FVec F S4x8192x512 .f32) : FVec F S32768x512 .f32 :=
  shapeCast _ (Host.negf (Host.exp (subf (Host.negf (select (cmpf .une (subf D (broadcastInDim S4x8192x512 ![] bcast_S_S4x8192x512 (constant S_ .f32 0x00000000#32))) (subf D (broadcastInDim S4x8192x512 ![] bcast_S_S4x8192x512 (constant S_ .f32 0x00000000#32)))) (addf D (broadcastInDim S4x8192x512 ![] bcast_S_S4x8192x512 (constant S_ .f32 0x00000000#32))) (addf (maximumf D (broadcastInDim S4x8192x512 ![] bcast_S_S4x8192x512 (constant S_ .f32 0x00000000#32))) (Host.log1p (Host.exp (Host.negf (Host.absf (subf D (broadcastInDim S4x8192x512 ![] bcast_S_S4x8192x512 (constant S_ .f32 0x00000000#32)))))))))) (broadcastInDim S4x8192x512 ![] bcast_S_S4x8192x512 (constant S_ .f32 0x3F000000#32))))) shapeCasts_S4x8192x512_S32768x512

/-- The rate. -/
def refRate (Q : FVec F S4x8192x1792 .f32) (a0 : FVec F S512 .f32) (aup : FVec F S64x512 .f32) : FVec F S4x8192x512 .f32 :=
  Host.divf (broadcastInDim S4x8192x512 ![] bcast_S_S4x8192x512 (constant S_ .f32 0x3F800000#32)) (addf (broadcastInDim S4x8192x512 ![] bcast_S_S4x8192x512 (constant S_ .f32 0x3F800000#32)) (Host.exp (Host.negf (addf (broadcastInDim S4x8192x512 ![0, 1, 2] bcast_S1x1x512_S4x8192x512_0_1_2 (broadcastInDim S1x1x512 ![2] bcast_S512_S1x1x512_2 a0)) (Host.dotGeneral dot_S4x8192x64_S64x512_S4x8192x512_2_0_01_1_n_n none (extractStridedSlice S4x8192x64 ![0, 0, 1600] Q slices_S4x8192x1792_S4x8192x64_0_0_1600) aup)))))

/-- The modified key. -/
def refKey (Q : FVec F S4x8192x1792 .f32) (A : FVec F S4x8192x512 .f32) (ka : FVec F S512 .f32) : FVec F S32768x512 .f32 :=
  shapeCast _ (mulf (extractStridedSlice S4x8192x512 ![0, 0, 512] Q slices_S4x8192x1792_S4x8192x512_0_0_512) (addf (broadcastInDim S4x8192x512 ![] bcast_S_S4x8192x512 (constant S_ .f32 0x3F800000#32)) (mulf (subf A (broadcastInDim S4x8192x512 ![] bcast_S_S4x8192x512 (constant S_ .f32 0x3F800000#32))) (broadcastInDim S4x8192x512 ![0, 1, 2] bcast_S1x1x512_S4x8192x512_0_1_2 (broadcastInDim S1x1x512 ![2] bcast_S512_S1x1x512_2 ka))))) shapeCasts_S4x8192x512_S32768x512

/-- The key times its gain. -/
def refKeyed (Q : FVec F S4x8192x1792 .f32) (kk : FVec F S512 .f32) : FVec F S4x8192x512 .f32 :=
  mulf (extractStridedSlice S4x8192x512 ![0, 0, 512] Q slices_S4x8192x1792_S4x8192x512_0_0_512) (broadcastInDim S4x8192x512 ![0, 1, 2] bcast_S1x1x512_S4x8192x512_0_1_2 (broadcastInDim S1x1x512 ![2] bcast_S512_S1x1x512_2 kk))

/-- The key over its norm, head by head. -/
def refUnit4 (KP : FVec F S4x8192x512 .f32) : FVec F S4x8192x8x64 .f32 :=
  Host.divf (shapeCast _ KP shapeCasts_S4x8192x512_S4x8192x8x64) (broadcastInDim S4x8192x8x64 ![0, 1, 2, 3] bcast_S4x8192x8x1_S4x8192x8x64_0_1_2_3 (maximumf (Host.sqrt (broadcastInDim S4x8192x8x1 ![0, 1, 2] bcast_S4x8192x8_S4x8192x8x1_0_1_2 (Host.reduceAdd (mulf (shapeCast _ KP shapeCasts_S4x8192x512_S4x8192x8x64) (shapeCast _ KP shapeCasts_S4x8192x512_S4x8192x8x64)) (constant S_ .f32 0x00000000#32) reducesTo_S4x8192x8x64_S4x8192x8_d3 h_S_))) (broadcastInDim S4x8192x8x1 ![] bcast_S_S4x8192x8x1 (constant S_ .f32 0x2B8CBCCC#32))))

/-- The same, in rows. -/
def refUnit (U4 : FVec F S4x8192x8x64 .f32) : FVec F S32768x512 .f32 :=
  shapeCast _ U4 shapeCasts_S4x8192x8x64_S32768x512

/-- The key over its norm times the rate. -/
def refB (U4 : FVec F S4x8192x8x64 .f32) (A : FVec F S4x8192x512 .f32) : FVec F S32768x512 .f32 :=
  shapeCast _ (mulf U4 (shapeCast _ A shapeCasts_S4x8192x512_S4x8192x8x64)) shapeCasts_S4x8192x8x64_S32768x512

/-- The gate. -/
def refGate (Q : FVec F S4x8192x1792 .f32) (gup : FVec F S128x512 .f32) : FVec F S32768x512 .f32 :=
  shapeCast _ (Host.dotGeneral dot_S4x8192x128_S128x512_S4x8192x512_2_0_01_1_n_n none (Host.divf (broadcastInDim S4x8192x128 ![] bcast_S_S4x8192x128 (constant S_ .f32 0x3F800000#32)) (addf (broadcastInDim S4x8192x128 ![] bcast_S_S4x8192x128 (constant S_ .f32 0x3F800000#32)) (Host.exp (Host.negf (extractStridedSlice S4x8192x128 ![0, 0, 1664] Q slices_S4x8192x1792_S4x8192x128_0_0_1664))))) gup) shapeCasts_S4x8192x512_S32768x512

theorem refProj_apply (x : FVec Ideal S4x8192x1024 .f32) (g : FVec Ideal S1024 .f32) (w : FVec Ideal S1024x3328 .f32)
    (b : Fin 4) (s : Fin 8192) (j : Fin 3328) :
    refProj x g w (ix3 b s j) = projRow (fun k => x (ix3 b s k)) (fun k => g (ix1 k)) (fun k j => w (ix2 k j)) j := by
  unfold refProj projRow normRow
  pointwise

/-- The projections of the row `k` before row `s`, zero before the sequence's first row. -/
def rowsBack (P : FVec Ideal S4x8192x3328 .f32) (b : Fin 4) (s : Fin 8192) (k : ℕ) (j : Fin 3328) : EReal :=
  if k ≤ (s : ℕ) then P (ix3 b ⟨s - k, by omega⟩ j) else 0

/-- The mix of a row. -/
def mixRow (P : FVec Ideal S4x8192x3328 .f32) (mu : Fin 1792 → EReal) (b : Fin 4) (s : Fin 8192) : Fin 1792 → EReal :=
  mixed (rowsBack P b s 0) (rowsBack P b s 1) mu

/-- The integer zero as a float. -/
theorem sitofp_zero : FloatOps.sitofp (F := Ideal) .f32 (0#32) = (0 : EReal) := by
  show (((0#32 : BitVec 32).toInt : ℝ) : EReal) = 0
  simp

theorem refMix_apply (P : FVec Ideal S4x8192x3328 .f32) (mu : FVec Ideal S1792 .f32) (b : Fin 4) (s : Fin 8192) (j : Fin 1792) :
    refMix P mu (ix3 b s j) = mixRow P (fun j => mu (ix1 j)) b s j := by
  unfold refMix mixRow mixed rowsBack
  pointwise
  simp only [sitofp_zero]
  by_cases h : 1 ≤ (s : ℕ)
  · rw [dif_pos ⟨h, by omega⟩, if_pos h]
  · rw [dif_neg (fun q => h q.1), if_neg h]

theorem refGated_apply (P : FVec Ideal S4x8192x3328 .f32) (cw : FVec Ideal S3x512 .f32) (b : Fin 4) (s : Fin 8192) (c : Fin 512) :
    refGated P cw (ix3 b s c)
      = convOut (rowsBack P b s 0) (rowsBack P b s 1) (rowsBack P b s 2) (fun i c => cw (ix2 i c)) c := by
  unfold refGated refIn convOut convIn rowsBack
  pointwise
  simp only [sitofp_zero]
  by_cases h1 : 1 ≤ (s : ℕ)
  · have e : 1 + (s : ℕ) - 2 = s - 1 := by omega
    have p1 : 2 ≤ 1 + (s : ℕ) := by omega
    have p1' : (s : ℕ) - 1 < 8192 := by omega
    have p2' : (s : ℕ) - 2 < 8192 := by omega
    by_cases h2 : 2 ≤ (s : ℕ)
    · simp only [e, p1, p1', p2', h1, h2, and_self, dite_true, if_true]
    · simp only [e, p1, p1', h1, h2, and_self, false_and, dite_true, dite_false, if_true, if_false, zero_mul]
  · have h2 : ¬ 2 ≤ (s : ℕ) := by omega
    have h3 : ¬ 2 ≤ 1 + (s : ℕ) := by omega
    simp only [h1, h2, h3, false_and, dite_false, if_false, zero_mul]

/-- The sequence and the position of a row. -/
def seqOf (n : Fin 32768) : Fin 4 := ⟨n / 8192, by omega⟩
def posOf (n : Fin 32768) : Fin 8192 := ⟨n % 8192, by omega⟩

theorem refConv_apply (Y : FVec Ideal S4x8192x512 .f32) (cg : FVec Ideal S512 .f32) (n : Fin 32768) (c : Fin 512) :
    refConv Y cg (ix2 n c) = vConv (fun k => Y (ix3 (seqOf n) (posOf n) k)) (fun k => cg (ix1 k)) c := by
  unfold refConv vConv headSum
  pointwise
  rfl

theorem refRecv_apply (Q : FVec Ideal S4x8192x1792 .f32) (n : Fin 32768) (c : Fin 512) :
    refColumns0 Q (ix2 n c) = recv (fun j => Q (ix3 (seqOf n) (posOf n) j)) c := by
  unfold refColumns0 recv
  pointwise
  rfl

theorem refVal_apply (Q : FVec Ideal S4x8192x1792 .f32) (n : Fin 32768) (c : Fin 512) :
    refColumns1024 Q (ix2 n c) = val (fun j => Q (ix3 (seqOf n) (posOf n) j)) c := by
  unfold refColumns1024 val
  pointwise
  rfl

theorem refDecayIn_apply (Q : FVec Ideal S4x8192x1792 .f32) (w0 : FVec Ideal S512 .f32) (wup : FVec Ideal S64x512 .f32)
    (b : Fin 4) (s : Fin 8192) (c : Fin 512) :
    refDecayIn Q w0 wup (ix3 b s c) = decayIn (fun j => Q (ix3 b s j)) (fun k => w0 (ix1 k)) (fun k c => wup (ix2 k c)) c := by
  unfold refDecayIn decayIn
  pointwise

theorem refDecay_apply (D : FVec Ideal S4x8192x512 .f32) (n : Fin 32768) (c : Fin 512) :
    refDecay D (ix2 n c) = vDecay (D (ix3 (seqOf n) (posOf n) c)) := by
  unfold refDecay vDecay
  pointwise
  rw [if_neg (fun h => h rfl)]
  rfl

theorem refRate_apply (Q : FVec Ideal S4x8192x1792 .f32) (a0 : FVec Ideal S512 .f32) (aup : FVec Ideal S64x512 .f32)
    (b : Fin 4) (s : Fin 8192) (c : Fin 512) :
    refRate Q a0 aup (ix3 b s c) = vRate (fun j => Q (ix3 b s j)) (fun k => a0 (ix1 k)) (fun k c => aup (ix2 k c)) c := by
  unfold refRate vRate logistic
  pointwise

theorem refKey_apply (Q : FVec Ideal S4x8192x1792 .f32) (A : FVec Ideal S4x8192x512 .f32) (ka : FVec Ideal S512 .f32) (n : Fin 32768) (c : Fin 512) :
    refKey Q A ka (ix2 n c) = vKey (key (fun j => Q (ix3 (seqOf n) (posOf n) j)) c) (A (ix3 (seqOf n) (posOf n) c)) (ka (ix1 c)) := by
  unfold refKey vKey key
  pointwise
  rfl

theorem refKeyed_apply (Q : FVec Ideal S4x8192x1792 .f32) (kk : FVec Ideal S512 .f32) (b : Fin 4) (s : Fin 8192) (c : Fin 512) :
    refKeyed Q kk (ix3 b s c) = key (fun j => Q (ix3 b s j)) c * kk (ix1 c) := by
  unfold refKeyed key
  pointwise

theorem refUnit_apply (KP : FVec Ideal S4x8192x512 .f32) (n : Fin 32768) (c : Fin 512) :
    refUnit (refUnit4 KP) (ix2 n c) = vUnit (fun k => KP (ix3 (seqOf n) (posOf n) k)) c := by
  unfold refUnit refUnit4 vUnit headSum
  pointwise
  rfl

theorem refB_apply (KP A : FVec Ideal S4x8192x512 .f32) (n : Fin 32768) (c : Fin 512) :
    refB (refUnit4 KP) A (ix2 n c) = vUnit (fun k => KP (ix3 (seqOf n) (posOf n) k)) c * A (ix3 (seqOf n) (posOf n) c) := by
  unfold refB refUnit4 vUnit headSum
  pointwise
  rfl

theorem refGate_apply (Q : FVec Ideal S4x8192x1792 .f32) (gup : FVec Ideal S128x512 .f32) (n : Fin 32768) (c : Fin 512) :
    refGate Q gup (ix2 n c) = vGate (fun j => Q (ix3 (seqOf n) (posOf n) j)) (fun k c => gup (ix2 k c)) c := by
  unfold refGate vGate logistic
  pointwise
  rfl

variable (m : (ℓ : Loc nD τ sig) → Buf (Elt F) ℓ) (c : Dev nD)

/-- The reference's projections and mix, of the arguments. -/
def argProj : FVec F S4x8192x3328 .f32 :=
  refProj (m ((c.tc : Thread nD τ).loc main_arg0)) (m ((c.tc : Thread nD τ).loc main_arg1)) (m ((c.tc : Thread nD τ).loc main_arg2))
def argMix : FVec F S4x8192x1792 .f32 := refMix (argProj m c) (m ((c.tc : Thread nD τ).loc main_arg5))
def argRate : FVec F S4x8192x512 .f32 :=
  refRate (argMix m c) (m ((c.tc : Thread nD τ).loc main_arg8)) (m ((c.tc : Thread nD τ).loc main_arg9))
def argKeyed : FVec F S4x8192x512 .f32 := refKeyed (argMix m c) (m ((c.tc : Thread nD τ).loc main_arg11))

end Cert.Proof.Prep

end
-- ==== Proof.Prep.RefRun.lean ====
/-
  The run of the plain reference of the mixer's preparation: its operations one after another, and what each result holds.
  Both readings of the reference have this text, so one run serves them.
-/
module

public import proofs.«01_k».proof.Proof.Prep.Ref
public import Idealize.ShloMosaic.Lib.StableHlo.Run

@[expose] public section

set_option maxRecDepth 16384

noncomputable section

namespace Cert.Proof.Prep.RefRun

open Cert.PrepRefIdeal Cert.PrepRefIdeal.Gen Idealize.ShloMosaic Idealize.ShloMosaic.TcCoe Idealize.SL.Sem Idealize.ShloMosaic.StableHlo

variable {F : FTy → Type} [FloatOps F]

/-- The contents of an array. -/
abbrev Arr (F : FTy → Type) (s : Shape) (e : EltTy) : Type := BufTy.Contents (Elt F) ⟨s, e⟩

set_option maxHeartbeats 4000000 in
/-- The operations, in order. -/
abbrev ops : List (HloOp τ sig (Elt F)) :=
  [ binary main_arg0 main_arg0 main_v0 (mulf : Arr F S4x8192x1024 .f32 → Arr F S4x8192x1024 .f32 → Arr F S4x8192x1024 .f32),
    nullary main_cst (constant S_ .f32 0x00000000#32),
    binary main_v0 main_cst main_v1 ((fun x v => Host.reduceAdd x v reducesTo_S4x8192x1024_S4x8192_d2 h_S_) : Arr F S4x8192x1024 .f32 → Arr F S_ .f32 → Arr F S4x8192 .f32),
    unary main_v1 main_v2 (broadcastInDim S4x8192x1 ![0, 1] bcast_S4x8192_S4x8192x1_0_1 : Arr F S4x8192 .f32 → Arr F S4x8192x1 .f32),
    nullary main_cst_0 (constant S_ .f32 0x44800000#32),
    unary main_cst_0 main_v3 (broadcastInDim S4x8192x1 ![] bcast_S_S4x8192x1 : Arr F S_ .f32 → Arr F S4x8192x1 .f32),
    binary main_v2 main_v3 main_v4 (Host.divf : Arr F S4x8192x1 .f32 → Arr F S4x8192x1 .f32 → Arr F S4x8192x1 .f32),
    nullary main_cst_1 (constant S_ .f32 0x3727C5AC#32),
    unary main_cst_1 main_v5 (broadcastInDim S4x8192x1 ![] bcast_S_S4x8192x1 : Arr F S_ .f32 → Arr F S4x8192x1 .f32),
    binary main_v4 main_v5 main_v6 (addf : Arr F S4x8192x1 .f32 → Arr F S4x8192x1 .f32 → Arr F S4x8192x1 .f32),
    unary main_v6 main_v7 (Host.rsqrt : Arr F S4x8192x1 .f32 → Arr F S4x8192x1 .f32),
    unary main_v7 main_v8 (broadcastInDim S4x8192x1024 ![0, 1, 2] bcast_S4x8192x1_S4x8192x1024_0_1_2 : Arr F S4x8192x1 .f32 → Arr F S4x8192x1024 .f32),
    binary main_arg0 main_v8 main_v9 (mulf : Arr F S4x8192x1024 .f32 → Arr F S4x8192x1024 .f32 → Arr F S4x8192x1024 .f32),
    unary main_arg1 main_v10 (broadcastInDim S1x1x1024 ![2] bcast_S1024_S1x1x1024_2 : Arr F S1024 .f32 → Arr F S1x1x1024 .f32),
    unary main_v10 main_v11 (broadcastInDim S4x8192x1024 ![0, 1, 2] bcast_S1x1x1024_S4x8192x1024_0_1_2 : Arr F S1x1x1024 .f32 → Arr F S4x8192x1024 .f32),
    binary main_v9 main_v11 main_v12 (mulf : Arr F S4x8192x1024 .f32 → Arr F S4x8192x1024 .f32 → Arr F S4x8192x1024 .f32),
    binary main_v12 main_arg2 main_v13 ((fun l r => Host.dotGeneral dot_S4x8192x1024_S1024x3328_S4x8192x3328_2_0_01_1_n_n none l r) : Arr F S4x8192x1024 .f32 → Arr F S1024x3328 .f32 → Arr F S4x8192x3328 .f32),
    unary main_v13 main_v14 ((extractStridedSlice S4x8192x1536 ![0, 0, 0] · slices_S4x8192x3328_S4x8192x1536_0_0_0) : Arr F S4x8192x3328 .f32 → Arr F S4x8192x1536 .f32),
    unary main_v14 main_v15 ((extractStridedSlice S4x8192x512 ![0, 0, 0] · slices_S4x8192x1536_S4x8192x512_0_0_0) : Arr F S4x8192x1536 .f32 → Arr F S4x8192x512 .f32),
    unary main_v14 main_v16 ((extractStridedSlice S4x8192x512 ![0, 0, 512] · slices_S4x8192x1536_S4x8192x512_0_0_512) : Arr F S4x8192x1536 .f32 → Arr F S4x8192x512 .f32),
    unary main_v14 main_v17 ((extractStridedSlice S4x8192x512 ![0, 0, 1024] · slices_S4x8192x1536_S4x8192x512_0_0_1024) : Arr F S4x8192x1536 .f32 → Arr F S4x8192x512 .f32),
    binary main_v17 main_v15 main_v18 (mulf : Arr F S4x8192x512 .f32 → Arr F S4x8192x512 .f32 → Arr F S4x8192x512 .f32),
    nullary main_c (constantI S_ 32 0#32),
    TRef.unary (TRef.of (T := ⟨S_, .i32⟩) main_c) (TRef.of (T := ⟨S_, .f32⟩) main_call0_v0) (sitofp .f32),
    TRef.binary (TRef.of (T := ⟨S4x8192x512, .f32⟩) main_v18) (TRef.of (T := ⟨S_, .f32⟩) main_call0_v0) (TRef.of (T := ⟨S4x8194x512, .f32⟩) main_v19) (fun x v => pad S4x8194x512 ![0, 2, 0] ![0, 0, 0] ![0, 0, 0] x v pads_S4x8192x512_S4x8194x512_000_200_000 h_S_),
    unary main_arg3 main_v20 ((extractStridedSlice S1x512 ![0, 0] · slices_S3x512_S1x512_0_0) : Arr F S3x512 .f32 → Arr F S1x512 .f32),
    reshape main_v20 main_v21 (rfl : (.f32 : EltTy) = .f32) shapeCasts_S1x512_S512,
    unary main_v19 main_v22 ((extractStridedSlice S4x8192x512 ![0, 0, 0] · slices_S4x8194x512_S4x8192x512_0_0_0) : Arr F S4x8194x512 .f32 → Arr F S4x8192x512 .f32),
    unary main_v21 main_v23 (broadcastInDim S1x1x512 ![2] bcast_S512_S1x1x512_2 : Arr F S512 .f32 → Arr F S1x1x512 .f32),
    unary main_v23 main_v24 (broadcastInDim S4x8192x512 ![0, 1, 2] bcast_S1x1x512_S4x8192x512_0_1_2 : Arr F S1x1x512 .f32 → Arr F S4x8192x512 .f32),
    binary main_v24 main_v22 main_v25 (mulf : Arr F S4x8192x512 .f32 → Arr F S4x8192x512 .f32 → Arr F S4x8192x512 .f32),
    unary main_arg3 main_v26 ((extractStridedSlice S1x512 ![1, 0] · slices_S3x512_S1x512_1_0) : Arr F S3x512 .f32 → Arr F S1x512 .f32),
    reshape main_v26 main_v27 (rfl : (.f32 : EltTy) = .f32) shapeCasts_S1x512_S512,
    unary main_v19 main_v28 ((extractStridedSlice S4x8192x512 ![0, 1, 0] · slices_S4x8194x512_S4x8192x512_0_1_0) : Arr F S4x8194x512 .f32 → Arr F S4x8192x512 .f32),
    unary main_v27 main_v29 (broadcastInDim S1x1x512 ![2] bcast_S512_S1x1x512_2 : Arr F S512 .f32 → Arr F S1x1x512 .f32),
    unary main_v29 main_v30 (broadcastInDim S4x8192x512 ![0, 1, 2] bcast_S1x1x512_S4x8192x512_0_1_2 : Arr F S1x1x512 .f32 → Arr F S4x8192x512 .f32),
    binary main_v30 main_v28 main_v31 (mulf : Arr F S4x8192x512 .f32 → Arr F S4x8192x512 .f32 → Arr F S4x8192x512 .f32),
    binary main_v25 main_v31 main_v32 (addf : Arr F S4x8192x512 .f32 → Arr F S4x8192x512 .f32 → Arr F S4x8192x512 .f32),
    unary main_arg3 main_v33 ((extractStridedSlice S1x512 ![2, 0] · slices_S3x512_S1x512_2_0) : Arr F S3x512 .f32 → Arr F S1x512 .f32),
    reshape main_v33 main_v34 (rfl : (.f32 : EltTy) = .f32) shapeCasts_S1x512_S512,
    unary main_v19 main_v35 ((extractStridedSlice S4x8192x512 ![0, 2, 0] · slices_S4x8194x512_S4x8192x512_0_2_0) : Arr F S4x8194x512 .f32 → Arr F S4x8192x512 .f32),
    unary main_v34 main_v36 (broadcastInDim S1x1x512 ![2] bcast_S512_S1x1x512_2 : Arr F S512 .f32 → Arr F S1x1x512 .f32),
    unary main_v36 main_v37 (broadcastInDim S4x8192x512 ![0, 1, 2] bcast_S1x1x512_S4x8192x512_0_1_2 : Arr F S1x1x512 .f32 → Arr F S4x8192x512 .f32),
    binary main_v37 main_v35 main_v38 (mulf : Arr F S4x8192x512 .f32 → Arr F S4x8192x512 .f32 → Arr F S4x8192x512 .f32),
    binary main_v32 main_v38 main_v39 (addf : Arr F S4x8192x512 .f32 → Arr F S4x8192x512 .f32 → Arr F S4x8192x512 .f32),
    binary main_v16 main_v39 main_v40 (mulf : Arr F S4x8192x512 .f32 → Arr F S4x8192x512 .f32 → Arr F S4x8192x512 .f32),
    reshape main_v40 main_v41 (rfl : (.f32 : EltTy) = .f32) shapeCasts_S4x8192x512_S4x8192x8x64,
    binary main_v41 main_v41 main_v42 (mulf : Arr F S4x8192x8x64 .f32 → Arr F S4x8192x8x64 .f32 → Arr F S4x8192x8x64 .f32),
    nullary main_cst_2 (constant S_ .f32 0x00000000#32),
    binary main_v42 main_cst_2 main_v43 ((fun x v => Host.reduceAdd x v reducesTo_S4x8192x8x64_S4x8192x8_d3 h_S_) : Arr F S4x8192x8x64 .f32 → Arr F S_ .f32 → Arr F S4x8192x8 .f32),
    unary main_v43 main_v44 (broadcastInDim S4x8192x8x1 ![0, 1, 2] bcast_S4x8192x8_S4x8192x8x1_0_1_2 : Arr F S4x8192x8 .f32 → Arr F S4x8192x8x1 .f32),
    nullary main_cst_3 (constant S_ .f32 0x42800000#32),
    unary main_cst_3 main_v45 (broadcastInDim S4x8192x8x1 ![] bcast_S_S4x8192x8x1 : Arr F S_ .f32 → Arr F S4x8192x8x1 .f32),
    binary main_v44 main_v45 main_v46 (Host.divf : Arr F S4x8192x8x1 .f32 → Arr F S4x8192x8x1 .f32 → Arr F S4x8192x8x1 .f32),
    nullary main_cst_4 (constant S_ .f32 0x3727C5AC#32),
    unary main_cst_4 main_v47 (broadcastInDim S4x8192x8x1 ![] bcast_S_S4x8192x8x1 : Arr F S_ .f32 → Arr F S4x8192x8x1 .f32),
    binary main_v46 main_v47 main_v48 (addf : Arr F S4x8192x8x1 .f32 → Arr F S4x8192x8x1 .f32 → Arr F S4x8192x8x1 .f32),
    unary main_v48 main_v49 (Host.rsqrt : Arr F S4x8192x8x1 .f32 → Arr F S4x8192x8x1 .f32),
    unary main_v49 main_v50 (broadcastInDim S4x8192x8x64 ![0, 1, 2, 3] bcast_S4x8192x8x1_S4x8192x8x64_0_1_2_3 : Arr F S4x8192x8x1 .f32 → Arr F S4x8192x8x64 .f32),
    binary main_v41 main_v50 main_v51 (mulf : Arr F S4x8192x8x64 .f32 → Arr F S4x8192x8x64 .f32 → Arr F S4x8192x8x64 .f32),
    reshape main_v51 main_v52 (rfl : (.f32 : EltTy) = .f32) shapeCasts_S4x8192x8x64_S4x8192x512,
    unary main_arg4 main_v53 (broadcastInDim S1x1x512 ![2] bcast_S512_S1x1x512_2 : Arr F S512 .f32 → Arr F S1x1x512 .f32),
    unary main_v53 main_v54 (broadcastInDim S4x8192x512 ![0, 1, 2] bcast_S1x1x512_S4x8192x512_0_1_2 : Arr F S1x1x512 .f32 → Arr F S4x8192x512 .f32),
    binary main_v52 main_v54 main_v55 (mulf : Arr F S4x8192x512 .f32 → Arr F S4x8192x512 .f32 → Arr F S4x8192x512 .f32),
    unary main_v13 main_v56 ((extractStridedSlice S4x8192x1792 ![0, 0, 1536] · slices_S4x8192x3328_S4x8192x1792_0_0_1536) : Arr F S4x8192x3328 .f32 → Arr F S4x8192x1792 .f32),
    nullary main_c_5 (constantI S_ 32 0#32),
    TRef.unary (TRef.of (T := ⟨S_, .i32⟩) main_c_5) (TRef.of (T := ⟨S_, .f32⟩) main_call1_v0) (sitofp .f32),
    TRef.binary (TRef.of (T := ⟨S4x8192x1792, .f32⟩) main_v56) (TRef.of (T := ⟨S_, .f32⟩) main_call1_v0) (TRef.of (T := ⟨S4x8193x1792, .f32⟩) main_v57) (fun x v => pad S4x8193x1792 ![0, 1, 0] ![0, 0, 0] ![0, 0, 0] x v pads_S4x8192x1792_S4x8193x1792_000_100_000 h_S_),
    unary main_v57 main_v58 ((extractStridedSlice S4x8192x1792 ![0, 0, 0] · slices_S4x8193x1792_S4x8192x1792_0_0_0) : Arr F S4x8193x1792 .f32 → Arr F S4x8192x1792 .f32),
    binary main_v58 main_v56 main_v59 (subf : Arr F S4x8192x1792 .f32 → Arr F S4x8192x1792 .f32 → Arr F S4x8192x1792 .f32),
    unary main_arg5 main_v60 (broadcastInDim S1x1x1792 ![2] bcast_S1792_S1x1x1792_2 : Arr F S1792 .f32 → Arr F S1x1x1792 .f32),
    unary main_v60 main_v61 (broadcastInDim S4x8192x1792 ![0, 1, 2] bcast_S1x1x1792_S4x8192x1792_0_1_2 : Arr F S1x1x1792 .f32 → Arr F S4x8192x1792 .f32),
    binary main_v59 main_v61 main_v62 (mulf : Arr F S4x8192x1792 .f32 → Arr F S4x8192x1792 .f32 → Arr F S4x8192x1792 .f32),
    binary main_v56 main_v62 main_v63 (addf : Arr F S4x8192x1792 .f32 → Arr F S4x8192x1792 .f32 → Arr F S4x8192x1792 .f32),
    unary main_v63 main_v64 ((extractStridedSlice S4x8192x512 ![0, 0, 0] · slices_S4x8192x1792_S4x8192x512_0_0_0) : Arr F S4x8192x1792 .f32 → Arr F S4x8192x512 .f32),
    unary main_v63 main_v65 ((extractStridedSlice S4x8192x512 ![0, 0, 512] · slices_S4x8192x1792_S4x8192x512_0_0_512) : Arr F S4x8192x1792 .f32 → Arr F S4x8192x512 .f32),
    unary main_v63 main_v66 ((extractStridedSlice S4x8192x512 ![0, 0, 1024] · slices_S4x8192x1792_S4x8192x512_0_0_1024) : Arr F S4x8192x1792 .f32 → Arr F S4x8192x512 .f32),
    unary main_v63 main_v67 ((extractStridedSlice S4x8192x64 ![0, 0, 1536] · slices_S4x8192x1792_S4x8192x64_0_0_1536) : Arr F S4x8192x1792 .f32 → Arr F S4x8192x64 .f32),
    unary main_v63 main_v68 ((extractStridedSlice S4x8192x64 ![0, 0, 1600] · slices_S4x8192x1792_S4x8192x64_0_0_1600) : Arr F S4x8192x1792 .f32 → Arr F S4x8192x64 .f32),
    unary main_v63 main_v69 ((extractStridedSlice S4x8192x128 ![0, 0, 1664] · slices_S4x8192x1792_S4x8192x128_0_0_1664) : Arr F S4x8192x1792 .f32 → Arr F S4x8192x128 .f32),
    unary main_v67 main_v70 (Host.tanh : Arr F S4x8192x64 .f32 → Arr F S4x8192x64 .f32),
    binary main_v70 main_arg7 main_v71 ((fun l r => Host.dotGeneral dot_S4x8192x64_S64x512_S4x8192x512_2_0_01_1_n_n none l r) : Arr F S4x8192x64 .f32 → Arr F S64x512 .f32 → Arr F S4x8192x512 .f32),
    unary main_arg6 main_v72 (broadcastInDim S1x1x512 ![2] bcast_S512_S1x1x512_2 : Arr F S512 .f32 → Arr F S1x1x512 .f32),
    unary main_v72 main_v73 (broadcastInDim S4x8192x512 ![0, 1, 2] bcast_S1x1x512_S4x8192x512_0_1_2 : Arr F S1x1x512 .f32 → Arr F S4x8192x512 .f32),
    binary main_v73 main_v71 main_v74 (addf : Arr F S4x8192x512 .f32 → Arr F S4x8192x512 .f32 → Arr F S4x8192x512 .f32),
    unary main_v74 main_v75 (Host.negf : Arr F S4x8192x512 .f32 → Arr F S4x8192x512 .f32),
    TRef.nullary (TRef.of (T := ⟨S_, .f32⟩) main_call2_cst) (constant S_ .f32 0x00000000#32),
    TRef.unary (TRef.of (T := ⟨S_, .f32⟩) main_call2_cst) (TRef.of (T := ⟨S4x8192x512, .f32⟩) main_call2_v0) (broadcastInDim S4x8192x512 ![] bcast_S_S4x8192x512),
    TRef.binary (TRef.of (T := ⟨S4x8192x512, .f32⟩) main_v75) (TRef.of (T := ⟨S4x8192x512, .f32⟩) main_call2_v0) (TRef.of (T := ⟨S4x8192x512, .f32⟩) main_call2_v1) maximumf,
    TRef.unary (TRef.of (T := ⟨S_, .f32⟩) main_call2_cst) (TRef.of (T := ⟨S4x8192x512, .f32⟩) main_call2_v2) (broadcastInDim S4x8192x512 ![] bcast_S_S4x8192x512),
    TRef.binary (TRef.of (T := ⟨S4x8192x512, .f32⟩) main_v75) (TRef.of (T := ⟨S4x8192x512, .f32⟩) main_call2_v2) (TRef.of (T := ⟨S4x8192x512, .f32⟩) main_call2_v3) subf,
    TRef.binary (TRef.of (T := ⟨S4x8192x512, .f32⟩) main_call2_v3) (TRef.of (T := ⟨S4x8192x512, .f32⟩) main_call2_v3) (TRef.of (T := ⟨S4x8192x512, .i1⟩) main_call2_v4) (cmpf .une),
    TRef.unary (TRef.of (T := ⟨S_, .f32⟩) main_call2_cst) (TRef.of (T := ⟨S4x8192x512, .f32⟩) main_call2_v5) (broadcastInDim S4x8192x512 ![] bcast_S_S4x8192x512),
    TRef.binary (TRef.of (T := ⟨S4x8192x512, .f32⟩) main_v75) (TRef.of (T := ⟨S4x8192x512, .f32⟩) main_call2_v5) (TRef.of (T := ⟨S4x8192x512, .f32⟩) main_call2_v6) addf,
    TRef.unary (TRef.of (T := ⟨S4x8192x512, .f32⟩) main_call2_v3) (TRef.of (T := ⟨S4x8192x512, .f32⟩) main_call2_v7) Host.absf,
    TRef.unary (TRef.of (T := ⟨S4x8192x512, .f32⟩) main_call2_v7) (TRef.of (T := ⟨S4x8192x512, .f32⟩) main_call2_v8) Host.negf,
    TRef.unary (TRef.of (T := ⟨S4x8192x512, .f32⟩) main_call2_v8) (TRef.of (T := ⟨S4x8192x512, .f32⟩) main_call2_v9) Host.exp,
    TRef.unary (TRef.of (T := ⟨S4x8192x512, .f32⟩) main_call2_v9) (TRef.of (T := ⟨S4x8192x512, .f32⟩) main_call2_v10) Host.log1p,
    TRef.binary (TRef.of (T := ⟨S4x8192x512, .f32⟩) main_call2_v1) (TRef.of (T := ⟨S4x8192x512, .f32⟩) main_call2_v10) (TRef.of (T := ⟨S4x8192x512, .f32⟩) main_call2_v11) addf,
    TRef.ternary (TRef.of (T := ⟨S4x8192x512, .i1⟩) main_call2_v4) (TRef.of (T := ⟨S4x8192x512, .f32⟩) main_call2_v6) (TRef.of (T := ⟨S4x8192x512, .f32⟩) main_call2_v11) (TRef.of (T := ⟨S4x8192x512, .f32⟩) main_v76) select,
    unary main_v76 main_v77 (Host.negf : Arr F S4x8192x512 .f32 → Arr F S4x8192x512 .f32),
    nullary main_cst_6 (constant S_ .f32 0x3F000000#32),
    unary main_cst_6 main_v78 (broadcastInDim S4x8192x512 ![] bcast_S_S4x8192x512 : Arr F S_ .f32 → Arr F S4x8192x512 .f32),
    binary main_v77 main_v78 main_v79 (subf : Arr F S4x8192x512 .f32 → Arr F S4x8192x512 .f32 → Arr F S4x8192x512 .f32),
    binary main_v68 main_arg9 main_v80 ((fun l r => Host.dotGeneral dot_S4x8192x64_S64x512_S4x8192x512_2_0_01_1_n_n none l r) : Arr F S4x8192x64 .f32 → Arr F S64x512 .f32 → Arr F S4x8192x512 .f32),
    unary main_arg8 main_v81 (broadcastInDim S1x1x512 ![2] bcast_S512_S1x1x512_2 : Arr F S512 .f32 → Arr F S1x1x512 .f32),
    unary main_v81 main_v82 (broadcastInDim S4x8192x512 ![0, 1, 2] bcast_S1x1x512_S4x8192x512_0_1_2 : Arr F S1x1x512 .f32 → Arr F S4x8192x512 .f32),
    binary main_v82 main_v80 main_v83 (addf : Arr F S4x8192x512 .f32 → Arr F S4x8192x512 .f32 → Arr F S4x8192x512 .f32),
    unary main_v83 main_v84 (Host.negf : Arr F S4x8192x512 .f32 → Arr F S4x8192x512 .f32),
    unary main_v84 main_v85 (Host.exp : Arr F S4x8192x512 .f32 → Arr F S4x8192x512 .f32),
    nullary main_cst_7 (constant S_ .f32 0x3F800000#32),
    unary main_cst_7 main_v86 (broadcastInDim S4x8192x512 ![] bcast_S_S4x8192x512 : Arr F S_ .f32 → Arr F S4x8192x512 .f32),
    binary main_v86 main_v85 main_v87 (addf : Arr F S4x8192x512 .f32 → Arr F S4x8192x512 .f32 → Arr F S4x8192x512 .f32),
    nullary main_cst_8 (constant S_ .f32 0x3F800000#32),
    unary main_cst_8 main_v88 (broadcastInDim S4x8192x512 ![] bcast_S_S4x8192x512 : Arr F S_ .f32 → Arr F S4x8192x512 .f32),
    binary main_v88 main_v87 main_v89 (Host.divf : Arr F S4x8192x512 .f32 → Arr F S4x8192x512 .f32 → Arr F S4x8192x512 .f32),
    unary main_v69 main_v90 (Host.negf : Arr F S4x8192x128 .f32 → Arr F S4x8192x128 .f32),
    unary main_v90 main_v91 (Host.exp : Arr F S4x8192x128 .f32 → Arr F S4x8192x128 .f32),
    nullary main_cst_9 (constant S_ .f32 0x3F800000#32),
    unary main_cst_9 main_v92 (broadcastInDim S4x8192x128 ![] bcast_S_S4x8192x128 : Arr F S_ .f32 → Arr F S4x8192x128 .f32),
    binary main_v92 main_v91 main_v93 (addf : Arr F S4x8192x128 .f32 → Arr F S4x8192x128 .f32 → Arr F S4x8192x128 .f32),
    nullary main_cst_10 (constant S_ .f32 0x3F800000#32),
    unary main_cst_10 main_v94 (broadcastInDim S4x8192x128 ![] bcast_S_S4x8192x128 : Arr F S_ .f32 → Arr F S4x8192x128 .f32),
    binary main_v94 main_v93 main_v95 (Host.divf : Arr F S4x8192x128 .f32 → Arr F S4x8192x128 .f32 → Arr F S4x8192x128 .f32),
    binary main_v95 main_arg10 main_v96 ((fun l r => Host.dotGeneral dot_S4x8192x128_S128x512_S4x8192x512_2_0_01_1_n_n none l r) : Arr F S4x8192x128 .f32 → Arr F S128x512 .f32 → Arr F S4x8192x512 .f32),
    unary main_arg11 main_v97 (broadcastInDim S1x1x512 ![2] bcast_S512_S1x1x512_2 : Arr F S512 .f32 → Arr F S1x1x512 .f32),
    unary main_v97 main_v98 (broadcastInDim S4x8192x512 ![0, 1, 2] bcast_S1x1x512_S4x8192x512_0_1_2 : Arr F S1x1x512 .f32 → Arr F S4x8192x512 .f32),
    binary main_v65 main_v98 main_v99 (mulf : Arr F S4x8192x512 .f32 → Arr F S4x8192x512 .f32 → Arr F S4x8192x512 .f32),
    reshape main_v99 main_v100 (rfl : (.f32 : EltTy) = .f32) shapeCasts_S4x8192x512_S4x8192x8x64,
    binary main_v100 main_v100 main_v101 (mulf : Arr F S4x8192x8x64 .f32 → Arr F S4x8192x8x64 .f32 → Arr F S4x8192x8x64 .f32),
    nullary main_cst_11 (constant S_ .f32 0x00000000#32),
    binary main_v101 main_cst_11 main_v102 ((fun x v => Host.reduceAdd x v reducesTo_S4x8192x8x64_S4x8192x8_d3 h_S_) : Arr F S4x8192x8x64 .f32 → Arr F S_ .f32 → Arr F S4x8192x8 .f32),
    unary main_v102 main_v103 (broadcastInDim S4x8192x8x1 ![0, 1, 2] bcast_S4x8192x8_S4x8192x8x1_0_1_2 : Arr F S4x8192x8 .f32 → Arr F S4x8192x8x1 .f32),
    unary main_v103 main_v104 (Host.sqrt : Arr F S4x8192x8x1 .f32 → Arr F S4x8192x8x1 .f32),
    nullary main_cst_12 (constant S_ .f32 0x2B8CBCCC#32),
    unary main_cst_12 main_v105 (broadcastInDim S4x8192x8x1 ![] bcast_S_S4x8192x8x1 : Arr F S_ .f32 → Arr F S4x8192x8x1 .f32),
    binary main_v104 main_v105 main_v106 (maximumf : Arr F S4x8192x8x1 .f32 → Arr F S4x8192x8x1 .f32 → Arr F S4x8192x8x1 .f32),
    unary main_v106 main_v107 (broadcastInDim S4x8192x8x64 ![0, 1, 2, 3] bcast_S4x8192x8x1_S4x8192x8x64_0_1_2_3 : Arr F S4x8192x8x1 .f32 → Arr F S4x8192x8x64 .f32),
    binary main_v100 main_v107 main_v108 (Host.divf : Arr F S4x8192x8x64 .f32 → Arr F S4x8192x8x64 .f32 → Arr F S4x8192x8x64 .f32),
    nullary main_cst_13 (constant S_ .f32 0x3F800000#32),
    unary main_cst_13 main_v109 (broadcastInDim S4x8192x512 ![] bcast_S_S4x8192x512 : Arr F S_ .f32 → Arr F S4x8192x512 .f32),
    binary main_v89 main_v109 main_v110 (subf : Arr F S4x8192x512 .f32 → Arr F S4x8192x512 .f32 → Arr F S4x8192x512 .f32),
    unary main_arg12 main_v111 (broadcastInDim S1x1x512 ![2] bcast_S512_S1x1x512_2 : Arr F S512 .f32 → Arr F S1x1x512 .f32),
    unary main_v111 main_v112 (broadcastInDim S4x8192x512 ![0, 1, 2] bcast_S1x1x512_S4x8192x512_0_1_2 : Arr F S1x1x512 .f32 → Arr F S4x8192x512 .f32),
    binary main_v110 main_v112 main_v113 (mulf : Arr F S4x8192x512 .f32 → Arr F S4x8192x512 .f32 → Arr F S4x8192x512 .f32),
    nullary main_cst_14 (constant S_ .f32 0x3F800000#32),
    unary main_cst_14 main_v114 (broadcastInDim S4x8192x512 ![] bcast_S_S4x8192x512 : Arr F S_ .f32 → Arr F S4x8192x512 .f32),
    binary main_v114 main_v113 main_v115 (addf : Arr F S4x8192x512 .f32 → Arr F S4x8192x512 .f32 → Arr F S4x8192x512 .f32),
    binary main_v65 main_v115 main_v116 (mulf : Arr F S4x8192x512 .f32 → Arr F S4x8192x512 .f32 → Arr F S4x8192x512 .f32),
    reshape main_v55 main_v117 (rfl : (.f32 : EltTy) = .f32) shapeCasts_S4x8192x512_S32768x512,
    unary main_v117 main_v118 ((truncf .bf16 · bitsLt_bf16_f32) : Arr F S32768x512 .f32 → Arr F S32768x512 .bf16),
    reshape main_v64 main_v119 (rfl : (.f32 : EltTy) = .f32) shapeCasts_S4x8192x512_S32768x512,
    unary main_v79 main_v120 (Host.exp : Arr F S4x8192x512 .f32 → Arr F S4x8192x512 .f32),
    unary main_v120 main_v121 (Host.negf : Arr F S4x8192x512 .f32 → Arr F S4x8192x512 .f32),
    reshape main_v121 main_v122 (rfl : (.f32 : EltTy) = .f32) shapeCasts_S4x8192x512_S32768x512,
    reshape main_v116 main_v123 (rfl : (.f32 : EltTy) = .f32) shapeCasts_S4x8192x512_S32768x512,
    reshape main_v66 main_v124 (rfl : (.f32 : EltTy) = .f32) shapeCasts_S4x8192x512_S32768x512,
    reshape main_v108 main_v125 (rfl : (.f32 : EltTy) = .f32) shapeCasts_S4x8192x8x64_S32768x512,
    reshape main_v89 main_v126 (rfl : (.f32 : EltTy) = .f32) shapeCasts_S4x8192x512_S4x8192x8x64,
    binary main_v108 main_v126 main_v127 (mulf : Arr F S4x8192x8x64 .f32 → Arr F S4x8192x8x64 .f32 → Arr F S4x8192x8x64 .f32),
    reshape main_v127 main_v128 (rfl : (.f32 : EltTy) = .f32) shapeCasts_S4x8192x8x64_S32768x512,
    reshape main_v96 main_v129 (rfl : (.f32 : EltTy) = .f32) shapeCasts_S4x8192x512_S32768x512 ]

set_option maxHeartbeats 4000000 in
theorem main_eq (c : Dev nD) : main (F := F) c = seq ops := rfl

theorem no_scoped_refs : (Finset.univ.filter fun b : Ref sig .tc => b.isScoped) = ∅ := by decide

theorem no_scoped_sems : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., binary_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., reshape_bufs_sub .., unary_bufs_sub .., reshape_bufs_sub .., unary_bufs_sub .., unary_bufs_sub .., reshape_bufs_sub .., reshape_bufs_sub .., reshape_bufs_sub .., reshape_bufs_sub .., reshape_bufs_sub .., binary_bufs_sub .., reshape_bufs_sub .., reshape_bufs_sub ..⟩

variable (m : (ℓ : Loc nD τ sig) → Buf (Elt F) ℓ) (ρ : Dev nD → PrngReg)

set_option maxHeartbeats 64000000 in
/-- From any memory with zero counters every execution ends with each result at its value of the arguments, and every
    argument as it was. -/
theorem run : θ_run defs (onTc (τ := τ) (main (F := F))) ⟨m, fun _ => 0, ρ⟩ fun r => ∀ c : Dev nD,
      r.2.mem ((c.tc : Thread nD τ).loc main_v118) = refConv (refGated (argProj m c) (m ((c.tc : Thread nD τ).loc main_arg3))) (m ((c.tc : Thread nD τ).loc main_arg4))
      ∧ r.2.mem ((c.tc : Thread nD τ).loc main_v119) = refColumns0 (argMix m c)
      ∧ r.2.mem ((c.tc : Thread nD τ).loc main_v122) = refDecay (refDecayIn (argMix m c) (m ((c.tc : Thread nD τ).loc main_arg6)) (m ((c.tc : Thread nD τ).loc main_arg7)))
      ∧ r.2.mem ((c.tc : Thread nD τ).loc main_v123) = refKey (argMix m c) (argRate m c) (m ((c.tc : Thread nD τ).loc main_arg12))
      ∧ r.2.mem ((c.tc : Thread nD τ).loc main_v124) = refColumns1024 (argMix m c)
      ∧ r.2.mem ((c.tc : Thread nD τ).loc main_v125) = refUnit (refUnit4 (argKeyed m c))
      ∧ r.2.mem ((c.tc : Thread nD τ).loc main_v128) = refB (refUnit4 (argKeyed m c)) (argRate m c)
      ∧ r.2.mem ((c.tc : Thread nD τ).loc main_v129) = refGate (argMix m c) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v118).trans (by simp only [ops, TRef.binary, TRef.nullary, TRef.ternary, TRef.unary, TRef.toBuf, TRef.ofBuf, cast_eq]; after_results_simp <;> rfl),
      (h c main_v119).trans (by simp only [ops, TRef.binary, TRef.nullary, TRef.ternary, TRef.unary, TRef.toBuf, TRef.ofBuf, cast_eq]; after_results_simp <;> rfl),
      (h c main_v122).trans (by simp only [ops, TRef.binary, TRef.nullary, TRef.ternary, TRef.unary, TRef.toBuf, TRef.ofBuf, cast_eq]; after_results_simp <;> rfl),
      (h c main_v123).trans (by simp only [ops, TRef.binary, TRef.nullary, TRef.ternary, TRef.unary, TRef.toBuf, TRef.ofBuf, cast_eq]; after_results_simp <;> rfl),
      (h c main_v124).trans (by simp only [ops, TRef.binary, TRef.nullary, TRef.ternary, TRef.unary, TRef.toBuf, TRef.ofBuf, cast_eq]; after_results_simp <;> rfl),
      (h c main_v125).trans (by simp only [ops, TRef.binary, TRef.nullary, TRef.ternary, TRef.unary, TRef.toBuf, TRef.ofBuf, cast_eq]; after_results_simp <;> rfl),
      (h c main_v128).trans (by simp only [ops, TRef.binary, TRef.nullary, TRef.ternary, TRef.unary, TRef.toBuf, TRef.ofBuf, cast_eq]; after_results_simp <;> rfl),
      (h c main_v129).trans (by simp only [ops, TRef.binary, TRef.nullary, TRef.ternary, TRef.unary, TRef.toBuf, TRef.ofBuf, cast_eq]; after_results_simp <;> rfl),
      (h c main_arg0).trans (by simp only [ops, TRef.binary, TRef.nullary, TRef.ternary, TRef.unary, TRef.toBuf, TRef.ofBuf, cast_eq]; after_results_simp <;> rfl),
      (h c main_arg1).trans (by simp only [ops, TRef.binary, TRef.nullary, TRef.ternary, TRef.unary, TRef.toBuf, TRef.ofBuf, cast_eq]; after_results_simp <;> rfl),
      (h c main_arg2).trans (by simp only [ops, TRef.binary, TRef.nullary, TRef.ternary, TRef.unary, TRef.toBuf, TRef.ofBuf, cast_eq]; after_results_simp <;> rfl),
      (h c main_arg3).trans (by simp only [ops, TRef.binary, TRef.nullary, TRef.ternary, TRef.unary, TRef.toBuf, TRef.ofBuf, cast_eq]; after_results_simp <;> rfl),
      (h c main_arg4).trans (by simp only [ops, TRef.binary, TRef.nullary, TRef.ternary, TRef.unary, TRef.toBuf, TRef.ofBuf, cast_eq]; after_results_simp <;> rfl),
      (h c main_arg5).trans (by simp only [ops, TRef.binary, TRef.nullary, TRef.ternary, TRef.unary, TRef.toBuf, TRef.ofBuf, cast_eq]; after_results_simp <;> rfl),
      (h c main_arg6).trans (by simp only [ops, TRef.binary, TRef.nullary, TRef.ternary, TRef.unary, TRef.toBuf, TRef.ofBuf, cast_eq]; after_results_simp <;> rfl),
      (h c main_arg7).trans (by simp only [ops, TRef.binary, TRef.nullary, TRef.ternary, TRef.unary, TRef.toBuf, TRef.ofBuf, cast_eq]; after_results_simp <;> rfl),
      (h c main_arg8).trans (by simp only [ops, TRef.binary, TRef.nullary, TRef.ternary, TRef.unary, TRef.toBuf, TRef.ofBuf, cast_eq]; after_results_simp <;> rfl),
      (h c main_arg9).trans (by simp only [ops, TRef.binary, TRef.nullary, TRef.ternary, TRef.unary, TRef.toBuf, TRef.ofBuf, cast_eq]; after_results_simp <;> rfl),
      (h c main_arg10).trans (by simp only [ops, TRef.binary, TRef.nullary, TRef.ternary, TRef.unary, TRef.toBuf, TRef.ofBuf, cast_eq]; after_results_simp <;> rfl),
      (h c main_arg11).trans (by simp only [ops, TRef.binary, TRef.nullary, TRef.ternary, TRef.unary, TRef.toBuf, TRef.ofBuf, cast_eq]; after_results_simp <;> rfl),
      (h c main_arg12).trans (by simp only [ops, TRef.binary, TRef.nullary, TRef.ternary, TRef.unary, TRef.toBuf, TRef.ofBuf, cast_eq]; after_results_simp <;> rfl),
      (h c main_arg13).trans (by simp only [ops, TRef.binary, TRef.nullary, TRef.ternary, TRef.unary, TRef.toBuf, TRef.ofBuf, cast_eq]; after_results_simp <;> rfl)⟩)
    (run_seq no_scoped_refs no_scoped_sems defs main (fun _ => ops) main_eq (fun _ => ops_sub) m ρ)

end Cert.Proof.Prep.RefRun

end
-- ==== Proof.Prep.Blocks.lean ====
/-
  What one grid point of the mixer's preparation leaves in its nine outputs, from the point's sixteen input blocks.
-/
module

public import proofs.«01_k».proof.Proof.Gen.PrepIdeal.Skeleton
public import Idealize.ShloMosaic.Lib.Pipeline.FrameBody

@[expose] public section

set_option maxRecDepth 16384

noncomputable section

namespace Cert.Proof.Prep

open Idealize.ShloMosaic Cert.PrepIdeal Cert.PrepIdeal.Gen

variable {F : FTy → Type} [FloatOps F]

/-- The input blocks of a grid point: the eight rows before the block and the block's rows, then the weights. -/
structure Blocks (F : FTy → Type) where
  prev : Vec F S8x1024 .f32
  x : Vec F S512x1024 .f32
  g : Vec F S1x1024 .f32
  w : Vec F S1024x3328 .bf16
  cw : Vec F S3x512 .f32
  cg : Vec F S1x512 .f32
  mu : Vec F S1x1792 .f32
  w0 : Vec F S1x512 .f32
  wup : Vec F S128x512 .bf16
  a0 : Vec F S1x512 .f32
  aup : Vec F S128x512 .bf16
  gup : Vec F S128x512 .bf16
  kk : Vec F S1x512 .f32
  ka : Vec F S1x512 .f32
  rk : Vec F S1x512 .f32
  seg : Vec F S1024x512 .bf16

variable (i : grid0.Coords) (b : Blocks F)

/-- The projections of the 520 rows. -/
def proj : Vec F S520x3328 .f32 := k0_pay2 (k0_pay1 i b.prev b.x b.g b.w)

/-- The gated inputs of the convolution, for the 520 rows. -/
def zed : Vec F S520x512 .f32 :=
  k0_pay4 (View.ld (proj i b) (Rect.unit (s := S520x3328) ![0, 1024] S520x512.size inb_S520x3328_S520x512_0_1024))
    (View.ld (proj i b) (Rect.unit (s := S520x3328) ![0, 0] S520x512.size inb_S520x3328_S520x512_0_0))

/-- The three taps of the convolution. -/
def tap0 : Vec F S1x512 .f32 := View.ld b.cw (Rect.unit (s := S3x512) ![0, 0] S1x512.size inb_S3x512_S1x512_0_0)
def tap1 : Vec F S1x512 .f32 := View.ld b.cw (Rect.unit (s := S3x512) ![1, 0] S1x512.size inb_S3x512_S1x512_1_0)
def tap2 : Vec F S1x512 .f32 := View.ld b.cw (Rect.unit (s := S3x512) ![2, 0] S1x512.size inb_S3x512_S1x512_2_0)

/-- The convolution's inputs two rows, one row and no row back. -/
def back2 : Vec F S512x512 .f32 := View.ld (zed i b) (Rect.unit (s := S520x512) ![6, 0] S512x512.size inb_S520x512_S512x512_6_0)
def back1 : Vec F S512x512 .f32 := View.ld (zed i b) (Rect.unit (s := S520x512) ![7, 0] S512x512.size inb_S520x512_S512x512_7_0)
def back0 : Vec F S512x512 .f32 := View.ld (zed i b) (Rect.unit (s := S520x512) ![8, 0] S512x512.size inb_S520x512_S512x512_8_0)

/-- The convolution's output gate. -/
def gateRows : Vec F S512x512 .f32 := View.ld (proj i b) (Rect.unit (s := S520x3328) ![8, 512] S512x512.size inb_S520x3328_S512x512_8_512)

/-- The gated convolution, and its mean square over each head. -/
def conv : Vec F S512x512 .f32 := k0_pay5 (tap0 b) (back2 i b) (tap1 b) (back1 i b) (tap2 b) (back0 i b) (gateRows i b)
def meanSq : Vec F S512x512 .f32 := k0_pay6 b.seg (tap0 b) (back2 i b) (tap1 b) (back1 i b) (tap2 b) (back0 i b) (gateRows i b)

/-- The other projections of the block's rows, and of the rows before them. -/
def cur : Vec F S512x1792 .f32 := View.ld (proj i b) (Rect.unit (s := S520x3328) ![8, 1536] S512x1792.size inb_S520x3328_S512x1792_8_1536)
def before : Vec F S512x1792 .f32 := View.ld (proj i b) (Rect.unit (s := S520x3328) ![7, 1536] S512x1792.size inb_S520x3328_S512x1792_7_1536)

/-- The mixed keys, and the rate. -/
def keys : Vec F S512x512 .f32 := k0_pay10 (cur i b) (before i b) b.mu
def rate : Vec F S512x512 .f32 := k0_pay18 (k0_pay12 (cur i b) (before i b) b.mu) b.a0 b.aup

/-! ## The outputs -/

def outConv : Vec F S512x512 .bf16 := k0_pay7 (conv i b) (meanSq i b) b.cg
def outR : Vec F S512x512 .f32 := k0_pay9 (cur i b) (before i b) b.mu
def outDecay : Vec F S512x512 .f32 := k0_pay17 (k0_pay15 (cur i b) (before i b) b.mu b.w0 b.wup) (k0_pay16 (cur i b) (before i b) b.mu b.w0 b.wup)
def outK : Vec F S512x512 .f32 := k0_pay22 (keys i b) (rate i b) b.ka
def outV : Vec F S512x512 .f32 := k0_pay11 (cur i b) (before i b) b.mu
def outKK : Vec F S512x512 .f32 := k0_pay21 (k0_pay3 b.seg) (keys i b) (k0_pay20 b.kk)
def outB : Vec F S512x512 .f32 := k0_pay24 (k0_pay3 b.seg) (keys i b) (rate i b) (k0_pay20 b.kk)
def outGate : Vec F S512x512 .f32 := k0_pay19 (k0_pay13 (cur i b) (before i b) b.mu) b.gup
def outBonus : Vec F S512x512 .f32 := k0_pay23 (k0_pay3 b.seg) (outR i b) (keys i b) (outV i b) (rate i b) b.ka b.rk

end Cert.Proof.Prep

end
-- ==== Proof.Prep.Body.lean ====
/-
  The body of the mixer's preparation, run at any grid point: it leaves its input blocks as they are, and each output's
  buffer at the values of Blocks.
-/
module

public import proofs.«01_k».proof.Proof.Gen.PrepIdeal.Frame.Runs
public import proofs.«01_k».proof.Proof.Prep.Blocks
public import Idealize.ShloMosaic.Lib.Pipeline.Value
public import Idealize.ShloMosaic.Lib.VecWindow

@[expose] public section

set_option maxRecDepth 16384

noncomputable section

namespace Cert.Proof.Prep

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Whole loads and stores -/

theorem ld_S8x1024 {e : EltTy} (X : Vec F S8x1024 e) (inb) : View.ld X (Rect.unit (s := S8x1024) ![0, 0] ![8, 1024] inb) = X :=
  View.ld_unit_zero (h := by funext a; fin_cases a <;> rfl) inb X
theorem ld_S512x1024 {e : EltTy} (X : Vec F S512x1024 e) (inb) : View.ld X (Rect.unit (s := S512x1024) ![0, 0] ![512, 1024] inb) = X :=
  View.ld_unit_zero (h := by funext a; fin_cases a <;> rfl) inb X
theorem ld_S1x1024 {e : EltTy} (X : Vec F S1x1024 e) (inb) : View.ld X (Rect.unit (s := S1x1024) ![0, 0] ![1, 1024] inb) = X :=
  View.ld_unit_zero (h := by funext a; fin_cases a <;> rfl) inb X
theorem ld_S1024x3328 {e : EltTy} (X : Vec F S1024x3328 e) (inb) : View.ld X (Rect.unit (s := S1024x3328) ![0, 0] ![1024, 3328] inb) = X :=
  View.ld_unit_zero (h := by funext a; fin_cases a <;> rfl) inb X
theorem ld_S1x512 {e : EltTy} (X : Vec F S1x512 e) (inb) : View.ld X (Rect.unit (s := S1x512) ![0, 0] ![1, 512] inb) = X :=
  View.ld_unit_zero (h := by funext a; fin_cases a <;> rfl) inb X
theorem ld_S1x1792 {e : EltTy} (X : Vec F S1x1792 e) (inb) : View.ld X (Rect.unit (s := S1x1792) ![0, 0] ![1, 1792] inb) = X :=
  View.ld_unit_zero (h := by funext a; fin_cases a <;> rfl) inb X
theorem ld_S128x512 {e : EltTy} (X : Vec F S128x512 e) (inb) : View.ld X (Rect.unit (s := S128x512) ![0, 0] ![128, 512] inb) = X :=
  View.ld_unit_zero (h := by funext a; fin_cases a <;> rfl) inb X
theorem ld_S1024x512 {e : EltTy} (X : Vec F S1024x512 e) (inb) : View.ld X (Rect.unit (s := S1024x512) ![0, 0] ![1024, 512] inb) = X :=
  View.ld_unit_zero (h := by funext a; fin_cases a <;> rfl) inb X

/-- A load from a scratch buffer that one whole store wrote. -/
theorem readCov_S520x3328 (v : View sig .tc .vmem S520x3328 .f32) (inb) (w : Vec F S520x3328 .f32) (r : Rect S520x3328) :
    View.readCov (Val := Elt F) v [⟨Rect.unit (s := S520x3328) ![0, 0] ![520, 3328] inb, w⟩] r.toLoadRect = View.ld w r := by
  rw [View.readCov_eq_canon']
  rw [View.canon_unit_zero (S := S520x3328) (h := by funext a; fin_cases a <;> rfl)]

/-- A load from a scratch buffer that one whole store wrote. -/
theorem readCov_S520x512 (v : View sig .tc .vmem S520x512 .f32) (inb) (w : Vec F S520x512 .f32) (r : Rect S520x512) :
    View.readCov (Val := Elt F) v [⟨Rect.unit (s := S520x512) ![0, 0] ![520, 512] inb, w⟩] r.toLoadRect = View.ld w r := by
  rw [View.readCov_eq_canon']
  rw [View.canon_unit_zero (S := S520x512) (h := by funext a; fin_cases a <;> rfl)]

set_option maxHeartbeats 4000000 in
/-- The body at grid point `i`, on whole buffers that hold the blocks `b`. -/
theorem body_run (c : Dev nD) (i : grid0.Coords)
    (m0 : Memref sig .tc .vmem S8x1024 .f32) (h0 : m0.IsWhole) (m1 : Memref sig .tc .vmem S512x1024 .f32) (h1 : m1.IsWhole) (m2 : Memref sig .tc .vmem S1x1024 .f32) (h2 : m2.IsWhole) (m3 : Memref sig .tc .vmem S1024x3328 .bf16) (h3 : m3.IsWhole) (m4 : Memref sig .tc .vmem S3x512 .f32) (h4 : m4.IsWhole) (m5 : Memref sig .tc .vmem S1x512 .f32) (h5 : m5.IsWhole) (m6 : Memref sig .tc .vmem S1x1792 .f32) (h6 : m6.IsWhole) (m7 : Memref sig .tc .vmem S1x512 .f32) (h7 : m7.IsWhole) (m8 : Memref sig .tc .vmem S128x512 .bf16) (h8 : m8.IsWhole) (m9 : Memref sig .tc .vmem S1x512 .f32) (h9 : m9.IsWhole) (m10 : Memref sig .tc .vmem S128x512 .bf16) (h10 : m10.IsWhole) (m11 : Memref sig .tc .vmem S128x512 .bf16) (h11 : m11.IsWhole) (m12 : Memref sig .tc .vmem S1x512 .f32) (h12 : m12.IsWhole) (m13 : Memref sig .tc .vmem S1x512 .f32) (h13 : m13.IsWhole) (m14 : Memref sig .tc .vmem S1x512 .f32) (h14 : m14.IsWhole) (m15 : Memref sig .tc .vmem S1024x512 .bf16) (h15 : m15.IsWhole) (m16 : Memref sig .tc .vmem S512x512 .bf16) (h16 : m16.IsWhole) (m17 : Memref sig .tc .vmem S512x512 .f32) (h17 : m17.IsWhole) (m18 : Memref sig .tc .vmem S512x512 .f32) (h18 : m18.IsWhole) (m19 : Memref sig .tc .vmem S512x512 .f32) (h19 : m19.IsWhole) (m20 : Memref sig .tc .vmem S512x512 .f32) (h20 : m20.IsWhole) (m21 : Memref sig .tc .vmem S512x512 .f32) (h21 : m21.IsWhole) (m22 : Memref sig .tc .vmem S512x512 .f32) (h22 : m22.IsWhole) (m23 : Memref sig .tc .vmem S512x512 .f32) (h23 : m23.IsWhole) (m24 : Memref sig .tc .vmem S512x512 .f32) (h24 : m24.IsWhole) (m25 : Memref sig .tc .vmem S520x3328 .f32) (h25 : m25.IsWhole) (m26 : Memref sig .tc .vmem S520x512 .f32) (h26 : m26.IsWhole)
    (b : Blocks F) (E : Set ℕ) (K : PUnit → sProp 𝕄) :
    iprop(owns (c : Thread nD τ) m0 fullShare b.prev ∗ owns (c : Thread nD τ) m1 fullShare b.x ∗ owns (c : Thread nD τ) m2 fullShare b.g ∗ owns (c : Thread nD τ) m3 fullShare b.w ∗ owns (c : Thread nD τ) m4 fullShare b.cw ∗ owns (c : Thread nD τ) m5 fullShare b.cg ∗ owns (c : Thread nD τ) m6 fullShare b.mu ∗ owns (c : Thread nD τ) m7 fullShare b.w0 ∗ owns (c : Thread nD τ) m8 fullShare b.wup ∗ owns (c : Thread nD τ) m9 fullShare b.a0 ∗ owns (c : Thread nD τ) m10 fullShare b.aup ∗ owns (c : Thread nD τ) m11 fullShare b.gup ∗ owns (c : Thread nD τ) m12 fullShare b.kk ∗ owns (c : Thread nD τ) m13 fullShare b.ka ∗ owns (c : Thread nD τ) m14 fullShare b.rk ∗ owns (c : Thread nD τ) m15 fullShare b.seg ∗ (∃ d, owns (c : Thread nD τ) m16 fullShare d) ∗ (∃ d, owns (c : Thread nD τ) m17 fullShare d) ∗ (∃ d, owns (c : Thread nD τ) m18 fullShare d) ∗ (∃ d, owns (c : Thread nD τ) m19 fullShare d) ∗ (∃ d, owns (c : Thread nD τ) m20 fullShare d) ∗ (∃ d, owns (c : Thread nD τ) m21 fullShare d) ∗ (∃ d, owns (c : Thread nD τ) m22 fullShare d) ∗ (∃ d, owns (c : Thread nD τ) m23 fullShare d) ∗ (∃ d, owns (c : Thread nD τ) m24 fullShare d) ∗ (∃ d, owns (c : Thread nD τ) m25 fullShare d) ∗ (∃ d, owns (c : Thread nD τ) m26 fullShare d)
        ∗ (iprop(owns (c : Thread nD τ) m0 fullShare b.prev ∗ owns (c : Thread nD τ) m1 fullShare b.x ∗ owns (c : Thread nD τ) m2 fullShare b.g ∗ owns (c : Thread nD τ) m3 fullShare b.w ∗ owns (c : Thread nD τ) m4 fullShare b.cw ∗ owns (c : Thread nD τ) m5 fullShare b.cg ∗ owns (c : Thread nD τ) m6 fullShare b.mu ∗ owns (c : Thread nD τ) m7 fullShare b.w0 ∗ owns (c : Thread nD τ) m8 fullShare b.wup ∗ owns (c : Thread nD τ) m9 fullShare b.a0 ∗ owns (c : Thread nD τ) m10 fullShare b.aup ∗ owns (c : Thread nD τ) m11 fullShare b.gup ∗ owns (c : Thread nD τ) m12 fullShare b.kk ∗ owns (c : Thread nD τ) m13 fullShare b.ka ∗ owns (c : Thread nD τ) m14 fullShare b.rk ∗ owns (c : Thread nD τ) m15 fullShare b.seg ∗ owns (c : Thread nD τ) m16 fullShare (outConv i b) ∗ owns (c : Thread nD τ) m17 fullShare (outR i b) ∗ owns (c : Thread nD τ) m18 fullShare (outDecay i b) ∗ owns (c : Thread nD τ) m19 fullShare (outK i b) ∗ owns (c : Thread nD τ) m20 fullShare (outV i b) ∗ owns (c : Thread nD τ) m21 fullShare (outKK i b) ∗ owns (c : Thread nD τ) m22 fullShare (outB i b) ∗ owns (c : Thread nD τ) m23 fullShare (outGate i b) ∗ owns (c : Thread nD τ) m24 fullShare (outBonus i b) ∗ (∃ d, owns (c : Thread nD τ) m25 fullShare d) ∗ (∃ d, owns (c : Thread nD τ) m26 fullShare d)) -∗ K ⟨⟩))
      ⊢ wp frame (wpE (defs₀ (F := F)) Variants.none c none) E (cc0_mix_prep i m0 h0 m1 h1 m2 h2 m3 h3 m4 h4 m5 h5 m6 h6 m7 h7 m8 h8 m9 h9 m10 h10 m11 h11 m12 h12 m13 h13 m14 h14 m15 h15 m16 h16 m17 h17 m18 h18 m19 h19 m20 h20 m21 h21 m22 h22 m23 h23 m24 h24 m25 h25 m26 h26) K := by
  simp only [cc0_mix_prep_eq_skeleton]; unfold cc0_mix_prep_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := h0.eq_unread hf0
  obtain rfl := h1.eq_unread hf1
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  obtain rfl := h13.eq_unread hf13
  obtain rfl := h14.eq_unread hf14
  obtain rfl := h15.eq_unread hf15
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H13]
  · iexists _; isplitr; · ipureintro; exact h13.read_unread _
    iexact H13
  isplitl [H14]
  · iexists _; isplitr; · ipureintro; exact h14.read_unread _
    iexact H14
  isplitl [H15]
  · iexists _; isplitr; · ipureintro; exact h15.read_unread _
    iexact H15
  isplitl [H16]
  · iexists _; isplitr
    swap; · iexact H16
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H17]
  · iexists _; isplitr
    swap; · iexact H17
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H18]
  · iexists _; isplitr
    swap; · iexact H18
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H19]
  · iexists _; isplitr
    swap; · iexact H19
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H20]
  · iexists _; isplitr
    swap; · iexact H20
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H21]
  · iexists _; isplitr
    swap; · iexact H21
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H22]
  · iexists _; isplitr
    swap; · iexact H22
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H23]
  · iexists _; isplitr
    swap; · iexact H23
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H24]
  · iexists _; isplitr
    swap; · iexact H24
    ipureintro
    refine (View.read_writes_full _ _ _ _ _).trans ?_
    sl_unfold_words
    simp only [View.readAt_eq_ld, Memref.IsWhole.read_unread, readCov_S520x3328, readCov_S520x512, ld_S8x1024, ld_S512x1024, ld_S1x1024, ld_S1024x3328, ld_S1x512, ld_S1x1792, ld_S128x512, ld_S1024x512]
    rfl
  isplitl [H25]
  · iexists _, _; isplitr
    swap; · iexact H25
    ipureintro; rfl
  iexists _, _; isplitr
  swap; · iexact H26
  ipureintro; rfl

end Cert.Proof.Prep

end
-- ==== Proof.Prep.Launch.lean ====
/-
  The launch of the mixer's preparation: at every grid point the body leaves the inputs' blocks as they are and the
  outputs' buffers at the values of Blocks; the run of the whole program, its frame, and the output arrays block by block.
-/
module

public import proofs.«01_k».proof.Proof.Prep.Body
public import Idealize.ShloMosaic.Lib.Claim

@[expose] public section

set_option maxRecDepth 16384

noncomputable section

namespace Cert.Proof.Prep

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of grid point `t`. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- The proof data: each input's block stays, each output's buffer ends at the point's value. -/
def prepDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outConv (grid0.coords t) (blocksAt m c t)
    | ⟨17, _⟩ => outR (grid0.coords t) (blocksAt m c t)
    | ⟨18, _⟩ => outDecay (grid0.coords t) (blocksAt m c t)
    | ⟨19, _⟩ => outK (grid0.coords t) (blocksAt m c t)
    | ⟨20, _⟩ => outV (grid0.coords t) (blocksAt m c t)
    | ⟨21, _⟩ => outKK (grid0.coords t) (blocksAt m c t)
    | ⟨22, _⟩ => outB (grid0.coords t) (blocksAt m c t)
    | ⟨23, _⟩ => outGate (grid0.coords t) (blocksAt m c t)
    | ⟨24, _⟩ => outBonus (grid0.coords t) (blocksAt m c t)
    | ⟨_ + 25, h⟩ => absurd h (Nat.not_lt.2 (Nat.le_add_left _ _))
  Φ _ := Pipeline.ΦA spec0 c
  q w := Pipeline.shareOf spec0 w
  owed _ := 0

theorem prepDats_A (c : Dev nD) (w : Fin cfg0.W) : (prepDats m 0 c).A w = V m c (Pipeline.arrRef spec0 w) := by
  dsimp only [prepDats]

theorem left_0 (c : Dev nD) (t : Fin cfg0.N) : (prepDats m 0 c).after 0 t = iblk m c 0 t := by dsimp only [prepDats]
theorem left_1 (c : Dev nD) (t : Fin cfg0.N) : (prepDats m 0 c).after 1 t = iblk m c 1 t := by dsimp only [prepDats]
theorem left_2 (c : Dev nD) (t : Fin cfg0.N) : (prepDats m 0 c).after 2 t = iblk m c 2 t := by dsimp only [prepDats]
theorem left_3 (c : Dev nD) (t : Fin cfg0.N) : (prepDats m 0 c).after 3 t = iblk m c 3 t := by dsimp only [prepDats]
theorem left_4 (c : Dev nD) (t : Fin cfg0.N) : (prepDats m 0 c).after 4 t = iblk m c 4 t := by dsimp only [prepDats]
theorem left_5 (c : Dev nD) (t : Fin cfg0.N) : (prepDats m 0 c).after 5 t = iblk m c 5 t := by dsimp only [prepDats]
theorem left_6 (c : Dev nD) (t : Fin cfg0.N) : (prepDats m 0 c).after 6 t = iblk m c 6 t := by dsimp only [prepDats]
theorem left_7 (c : Dev nD) (t : Fin cfg0.N) : (prepDats m 0 c).after 7 t = iblk m c 7 t := by dsimp only [prepDats]
theorem left_8 (c : Dev nD) (t : Fin cfg0.N) : (prepDats m 0 c).after 8 t = iblk m c 8 t := by dsimp only [prepDats]
theorem left_9 (c : Dev nD) (t : Fin cfg0.N) : (prepDats m 0 c).after 9 t = iblk m c 9 t := by dsimp only [prepDats]
theorem left_10 (c : Dev nD) (t : Fin cfg0.N) : (prepDats m 0 c).after 10 t = iblk m c 10 t := by dsimp only [prepDats]
theorem left_11 (c : Dev nD) (t : Fin cfg0.N) : (prepDats m 0 c).after 11 t = iblk m c 11 t := by dsimp only [prepDats]
theorem left_12 (c : Dev nD) (t : Fin cfg0.N) : (prepDats m 0 c).after 12 t = iblk m c 12 t := by dsimp only [prepDats]
theorem left_13 (c : Dev nD) (t : Fin cfg0.N) : (prepDats m 0 c).after 13 t = iblk m c 13 t := by dsimp only [prepDats]
theorem left_14 (c : Dev nD) (t : Fin cfg0.N) : (prepDats m 0 c).after 14 t = iblk m c 14 t := by dsimp only [prepDats]
theorem left_15 (c : Dev nD) (t : Fin cfg0.N) : (prepDats m 0 c).after 15 t = iblk m c 15 t := by dsimp only [prepDats]
theorem left_16 (c : Dev nD) (t : Fin cfg0.N) : (prepDats m 0 c).after 16 t = outConv (grid0.coords t) (blocksAt m c t) := by dsimp only [prepDats]
theorem left_17 (c : Dev nD) (t : Fin cfg0.N) : (prepDats m 0 c).after 17 t = outR (grid0.coords t) (blocksAt m c t) := by dsimp only [prepDats]
theorem left_18 (c : Dev nD) (t : Fin cfg0.N) : (prepDats m 0 c).after 18 t = outDecay (grid0.coords t) (blocksAt m c t) := by dsimp only [prepDats]
theorem left_19 (c : Dev nD) (t : Fin cfg0.N) : (prepDats m 0 c).after 19 t = outK (grid0.coords t) (blocksAt m c t) := by dsimp only [prepDats]
theorem left_20 (c : Dev nD) (t : Fin cfg0.N) : (prepDats m 0 c).after 20 t = outV (grid0.coords t) (blocksAt m c t) := by dsimp only [prepDats]
theorem left_21 (c : Dev nD) (t : Fin cfg0.N) : (prepDats m 0 c).after 21 t = outKK (grid0.coords t) (blocksAt m c t) := by dsimp only [prepDats]
theorem left_22 (c : Dev nD) (t : Fin cfg0.N) : (prepDats m 0 c).after 22 t = outB (grid0.coords t) (blocksAt m c t) := by dsimp only [prepDats]
theorem left_23 (c : Dev nD) (t : Fin cfg0.N) : (prepDats m 0 c).after 23 t = outGate (grid0.coords t) (blocksAt m c t) := by dsimp only [prepDats]
theorem left_24 (c : Dev nD) (t : Fin cfg0.N) : (prepDats m 0 c).after 24 t = outBonus (grid0.coords t) (blocksAt m c t) := by dsimp only [prepDats]

theorem found_0 (c : Dev nD) (t : Fin cfg0.N) (d) : (prepDats m 0 c).before 0 t d = iblk m c 0 t :=
  before0_0_of m (prepDats m 0 c) (prepDats_A m c 0) (left_0 m c) t d
theorem found_1 (c : Dev nD) (t : Fin cfg0.N) (d) : (prepDats m 0 c).before 1 t d = iblk m c 1 t :=
  before0_1_of m (prepDats m 0 c) (prepDats_A m c 1) (left_1 m c) t d
theorem found_2 (c : Dev nD) (t : Fin cfg0.N) (d) : (prepDats m 0 c).before 2 t d = iblk m c 2 t :=
  before0_2_of m (prepDats m 0 c) (prepDats_A m c 2) (left_2 m c) t d
theorem found_3 (c : Dev nD) (t : Fin cfg0.N) (d) : (prepDats m 0 c).before 3 t d = iblk m c 3 t :=
  before0_3_of m (prepDats m 0 c) (prepDats_A m c 3) (left_3 m c) t d
theorem found_4 (c : Dev nD) (t : Fin cfg0.N) (d) : (prepDats m 0 c).before 4 t d = iblk m c 4 t :=
  before0_4_of m (prepDats m 0 c) (prepDats_A m c 4) (left_4 m c) t d
theorem found_5 (c : Dev nD) (t : Fin cfg0.N) (d) : (prepDats m 0 c).before 5 t d = iblk m c 5 t :=
  before0_5_of m (prepDats m 0 c) (prepDats_A m c 5) (left_5 m c) t d
theorem found_6 (c : Dev nD) (t : Fin cfg0.N) (d) : (prepDats m 0 c).before 6 t d = iblk m c 6 t :=
  before0_6_of m (prepDats m 0 c) (prepDats_A m c 6) (left_6 m c) t d
theorem found_7 (c : Dev nD) (t : Fin cfg0.N) (d) : (prepDats m 0 c).before 7 t d = iblk m c 7 t :=
  before0_7_of m (prepDats m 0 c) (prepDats_A m c 7) (left_7 m c) t d
theorem found_8 (c : Dev nD) (t : Fin cfg0.N) (d) : (prepDats m 0 c).before 8 t d = iblk m c 8 t :=
  before0_8_of m (prepDats m 0 c) (prepDats_A m c 8) (left_8 m c) t d
theorem found_9 (c : Dev nD) (t : Fin cfg0.N) (d) : (prepDats m 0 c).before 9 t d = iblk m c 9 t :=
  before0_9_of m (prepDats m 0 c) (prepDats_A m c 9) (left_9 m c) t d
theorem found_10 (c : Dev nD) (t : Fin cfg0.N) (d) : (prepDats m 0 c).before 10 t d = iblk m c 10 t :=
  before0_10_of m (prepDats m 0 c) (prepDats_A m c 10) (left_10 m c) t d
theorem found_11 (c : Dev nD) (t : Fin cfg0.N) (d) : (prepDats m 0 c).before 11 t d = iblk m c 11 t :=
  before0_11_of m (prepDats m 0 c) (prepDats_A m c 11) (left_11 m c) t d
theorem found_12 (c : Dev nD) (t : Fin cfg0.N) (d) : (prepDats m 0 c).before 12 t d = iblk m c 12 t :=
  before0_12_of m (prepDats m 0 c) (prepDats_A m c 12) (left_12 m c) t d
theorem found_13 (c : Dev nD) (t : Fin cfg0.N) (d) : (prepDats m 0 c).before 13 t d = iblk m c 13 t :=
  before0_13_of m (prepDats m 0 c) (prepDats_A m c 13) (left_13 m c) t d
theorem found_14 (c : Dev nD) (t : Fin cfg0.N) (d) : (prepDats m 0 c).before 14 t d = iblk m c 14 t :=
  before0_14_of m (prepDats m 0 c) (prepDats_A m c 14) (left_14 m c) t d
theorem found_15 (c : Dev nD) (t : Fin cfg0.N) (d) : (prepDats m 0 c).before 15 t d = iblk m c 15 t :=
  before0_15_of m (prepDats m 0 c) (prepDats_A m c 15) (left_15 m c) t d

/-- What the body finds at point `t`, -/
def found (c : Dev nD) (t : Fin cfg0.N) : sProp 𝕄 :=
  iprop((prepDats m 0 c).Φ t.castSucc ∗ (prepDats m 0 c).owesAt () t.castSucc
    ∗ (∃ d, owns (c : Thread nD τ) (ms0_0 t) fullShare ((prepDats m 0 c).before 0 t d))
    ∗ (∃ d, owns (c : Thread nD τ) (ms0_1 t) fullShare ((prepDats m 0 c).before 1 t d))
    ∗ (∃ d, owns (c : Thread nD τ) (ms0_2 t) fullShare ((prepDats m 0 c).before 2 t d))
    ∗ (∃ d, owns (c : Thread nD τ) (ms0_3 t) fullShare ((prepDats m 0 c).before 3 t d))
    ∗ (∃ d, owns (c : Thread nD τ) (ms0_4 t) fullShare ((prepDats m 0 c).before 4 t d))
    ∗ (∃ d, owns (c : Thread nD τ) (ms0_5 t) fullShare ((prepDats m 0 c).before 5 t d))
    ∗ (∃ d, owns (c : Thread nD τ) (ms0_6 t) fullShare ((prepDats m 0 c).before 6 t d))
    ∗ (∃ d, owns (c : Thread nD τ) (ms0_7 t) fullShare ((prepDats m 0 c).before 7 t d))
    ∗ (∃ d, owns (c : Thread nD τ) (ms0_8 t) fullShare ((prepDats m 0 c).before 8 t d))
    ∗ (∃ d, owns (c : Thread nD τ) (ms0_9 t) fullShare ((prepDats m 0 c).before 9 t d))
    ∗ (∃ d, owns (c : Thread nD τ) (ms0_10 t) fullShare ((prepDats m 0 c).before 10 t d))
    ∗ (∃ d, owns (c : Thread nD τ) (ms0_11 t) fullShare ((prepDats m 0 c).before 11 t d))
    ∗ (∃ d, owns (c : Thread nD τ) (ms0_12 t) fullShare ((prepDats m 0 c).before 12 t d))
    ∗ (∃ d, owns (c : Thread nD τ) (ms0_13 t) fullShare ((prepDats m 0 c).before 13 t d))
    ∗ (∃ d, owns (c : Thread nD τ) (ms0_14 t) fullShare ((prepDats m 0 c).before 14 t d))
    ∗ (∃ d, owns (c : Thread nD τ) (ms0_15 t) fullShare ((prepDats m 0 c).before 15 t d))
    ∗ (∃ d, owns (c : Thread nD τ) (ms0_16 t) fullShare ((prepDats m 0 c).before 16 t d))
    ∗ (∃ d, owns (c : Thread nD τ) (ms0_17 t) fullShare ((prepDats m 0 c).before 17 t d))
    ∗ (∃ d, owns (c : Thread nD τ) (ms0_18 t) fullShare ((prepDats m 0 c).before 18 t d))
    ∗ (∃ d, owns (c : Thread nD τ) (ms0_19 t) fullShare ((prepDats m 0 c).before 19 t d))
    ∗ (∃ d, owns (c : Thread nD τ) (ms0_20 t) fullShare ((prepDats m 0 c).before 20 t d))
    ∗ (∃ d, owns (c : Thread nD τ) (ms0_21 t) fullShare ((prepDats m 0 c).before 21 t d))
    ∗ (∃ d, owns (c : Thread nD τ) (ms0_22 t) fullShare ((prepDats m 0 c).before 22 t d))
    ∗ (∃ d, owns (c : Thread nD τ) (ms0_23 t) fullShare ((prepDats m 0 c).before 23 t d))
    ∗ (∃ d, owns (c : Thread nD τ) (ms0_24 t) fullShare ((prepDats m 0 c).before 24 t d)))

/-- and what it leaves. -/
def left (c : Dev nD) (t : Fin cfg0.N) : sProp 𝕄 :=
  iprop((prepDats m 0 c).Φ t.succ ∗ (prepDats m 0 c).owesAt () t.succ
    ∗ owns (c : Thread nD τ) (ms0_0 t) fullShare ((prepDats m 0 c).after 0 t)
    ∗ owns (c : Thread nD τ) (ms0_1 t) fullShare ((prepDats m 0 c).after 1 t)
    ∗ owns (c : Thread nD τ) (ms0_2 t) fullShare ((prepDats m 0 c).after 2 t)
    ∗ owns (c : Thread nD τ) (ms0_3 t) fullShare ((prepDats m 0 c).after 3 t)
    ∗ owns (c : Thread nD τ) (ms0_4 t) fullShare ((prepDats m 0 c).after 4 t)
    ∗ owns (c : Thread nD τ) (ms0_5 t) fullShare ((prepDats m 0 c).after 5 t)
    ∗ owns (c : Thread nD τ) (ms0_6 t) fullShare ((prepDats m 0 c).after 6 t)
    ∗ owns (c : Thread nD τ) (ms0_7 t) fullShare ((prepDats m 0 c).after 7 t)
    ∗ owns (c : Thread nD τ) (ms0_8 t) fullShare ((prepDats m 0 c).after 8 t)
    ∗ owns (c : Thread nD τ) (ms0_9 t) fullShare ((prepDats m 0 c).after 9 t)
    ∗ owns (c : Thread nD τ) (ms0_10 t) fullShare ((prepDats m 0 c).after 10 t)
    ∗ owns (c : Thread nD τ) (ms0_11 t) fullShare ((prepDats m 0 c).after 11 t)
    ∗ owns (c : Thread nD τ) (ms0_12 t) fullShare ((prepDats m 0 c).after 12 t)
    ∗ owns (c : Thread nD τ) (ms0_13 t) fullShare ((prepDats m 0 c).after 13 t)
    ∗ owns (c : Thread nD τ) (ms0_14 t) fullShare ((prepDats m 0 c).after 14 t)
    ∗ owns (c : Thread nD τ) (ms0_15 t) fullShare ((prepDats m 0 c).after 15 t)
    ∗ owns (c : Thread nD τ) (ms0_16 t) fullShare ((prepDats m 0 c).after 16 t)
    ∗ owns (c : Thread nD τ) (ms0_17 t) fullShare ((prepDats m 0 c).after 17 t)
    ∗ owns (c : Thread nD τ) (ms0_18 t) fullShare ((prepDats m 0 c).after 18 t)
    ∗ owns (c : Thread nD τ) (ms0_19 t) fullShare ((prepDats m 0 c).after 19 t)
    ∗ owns (c : Thread nD τ) (ms0_20 t) fullShare ((prepDats m 0 c).after 20 t)
    ∗ owns (c : Thread nD τ) (ms0_21 t) fullShare ((prepDats m 0 c).after 21 t)
    ∗ owns (c : Thread nD τ) (ms0_22 t) fullShare ((prepDats m 0 c).after 22 t)
    ∗ owns (c : Thread nD τ) (ms0_23 t) fullShare ((prepDats m 0 c).after 23 t)
    ∗ owns (c : Thread nD τ) (ms0_24 t) fullShare ((prepDats m 0 c).after 24 t))

set_option maxHeartbeats 2000000 in
theorem body_sound (c : Dev nD) (t : Fin cfg0.N) :
    found m c t ⊢ wp frame (wpE (defs₀ (F := F)) Variants.none c none) Set.univ (bodyAt0 t) (fun _ => left m c t) := by
  unfold found left bodyAt0
  simp only [found_0, found_1, found_2, found_3, found_4, found_5, found_6, found_7, found_8, found_9, found_10, found_11, found_12, found_13, found_14, found_15]
  rw [show (prepDats m 0 c).Φ t.succ = (prepDats m 0 c).Φ t.castSucc from rfl,
    show (prepDats m 0 c).owesAt () t.succ = (prepDats m 0 c).owesAt () t.castSucc from rfl,
    left_0, left_1, left_2, left_3, left_4, left_5, left_6, left_7, left_8, left_9, left_10, left_11, left_12, left_13, left_14, left_15, left_16, left_17, left_18, left_19, left_20, left_21, left_22, left_23, left_24]
  rw [show (prepDats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ (blocksAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  iintro ⟨G0, G1, G2, G3, G4, G5, G6, G7, G8, G9, G10, G11, G12, G13, G14, G15, G16, G17, G18, G19, G20, G21, G22, G23, G24, GS0, GS1⟩
  isplitl [GS0 GS1 Hg]
  · isplitl [GS0 GS1]
    · isplitl [GS0]; · iexact GS0
      iexact GS1
    iexact Hg
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  isplitl [G23]; · iexact G23
  iexact G24

theorem body_row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (prepDats (F := F) m 0 c) (defs₀ (F := F)) Variants.none () Set.univ := fun t => by
  rw [bigSep_W0, bigSep_W0, body_row]
  exact triple_restated (body_sound m c t) rfl .rfl fun _ => .rfl

-- the launch's implicit arguments are found by unfolding plain definitions
set_option backward.isDefEq.respectTransparency.types false in
/-- The run of the whole program: every array of the launch ends at what the proof data say, all counters at zero. -/
theorem prep_run : θ_run defs (onTc (τ := τ) (main (F := F))) (s₀ m ρ) (fun r => (Pipeline.FramePost cfgs (prepDats m) 0 (V m)) r ∧ r.2.sem = fun _ => 0) :=
  Pipeline.θ_run_frame_shared (Q' := _) cfgs (prepDats m) (0 : Fin 1) launch₀0 defs₀ Variants.none m ρ main
    (hbody := fun c => (obligation m c).loose) (hq := fun _ _ _ => rfl)
    (howed := fun _ _ => rfl) (V := V m) (hmain := hmain m Variants.none) (hA := prepDats_A m) (hΦ := fun _ _ => rfl)

/-- The frame: the arguments end unchanged, all counters at zero. -/
theorem prep_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (prepDats m) (prepDats_A m) ((θ_run defs _ _).mono (fun _ h => h.1) (prep_run m ρ)))
    ((θ_run defs _ _).mono (fun _ h => h.2) (prep_run m ρ))

end Cert.Proof.Prep

end
-- ==== Proof.Prep.Array.lean ====
/-
  Where each window of the preparation stands at a grid point, and the block of rows each result array ends with.
-/
module

public import proofs.«01_k».proof.Proof.Prep.Launch
public import Idealize.ShloMosaic.Lib.Pointwise

@[expose] public section

set_option maxRecDepth 16384

noncomputable section

namespace Cert.Proof.Prep

open Idealize.ShloMosaic Idealize.ShloMosaic.TcCoe Cert.PrepIdeal Cert.PrepIdeal.Gen

variable {F : FTy → Type} [FloatOps F] (m : (ℓ : Loc nD τ sig) → Buf (Elt F) ℓ) (c : Dev nD)

theorem lt64 (t : Fin cfg0.N) : (t : ℕ) < 64 := Nat.lt_of_lt_of_eq t.isLt N_0

/-- Row `512 t + r` of the tokens. -/
def tokenAt (t : Fin cfg0.N) (r : Fin 512) : Fin 32768 := ⟨t * 512 + r, by have := lt64 t; omega⟩

/-- Where the windows of the tokens' rows stand at a grid point. -/
theorem at_rows : ∀ t : Fin cfg0.N,
    (win0_0.index t (0 : Fin 2) = t * 64 - 1 ∧ win0_0.index t (1 : Fin 2) = 0)
      ∧ (win0_1.index t (0 : Fin 2) = t ∧ win0_1.index t (1 : Fin 2) = 0) :=
  (by decide +kernel : ∀ t : Fin grid0.N, _)

theorem block_prev (t : Fin cfg0.N) (r : Fin 8) (k : Fin 1024) :
    (blocksAt m c t).prev (ix2 r k) = V m c main_v13 (ix2 ⟨(t * 64 - 1) * 8 + r, by have := lt64 t; omega⟩ k) := by
  obtain ⟨⟨h0, h1⟩, -⟩ := at_rows t
  refine congrArg (V m c main_v13) (funext fun a => Fin.ext ?_)
  match a with
  | ⟨0, _⟩ => show win0_0.index t (0 : Fin 2) * 8 + 1 * r.val = (t * 64 - 1) * 8 + r; omega
  | ⟨1, _⟩ => show win0_0.index t (1 : Fin 2) * 1024 + 1 * k.val = k.val; omega

theorem block_x (t : Fin cfg0.N) (r : Fin 512) (k : Fin 1024) :
    (blocksAt m c t).x (ix2 r k) = V m c main_v13 (ix2 (tokenAt t r) k) := by
  obtain ⟨-, h0, h1⟩ := at_rows t
  refine congrArg (V m c main_v13) (funext fun a => Fin.ext ?_)
  match a with
  | ⟨0, _⟩ => show win0_1.index t (0 : Fin 2) * 512 + 1 * r.val = t * 512 + r; omega
  | ⟨1, _⟩ => show win0_1.index t (1 : Fin 2) * 1024 + 1 * k.val = k.val; omega

theorem at_2 : ∀ t : Fin cfg0.N, win0_2.index t (0 : Fin 2) = 0 ∧ win0_2.index t (1 : Fin 2) = 0 :=
  (by decide +kernel : ∀ t : Fin grid0.N, _)

theorem block_g (t : Fin cfg0.N) : (blocksAt m c t).g = V m c main_v14 := by
  obtain ⟨h0, h1⟩ := at_2 t
  refine funext fun (i : S1x1024.Idx) => congrArg (V m c main_v14) (funext fun a => Fin.ext ?_)
  match a with
  | ⟨0, _⟩ => show win0_2.index t (0 : Fin 2) * 1 + 1 * (i 0).val = (i 0).val; omega
  | ⟨1, _⟩ => show win0_2.index t (1 : Fin 2) * 1024 + 1 * (i 1).val = (i 1).val; omega

theorem at_3 : ∀ t : Fin cfg0.N, win0_3.index t (0 : Fin 2) = 0 ∧ win0_3.index t (1 : Fin 2) = 0 :=
  (by decide +kernel : ∀ t : Fin grid0.N, _)

theorem block_w (t : Fin cfg0.N) : (blocksAt m c t).w = V m c main_v15 := by
  obtain ⟨h0, h1⟩ := at_3 t
  refine funext fun (i : S1024x3328.Idx) => congrArg (V m c main_v15) (funext fun a => Fin.ext ?_)
  match a with
  | ⟨0, _⟩ => show win0_3.index t (0 : Fin 2) * 1024 + 1 * (i 0).val = (i 0).val; omega
  | ⟨1, _⟩ => show win0_3.index t (1 : Fin 2) * 3328 + 1 * (i 1).val = (i 1).val; omega

theorem at_4 : ∀ t : Fin cfg0.N, win0_4.index t (0 : Fin 2) = 0 ∧ win0_4.index t (1 : Fin 2) = 0 :=
  (by decide +kernel : ∀ t : Fin grid0.N, _)

theorem block_cw (t : Fin cfg0.N) : (blocksAt m c t).cw = V m c main_arg3 := by
  obtain ⟨h0, h1⟩ := at_4 t
  refine funext fun (i : S3x512.Idx) => congrArg (V m c main_arg3) (funext fun a => Fin.ext ?_)
  match a with
  | ⟨0, _⟩ => show win0_4.index t (0 : Fin 2) * 3 + 1 * (i 0).val = (i 0).val; omega
  | ⟨1, _⟩ => show win0_4.index t (1 : Fin 2) * 512 + 1 * (i 1).val = (i 1).val; omega

theorem at_5 : ∀ t : Fin cfg0.N, win0_5.index t (0 : Fin 2) = 0 ∧ win0_5.index t (1 : Fin 2) = 0 :=
  (by decide +kernel : ∀ t : Fin grid0.N, _)

theorem block_cg (t : Fin cfg0.N) : (blocksAt m c t).cg = V m c main_v16 := by
  obtain ⟨h0, h1⟩ := at_5 t
  refine funext fun (i : S1x512.Idx) => congrArg (V m c main_v16) (funext fun a => Fin.ext ?_)
  match a with
  | ⟨0, _⟩ => show win0_5.index t (0 : Fin 2) * 1 + 1 * (i 0).val = (i 0).val; omega
  | ⟨1, _⟩ => show win0_5.index t (1 : Fin 2) * 512 + 1 * (i 1).val = (i 1).val; omega

theorem at_6 : ∀ t : Fin cfg0.N, win0_6.index t (0 : Fin 2) = 0 ∧ win0_6.index t (1 : Fin 2) = 0 :=
  (by decide +kernel : ∀ t : Fin grid0.N, _)

theorem block_mu (t : Fin cfg0.N) : (blocksAt m c t).mu = V m c main_v17 := by
  obtain ⟨h0, h1⟩ := at_6 t
  refine funext fun (i : S1x1792.Idx) => congrArg (V m c main_v17) (funext fun a => Fin.ext ?_)
  match a with
  | ⟨0, _⟩ => show win0_6.index t (0 : Fin 2) * 1 + 1 * (i 0).val = (i 0).val; omega
  | ⟨1, _⟩ => show win0_6.index t (1 : Fin 2) * 1792 + 1 * (i 1).val = (i 1).val; omega

theorem at_7 : ∀ t : Fin cfg0.N, win0_7.index t (0 : Fin 2) = 0 ∧ win0_7.index t (1 : Fin 2) = 0 :=
  (by decide +kernel : ∀ t : Fin grid0.N, _)

theorem block_w0 (t : Fin cfg0.N) : (blocksAt m c t).w0 = V m c main_v18 := by
  obtain ⟨h0, h1⟩ := at_7 t
  refine funext fun (i : S1x512.Idx) => congrArg (V m c main_v18) (funext fun a => Fin.ext ?_)
  match a with
  | ⟨0, _⟩ => show win0_7.index t (0 : Fin 2) * 1 + 1 * (i 0).val = (i 0).val; omega
  | ⟨1, _⟩ => show win0_7.index t (1 : Fin 2) * 512 + 1 * (i 1).val = (i 1).val; omega

theorem at_8 : ∀ t : Fin cfg0.N, win0_8.index t (0 : Fin 2) = 0 ∧ win0_8.index t (1 : Fin 2) = 0 :=
  (by decide +kernel : ∀ t : Fin grid0.N, _)

theorem block_wup (t : Fin cfg0.N) : (blocksAt m c t).wup = V m c main_v9 := by
  obtain ⟨h0, h1⟩ := at_8 t
  refine funext fun (i : S128x512.Idx) => congrArg (V m c main_v9) (funext fun a => Fin.ext ?_)
  match a with
  | ⟨0, _⟩ => show win0_8.index t (0 : Fin 2) * 128 + 1 * (i 0).val = (i 0).val; omega
  | ⟨1, _⟩ => show win0_8.index t (1 : Fin 2) * 512 + 1 * (i 1).val = (i 1).val; omega

theorem at_9 : ∀ t : Fin cfg0.N, win0_9.index t (0 : Fin 2) = 0 ∧ win0_9.index t (1 : Fin 2) = 0 :=
  (by decide +kernel : ∀ t : Fin grid0.N, _)

theorem block_a0 (t : Fin cfg0.N) : (blocksAt m c t).a0 = V m c main_v19 := by
  obtain ⟨h0, h1⟩ := at_9 t
  refine funext fun (i : S1x512.Idx) => congrArg (V m c main_v19) (funext fun a => Fin.ext ?_)
  match a with
  | ⟨0, _⟩ => show win0_9.index t (0 : Fin 2) * 1 + 1 * (i 0).val = (i 0).val; omega
  | ⟨1, _⟩ => show win0_9.index t (1 : Fin 2) * 512 + 1 * (i 1).val = (i 1).val; omega

theorem at_10 : ∀ t : Fin cfg0.N, win0_10.index t (0 : Fin 2) = 0 ∧ win0_10.index t (1 : Fin 2) = 0 :=
  (by decide +kernel : ∀ t : Fin grid0.N, _)

theorem block_aup (t : Fin cfg0.N) : (blocksAt m c t).aup = V m c main_v12 := by
  obtain ⟨h0, h1⟩ := at_10 t
  refine funext fun (i : S128x512.Idx) => congrArg (V m c main_v12) (funext fun a => Fin.ext ?_)
  match a with
  | ⟨0, _⟩ => show win0_10.index t (0 : Fin 2) * 128 + 1 * (i 0).val = (i 0).val; omega
  | ⟨1, _⟩ => show win0_10.index t (1 : Fin 2) * 512 + 1 * (i 1).val = (i 1).val; omega

theorem at_11 : ∀ t : Fin cfg0.N, win0_11.index t (0 : Fin 2) = 0 ∧ win0_11.index t (1 : Fin 2) = 0 :=
  (by decide +kernel : ∀ t : Fin grid0.N, _)

theorem block_gup (t : Fin cfg0.N) : (blocksAt m c t).gup = V m c main_v20 := by
  obtain ⟨h0, h1⟩ := at_11 t
  refine funext fun (i : S128x512.Idx) => congrArg (V m c main_v20) (funext fun a => Fin.ext ?_)
  match a with
  | ⟨0, _⟩ => show win0_11.index t (0 : Fin 2) * 128 + 1 * (i 0).val = (i 0).val; omega
  | ⟨1, _⟩ => show win0_11.index t (1 : Fin 2) * 512 + 1 * (i 1).val = (i 1).val; omega

theorem at_12 : ∀ t : Fin cfg0.N, win0_12.index t (0 : Fin 2) = 0 ∧ win0_12.index t (1 : Fin 2) = 0 :=
  (by decide +kernel : ∀ t : Fin grid0.N, _)

theorem block_kk (t : Fin cfg0.N) : (blocksAt m c t).kk = V m c main_v21 := by
  obtain ⟨h0, h1⟩ := at_12 t
  refine funext fun (i : S1x512.Idx) => congrArg (V m c main_v21) (funext fun a => Fin.ext ?_)
  match a with
  | ⟨0, _⟩ => show win0_12.index t (0 : Fin 2) * 1 + 1 * (i 0).val = (i 0).val; omega
  | ⟨1, _⟩ => show win0_12.index t (1 : Fin 2) * 512 + 1 * (i 1).val = (i 1).val; omega

theorem at_13 : ∀ t : Fin cfg0.N, win0_13.index t (0 : Fin 2) = 0 ∧ win0_13.index t (1 : Fin 2) = 0 :=
  (by decide +kernel : ∀ t : Fin grid0.N, _)

theorem block_ka (t : Fin cfg0.N) : (blocksAt m c t).ka = V m c main_v22 := by
  obtain ⟨h0, h1⟩ := at_13 t
  refine funext fun (i : S1x512.Idx) => congrArg (V m c main_v22) (funext fun a => Fin.ext ?_)
  match a with
  | ⟨0, _⟩ => show win0_13.index t (0 : Fin 2) * 1 + 1 * (i 0).val = (i 0).val; omega
  | ⟨1, _⟩ => show win0_13.index t (1 : Fin 2) * 512 + 1 * (i 1).val = (i 1).val; omega

theorem at_15 : ∀ t : Fin cfg0.N, win0_15.index t (0 : Fin 2) = 0 ∧ win0_15.index t (1 : Fin 2) = 0 :=
  (by decide +kernel : ∀ t : Fin grid0.N, _)

theorem block_seg (t : Fin cfg0.N) : (blocksAt m c t).seg = V m c main_v6 := by
  obtain ⟨h0, h1⟩ := at_15 t
  refine funext fun (i : S1024x512.Idx) => congrArg (V m c main_v6) (funext fun a => Fin.ext ?_)
  match a with
  | ⟨0, _⟩ => show win0_15.index t (0 : Fin 2) * 1024 + 1 * (i 0).val = (i 0).val; omega
  | ⟨1, _⟩ => show win0_15.index t (1 : Fin 2) * 512 + 1 * (i 1).val = (i 1).val; omega

theorem at_16 : ∀ t : Fin cfg0.N, win0_16.index t (0 : Fin 2) = t ∧ win0_16.index t (1 : Fin 2) = 0 :=
  (by decide +kernel : ∀ t : Fin grid0.N, _)

theorem apart_16 (t t' : Fin cfg0.N) (hne : t ≠ t') : Disjoint ((cfg0.win 16).blk t).view.set ((cfg0.win 16).blk t').view.set :=
  (cfg0.win 16).disjoint_blk fun h => hne (Fin.ext (((at_16 t).1).symm.trans ((congrFun h (0 : Fin 2)).trans (at_16 t').1)))

theorem array_conv (t : Fin cfg0.N) (r k : Fin 512) :
    (prepDats m 0 c).arrAt 16 cfg0.N (ix2 (tokenAt t r) k) = outConv (grid0.coords t) (blocksAt m c t) (ix2 r k) := by
  have h := (prepDats m 0 c).read_blk_arrAt_eq_flushed 16 (fun t t' _ _ hne => apart_16 t t' hne) cfg0.N t t.isLt (flush0_16 t)
  have e : ((cfg0.win 16).blk t).view.emb (ix2 r k) = (ix2 (tokenAt t r) k : S32768x512.Idx) := by
    obtain ⟨h0, h1⟩ := at_16 t
    refine funext fun a => Fin.ext ?_
    match a with
    | ⟨0, _⟩ => show win0_16.index t (0 : Fin 2) * 512 + 1 * r.val = t * 512 + r; omega
    | ⟨1, _⟩ => show win0_16.index t (1 : Fin 2) * 512 + 1 * k.val = k.val; omega
  have q : (prepDats m 0 c).flushed 16 t = outConv (grid0.coords t) (blocksAt m c t) := by
    show (cfg0.win 16).cut (grid0.coords t) ((prepDats m 0 c).after 16 t) = _
    rw [left_16]
    rfl
  have p := congrFun (h.trans q) (ix2 r k)
  rw [← e]
  exact p

theorem at_17 : ∀ t : Fin cfg0.N, win0_17.index t (0 : Fin 2) = t ∧ win0_17.index t (1 : Fin 2) = 0 :=
  (by decide +kernel : ∀ t : Fin grid0.N, _)

theorem apart_17 (t t' : Fin cfg0.N) (hne : t ≠ t') : Disjoint ((cfg0.win 17).blk t).view.set ((cfg0.win 17).blk t').view.set :=
  (cfg0.win 17).disjoint_blk fun h => hne (Fin.ext (((at_17 t).1).symm.trans ((congrFun h (0 : Fin 2)).trans (at_17 t').1)))

theorem array_r (t : Fin cfg0.N) (r k : Fin 512) :
    (prepDats m 0 c).arrAt 17 cfg0.N (ix2 (tokenAt t r) k) = outR (grid0.coords t) (blocksAt m c t) (ix2 r k) := by
  have h := (prepDats m 0 c).read_blk_arrAt_eq_flushed 17 (fun t t' _ _ hne => apart_17 t t' hne) cfg0.N t t.isLt (flush0_17 t)
  have e : ((cfg0.win 17).blk t).view.emb (ix2 r k) = (ix2 (tokenAt t r) k : S32768x512.Idx) := by
    obtain ⟨h0, h1⟩ := at_17 t
    refine funext fun a => Fin.ext ?_
    match a with
    | ⟨0, _⟩ => show win0_17.index t (0 : Fin 2) * 512 + 1 * r.val = t * 512 + r; omega
    | ⟨1, _⟩ => show win0_17.index t (1 : Fin 2) * 512 + 1 * k.val = k.val; omega
  have q : (prepDats m 0 c).flushed 17 t = outR (grid0.coords t) (blocksAt m c t) := by
    show (cfg0.win 17).cut (grid0.coords t) ((prepDats m 0 c).after 17 t) = _
    rw [left_17]
    rfl
  have p := congrFun (h.trans q) (ix2 r k)
  rw [← e]
  exact p

theorem at_18 : ∀ t : Fin cfg0.N, win0_18.index t (0 : Fin 2) = t ∧ win0_18.index t (1 : Fin 2) = 0 :=
  (by decide +kernel : ∀ t : Fin grid0.N, _)

theorem apart_18 (t t' : Fin cfg0.N) (hne : t ≠ t') : Disjoint ((cfg0.win 18).blk t).view.set ((cfg0.win 18).blk t').view.set :=
  (cfg0.win 18).disjoint_blk fun h => hne (Fin.ext (((at_18 t).1).symm.trans ((congrFun h (0 : Fin 2)).trans (at_18 t').1)))

theorem array_decay (t : Fin cfg0.N) (r k : Fin 512) :
    (prepDats m 0 c).arrAt 18 cfg0.N (ix2 (tokenAt t r) k) = outDecay (grid0.coords t) (blocksAt m c t) (ix2 r k) := by
  have h := (prepDats m 0 c).read_blk_arrAt_eq_flushed 18 (fun t t' _ _ hne => apart_18 t t' hne) cfg0.N t t.isLt (flush0_18 t)
  have e : ((cfg0.win 18).blk t).view.emb (ix2 r k) = (ix2 (tokenAt t r) k : S32768x512.Idx) := by
    obtain ⟨h0, h1⟩ := at_18 t
    refine funext fun a => Fin.ext ?_
    match a with
    | ⟨0, _⟩ => show win0_18.index t (0 : Fin 2) * 512 + 1 * r.val = t * 512 + r; omega
    | ⟨1, _⟩ => show win0_18.index t (1 : Fin 2) * 512 + 1 * k.val = k.val; omega
  have q : (prepDats m 0 c).flushed 18 t = outDecay (grid0.coords t) (blocksAt m c t) := by
    show (cfg0.win 18).cut (grid0.coords t) ((prepDats m 0 c).after 18 t) = _
    rw [left_18]
    rfl
  have p := congrFun (h.trans q) (ix2 r k)
  rw [← e]
  exact p

theorem at_19 : ∀ t : Fin cfg0.N, win0_19.index t (0 : Fin 2) = t ∧ win0_19.index t (1 : Fin 2) = 0 :=
  (by decide +kernel : ∀ t : Fin grid0.N, _)

theorem apart_19 (t t' : Fin cfg0.N) (hne : t ≠ t') : Disjoint ((cfg0.win 19).blk t).view.set ((cfg0.win 19).blk t').view.set :=
  (cfg0.win 19).disjoint_blk fun h => hne (Fin.ext (((at_19 t).1).symm.trans ((congrFun h (0 : Fin 2)).trans (at_19 t').1)))

theorem array_k (t : Fin cfg0.N) (r k : Fin 512) :
    (prepDats m 0 c).arrAt 19 cfg0.N (ix2 (tokenAt t r) k) = outK (grid0.coords t) (blocksAt m c t) (ix2 r k) := by
  have h := (prepDats m 0 c).read_blk_arrAt_eq_flushed 19 (fun t t' _ _ hne => apart_19 t t' hne) cfg0.N t t.isLt (flush0_19 t)
  have e : ((cfg0.win 19).blk t).view.emb (ix2 r k) = (ix2 (tokenAt t r) k : S32768x512.Idx) := by
    obtain ⟨h0, h1⟩ := at_19 t
    refine funext fun a => Fin.ext ?_
    match a with
    | ⟨0, _⟩ => show win0_19.index t (0 : Fin 2) * 512 + 1 * r.val = t * 512 + r; omega
    | ⟨1, _⟩ => show win0_19.index t (1 : Fin 2) * 512 + 1 * k.val = k.val; omega
  have q : (prepDats m 0 c).flushed 19 t = outK (grid0.coords t) (blocksAt m c t) := by
    show (cfg0.win 19).cut (grid0.coords t) ((prepDats m 0 c).after 19 t) = _
    rw [left_19]
    rfl
  have p := congrFun (h.trans q) (ix2 r k)
  rw [← e]
  exact p

theorem at_20 : ∀ t : Fin cfg0.N, win0_20.index t (0 : Fin 2) = t ∧ win0_20.index t (1 : Fin 2) = 0 :=
  (by decide +kernel : ∀ t : Fin grid0.N, _)

theorem apart_20 (t t' : Fin cfg0.N) (hne : t ≠ t') : Disjoint ((cfg0.win 20).blk t).view.set ((cfg0.win 20).blk t').view.set :=
  (cfg0.win 20).disjoint_blk fun h => hne (Fin.ext (((at_20 t).1).symm.trans ((congrFun h (0 : Fin 2)).trans (at_20 t').1)))

theorem array_v (t : Fin cfg0.N) (r k : Fin 512) :
    (prepDats m 0 c).arrAt 20 cfg0.N (ix2 (tokenAt t r) k) = outV (grid0.coords t) (blocksAt m c t) (ix2 r k) := by
  have h := (prepDats m 0 c).read_blk_arrAt_eq_flushed 20 (fun t t' _ _ hne => apart_20 t t' hne) cfg0.N t t.isLt (flush0_20 t)
  have e : ((cfg0.win 20).blk t).view.emb (ix2 r k) = (ix2 (tokenAt t r) k : S32768x512.Idx) := by
    obtain ⟨h0, h1⟩ := at_20 t
    refine funext fun a => Fin.ext ?_
    match a with
    | ⟨0, _⟩ => show win0_20.index t (0 : Fin 2) * 512 + 1 * r.val = t * 512 + r; omega
    | ⟨1, _⟩ => show win0_20.index t (1 : Fin 2) * 512 + 1 * k.val = k.val; omega
  have q : (prepDats m 0 c).flushed 20 t = outV (grid0.coords t) (blocksAt m c t) := by
    show (cfg0.win 20).cut (grid0.coords t) ((prepDats m 0 c).after 20 t) = _
    rw [left_20]
    rfl
  have p := congrFun (h.trans q) (ix2 r k)
  rw [← e]
  exact p

theorem at_21 : ∀ t : Fin cfg0.N, win0_21.index t (0 : Fin 2) = t ∧ win0_21.index t (1 : Fin 2) = 0 :=
  (by decide +kernel : ∀ t : Fin grid0.N, _)

theorem apart_21 (t t' : Fin cfg0.N) (hne : t ≠ t') : Disjoint ((cfg0.win 21).blk t).view.set ((cfg0.win 21).blk t').view.set :=
  (cfg0.win 21).disjoint_blk fun h => hne (Fin.ext (((at_21 t).1).symm.trans ((congrFun h (0 : Fin 2)).trans (at_21 t').1)))

theorem array_kk (t : Fin cfg0.N) (r k : Fin 512) :
    (prepDats m 0 c).arrAt 21 cfg0.N (ix2 (tokenAt t r) k) = outKK (grid0.coords t) (blocksAt m c t) (ix2 r k) := by
  have h := (prepDats m 0 c).read_blk_arrAt_eq_flushed 21 (fun t t' _ _ hne => apart_21 t t' hne) cfg0.N t t.isLt (flush0_21 t)
  have e : ((cfg0.win 21).blk t).view.emb (ix2 r k) = (ix2 (tokenAt t r) k : S32768x512.Idx) := by
    obtain ⟨h0, h1⟩ := at_21 t
    refine funext fun a => Fin.ext ?_
    match a with
    | ⟨0, _⟩ => show win0_21.index t (0 : Fin 2) * 512 + 1 * r.val = t * 512 + r; omega
    | ⟨1, _⟩ => show win0_21.index t (1 : Fin 2) * 512 + 1 * k.val = k.val; omega
  have q : (prepDats m 0 c).flushed 21 t = outKK (grid0.coords t) (blocksAt m c t) := by
    show (cfg0.win 21).cut (grid0.coords t) ((prepDats m 0 c).after 21 t) = _
    rw [left_21]
    rfl
  have p := congrFun (h.trans q) (ix2 r k)
  rw [← e]
  exact p

theorem at_22 : ∀ t : Fin cfg0.N, win0_22.index t (0 : Fin 2) = t ∧ win0_22.index t (1 : Fin 2) = 0 :=
  (by decide +kernel : ∀ t : Fin grid0.N, _)

theorem apart_22 (t t' : Fin cfg0.N) (hne : t ≠ t') : Disjoint ((cfg0.win 22).blk t).view.set ((cfg0.win 22).blk t').view.set :=
  (cfg0.win 22).disjoint_blk fun h => hne (Fin.ext (((at_22 t).1).symm.trans ((congrFun h (0 : Fin 2)).trans (at_22 t').1)))

theorem array_b (t : Fin cfg0.N) (r k : Fin 512) :
    (prepDats m 0 c).arrAt 22 cfg0.N (ix2 (tokenAt t r) k) = outB (grid0.coords t) (blocksAt m c t) (ix2 r k) := by
  have h := (prepDats m 0 c).read_blk_arrAt_eq_flushed 22 (fun t t' _ _ hne => apart_22 t t' hne) cfg0.N t t.isLt (flush0_22 t)
  have e : ((cfg0.win 22).blk t).view.emb (ix2 r k) = (ix2 (tokenAt t r) k : S32768x512.Idx) := by
    obtain ⟨h0, h1⟩ := at_22 t
    refine funext fun a => Fin.ext ?_
    match a with
    | ⟨0, _⟩ => show win0_22.index t (0 : Fin 2) * 512 + 1 * r.val = t * 512 + r; omega
    | ⟨1, _⟩ => show win0_22.index t (1 : Fin 2) * 512 + 1 * k.val = k.val; omega
  have q : (prepDats m 0 c).flushed 22 t = outB (grid0.coords t) (blocksAt m c t) := by
    show (cfg0.win 22).cut (grid0.coords t) ((prepDats m 0 c).after 22 t) = _
    rw [left_22]
    rfl
  have p := congrFun (h.trans q) (ix2 r k)
  rw [← e]
  exact p

theorem at_23 : ∀ t : Fin cfg0.N, win0_23.index t (0 : Fin 2) = t ∧ win0_23.index t (1 : Fin 2) = 0 :=
  (by decide +kernel : ∀ t : Fin grid0.N, _)

theorem apart_23 (t t' : Fin cfg0.N) (hne : t ≠ t') : Disjoint ((cfg0.win 23).blk t).view.set ((cfg0.win 23).blk t').view.set :=
  (cfg0.win 23).disjoint_blk fun h => hne (Fin.ext (((at_23 t).1).symm.trans ((congrFun h (0 : Fin 2)).trans (at_23 t').1)))

theorem array_gate (t : Fin cfg0.N) (r k : Fin 512) :
    (prepDats m 0 c).arrAt 23 cfg0.N (ix2 (tokenAt t r) k) = outGate (grid0.coords t) (blocksAt m c t) (ix2 r k) := by
  have h := (prepDats m 0 c).read_blk_arrAt_eq_flushed 23 (fun t t' _ _ hne => apart_23 t t' hne) cfg0.N t t.isLt (flush0_23 t)
  have e : ((cfg0.win 23).blk t).view.emb (ix2 r k) = (ix2 (tokenAt t r) k : S32768x512.Idx) := by
    obtain ⟨h0, h1⟩ := at_23 t
    refine funext fun a => Fin.ext ?_
    match a with
    | ⟨0, _⟩ => show win0_23.index t (0 : Fin 2) * 512 + 1 * r.val = t * 512 + r; omega
    | ⟨1, _⟩ => show win0_23.index t (1 : Fin 2) * 512 + 1 * k.val = k.val; omega
  have q : (prepDats m 0 c).flushed 23 t = outGate (grid0.coords t) (blocksAt m c t) := by
    show (cfg0.win 23).cut (grid0.coords t) ((prepDats m 0 c).after 23 t) = _
    rw [left_23]
    rfl
  have p := congrFun (h.trans q) (ix2 r k)
  rw [← e]
  exact p

end Cert.Proof.Prep

end
-- ==== Proof.Prep.Block.lean ====
/-
  What one grid point of the mixer's preparation leaves in its outputs, element by element, of its input blocks.
-/
module

public import proofs.«01_k».proof.Proof.Prep.Blocks
public import proofs.«01_k».proof.Proof.Prep.Cell
public import Idealize.ShloMosaic.Lib.Pointwise

@[expose] public section

set_option maxRecDepth 16384

noncomputable section

namespace Cert.Proof.Prep

open Idealize.ShloMosaic Cert.PrepIdeal Cert.PrepIdeal.Gen

variable (i : grid0.Coords) (b : Blocks Ideal)

/-- Whether the block is the first of its sequence, from the kernel's words. -/
def first : BitVec 1 :=
  let n : BitVec 32 := BitVec.ofNat 32 (i 0).val
  let p : BitVec 32 := Scalar.select (Scalar.cmpi .eq 16#32 0#32) 1#32 16#32
  let e : BitVec 32 := Scalar.remsi n p
  Scalar.cmpi .eq (Scalar.select (Scalar.andi (Scalar.xori (Scalar.cmpi .slt e 0#32) (Scalar.cmpi .slt p 0#32)) (Scalar.cmpi .ne e 0#32)) (Scalar.addi e p) e) 0#32

/-- The rows a grid point works on: the eight before the block, where they count, and the block's. -/
def blockRow (r : Fin 520) (k : Fin 1024) : EReal :=
  if h : (r : ℕ) < 8 then Scalar.select (first i) 0 (b.prev (ix2 ⟨r, h⟩ k)) else b.x (ix2 ⟨r - 8, by omega⟩ k)

theorem proj_apply (r : Fin 520) (j : Fin 3328) :
    proj i b (ix2 r j) = projRow (blockRow i b r) (fun k => b.g (ix2 0 k)) (fun k j => b.w (ix2 k j)) j := by
  unfold proj projRow normRow blockRow
  pointwise [k0_pay1, k0_pay2]
  rfl

/-- The projections of a row. -/
def rowProj (r : Fin 520) (j : Fin 3328) : EReal := proj i b (ix2 r j)

theorem zed_apply (r : Fin 520) (c : Fin 512) : zed i b (ix2 r c) = convIn (rowProj i b r) c := by
  unfold zed convIn rowProj
  pointwise [k0_pay4]

/-- The `d`-th row before row `r` of the block. -/
def back (r : Fin 512) (d : Fin 9) : Fin 520 := ⟨8 - d + r, by omega⟩

theorem conv_apply (r c : Fin 512) :
    conv i b (ix2 r c)
      = convOut (rowProj i b (back r 0)) (rowProj i b (back r 1)) (rowProj i b (back r 2)) (fun d c => b.cw (ix2 d c)) c := by
  have z := fun (s : Fin 520) => zed_apply i b s c
  unfold conv convOut tap0 tap1 tap2 back0 back1 back2 gateRows
  pointwise [k0_pay5]
  simp only [z]
  rfl

/-- The mix of a row of the block. -/
def blockMix (r : Fin 512) : Fin 1792 → EReal :=
  mixed (rowProj i b (back r 0)) (rowProj i b (back r 1)) (fun j => b.mu (ix2 0 j))

theorem mix_apply (r : Fin 512) (j : Fin 1792) : k0_pay8 (cur i b) (before i b) b.mu (ix2 r j) = blockMix i b r j := by
  unfold cur before blockMix mixed rowProj
  pointwise [k0_pay8]
  rfl

theorem outR_apply (r c : Fin 512) : outR i b (ix2 r c) = recv (blockMix i b r) c := by
  unfold outR recv
  simp only [← mix_apply]
  pointwise [k0_pay9]

theorem outV_apply (r c : Fin 512) : outV i b (ix2 r c) = val (blockMix i b r) c := by
  unfold outV val
  simp only [← mix_apply]
  pointwise [k0_pay11]

theorem keys_apply (r c : Fin 512) : keys i b (ix2 r c) = key (blockMix i b r) c := by
  unfold keys key
  simp only [← mix_apply]
  pointwise [k0_pay10]

theorem decayIn_apply (r c : Fin 512) :
    k0_pay14 (cur i b) (before i b) b.mu b.w0 b.wup (ix2 r c)
      = -(b.w0 (ix2 0 c) + ∑ j : Fin 128, Ideal.tanh (blockMix i b r ⟨1536 + j, by omega⟩) * b.wup (ix2 j c)) := by
  simp only [← mix_apply]
  pointwise [k0_pay14, k0_pay12]
  rw [zero_sub]

theorem outDecay_apply (r c : Fin 512) :
    outDecay i b (ix2 r c) = vDecay (k0_pay14 (cur i b) (before i b) b.mu b.w0 b.wup (ix2 r c)) := by
  unfold outDecay vDecay k0_pay15 k0_pay16
  generalize k0_pay14 (cur i b) (before i b) b.mu b.w0 b.wup = D
  pointwise [k0_pay17]
  simp only [zero_sub]
  rfl

theorem rate_apply (r c : Fin 512) :
    rate i b (ix2 r c)
      = logistic (b.a0 (ix2 0 c) + ∑ j : Fin 128, blockMix i b r ⟨1536 + j, by omega⟩ * b.aup (ix2 j c)) := by
  unfold rate logistic
  simp only [← mix_apply]
  pointwise [k0_pay18, k0_pay12]
  rw [zero_sub]

theorem outK_apply (r c : Fin 512) :
    outK i b (ix2 r c) = vKey (keys i b (ix2 r c)) (rate i b (ix2 r c)) (b.ka (ix2 0 c)) := by
  unfold outK vKey
  pointwise [k0_pay22]

theorem outGate_apply (r c : Fin 512) :
    outGate i b (ix2 r c) = vGate (blockMix i b r) (fun k c => b.gup (ix2 k c)) c := by
  unfold outGate vGate logistic
  simp only [← mix_apply]
  pointwise [k0_pay19, k0_pay13]
  simp only [zero_sub]

theorem outConv_apply (r c : Fin 512) :
    outConv i b (ix2 r c)
      = conv i b (ix2 r c) * Ideal.rsqrt ((∑ k : Fin 512, conv i b (ix2 r k) * conv i b (ix2 r k) * b.seg (ix2 ⟨k, by omega⟩ c))
          * Ideal.ofBits .f32 1015021568#32 + Ideal.ofBits .f32 925353388#32) * b.cg (ix2 0 c) := by
  unfold outConv meanSq k0_pay6
  rw [show k0_pay5 (tap0 b) (back2 i b) (tap1 b) (back1 i b) (tap2 b) (back0 i b) (gateRows i b) = conv i b from rfl]
  pointwise [k0_pay7, k0_pay3]

theorem outKK_apply (r c : Fin 512) :
    outKK i b (ix2 r c)
      = Ideal.div (keys i b (ix2 r c) * b.kk (ix2 0 c)) (max (Ideal.sqrt (∑ k : Fin 512,
          keys i b (ix2 r k) * b.kk (ix2 0 k) * (keys i b (ix2 r k) * b.kk (ix2 0 k)) * b.seg (ix2 ⟨k, by omega⟩ c)))
          (Ideal.ofBits .f32 730643660#32)) := by
  unfold outKK
  pointwise [k0_pay21, k0_pay3, k0_pay20]

theorem outB_apply (r c : Fin 512) : outB i b (ix2 r c) = outKK i b (ix2 r c) * rate i b (ix2 r c) := by
  unfold outB outKK k0_pay24
  rfl

end Cert.Proof.Prep

end
-- ==== Proof.Prep.Host.lean ====
/-
  The arrays the launch of the mixer's preparation finds, of the arguments: reshaped, padded by rows of zeros, or the table
  of the heads' columns.
-/
module

public import proofs.«01_k».proof.Proof.Prep.Launch
public import proofs.«01_k».proof.Proof.Prep.Ref

@[expose] public section

set_option maxRecDepth 16384

noncomputable section

namespace Cert.Proof.Prep

open Idealize.ShloMosaic Idealize.ShloMosaic.TcCoe Cert.PrepIdeal Cert.PrepIdeal.Gen

variable (m : (ℓ : Loc nD τ sig) → Buf (Elt Ideal) ℓ) (c : Dev nD)

/-- The sequences' rows one after another, and a vector as a row. -/
def flat (x : FVec Ideal S4x8192x1024 .f32) : FVec Ideal S32768x1024 .f32 := shapeCast _ x shapeCasts_S4x8192x1024_S32768x1024
def asRow (x : FVec Ideal S512 .f32) : FVec Ideal S1x512 .f32 := shapeCast _ x shapeCasts_S512_S1x512
def gainRow (x : FVec Ideal S1024 .f32) : FVec Ideal S1x1024 .f32 := shapeCast _ x shapeCasts_S1024_S1x1024
def muRow (x : FVec Ideal S1792 .f32) : FVec Ideal S1x1792 .f32 := shapeCast _ x shapeCasts_S1792_S1x1792

theorem flat_apply (x : FVec Ideal S4x8192x1024 .f32) (r : Fin 32768) (k : Fin 1024) :
    flat x (ix2 r k) = x (ix3 (seqOf r) (posOf r) k) := by
  unfold flat
  pointwise
  rfl

theorem asRow_apply (x : FVec Ideal S512 .f32) (k : Fin 512) : asRow x (ix2 0 k) = x (ix1 k) := by
  unfold asRow
  pointwise

theorem gainRow_apply (x : FVec Ideal S1024 .f32) (k : Fin 1024) : gainRow x (ix2 0 k) = x (ix1 k) := by
  unfold gainRow
  pointwise

theorem muRow_apply (x : FVec Ideal S1792 .f32) (k : Fin 1792) : muRow x (ix2 0 k) = x (ix1 k) := by
  unfold muRow
  pointwise

/-- Sixty-four rows over sixty-four rows of zeros, and under them. -/
def padLow (x : FVec Ideal S64x512 .f32) : FVec Ideal S128x512 .f32 :=
  concatenate S128x512 0 [⟨S64x512, x⟩, ⟨S64x512, broadcastInDim S64x512 ![] bcast_S_S64x512 (constant S_ .f32 0x00000000#32)⟩] concatenates_S64x512_S64x512_S128x512_d0
def padHigh (x : FVec Ideal S64x512 .f32) : FVec Ideal S128x512 .f32 :=
  concatenate S128x512 0 [⟨S64x512, broadcastInDim S64x512 ![] bcast_S_S64x512 (constant S_ .f32 0x00000000#32)⟩, ⟨S64x512, x⟩] concatenates_S64x512_S64x512_S128x512_d0

theorem padLow_apply (x : FVec Ideal S64x512 .f32) (j : Fin 128) (k : Fin 512) :
    padLow x (ix2 j k) = if h : (j : ℕ) < 64 then x (ix2 ⟨j, h⟩ k) else 0 := by
  unfold padLow
  pointwise

theorem padHigh_apply (x : FVec Ideal S64x512 .f32) (j : Fin 128) (k : Fin 512) :
    padHigh x (ix2 j k) = if h : (j : ℕ) < 64 then 0 else x (ix2 ⟨j - 64, by omega⟩ k) := by
  unfold padHigh
  pointwise

theorem at_v13 : V m c main_v13 = flat (m ((c : Thread nD τ).loc main_arg0)) := by
    show StableHlo.after (List.flatten [hostOps0, hostOps0_1, hostOps0_2, hostOps0_3, hostOps0_4]) (fun b => m (c, b)) (Proc.devRef .tc main_v13) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v14 : V m c main_v14 = gainRow (m ((c : Thread nD τ).loc main_arg1)) := by
    show StableHlo.after (List.flatten [hostOps0, hostOps0_1, hostOps0_2, hostOps0_3, hostOps0_4]) (fun b => m (c, b)) (Proc.devRef .tc main_v14) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v15 : V m c main_v15 = (m ((c : Thread nD τ).loc main_arg2)) := by
    show StableHlo.after (List.flatten [hostOps0, hostOps0_1, hostOps0_2, hostOps0_3, hostOps0_4]) (fun b => m (c, b)) (Proc.devRef .tc main_v15) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v16 : V m c main_v16 = asRow (m ((c : Thread nD τ).loc main_arg4)) := by
    show StableHlo.after (List.flatten [hostOps0, hostOps0_1, hostOps0_2, hostOps0_3, hostOps0_4]) (fun b => m (c, b)) (Proc.devRef .tc main_v16) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v17 : V m c main_v17 = muRow (m ((c : Thread nD τ).loc main_arg5)) := by
    show StableHlo.after (List.flatten [hostOps0, hostOps0_1, hostOps0_2, hostOps0_3, hostOps0_4]) (fun b => m (c, b)) (Proc.devRef .tc main_v17) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v18 : V m c main_v18 = asRow (m ((c : Thread nD τ).loc main_arg6)) := by
    show StableHlo.after (List.flatten [hostOps0, hostOps0_1, hostOps0_2, hostOps0_3, hostOps0_4]) (fun b => m (c, b)) (Proc.devRef .tc main_v18) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v9 : V m c main_v9 = padLow (m ((c : Thread nD τ).loc main_arg7)) := by
    show StableHlo.after (List.flatten [hostOps0, hostOps0_1, hostOps0_2, hostOps0_3, hostOps0_4]) (fun b => m (c, b)) (Proc.devRef .tc main_v9) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v19 : V m c main_v19 = asRow (m ((c : Thread nD τ).loc main_arg8)) := by
    show StableHlo.after (List.flatten [hostOps0, hostOps0_1, hostOps0_2, hostOps0_3, hostOps0_4]) (fun b => m (c, b)) (Proc.devRef .tc main_v19) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v12 : V m c main_v12 = padHigh (m ((c : Thread nD τ).loc main_arg9)) := by
    show StableHlo.after (List.flatten [hostOps0, hostOps0_1, hostOps0_2, hostOps0_3, hostOps0_4]) (fun b => m (c, b)) (Proc.devRef .tc main_v12) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v20 : V m c main_v20 = (m ((c : Thread nD τ).loc main_arg10)) := by
    show StableHlo.after (List.flatten [hostOps0, hostOps0_1, hostOps0_2, hostOps0_3, hostOps0_4]) (fun b => m (c, b)) (Proc.devRef .tc main_v20) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v21 : V m c main_v21 = asRow (m ((c : Thread nD τ).loc main_arg11)) := by
    show StableHlo.after (List.flatten [hostOps0, hostOps0_1, hostOps0_2, hostOps0_3, hostOps0_4]) (fun b => m (c, b)) (Proc.devRef .tc main_v21) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

theorem at_v22 : V m c main_v22 = asRow (m ((c : Thread nD τ).loc main_arg12)) := by
    show StableHlo.after (List.flatten [hostOps0, hostOps0_1, hostOps0_2, hostOps0_3, hostOps0_4]) (fun b => m (c, b)) (Proc.devRef .tc main_v22) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

/-- The heads of an array of columns, from the host's words: the quotient by sixty-four, rounded down. -/
def headOf (x : IVec S512x512 32) : IVec S512x512 32 :=
  select (andi (cmpi .ne (signi x) (broadcastInDim S512x512 ![] bcast_S_S512x512 (signi (constantI S_ 32 64#32))))
      (cmpi .ne (Host.remsi x (broadcastInDim S512x512 ![] bcast_S_S512x512 (constantI S_ 32 64#32)))
        (broadcastInDim S512x512 ![] bcast_S_S512x512 (constantI S_ 32 0#32))))
    (subi (Host.divsi x (broadcastInDim S512x512 ![] bcast_S_S512x512 (constantI S_ 32 64#32)))
      (broadcastInDim S512x512 ![] bcast_S_S512x512 (constantI S_ 32 1#32)))
    (Host.divsi x (broadcastInDim S512x512 ![] bcast_S_S512x512 (constantI S_ 32 64#32)))

/-- The sign of a word, and the same of one word. -/
def signWord (n : BitVec 32) : BitVec 32 := if n = 0 then 0 else if n.msb then -1 else 1
def headWord (n : BitVec 32) : BitVec 32 :=
  Scalar.select (IntOp.andi (IntOp.cmpi .ne (signWord n) (signWord 64#32)) (IntOp.cmpi .ne (IntOp.remsi .host n 64#32) 0#32))
    (IntOp.subi (IntOp.divsi .host n 64#32) 1#32) (IntOp.divsi .host n 64#32)

theorem headOf_apply (x : IVec S512x512 32) (i : S512x512.Idx) : headOf x i = headWord (x i) := rfl

theorem headWord_eq : ∀ n : Fin 512, headWord (BitVec.ofNat 32 n) = BitVec.ofNat 32 (n / 64) := by decide +kernel

/-- The table of the heads' columns: one where row and column belong to one head. -/
def segHalf : FVec Ideal S512x512 .bf16 := uitofp .bf16 (cmpi .eq (headOf (iotaInDim S512x512 32 0)) (headOf (iotaInDim S512x512 32 1)))
def segTable : FVec Ideal S1024x512 .bf16 :=
  concatenate S1024x512 0 [⟨S512x512, segHalf⟩, ⟨S512x512, segHalf⟩] concatenates_S512x512_S512x512_S1024x512_d0

theorem word_one : FloatOps.uitofp (F := Ideal) .bf16 (1#1) = (1 : EReal) := by
  show (((1#1 : BitVec 1).toNat : ℝ) : EReal) = 1
  simp

theorem word_zero : FloatOps.uitofp (F := Ideal) .bf16 (0#1) = (0 : EReal) := by
  show (((0#1 : BitVec 1).toNat : ℝ) : EReal) = 0
  simp

theorem segHalf_apply (k c : Fin 512) : segHalf (ix2 k c) = if (k : ℕ) / 64 = (c : ℕ) / 64 then 1 else 0 := by
  have h : segHalf (ix2 k c) = FloatOps.uitofp (F := Ideal) .bf16 (IntOp.cmpi .eq (headWord (BitVec.ofNat 32 k)) (headWord (BitVec.ofNat 32 c))) := rfl
  rw [h, headWord_eq, headWord_eq]
  by_cases e : (k : ℕ) / 64 = (c : ℕ) / 64
  · rw [if_pos e, e, show IntOp.cmpi .eq (BitVec.ofNat 32 ((c : ℕ) / 64)) (BitVec.ofNat 32 ((c : ℕ) / 64)) = 1#1 by simp [IntOp.cmpi]]
    exact word_one
  · have n : BitVec.ofNat 32 ((k : ℕ) / 64) ≠ BitVec.ofNat 32 ((c : ℕ) / 64) := fun q => e (by
      have q' := congrArg BitVec.toNat q
      simp only [BitVec.toNat_ofNat] at q'
      omega)
    rw [if_neg e, show IntOp.cmpi .eq (BitVec.ofNat 32 ((k : ℕ) / 64)) (BitVec.ofNat 32 ((c : ℕ) / 64)) = 0#1 from by
      show BitVec.ofBool (_ == _) = _
      rw [beq_false_of_ne n]
      rfl]
    exact word_zero

theorem segTable_apply (k c : Fin 512) : segTable (ix2 ⟨k, by omega⟩ c) = if (k : ℕ) / 64 = (c : ℕ) / 64 then 1 else 0 := by
  rw [← segHalf_apply]
  unfold segTable
  pointwise

theorem at_v6 : V m c main_v6 = segTable := by
    show StableHlo.after (List.flatten [hostOps0, hostOps0_1, hostOps0_2, hostOps0_3, hostOps0_4]) (fun b => m (c, b)) (Proc.devRef .tc main_v6) = _
    simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp <;> rfl

end Cert.Proof.Prep

end
-- ==== Proof.Prep.Sums.lean ====
/-
  Small facts on sums: a sum over the columns of one head, the sums in which half of the rows are zero, and the mean.
-/
module

public import proofs.«01_k».proof.Proof.Prep.Cell

@[expose] public section

noncomputable section

namespace Cert.Proof.Prep

open Idealize.ShloMosaic

/-- The sum of `f` over the columns of the head of `c`, by a table of ones and zeros. -/
theorem sum_head (f s : Fin 512 → EReal) (c : Fin 512)
    (hs : ∀ k : Fin 512, s k = if (k : ℕ) / 64 = (c : ℕ) / 64 then 1 else 0) : ∑ k : Fin 512, f k * s k = headSum f c := by
  unfold headSum
  have e : ∀ k : Fin 512, f k * s k = if (k : ℕ) / 64 = (c : ℕ) / 64 then f k else 0 := fun k => by
    rw [hs]; split <;> simp
  simp only [e]
  rw [← Finset.sum_filter]
  symm
  refine Finset.sum_bij (fun e _ => headCol c e) ?_ ?_ ?_ ?_
  · intro a _
    rw [Finset.mem_filter]
    refine ⟨Finset.mem_univ _, ?_⟩
    show ((c : ℕ) / 64 * 64 + (a : ℕ)) / 64 = (c : ℕ) / 64
    omega
  · intro a _ b _ h
    have h' : (c : ℕ) / 64 * 64 + (a : ℕ) = (c : ℕ) / 64 * 64 + (b : ℕ) := congrArg Fin.val h
    exact Fin.ext (by omega)
  · intro k hk
    rw [Finset.mem_filter] at hk
    have hk2 := hk.2
    refine ⟨⟨(k : ℕ) % 64, by omega⟩, Finset.mem_univ _, Fin.ext ?_⟩
    show (c : ℕ) / 64 * 64 + (k : ℕ) % 64 = k
    omega
  · intro a _
    rfl

/-- A sum of 128 terms whose upper half is zero. -/
theorem sum_lower (f g : Fin 128 → EReal) (u : Fin 64 → EReal)
    (hg : ∀ j : Fin 128, g j = if h : (j : ℕ) < 64 then u ⟨j, h⟩ else 0) :
    ∑ j : Fin 128, f j * g j = ∑ j : Fin 64, f ⟨j, by omega⟩ * u j := by
  rw [show (∑ j : Fin 128, f j * g j) = ∑ j : Fin (64 + 64), f j * g j from rfl, Fin.sum_univ_add]
  have z : ∀ i : Fin 64, f (Fin.natAdd 64 i) * g (Fin.natAdd 64 i) = 0 := fun i => by
    rw [hg (Fin.natAdd 64 i), dif_neg (by simp), mul_zero]
  have l : ∀ i : Fin 64, f (Fin.castAdd 64 i) * g (Fin.castAdd 64 i) = f ⟨i, by omega⟩ * u i := fun i => by
    rw [hg (Fin.castAdd 64 i), dif_pos (by simp)]
    rfl
  rw [Finset.sum_congr rfl fun i _ => z i, Finset.sum_const_zero, add_zero]
  exact Finset.sum_congr rfl fun i _ => l i

/-- A sum of 128 terms whose lower half is zero. -/
theorem sum_upper (f g : Fin 128 → EReal) (u : Fin 64 → EReal)
    (hg : ∀ j : Fin 128, g j = if h : (j : ℕ) < 64 then 0 else u ⟨j - 64, by omega⟩) :
    ∑ j : Fin 128, f j * g j = ∑ j : Fin 64, f ⟨64 + j, by omega⟩ * u j := by
  rw [show (∑ j : Fin 128, f j * g j) = ∑ j : Fin (64 + 64), f j * g j from rfl, Fin.sum_univ_add]
  have z : ∀ i : Fin 64, f (Fin.castAdd 64 i) * g (Fin.castAdd 64 i) = 0 := fun i => by
    rw [hg (Fin.castAdd 64 i), dif_pos (by simp), mul_zero]
  have l : ∀ i : Fin 64, f (Fin.natAdd 64 i) * g (Fin.natAdd 64 i) = f ⟨64 + i, by omega⟩ * u i := fun i => by
    rw [hg (Fin.natAdd 64 i), dif_neg (by simp)]
    exact congrArg (fun e => f ⟨64 + i, by omega⟩ * u e) (Fin.ext (by simp))
  rw [Finset.sum_congr rfl fun i _ => z i, Finset.sum_const_zero, zero_add]
  exact Finset.sum_congr rfl fun i _ => l i

/-- Dividing by sixty-four is multiplying by its inverse. -/
theorem div_64 (x : EReal) : Ideal.div x (Ideal.ofBits .f32 1115684864#32) = x * Ideal.ofBits .f32 1015021568#32 := by
  have h : Ideal.ofBits .f32 1115684864#32 = ((64 : ℝ) : EReal) := by
    simp [Ideal.ofBits, Ideal.ieee, -EReal.coe_mul]; norm_num
  have h' : Ideal.ofBits .f32 1015021568#32 = ((64⁻¹ : ℝ) : EReal) := by
    simp [Ideal.ofBits, Ideal.ieee, -EReal.coe_mul]; norm_num
  rw [h, h']
  unfold Ideal.div
  rw [if_neg (by norm_num), EReal.coe_inv]

end Cert.Proof.Prep

end
-- ==== Proof.Prep.Rows.lean ====
/-
  The projections a grid point works on are those of the tokens: the row before a block's first is the row of the block
  before, and before a sequence's first row there are zeros.
-/
module

public import proofs.«01_k».proof.Proof.Prep.Array
public import proofs.«01_k».proof.Proof.Prep.Block
public import proofs.«01_k».proof.Proof.Prep.Host
public import proofs.«01_k».proof.Proof.Prep.Sums

@[expose] public section

set_option maxRecDepth 16384

noncomputable section

namespace Cert.Proof.Prep

open Idealize.ShloMosaic Idealize.ShloMosaic.TcCoe Cert.PrepIdeal Cert.PrepIdeal.Gen

variable (m : (ℓ : Loc nD τ sig) → Buf (Elt Ideal) ℓ) (c : Dev nD)

/-- The kernel's words find the first block of a sequence. -/
theorem first_eq : ∀ t : Fin cfg0.N, first (grid0.coords t) = if (t : ℕ) % 16 = 0 then 1#1 else 0#1 :=
  (by decide +kernel : ∀ t : Fin grid0.N, _)

/-- The tokens' projections, as the reference has them. -/
def proj3 : FVec Ideal Cert.PrepRefIdeal.S4x8192x3328 .f32 := refProj (m ((c : Thread nD τ).loc main_arg0)) (m ((c : Thread nD τ).loc main_arg1)) (m ((c : Thread nD τ).loc main_arg2))

theorem proj3_apply (b : Fin 4) (s : Fin 8192) (j : Fin 3328) :
    proj3 m c (ix3 b s j) = projRow (fun k => m ((c : Thread nD τ).loc main_arg0) (ix3 b s k)) (fun k => m ((c : Thread nD τ).loc main_arg1) (ix1 k)) (fun k j => m ((c : Thread nD τ).loc main_arg2) (ix2 k j)) j :=
  refProj_apply _ _ _ b s j

/-- A row of the block's projections, of the row it comes from. -/
theorem rowProj_eq (t : Fin cfg0.N) (q : Fin 520) :
    rowProj (grid0.coords t) (blocksAt m c t) q = projRow (blockRow (grid0.coords t) (blocksAt m c t) q)
      (fun k => m ((c : Thread nD τ).loc main_arg1) (ix1 k)) (fun k j => m ((c : Thread nD τ).loc main_arg2) (ix2 k j)) := by
  funext j
  unfold rowProj
  rw [proj_apply, block_g, block_w, at_v14, at_v15]
  simp only [gainRow_apply]

/-- The rows that lie in the block. -/
theorem row_in (t : Fin cfg0.N) (q : Fin 520) (h : 8 ≤ (q : ℕ)) :
    blockRow (grid0.coords t) (blocksAt m c t) q
      = fun k => m ((c : Thread nD τ).loc main_arg0) (ix3 (seqOf (tokenAt t ⟨q - 8, by omega⟩)) (posOf (tokenAt t ⟨q - 8, by omega⟩)) k) := by
  funext k
  unfold blockRow
  rw [dif_neg (by omega), block_x, at_v13, flat_apply]

/-- The rows before the block, where it is not the first of its sequence. -/
theorem row_before (t : Fin cfg0.N) (q : Fin 520) (h : (q : ℕ) < 8) (ht : (t : ℕ) % 16 ≠ 0) :
    blockRow (grid0.coords t) (blocksAt m c t) q
      = fun k => m ((c : Thread nD τ).loc main_arg0)
          (ix3 (seqOf ⟨(t * 64 - 1) * 8 + q, by have := lt64 t; omega⟩) (posOf ⟨(t * 64 - 1) * 8 + q, by have := lt64 t; omega⟩) k) := by
  funext k
  unfold blockRow
  rw [dif_pos h, first_eq, if_neg ht, block_prev, at_v13, flat_apply]
  rfl

/-- The rows before the first block of a sequence. -/
theorem row_none (t : Fin cfg0.N) (q : Fin 520) (h : (q : ℕ) < 8) (ht : (t : ℕ) % 16 = 0) :
    blockRow (grid0.coords t) (blocksAt m c t) q = fun _ => 0 := by
  funext k
  unfold blockRow
  rw [dif_pos h, first_eq, if_pos ht]
  rfl

/-- The projections of the `d`-th row before row `r` of the block are the reference's. -/
theorem rowProj_back (t : Fin cfg0.N) (r : Fin 512) (d : Fin 9) (hd : (d : ℕ) ≤ 2) :
    rowProj (grid0.coords t) (blocksAt m c t) (back r d) = rowsBack (proj3 m c) (seqOf (tokenAt t r)) (posOf (tokenAt t r)) d := by
  have h64 := lt64 t
  have hb : (back r d : ℕ) = 8 - d + r := rfl
  have hp : (posOf (tokenAt t r) : ℕ) = (t * 512 + r) % 8192 := rfl
  rw [rowProj_eq]
  funext j
  unfold rowsBack
  by_cases h : 8 ≤ (back r d : ℕ)
  · rw [row_in m c t _ h, if_pos (by omega), proj3_apply]
    refine congrArg (fun x => projRow x _ _ j) (funext fun k => congrArg (m ((c : Thread nD τ).loc main_arg0)) ?_)
    refine congrArg₂ (fun b s => ix3 b s k) (Fin.ext ?_) (Fin.ext ?_)
    · show (t * 512 + ((back r d : ℕ) - 8)) / 8192 = (t * 512 + r) / 8192
      omega
    · show (t * 512 + ((back r d : ℕ) - 8)) % 8192 = (t * 512 + r) % 8192 - d
      omega
  · by_cases ht : (t : ℕ) % 16 = 0
    · rw [row_none m c t _ (by omega) ht, if_neg (by omega), projRow_zero]
    · rw [row_before m c t _ (by omega) ht, if_pos (by omega), proj3_apply]
      refine congrArg (fun x => projRow x _ _ j) (funext fun k => congrArg (m ((c : Thread nD τ).loc main_arg0)) ?_)
      refine congrArg₂ (fun b s => ix3 b s k) (Fin.ext ?_) (Fin.ext ?_)
      · show ((t * 64 - 1) * 8 + (back r d : ℕ)) / 8192 = (t * 512 + r) / 8192
        omega
      · show ((t * 64 - 1) * 8 + (back r d : ℕ)) % 8192 = (t * 512 + r) % 8192 - d
        omega

/-- The tokens' mix, as the reference has it. -/
def mix3 : FVec Ideal Cert.PrepRefIdeal.S4x8192x1792 .f32 := refMix (proj3 m c) (m ((c : Thread nD τ).loc main_arg5))

theorem blockMix_eq (t : Fin cfg0.N) (r : Fin 512) :
    blockMix (grid0.coords t) (blocksAt m c t) r = fun j => mix3 m c (ix3 (seqOf (tokenAt t r)) (posOf (tokenAt t r)) j) := by
  funext j
  unfold blockMix mix3
  rw [refMix_apply, rowProj_back m c t r 0 (by decide), rowProj_back m c t r 1 (by decide), block_mu, at_v17]
  simp only [muRow_apply]
  rfl

end Cert.Proof.Prep

end
-- ==== Proof.Prep.Value.lean ====
/-
  The results of the mixer's preparation: over the extended reals the kernel's arrays are the reference's, at the same
  arguments. Both are the functions of Cell of a token's projections.
-/
module

public import proofs.«01_k».proof.Proof.Prep.Rows

@[expose] public section

set_option maxRecDepth 16384

noncomputable section

namespace Cert.Proof.Prep

open Idealize.ShloMosaic Idealize.ShloMosaic.TcCoe Cert.PrepIdeal Cert.PrepIdeal.Gen

variable (m : (ℓ : Loc nD τ sig) → Buf (Elt Ideal) ℓ) (c : Dev nD)

/-- Arrays that agree on every row of every block are equal. -/
theorem ext_rows {f g : S32768x512.Idx → EReal}
    (h : ∀ (t : Fin cfg0.N) (r k : Fin 512), f (ix2 (tokenAt t r) k) = g (ix2 (tokenAt t r) k)) : f = g := by
  funext i
  obtain ⟨n, k, rfl⟩ : ∃ (n : Fin 32768) (k : Fin 512), i = ix2 n k := ⟨i 0, i 1, by funext a; fin_cases a <;> rfl⟩
  have hlt : (n : ℕ) / 512 < cfg0.N := Nat.lt_of_lt_of_eq (show (n : ℕ) / 512 < 64 by omega) N_0.symm
  have e : n = tokenAt ⟨n / 512, hlt⟩ ⟨n % 512, by omega⟩ := Fin.ext (by
    show (n : ℕ) = n / 512 * 512 + n % 512
    omega)
  rw [e]
  exact h _ _ k

/-- The reference's convolution, rate and scaled key, of the kernel's arguments. -/
def conv3 : FVec Ideal Cert.PrepRefIdeal.S4x8192x512 .f32 := refGated (proj3 m c) (m ((c : Thread nD τ).loc main_arg3))
def rate3 : FVec Ideal Cert.PrepRefIdeal.S4x8192x512 .f32 :=
  refRate (mix3 m c) (m ((c : Thread nD τ).loc main_arg8)) (m ((c : Thread nD τ).loc main_arg9))
def keyed3 : FVec Ideal Cert.PrepRefIdeal.S4x8192x512 .f32 := refKeyed (mix3 m c) (m ((c : Thread nD τ).loc main_arg11))

variable (t : Fin cfg0.N) (r : Fin 512)

theorem seg_apply (j k : Fin 512) :
    (blocksAt m c t).seg (ix2 ⟨j, by omega⟩ k) = if (j : ℕ) / 64 = (k : ℕ) / 64 then 1 else 0 := by
  rw [block_seg, at_v6]
  exact segTable_apply j k

theorem conv_eq (k : Fin 512) :
    conv (grid0.coords t) (blocksAt m c t) (ix2 r k) = conv3 m c (ix3 (seqOf (tokenAt t r)) (posOf (tokenAt t r)) k) := by
  unfold conv3
  rw [conv_apply, refGated_apply, rowProj_back m c t r 0 (by decide), rowProj_back m c t r 1 (by decide),
    rowProj_back m c t r 2 (by decide), block_cw, V_main_arg3]
  rfl

theorem keys_eq (k : Fin 512) :
    keys (grid0.coords t) (blocksAt m c t) (ix2 r k)
      = key (fun j => mix3 m c (ix3 (seqOf (tokenAt t r)) (posOf (tokenAt t r)) j)) k := by
  rw [keys_apply, blockMix_eq]

theorem keyed_eq (k : Fin 512) :
    keys (grid0.coords t) (blocksAt m c t) (ix2 r k) * (blocksAt m c t).kk (ix2 0 k)
      = keyed3 m c (ix3 (seqOf (tokenAt t r)) (posOf (tokenAt t r)) k) := by
  unfold keyed3
  rw [keys_eq, refKeyed_apply, block_kk, at_v21, asRow_apply]

theorem rate_eq (k : Fin 512) :
    rate (grid0.coords t) (blocksAt m c t) (ix2 r k) = rate3 m c (ix3 (seqOf (tokenAt t r)) (posOf (tokenAt t r)) k) := by
  unfold rate3
  rw [rate_apply, refRate_apply, blockMix_eq, block_a0, at_v19, asRow_apply, block_aup, at_v12]
  unfold vRate
  rw [sum_upper _ (fun j => padHigh (m ((c : Thread nD τ).loc main_arg9)) (ix2 j k))
    (fun j => m ((c : Thread nD τ).loc main_arg9) (ix2 j k)) (fun j => padHigh_apply _ j k)]
  refine congrArg (fun s => logistic (_ + s)) (Finset.sum_congr rfl fun j _ => ?_)
  refine congrArg (fun q => mix3 m c (ix3 _ _ q) * _) (Fin.ext ?_)
  show 1536 + (64 + (j : ℕ)) = 1600 + j
  omega

theorem unit_eq (k : Fin 512) :
    outKK (grid0.coords t) (blocksAt m c t) (ix2 r k)
      = vUnit (fun j => keyed3 m c (ix3 (seqOf (tokenAt t r)) (posOf (tokenAt t r)) j)) k := by
  rw [outKK_apply, sum_head (fun j => keys (grid0.coords t) (blocksAt m c t) (ix2 r j) * (blocksAt m c t).kk (ix2 0 j)
    * (keys (grid0.coords t) (blocksAt m c t) (ix2 r j) * (blocksAt m c t).kk (ix2 0 j))) _ k (fun j => seg_apply m c t j k)]
  have e := fun j => keyed_eq m c t r j
  exact congrArg₂ (fun a s => Ideal.div a (max (Ideal.sqrt s) (Ideal.ofBits .f32 730643660#32))) (e k)
    (Finset.sum_congr rfl fun j _ => congrArg₂ (fun x y : EReal => x * y) (e _) (e _))

/-! ## The eight arrays -/

theorem value_conv : (prepDats m 0 c).arrAt 16 cfg0.N = refConv (conv3 m c) (m ((c : Thread nD τ).loc main_arg4)) :=
  ext_rows fun t r k => by
    rw [array_conv, outConv_apply, refConv_apply,
      sum_head (fun j => conv (grid0.coords t) (blocksAt m c t) (ix2 r j) * conv (grid0.coords t) (blocksAt m c t) (ix2 r j)) _ k
        (fun j => seg_apply m c t j k)]
    unfold vConv
    rw [div_64, block_cg, at_v16, asRow_apply]
    simp only [conv_eq]

theorem value_r : (prepDats m 0 c).arrAt 17 cfg0.N = refColumns0 (mix3 m c) :=
  ext_rows fun t r k => by
    rw [array_r, outR_apply, refRecv_apply, blockMix_eq]

theorem value_decay : (prepDats m 0 c).arrAt 18 cfg0.N
    = refDecay (refDecayIn (mix3 m c) (m ((c : Thread nD τ).loc main_arg6)) (m ((c : Thread nD τ).loc main_arg7))) :=
  ext_rows fun t r k => by
    rw [array_decay, outDecay_apply, refDecay_apply, decayIn_apply, refDecayIn_apply, blockMix_eq, block_w0, at_v18, asRow_apply,
      block_wup, at_v9]
    unfold decayIn
    rw [sum_lower _ (fun j => padLow (m ((c : Thread nD τ).loc main_arg7)) (ix2 j k))
      (fun j => m ((c : Thread nD τ).loc main_arg7) (ix2 j k)) (fun j => padLow_apply _ j k)]

theorem value_k : (prepDats m 0 c).arrAt 19 cfg0.N = refKey (mix3 m c) (rate3 m c) (m ((c : Thread nD τ).loc main_arg12)) :=
  ext_rows fun t r k => by
    rw [array_k, outK_apply, refKey_apply, keys_eq, rate_eq, block_ka, at_v22, asRow_apply]

theorem value_v : (prepDats m 0 c).arrAt 20 cfg0.N = refColumns1024 (mix3 m c) :=
  ext_rows fun t r k => by
    rw [array_v, outV_apply, refVal_apply, blockMix_eq]

theorem value_kk : (prepDats m 0 c).arrAt 21 cfg0.N = refUnit (refUnit4 (keyed3 m c)) :=
  ext_rows fun t r k => by
    rw [array_kk, unit_eq, refUnit_apply]

theorem value_b : (prepDats m 0 c).arrAt 22 cfg0.N = refB (refUnit4 (keyed3 m c)) (rate3 m c) :=
  ext_rows fun t r k => by
    rw [array_b, outB_apply, unit_eq, rate_eq, refB_apply]

theorem value_gate : (prepDats m 0 c).arrAt 23 cfg0.N = refGate (mix3 m c) (m ((c : Thread nD τ).loc main_arg10)) :=
  ext_rows fun t r k => by
    rw [array_gate, outGate_apply, refGate_apply, blockMix_eq, block_gup, at_v20]

/-! ## The runs -/

variable (ρ : Dev nD → PrngReg)

set_option maxHeartbeats 8000000 in
open Idealize.SL.Sem in
/-- The kernel's run: its first eight arrays at the reference's values, the arguments as they were. -/
theorem prep_values : θ_run defs (onTc (τ := τ) (main (F := Ideal))) ⟨m, fun _ => 0, ρ⟩ (fun r => ∀ c : Dev nD,
      (r.2.mem ((c.tc : Thread nD τ).loc main_v24_0) = refConv (conv3 m c) (m ((c : Thread nD τ).loc main_arg4))
      ∧ r.2.mem ((c.tc : Thread nD τ).loc main_v24_1) = refColumns0 (mix3 m c)
      ∧ r.2.mem ((c.tc : Thread nD τ).loc main_v24_2)
          = refDecay (refDecayIn (mix3 m c) (m ((c : Thread nD τ).loc main_arg6)) (m ((c : Thread nD τ).loc main_arg7)))
      ∧ r.2.mem ((c.tc : Thread nD τ).loc main_v24_3) = refKey (mix3 m c) (rate3 m c) (m ((c : Thread nD τ).loc main_arg12))
      ∧ r.2.mem ((c.tc : Thread nD τ).loc main_v24_4) = refColumns1024 (mix3 m c)
      ∧ r.2.mem ((c.tc : Thread nD τ).loc main_v24_5) = refUnit (refUnit4 (keyed3 m c))
      ∧ r.2.mem ((c.tc : Thread nD τ).loc main_v24_6) = refB (refUnit4 (keyed3 m c)) (rate3 m c)
      ∧ r.2.mem ((c.tc : Thread nD τ).loc main_v24_7) = refGate (mix3 m c) (m ((c : Thread nD τ).loc main_arg10)))) :=
  (θ_run defs _ _).mono (fun _ h c => ⟨((h.1 c).1 16).trans (value_conv m c), ((h.1 c).1 17).trans (value_r m c),
    ((h.1 c).1 18).trans (value_decay m c), ((h.1 c).1 19).trans (value_k m c), ((h.1 c).1 20).trans (value_v m c),
    ((h.1 c).1 21).trans (value_kk m c), ((h.1 c).1 22).trans (value_b m c), ((h.1 c).1 23).trans (value_gate m c)⟩) (prep_run m ρ)

end Cert.Proof.Prep

end
-- ==== Proof.Prep.Words.lean ====
/-
  The kernel of the mixer's preparation printed for words has the ideal program's text, so its frame is the ideal program's,
  read on words.
-/
module

public import proofs.«01_k».proof.Proof.Gen.Prep
public import proofs.«01_k».proof.Defs
public import proofs.«01_k».proof.Proof.Prep.Launch

@[expose] public section

set_option maxRecDepth 16384

noncomputable section

namespace Cert.Proof.Prep

open Idealize.ShloMosaic Idealize.ShloMosaic.TcCoe Idealize.ShloMosaic.Tactic Idealize.SL.Sem Cert.PrepIdeal

/-- The frame, for any float values. -/
def Kept (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

theorem kept (F : FTy → Type) [FloatOps F] : Kept F := fun m ρ _ => prep_frame m ρ

/-- The claim on words is the frame read on words. -/
theorem words_eq : Cert.quiescent_Prep = Kept Bits := by sl_kernel_rfl

theorem words_kept : Cert.quiescent_Prep := words_eq.mpr (kept Bits)

end Cert.Proof.Prep

end
-- ==== Proof.lean ====
/-
  The certificate of four calls of the layer. Of the gather (Proof/Launch, Proof/Value): the frames of the kernel, its
  ideal program and the reference in both readings, and that kernel and reference return the same words and the same
  values. Of the residual sum and norm (Proof/Reduce): the frames, and that the two launches of the kernel return the
  reference's array over the extended reals. Of the experts' network (Proof/Experts): the frames, and that the pipelined
  kernel, which fetches each run's matrices ahead of the blocks that use them, returns the reference's two arrays over the
  extended reals. Of the mixer's preparation (Proof/Prep): the frames, and that the kernel returns eight of the reference's
  arrays over the extended reals. Each run is proved for any float values, and the frames and the values are read off it;
  the experts' run is proved a second time for the program printed for words (Proof/ExpertsWords), as its loop's record is
  another type.
-/
module

public import proofs.«01_k».proof.Proof.Gen.Experts
public import proofs.«01_k».proof.Proof.Gen.ExpertsIdeal
public import proofs.«01_k».proof.Proof.Gen.ExpertsRef
public import proofs.«01_k».proof.Proof.Gen.ExpertsRef.Run
public import proofs.«01_k».proof.Proof.Gen.ExpertsRefIdeal
public import proofs.«01_k».proof.Proof.Gen.ExpertsRefIdeal.Run
public import proofs.«01_k».proof.Proof.Gen.Prep
public import proofs.«01_k».proof.Proof.Gen.PrepIdeal
public import proofs.«01_k».proof.Proof.Gen.PrepRef
public import proofs.«01_k».proof.Proof.Gen.PrepRefIdeal
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Reduce
public import proofs.«01_k».proof.Proof.Gen.ReduceIdeal
public import proofs.«01_k».proof.Proof.Gen.ReduceIdeal.Frame
public import proofs.«01_k».proof.Proof.Gen.Reduce.Frame
public import proofs.«01_k».proof.Proof.Gen.ReduceRef
public import proofs.«01_k».proof.Proof.Gen.ReduceRefIdeal
public import proofs.«01_k».proof.Proof.Gen.ReduceRefIdeal.Run
public import proofs.«01_k».proof.Proof.Gen.ReduceRef.Run
public import proofs.«01_k».proof.Proof.Gen.Pre_dest_in_range
public import proofs.«01_k».proof.Proof.Gen.Pre_experts_in_range
public import proofs.«01_k».proof.Proof.Launch
public import proofs.«01_k».proof.Proof.Value
public import proofs.«01_k».proof.Proof.Reduce.Value
public import proofs.«01_k».proof.Proof.Experts.Value
public import proofs.«01_k».proof.Proof.ExpertsWords.Frame
public import proofs.«01_k».proof.Proof.Prep.RefRun
public import proofs.«01_k».proof.Proof.Prep.Value
public import proofs.«01_k».proof.Proof.Prep.Words

@[expose] public section

noncomputable section

namespace Cert.Proof

open Idealize.ShloMosaic Idealize.ShloMosaic.TcCoe Idealize.SL.Sem Cert.Proof.Gather

/-! ## The precondition -/

/-- The precondition on the ideal program's memory puts every position in range. -/
theorem inRange_ideal {m : (ℓ : Loc Cert.KernelIdeal.nD Cert.KernelIdeal.τ Cert.KernelIdeal.sig) → Buf (Elt Ideal) ℓ}
    (h : Cert.Pre_KernelIdeal m) : InRange (F := Ideal) m := fun d j => by
  have e := congrFun (h d) j
  simp only [Cert.Pre_dest_in_range.fn, andi, cmpi, broadcastInDim, constantI] at e
  exact row_of_pre e

/-- The precondition on the kernel's memory puts every position in range. -/
theorem inRange_kernel {m : (ℓ : Loc Cert.Kernel.nD Cert.Kernel.τ Cert.Kernel.sig) → Buf (Elt Bits) ℓ}
    (h : Cert.Pre_Kernel m) : InRange (F := Bits) m := fun d j => by
  have e := congrFun (h d) j
  simp only [Cert.Pre_dest_in_range.fn, andi, cmpi, broadcastInDim, constantI] at e
  exact row_of_pre e

/-! ## The kernel's run on words -/

/-- The kernel's program is the ideal program's text read on words, so its run is that program's run. -/
theorem run_kernel (m : (ℓ : Loc Cert.Kernel.nD Cert.Kernel.τ Cert.Kernel.sig) → Buf (Elt Bits) ℓ) (ρ : Dev Cert.Kernel.nD → PrngReg)
    (h : Cert.Pre_Kernel m) :
    θ_run (Cert.Kernel.defs (F := Bits)) (Cert.Kernel.threads (F := Bits)) ⟨m, fun _ => 0, ρ⟩ (QC (F := Bits) m) :=
  run_main (F := Bits) m ρ (inRange_kernel h)

/-! ## The frames -/

theorem frame_kernel : Cert.quiescent_Kernel := fun m ρ h =>
  (θ_run (Cert.Kernel.defs (F := Bits)) _ _).mono (fun _ e => ⟨fun c => ⟨(e.1 c).1, (e.1 c).2.1⟩, e.2⟩) (run_kernel m ρ h)

theorem frame_ideal : Cert.quiescent_KernelIdeal := fun m ρ h =>
  (θ_run (Cert.KernelIdeal.defs (F := Ideal)) _ _).mono (fun _ e => ⟨fun c => ⟨(e.1 c).1, (e.1 c).2.1⟩, e.2⟩) (run_main m ρ (inRange_ideal h))

theorem frame_refIdeal : Cert.quiescent_ReferenceIdeal := fun m ρ _ =>
  (θ_run (Cert.ReferenceIdeal.defs (F := Ideal)) _ _).mono (fun _ e => ⟨fun c => (e c).2, ref_sems _⟩) (Cert.ReferenceIdeal.Value.run m ρ)

theorem frame_ref : Cert.quiescent_Reference := fun m ρ _ =>
  (θ_run (Cert.Reference.defs (F := Bits)) _ _).mono (fun _ e => ⟨fun c => (e c).2, ref_sems _⟩) (Cert.Reference.Value.run m ρ)

/-! ## The values -/

/-- Over the extended reals, kernel and reference return the same array. -/
theorem algebraic : Cert.algebraic_KernelIdeal_ReferenceIdeal := fun m ρ m' ρ' h hm =>
  ⟨out m,
    (θ_run (Cert.KernelIdeal.defs (F := Ideal)) _ _).mono (fun _ e c => ⟨(e.1 c).2.2, (e.1 c).1, (e.1 c).2.1⟩) (run_main m ρ (inRange_ideal h)),
    (θ_run (Cert.ReferenceIdeal.defs (F := Ideal)) _ _).mono (fun _ e c => ⟨(e c).1.trans (by
      rw [(hm c).1, (hm c).2]
      exact refOut_eq (F := Ideal) (tab m c) (inRange_ideal h c)), (e c).2⟩) (Cert.ReferenceIdeal.Value.run m' ρ')⟩

/-- On words, kernel and reference return the same array. -/
theorem bitexact : Cert.bitexact_Kernel_Reference := fun m ρ m' ρ' h hm =>
  ⟨out (F := Bits) m,
    (θ_run (Cert.Kernel.defs (F := Bits)) _ _).mono (fun _ e c => ⟨(e.1 c).2.2, (e.1 c).1, (e.1 c).2.1⟩) (run_kernel m ρ h),
    (θ_run (Cert.Reference.defs (F := Bits)) _ _).mono (fun _ e c => ⟨(e c).1.trans (by
      rw [(hm c).1, (hm c).2]
      exact refOut_eq (F := Bits) (tab (F := Bits) m c) (inRange_kernel h c)), (e c).2⟩) (Cert.Reference.Value.run m' ρ')⟩

/-! ## The residual sum and the final norm -/

theorem frame_reduce : Cert.quiescent_Reduce := fun m ρ _ => Cert.Reduce.Gen.frame m ρ

theorem frame_reduceIdeal : Cert.quiescent_ReduceIdeal := fun m ρ _ => Cert.ReduceIdeal.Gen.frame m ρ

/-- The reference has no semaphore. -/
theorem reduceRef_sems (c : GSem Cert.ReduceRef.nD Cert.ReduceRef.τ Cert.ReduceRef.sig → Int) : c = fun _ => 0 := by
  funext g
  match g with
  | (_, .reg s) => exact s.elim0
  | (_, .dma s) => exact s.elim0

theorem frame_reduceRef : Cert.quiescent_ReduceRef := fun m ρ _ =>
  (θ_run (Cert.ReduceRef.defs (F := Bits)) _ _).mono (fun _ e => ⟨fun c => (e c).2, reduceRef_sems _⟩) (Cert.ReduceRef.Value.run m ρ)

theorem frame_reduceRefIdeal : Cert.quiescent_ReduceRefIdeal := fun m ρ _ =>
  (θ_run (Cert.ReduceRefIdeal.defs (F := Ideal)) _ _).mono (fun _ e => ⟨fun c => (e c).2, reduceRef_sems _⟩) (Cert.ReduceRefIdeal.Value.run m ρ)

/-- Over the extended reals, the two launches and the reference return the same array. -/
theorem algebraic_reduce : Cert.algebraic_ReduceIdeal_ReduceRefIdeal := fun m ρ m' ρ' _ hm =>
  ⟨Reduce.result m ρ, Reduce.run m ρ,
    (θ_run (Cert.ReduceRefIdeal.defs (F := Ideal)) _ _).mono (fun _ e c => ⟨(e c).1.trans (by
      obtain ⟨e0, e1, e2, e3, e4, e5, e6, e7, e8⟩ := hm c
      exact Reduce.result_eq m ρ c m' e0 e1 e2 e3 e4 e5 e6 e7 e8), (e c).2⟩) (Cert.ReduceRefIdeal.Value.run m' ρ')⟩

/-! ## The experts' network -/

/-- The precondition puts the ideal program's table in range. -/
theorem experts_ideal {m : (ℓ : Loc Cert.ExpertsIdeal.nD Cert.ExpertsIdeal.τ Cert.ExpertsIdeal.sig) → Buf (Elt Ideal) ℓ}
    (h : Cert.Pre_ExpertsIdeal m) : Experts.InRange (Experts.tabOf (F := Ideal) m) :=
  Experts.inRange_of_pre (F := Ideal) _ _ _ _ _ _ _ (h 0)

/-- The precondition puts the kernel's table in range. -/
theorem experts_kernel {m : (ℓ : Loc Cert.Experts.nD Cert.Experts.τ Cert.Experts.sig) → Buf (Elt Bits) ℓ}
    (h : Cert.Pre_Experts m) : ExpertsWords.InRange (ExpertsWords.tabOf (F := Bits) m) :=
  have r := Experts.inRange_of_pre (F := Bits) _ _ _ _ _ _ _ (h 0)
  ⟨r.he, r.hu, r.hu'⟩

theorem frame_experts : Cert.quiescent_Experts := fun m ρ h =>
  (θ_run (Cert.Experts.defs (F := Bits)) _ _).mono (fun _ e => ⟨fun c => ⟨(e.1 c).1.a0, (e.1 c).1.a1, (e.1 c).1.a2, (e.1 c).1.a3, (e.1 c).1.a4, (e.1 c).1.a5, (e.1 c).1.a6⟩, e.2⟩)
    (ExpertsWords.run_kept (F := Bits) m ρ (experts_kernel h))

theorem frame_expertsIdeal : Cert.quiescent_ExpertsIdeal := fun m ρ h =>
  (θ_run (Cert.ExpertsIdeal.defs (F := Ideal)) _ _).mono (fun _ e => ⟨fun c => ⟨(e.1 c).1.a0, (e.1 c).1.a1, (e.1 c).1.a2, (e.1 c).1.a3, (e.1 c).1.a4, (e.1 c).1.a5, (e.1 c).1.a6⟩, e.2⟩)
    (Experts.run_kept (F := Ideal) m ρ (experts_ideal h))

/-- The reference has no semaphore. -/
theorem expertsRef_sems (c : GSem Cert.ExpertsRef.nD Cert.ExpertsRef.τ Cert.ExpertsRef.sig → Int) : c = fun _ => 0 := by
  funext g
  match g with
  | (_, .reg s) => exact s.elim0
  | (_, .dma s) => exact s.elim0

theorem frame_expertsRef : Cert.quiescent_ExpertsRef := fun m ρ _ =>
  (θ_run (Cert.ExpertsRef.defs (F := Bits)) _ _).mono (fun _ e => ⟨fun c => (e c).2.2, expertsRef_sems _⟩) (Cert.ExpertsRef.Value.run m ρ)

theorem frame_expertsRefIdeal : Cert.quiescent_ExpertsRefIdeal := fun m ρ _ =>
  (θ_run (Cert.ExpertsRefIdeal.defs (F := Ideal)) _ _).mono (fun _ e => ⟨fun c => (e c).2.2, expertsRef_sems _⟩) (Cert.ExpertsRefIdeal.Value.run m ρ)

/-- Over the extended reals, the experts' kernel and its reference return the same two arrays. -/
theorem algebraic_experts : Cert.algebraic_ExpertsIdeal_ExpertsRefIdeal := fun m ρ m' ρ' h hm =>
  ⟨fun c => Experts.outRows (experts_ideal h) (Experts.mem m) c 0, fun c => Experts.outRows (experts_ideal h) (Experts.mem m) c 1,
    (θ_run (Cert.ExpertsIdeal.defs (F := Ideal)) _ _).mono (fun _ e c =>
      ⟨(e.1 c).2.1.trans (Experts.arr4 (experts_ideal h) (Experts.mem m) c), (e.1 c).2.2.trans (Experts.arr5 (experts_ideal h) (Experts.mem m) c),
        (e.1 c).1.a0, (e.1 c).1.a1, (e.1 c).1.a2, (e.1 c).1.a3, (e.1 c).1.a4, (e.1 c).1.a5, (e.1 c).1.a6⟩) (Experts.run_kept (F := Ideal) m ρ (experts_ideal h)),
    (θ_run (Cert.ExpertsRefIdeal.defs (F := Ideal)) _ _).mono (fun _ e c => by
      obtain ⟨e0, e1, e2, e3, e4, e5, e6⟩ := hm c
      have q := Experts.results_eq m m' (experts_ideal h) c e0 e1 e2 e3 e4 e5 e6
      exact ⟨(e c).1.trans q.1, (e c).2.1.trans q.2, (e c).2.2⟩) (Cert.ExpertsRefIdeal.Value.run m' ρ')⟩

/-! ## The mixer's preparation -/

theorem frame_prep : Cert.quiescent_Prep := Prep.words_kept

theorem frame_prepIdeal : Cert.quiescent_PrepIdeal := fun m ρ _ => Prep.prep_frame (F := Ideal) m ρ

/-- The reference has no semaphore. -/
theorem prepRef_sems (c : GSem Cert.PrepRef.nD Cert.PrepRef.τ Cert.PrepRef.sig → Int) : c = fun _ => 0 := by
  funext g
  match g with
  | (_, .reg s) => exact s.elim0
  | (_, .dma s) => exact s.elim0

theorem frame_prepRef : Cert.quiescent_PrepRef := fun m ρ _ =>
  (θ_run (Cert.PrepRef.defs (F := Bits)) _ _).mono (fun _ e => ⟨fun c => (e c).2.2.2.2.2.2.2.2, prepRef_sems _⟩)
    (Prep.RefRun.run (F := Bits) m ρ)

theorem frame_prepRefIdeal : Cert.quiescent_PrepRefIdeal := fun m ρ _ =>
  (θ_run (Cert.PrepRefIdeal.defs (F := Ideal)) _ _).mono (fun _ e => ⟨fun c => (e c).2.2.2.2.2.2.2.2, prepRef_sems _⟩)
    (Prep.RefRun.run (F := Ideal) m ρ)

open Prep in
/-- The arrays the preparation's reference works with, at arguments equal to the kernel's. -/
theorem prep_terms (m : (ℓ : Loc Cert.PrepIdeal.nD Cert.PrepIdeal.τ Cert.PrepIdeal.sig) → Buf (Elt Ideal) ℓ)
    (m' : (ℓ : Loc Cert.PrepRefIdeal.nD Cert.PrepRefIdeal.τ Cert.PrepRefIdeal.sig) → Buf (Elt Ideal) ℓ) (c : Dev Cert.PrepIdeal.nD)
    (e0 : m' ((c.tc : Thread _ Cert.PrepRefIdeal.τ).loc Cert.PrepRefIdeal.main_arg0) = m ((c.tc : Thread _ Cert.PrepIdeal.τ).loc Cert.PrepIdeal.main_arg0))
    (e1 : m' ((c.tc : Thread _ Cert.PrepRefIdeal.τ).loc Cert.PrepRefIdeal.main_arg1) = m ((c.tc : Thread _ Cert.PrepIdeal.τ).loc Cert.PrepIdeal.main_arg1))
    (e2 : m' ((c.tc : Thread _ Cert.PrepRefIdeal.τ).loc Cert.PrepRefIdeal.main_arg2) = m ((c.tc : Thread _ Cert.PrepIdeal.τ).loc Cert.PrepIdeal.main_arg2))
    (e5 : m' ((c.tc : Thread _ Cert.PrepRefIdeal.τ).loc Cert.PrepRefIdeal.main_arg5) = m ((c.tc : Thread _ Cert.PrepIdeal.τ).loc Cert.PrepIdeal.main_arg5))
    (e8 : m' ((c.tc : Thread _ Cert.PrepRefIdeal.τ).loc Cert.PrepRefIdeal.main_arg8) = m ((c.tc : Thread _ Cert.PrepIdeal.τ).loc Cert.PrepIdeal.main_arg8))
    (e9 : m' ((c.tc : Thread _ Cert.PrepRefIdeal.τ).loc Cert.PrepRefIdeal.main_arg9) = m ((c.tc : Thread _ Cert.PrepIdeal.τ).loc Cert.PrepIdeal.main_arg9))
    (e11 : m' ((c.tc : Thread _ Cert.PrepRefIdeal.τ).loc Cert.PrepRefIdeal.main_arg11) = m ((c.tc : Thread _ Cert.PrepIdeal.τ).loc Cert.PrepIdeal.main_arg11)) :
    argProj m' c = proj3 m c ∧ argMix m' c = mix3 m c ∧ argRate m' c = rate3 m c ∧ argKeyed m' c = keyed3 m c := by
  have p : argProj m' c = proj3 m c := by
    unfold argProj proj3
    rw [e0, e1, e2]
  have q : argMix m' c = mix3 m c := by
    unfold argMix mix3
    rw [p, e5]
  refine ⟨p, q, ?_, ?_⟩
  · unfold argRate rate3
    rw [q, e8, e9]
  · unfold argKeyed keyed3
    rw [q, e11]

set_option maxHeartbeats 8000000 in
open Prep in
/-- Over the extended reals, the preparation's kernel and its reference return the same eight arrays. -/
theorem algebraic_prep : Cert.algebraic_PrepIdeal_PrepRefIdeal := fun m ρ m' ρ' _ hm =>
  ⟨fun c => refConv (conv3 m c) (m ((c.tc : Thread _ Cert.PrepIdeal.τ).loc Cert.PrepIdeal.main_arg4)),
    fun c => refColumns0 (mix3 m c),
    fun c => refDecay (refDecayIn (mix3 m c) (m ((c.tc : Thread _ Cert.PrepIdeal.τ).loc Cert.PrepIdeal.main_arg6)) (m ((c.tc : Thread _ Cert.PrepIdeal.τ).loc Cert.PrepIdeal.main_arg7))),
    fun c => refKey (mix3 m c) (rate3 m c) (m ((c.tc : Thread _ Cert.PrepIdeal.τ).loc Cert.PrepIdeal.main_arg12)),
    fun c => refColumns1024 (mix3 m c),
    fun c => refUnit (refUnit4 (keyed3 m c)),
    fun c => refB (refUnit4 (keyed3 m c)) (rate3 m c),
    fun c => refGate (mix3 m c) (m ((c.tc : Thread _ Cert.PrepIdeal.τ).loc Cert.PrepIdeal.main_arg10)),
    (θ_run (Cert.PrepIdeal.defs (F := Ideal)) _ _).mono (fun _ e c =>
      ⟨(e.1 c).1, (e.1 c).2.1, (e.1 c).2.2.1, (e.1 c).2.2.2.1, (e.1 c).2.2.2.2.1, (e.1 c).2.2.2.2.2.1, (e.1 c).2.2.2.2.2.2.1,
        (e.1 c).2.2.2.2.2.2.2, e.2.1 c⟩) (θ_run_and (prep_values m ρ) (prep_frame (F := Ideal) m ρ)),
    (θ_run (Cert.PrepRefIdeal.defs (F := Ideal)) _ _).mono (fun _ e c => by
      obtain ⟨e0, e1, e2, e3, e4, e5, e6, e7, e8, e9, e10, e11, e12, -⟩ := hm c
      obtain ⟨p, q, a, k⟩ := prep_terms m m' c e0 e1 e2 e5 e8 e9 e11
      obtain ⟨r0, r1, r2, r3, r4, r5, r6, r7, r⟩ := e c
      refine ⟨r0.trans ?_, r1.trans ?_, r2.trans ?_, r3.trans ?_, r4.trans ?_, r5.trans ?_, r6.trans ?_, r7.trans ?_, r⟩
      · unfold conv3
        rw [p, e3, e4]
      · rw [q]
      · rw [q, e6, e7]
      · rw [q, a, e12]
      · rw [q]
      · rw [k]
      · rw [k, a]
      · rw [q, e10]) (RefRun.run (F := Ideal) m' ρ')⟩

theorem claim : Cert.Claim :=
  ⟨Cert.Kernel.Gen.facts, Cert.KernelIdeal.Gen.facts, Cert.ReferenceIdeal.Gen.facts, Cert.Reference.Gen.facts,
    Cert.Reduce.Gen.facts, Cert.ReduceIdeal.Gen.facts, Cert.ReduceRef.Gen.facts, Cert.ReduceRefIdeal.Gen.facts,
    Cert.Experts.Gen.facts, Cert.ExpertsIdeal.Gen.facts, Cert.ExpertsRef.Gen.facts, Cert.ExpertsRefIdeal.Gen.facts,
    Cert.Prep.Gen.facts, Cert.PrepIdeal.Gen.facts, Cert.PrepRef.Gen.facts, Cert.PrepRefIdeal.Gen.facts,
    Cert.Pre_dest_in_range.Gen.facts, Cert.Pre_experts_in_range.Gen.facts,
    frame_kernel, frame_ideal, frame_refIdeal, frame_ref, frame_reduce, frame_reduceIdeal, frame_reduceRef,
    frame_reduceRefIdeal, frame_experts, frame_expertsIdeal, frame_expertsRef, frame_expertsRefIdeal,
    frame_prep, frame_prepIdeal, frame_prepRef, frame_prepRefIdeal,
    trivial, algebraic, bitexact, trivial, algebraic_reduce, trivial, algebraic_experts,
    trivial, algebraic_prep⟩

end Cert.Proof

end
